-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
-- ==== Kernel.lean ====
abbrev S16x2048x4x2x64 : Shape := ⟨5, ![16, 2048, 4, 2, 64]⟩
abbrev S16x2048x4x128 : Shape := ⟨4, ![16, 2048, 4, 128]⟩
abbrev S16x4x2x64 : Shape := ⟨4, ![16, 4, 2, 64]⟩
abbrev S16x4x128 : Shape := ⟨3, ![16, 4, 128]⟩
abbrev S32x8 : Shape := ⟨2, ![32, 8]⟩
abbrev S1x64 : Shape := ⟨2, ![1, 64]⟩
abbrev S1x128 : Shape := ⟨2, ![1, 128]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S1x256x256 : Shape := ⟨3, ![1, 256, 256]⟩
abbrev S3 : Shape := ⟨1, ![3]⟩
abbrev S_ : Shape := ⟨0, ![]⟩
abbrev S3x1x1 : Shape := ⟨3, ![3, 1, 1]⟩
abbrev S3x256x256 : Shape := ⟨3, ![3, 256, 256]⟩
abbrev S32x4 : Shape := ⟨2, ![32, 4]⟩
abbrev S3x256x256x1 : Shape := ⟨4, ![3, 256, 256, 1]⟩
abbrev S3x256x256x4 : Shape := ⟨4, ![3, 256, 256, 4]⟩
abbrev S16 : Shape := ⟨1, ![16]⟩
abbrev S16x1 : Shape := ⟨2, ![16, 1]⟩
abbrev S16x256 : Shape := ⟨2, ![16, 256]⟩
abbrev S1x16x256 : Shape := ⟨3, ![1, 16, 256]⟩
abbrev S2 : Shape := ⟨1, ![2]⟩
abbrev S2x1x1 : Shape := ⟨3, ![2, 1, 1]⟩
abbrev S2x16x256 : Shape := ⟨3, ![2, 16, 256]⟩
abbrev S2x16x256x1 : Shape := ⟨4, ![2, 16, 256, 1]⟩
abbrev S2x16x256x4 : Shape := ⟨4, ![2, 16, 256, 4]⟩
abbrev S4x3x256x256 : Shape := ⟨4, ![4, 3, 256, 256]⟩
abbrev S4x2x16x256 : Shape := ⟨4, ![4, 2, 16, 256]⟩
abbrev S16x2048x512 : Shape := ⟨3, ![16, 2048, 512]⟩
abbrev S16x512x2048 : Shape := ⟨3, ![16, 512, 2048]⟩
abbrev S16x8x256x512 : Shape := ⟨4, ![16, 8, 256, 512]⟩
abbrev S16x8x256x4x128 : Shape := ⟨5, ![16, 8, 256, 4, 128]⟩
abbrev S16x8x4x128x256 : Shape := ⟨5, ![16, 8, 4, 128, 256]⟩
abbrev S16x8x4x16x256 : Shape := ⟨5, ![16, 8, 4, 16, 256]⟩
abbrev S16x8x4x144x256 : Shape := ⟨5, ![16, 8, 4, 144, 256]⟩
abbrev S16x8x576x256 : Shape := ⟨4, ![16, 8, 576, 256]⟩
abbrev S16x512 : Shape := ⟨2, ![16, 512]⟩
abbrev S4x128x16 : Shape := ⟨3, ![4, 128, 16]⟩
abbrev S4x16x16 : Shape := ⟨3, ![4, 16, 16]⟩
abbrev S4x144x16 : Shape := ⟨3, ![4, 144, 16]⟩
abbrev S576x16 : Shape := ⟨2, ![576, 16]⟩
abbrev S128 : Shape := ⟨1, ![128]⟩
abbrev S128x1 : Shape := ⟨2, ![128, 1]⟩
abbrev S128x256 : Shape := ⟨2, ![128, 256]⟩
abbrev S2x512x256 : Shape := ⟨3, ![2, 512, 256]⟩
abbrev S2x8x256x512 : Shape := ⟨4, ![2, 8, 256, 512]⟩
abbrev S2x8x576x256 : Shape := ⟨4, ![2, 8, 576, 256]⟩
abbrev S2x4x128x512 : Shape := ⟨4, ![2, 4, 128, 512]⟩
abbrev S2x4x8x256x512 : Shape := ⟨5, ![2, 4, 8, 256, 512]⟩
abbrev S2x4x16x512 : Shape := ⟨4, ![2, 4, 16, 512]⟩
abbrev S2x4x144x512 : Shape := ⟨4, ![2, 4, 144, 512]⟩
abbrev S1 : Shape := ⟨1, ![1]⟩
abbrev S1x1 : Shape := ⟨2, ![1, 1]⟩
abbrev S1x64x256 : Shape := ⟨3, ![1, 64, 256]⟩
abbrev S64x256 : Shape := ⟨2, ![64, 256]⟩
abbrev S1x1x64x256 : Shape := ⟨4, ![1, 1, 64, 256]⟩
abbrev S16x128 : Shape := ⟨2, ![16, 128]⟩
abbrev S1x1x16x256 : Shape := ⟨4, ![1, 1, 16, 256]⟩
abbrev S1x1x128x512 : Shape := ⟨4, ![1, 1, 128, 512]⟩
abbrev S128x512 : Shape := ⟨2, ![128, 512]⟩
abbrev S1x1x16x512 : Shape := ⟨4, ![1, 1, 16, 512]⟩
abbrev S2x8x512 : Shape := ⟨3, ![2, 8, 512]⟩
abbrev S8x512 : Shape := ⟨2, ![8, 512]⟩
abbrev S1x1x256x128 : Shape := ⟨4, ![1, 1, 256, 128]⟩
abbrev S256x128 : Shape := ⟨2, ![256, 128]⟩
abbrev S1x1x256x256 : Shape := ⟨4, ![1, 1, 256, 256]⟩
abbrev S256x512 : Shape := ⟨2, ![256, 512]⟩
abbrev S1x1x1x256x512 : Shape := ⟨5, ![1, 1, 1, 256, 512]⟩
abbrev S32x8x512 : Shape := ⟨3, ![32, 8, 512]⟩
abbrev S512 : Shape := ⟨1, ![512]⟩
abbrev S1x512 : Shape := ⟨2, ![1, 512]⟩
abbrev S144x16 : Shape := ⟨2, ![144, 16]⟩
abbrev S144x512 : Shape := ⟨2, ![144, 512]⟩
abbrev S1x1x144x512 : Shape := ⟨4, ![1, 1, 144, 512]⟩
abbrev S1x1x144x256 : Shape := ⟨4, ![1, 1, 144, 256]⟩
abbrev S144x256 : Shape := ⟨2, ![144, 256]⟩
abbrev S1x1x1x512 : Shape := ⟨4, ![1, 1, 1, 512]⟩
abbrev S1x1x128x256 : Shape := ⟨4, ![1, 1, 128, 256]⟩
abbrev S1x128x256 : Shape := ⟨3, ![1, 128, 256]⟩
abbrev S1x512x256 : Shape := ⟨3, ![1, 512, 256]⟩
abbrev S512x256 : Shape := ⟨2, ![512, 256]⟩

abbrev nBuf : Space → Nat
  | .hbm => 175
  | .vmem => 21
  | .smem => 0
  | _ => 0

abbrev hbmTy0_0 (i : Nat) : BufTy := match i % 128 with
  | 0 => ⟨S16x2048x4x2x64, .f32⟩
  | 1 => ⟨S16x2048x4x2x64, .f32⟩
  | 2 => ⟨S16x2048x4x128, .f32⟩
  | 3 => ⟨S16x4x2x64, .f32⟩
  | 4 => ⟨S16x4x128, .f32⟩
  | 5 => ⟨S32x8, .f32⟩
  | 6 => ⟨S1x64, .f32⟩
  | 7 => ⟨S1x64, .f32⟩
  | 8 => ⟨S1x64, .f32⟩
  | 9 => ⟨S1x64, .f32⟩
  | 10 => ⟨S1x128, .f32⟩
  | 11 => ⟨S256, .i32⟩
  | 12 => ⟨S1x256, .i32⟩
  | 13 => ⟨S256, .i32⟩
  | 14 => ⟨S256x1, .i32⟩
  | 15 => ⟨S256x256, .i32⟩
  | 16 => ⟨S256x256, .i32⟩
  | 17 => ⟨S256x256, .i32⟩
  | 18 => ⟨S1x256x256, .i32⟩
  | 19 => ⟨S3, .i32⟩
  | 20 => ⟨S_, .i32⟩
  | 21 => ⟨S3, .i32⟩
  | 22 => ⟨S3, .i32⟩
  | 23 => ⟨S3x1x1, .i32⟩
  | 24 => ⟨S3x256x256, .i32⟩
  | 25 => ⟨S3x256x256, .i32⟩
  | 26 => ⟨S3x256x256, .i32⟩
  | 27 => ⟨S32x4, .f32⟩
  | 28 => ⟨S_, .i32⟩
  | 29 => ⟨S3x256x256, .i32⟩
  | 30 => ⟨S3x256x256, .i32⟩
  | 31 => ⟨S_, .i32⟩
  | 32 => ⟨S3x256x256, .i32⟩
  | 33 => ⟨S3x256x256, .i32⟩
  | 34 => ⟨S3x256x256, .f32⟩
  | 35 => ⟨S_, .f32⟩
  | 36 => ⟨S3x256x256, .f32⟩
  | 37 => ⟨S3x256x256, .f32⟩
  | 38 => ⟨S3x256x256, .f32⟩
  | 39 => ⟨S_, .f32⟩
  | 40 => ⟨S3x256x256, .f32⟩
  | 41 => ⟨S3x256x256, .f32⟩
  | 42 => ⟨S_, .f32⟩
  | 43 => ⟨S3x256x256, .f32⟩
  | 44 => ⟨S3x256x256, .f32⟩
  | 45 => ⟨S3x256x256, .i32⟩
  | 46 => ⟨S_, .i32⟩
  | 47 => ⟨S3x256x256, .i32⟩
  | 48 => ⟨S3x256x256, .i32⟩
  | 49 => ⟨S_, .i32⟩
  | 50 => ⟨S3x256x256, .i32⟩
  | 51 => ⟨S3x256x256, .i32⟩
  | 52 => ⟨S_, .i32⟩
  | 53 => ⟨S3x256x256, .i32⟩
  | 54 => ⟨S3x256x256, .i1⟩
  | 55 => ⟨S3x256x256, .i32⟩
  | 56 => ⟨S_, .i32⟩
  | 57 => ⟨S3x256x256, .i32⟩
  | 58 => ⟨S3x256x256, .i1⟩
  | 59 => ⟨S_, .i32⟩
  | 60 => ⟨S3x256x256, .i32⟩
  | 61 => ⟨S3x256x256, .i32⟩
  | 62 => ⟨S3x256x256, .i32⟩
  | 63 => ⟨S3x256x256x1, .i32⟩
  | 64 => ⟨S3x256x256x4, .f32⟩
  | 65 => ⟨S_, .i32⟩
  | 66 => ⟨S3x256x256, .i32⟩
  | 67 => ⟨S3x256x256, .i1⟩
  | 68 => ⟨S3x256x256x1, .i1⟩
  | 69 => ⟨S_, .f32⟩
  | 70 => ⟨S3x256x256x4, .f32⟩
  | 71 => ⟨S3x256x256x4, .f32⟩
  | 72 => ⟨S_, .f32⟩
  | 73 => ⟨S_, .f32⟩
  | 74 => ⟨S3x256x256x4, .i1⟩
  | 75 => ⟨S3x256x256x4, .f32⟩
  | 76 => ⟨S3x256x256x4, .f32⟩
  | 77 => ⟨S256, .i32⟩
  | 78 => ⟨S1x256, .i32⟩
  | 79 => ⟨S_, .i32⟩
  | 80 => ⟨S1x256, .i32⟩
  | 81 => ⟨S1x256, .i32⟩
  | 82 => ⟨S16, .i32⟩
  | 83 => ⟨S16x1, .i32⟩
  | 84 => ⟨S16x256, .i32⟩
  | 85 => ⟨S16x256, .i32⟩
  | 86 => ⟨S16x256, .i32⟩
  | 87 => ⟨S1x16x256, .i32⟩
  | 88 => ⟨S2, .i32⟩
  | 89 => ⟨S_, .i32⟩
  | 90 => ⟨S2, .i32⟩
  | 91 => ⟨S2, .i32⟩
  | 92 => ⟨S2x1x1, .i32⟩
  | 93 => ⟨S2x16x256, .i32⟩
  | 94 => ⟨S2x16x256, .i32⟩
  | 95 => ⟨S2x16x256, .i32⟩
  | 96 => ⟨S32x4, .f32⟩
  | 97 => ⟨S_, .i32⟩
  | 98 => ⟨S2x16x256, .i32⟩
  | 99 => ⟨S2x16x256, .i32⟩
  | 100 => ⟨S_, .i32⟩
  | 101 => ⟨S2x16x256, .i32⟩
  | 102 => ⟨S2x16x256, .i32⟩
  | 103 => ⟨S2x16x256, .f32⟩
  | 104 => ⟨S_, .f32⟩
  | 105 => ⟨S2x16x256, .f32⟩
  | 106 => ⟨S2x16x256, .f32⟩
  | 107 => ⟨S2x16x256, .f32⟩
  | 108 => ⟨S_, .f32⟩
  | 109 => ⟨S2x16x256, .f32⟩
  | 110 => ⟨S2x16x256, .f32⟩
  | 111 => ⟨S_, .f32⟩
  | 112 => ⟨S2x16x256, .f32⟩
  | 113 => ⟨S2x16x256, .f32⟩
  | 114 => ⟨S2x16x256, .i32⟩
  | 115 => ⟨S_, .i32⟩
  | 116 => ⟨S2x16x256, .i32⟩
  | 117 => ⟨S2x16x256, .i32⟩
  | 118 => ⟨S_, .i32⟩
  | 119 => ⟨S2x16x256, .i32⟩
  | 120 => ⟨S2x16x256, .i32⟩
  | 121 => ⟨S_, .i32⟩
  | 122 => ⟨S2x16x256, .i32⟩
  | 123 => ⟨S2x16x256, .i1⟩
  | 124 => ⟨S2x16x256, .i32⟩
  | 125 => ⟨S_, .i32⟩
  | 126 => ⟨S2x16x256, .i32⟩
  | 127 => ⟨S2x16x256, .i1⟩
  | _ => ⟨S16x2048x4x2x64, .f32⟩

abbrev hbmTy0_1 (i : Nat) : BufTy := match i % 128 with
  | 0 => ⟨S_, .i32⟩
  | 1 => ⟨S2x16x256, .i32⟩
  | 2 => ⟨S2x16x256, .i32⟩
  | 3 => ⟨S2x16x256, .i32⟩
  | 4 => ⟨S2x16x256x1, .i32⟩
  | 5 => ⟨S2x16x256x4, .f32⟩
  | 6 => ⟨S_, .i32⟩
  | 7 => ⟨S2x16x256, .i32⟩
  | 8 => ⟨S2x16x256, .i1⟩
  | 9 => ⟨S2x16x256x1, .i1⟩
  | 10 => ⟨S_, .f32⟩
  | 11 => ⟨S2x16x256x4, .f32⟩
  | 12 => ⟨S2x16x256x4, .f32⟩
  | 13 => ⟨S_, .f32⟩
  | 14 => ⟨S_, .f32⟩
  | 15 => ⟨S2x16x256x4, .i1⟩
  | 16 => ⟨S2x16x256x4, .f32⟩
  | 17 => ⟨S2x16x256x4, .f32⟩
  | 18 => ⟨S4x3x256x256, .f32⟩
  | 19 => ⟨S4x2x16x256, .f32⟩
  | 20 => ⟨S16x2048x512, .f32⟩
  | 21 => ⟨S16x512x2048, .f32⟩
  | 22 => ⟨S_, .f32⟩
  | 23 => ⟨S16x512x2048, .f32⟩
  | 24 => ⟨S16x512x2048, .f32⟩
  | 25 => ⟨S16x512x2048, .bf16⟩
  | 26 => ⟨S16x8x256x512, .f32⟩
  | 27 => ⟨S16x8x256x512, .bf16⟩
  | 28 => ⟨S16x8x256x4x128, .f32⟩
  | 29 => ⟨S16x8x4x128x256, .f32⟩
  | 30 => ⟨S16x8x4x128x256, .bf16⟩
  | 31 => ⟨S_, .bf16⟩
  | 32 => ⟨S16x8x4x16x256, .bf16⟩
  | 33 => ⟨S16x8x4x144x256, .bf16⟩
  | 34 => ⟨S16x8x576x256, .bf16⟩
  | 35 => ⟨S16x512, .f32⟩
  | 36 => ⟨S16x512, .bf16⟩
  | 37 => ⟨S4x128x16, .f32⟩
  | 38 => ⟨S4x128x16, .bf16⟩
  | 39 => ⟨S_, .bf16⟩
  | 40 => ⟨S4x16x16, .bf16⟩
  | 41 => ⟨S4x144x16, .bf16⟩
  | 42 => ⟨S576x16, .bf16⟩
  | 43 => ⟨S128, .f32⟩
  | 44 => ⟨S128x1, .f32⟩
  | 45 => ⟨S128x256, .f32⟩
  | 46 => ⟨S16x512x2048, .bf16⟩
  | _ => ⟨S16x2048x4x2x64, .f32⟩

abbrev hbmTy (i : Nat) : BufTy := match i / 128 with
  | 0 => hbmTy0_0 i
  | 1 => hbmTy0_1 i
  | _ => ⟨S16x2048x4x2x64, .f32⟩

abbrev bufTy : (tb : Table) → Fin (tcTables nBuf tb) → BufTy
  | .hbm, ⟨i, _⟩ => hbmTy i
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S2x512x256, .bf16⟩
  | .local _ .vmem, ⟨5, _⟩ => ⟨S2x512x256, .bf16⟩
  | .local _ .vmem, ⟨6, _⟩ => ⟨S2x8x256x512, .bf16⟩
  | .local _ .vmem, ⟨7, _⟩ => ⟨S2x8x256x512, .bf16⟩
  | .local _ .vmem, ⟨8, _⟩ => ⟨S2x8x576x256, .bf16⟩
  | .local _ .vmem, ⟨9, _⟩ => ⟨S16x512, .bf16⟩
  | .local _ .vmem, ⟨10, _⟩ => ⟨S576x16, .bf16⟩
  | .local _ .vmem, ⟨11, _⟩ => ⟨S4x3x256x256, .f32⟩
  | .local _ .vmem, ⟨12, _⟩ => ⟨S4x2x16x256, .f32⟩
  | .local _ .vmem, ⟨13, _⟩ => ⟨S128x256, .f32⟩
  | .local _ .vmem, ⟨14, _⟩ => ⟨S2x512x256, .bf16⟩
  | .local _ .vmem, ⟨15, _⟩ => ⟨S2x512x256, .bf16⟩
  | .local _ .vmem, ⟨16, _⟩ => ⟨S2x4x128x512, .bf16⟩
  | .local _ .vmem, ⟨17, _⟩ => ⟨S2x4x8x256x512, .f32⟩
  | .local _ .vmem, ⟨18, _⟩ => ⟨S2x4x16x512, .f32⟩
  | .local _ .vmem, ⟨19, _⟩ => ⟨S2x4x144x512, .f32⟩
  | .local _ .vmem, ⟨20, _⟩ => ⟨S2x512x256, .f32⟩
  | _, _ => ⟨S16x2048x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_0 : Ref sig .tc := ⟨.hbm, 28, rfl⟩
abbrev main_v16 : Ref sig .tc := ⟨.hbm, 29, rfl⟩
abbrev main_v17 : Ref sig .tc := ⟨.hbm, 30, rfl⟩
abbrev main_c_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_4 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_cst_11 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_12 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_14 : Ref sig .tc := ⟨.hbm, 97, rfl⟩
abbrev main_v67 : Ref sig .tc := ⟨.hbm, 98, rfl⟩
abbrev main_v68 : Ref sig .tc := ⟨.hbm, 99, rfl⟩
abbrev main_c_15 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_16 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_17 : Ref sig .tc := ⟨.hbm, 108, rfl⟩
abbrev main_v75 : Ref sig .tc := ⟨.hbm, 109, rfl⟩
abbrev main_v76 : Ref sig .tc := ⟨.hbm, 110, rfl⟩
abbrev main_cst_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_c_19 : Ref sig .tc := ⟨.hbm, 115, rfl⟩
abbrev main_v80 : Ref sig .tc := ⟨.hbm, 116, rfl⟩
abbrev main_v81 : Ref sig .tc := ⟨.hbm, 117, rfl⟩
abbrev main_c_20 : Ref sig .tc := ⟨.hbm, 118, rfl⟩
abbrev main_v82 : Ref sig .tc := ⟨.hbm, 119, rfl⟩
abbrev main_v83 : Ref sig .tc := ⟨.hbm, 120, rfl⟩
abbrev main_c_21 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_c_22 : Ref sig .tc := ⟨.hbm, 125, rfl⟩
abbrev main_v87 : Ref sig .tc := ⟨.hbm, 126, rfl⟩
abbrev main_v88 : Ref sig .tc := ⟨.hbm, 127, rfl⟩
abbrev main_c_23 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_c_24 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_25 : Ref sig .tc := ⟨.hbm, 138, rfl⟩
abbrev main_v97 : Ref sig .tc := ⟨.hbm, 139, rfl⟩
abbrev main_v98 : Ref sig .tc := ⟨.hbm, 140, rfl⟩
abbrev main_cst_26 : Ref sig .tc := ⟨.hbm, 141, rfl⟩
abbrev main_call3_v0 : Ref sig .tc := ⟨.hbm, 142, rfl⟩
abbrev main_call3_v1 : Ref sig .tc := ⟨.hbm, 143, rfl⟩
abbrev main_call3_v2 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_cst_27 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_cst_28 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_cst_29 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨2, ![8, 8], ![false, false]⟩

def k0_off1 (i : grid0.Coords) : Fin 4 → Nat :=
  let c0_118 : Index := 0#32
  let arg1 : BitVec 32 := BitVec.ofNat 32 (i 1).val
  let c1_i32 : BitVec 32 := 1#32
  let v15 : BitVec 32 := Scalar.minsi arg1 c1_i32
  let v102 : Index := Scalar.indexCast v15
  let c0_119 : Index := 0#32
  let c0_120 : Index := 0#32
  ![0, v102.toNat, 0, 0]
def k0_off2 (i : grid0.Coords) : Fin 4 → Nat :=
  let c1_133 : Index := 1#32
  let arg1 : BitVec 32 := BitVec.ofNat 32 (i 1).val
  let c1_i32 : BitVec 32 := 1#32
  let v15 : BitVec 32 := Scalar.minsi arg1 c1_i32
  let v120 : Index := Scalar.indexCast v15
  let c0_134 : Index := 0#32
  let c0_135 : Index := 0#32
  ![1, v120.toNat, 0, 0]
def k0_off3 (i : grid0.Coords) : Fin 4 → Nat :=
  let c2_148 : Index := 2#32
  let arg1 : BitVec 32 := BitVec.ofNat 32 (i 1).val
  let c1_i32 : BitVec 32 := 1#32
  let v15 : BitVec 32 := Scalar.minsi arg1 c1_i32
  let v138 : Index := Scalar.indexCast v15
  let c0_149 : Index := 0#32
  let c0_150 : Index := 0#32
  ![2, v138.toNat, 0, 0]
def k0_off4 (i : grid0.Coords) : Fin 4 → Nat :=
  let c3_163 : Index := 3#32
  let arg1 : BitVec 32 := BitVec.ofNat 32 (i 1).val
  let c1_i32 : BitVec 32 := 1#32
  let v15 : BitVec 32 := Scalar.minsi arg1 c1_i32
  let v156 : Index := Scalar.indexCast v15
  let c0_164 : Index := 0#32
  let c0_165 : Index := 0#32
  ![3, v156.toNat, 0, 0]
@[reducible] def k0_t1_loop (i : grid0.Coords) : Scf.Loop 32 :=
  let c0_i32_242 : BitVec 32 := 0#32
  let arg1 : BitVec 32 := BitVec.ofNat 32 (i 1).val
  let c1_i32_236 : BitVec 32 := 1#32
  let v244 : BitVec 32 := Scalar.addi arg1 c1_i32_236
  let c0_i32 : BitVec 32 := 0#32
  let v246 : BitVec 1 := Scalar.cmpi .sgt v244 c0_i32
  let v247 : BitVec 32 := Scalar.extui v246
  let c0_i32_237 : BitVec 32 := 0#32
  let v248 : BitVec 1 := Scalar.cmpi .slt v244 c0_i32_237
  let v249 : BitVec 32 := Scalar.extui v248
  let v250 : BitVec 32 := Scalar.subi v247 v249
  let c4_i32 : BitVec 32 := 4#32
  let c0_i32_238 : BitVec 32 := 0#32
  let v251 : BitVec 1 := Scalar.cmpi .sgt c4_i32 c0_i32_238
  let v252 : BitVec 32 := Scalar.extui v251
  let c0_i32_239 : BitVec 32 := 0#32
  let v253 : BitVec 1 := Scalar.cmpi .slt c4_i32 c0_i32_239
  let v254 : BitVec 32 := Scalar.extui v253
  let v255 : BitVec 32 := Scalar.subi v252 v254
  let v256 : BitVec 1 := Scalar.cmpi .ne v250 v255
  let v257 : BitVec 32 := Scalar.remsi v244 c4_i32
  let c0_i32_240 : BitVec 32 := 0#32
  let v258 : BitVec 1 := Scalar.cmpi .ne v257 c0_i32_240
  let v259 : BitVec 1 := Scalar.andi v256 v258
  let v245 : BitVec 32 := Scalar.divsi v244 c4_i32
  let c1_i32_241 : BitVec 32 := 1#32
  let v260 : BitVec 32 := Scalar.subi v245 c1_i32_241
  let v261 : BitVec 32 := Scalar.select v259 v260 v245
  let v262 : BitVec 32 := Scalar.subi v261 c0_i32_242
  let c1_i32_243 : BitVec 32 := 1#32
  let v264 : BitVec 32 := Scalar.divsi v262 c1_i32_243
  let v265 : BitVec 32 := Scalar.muli v264 c1_i32_243
  let v266 : BitVec 32 := Scalar.addi c0_i32_242 v265
  let c1_i32_244 : BitVec 32 := 1#32
  ⟨c0_i32_242, v266, c1_i32_244⟩
def k0_off5 (i : grid0.Coords) (k0_t1 : Fin (k0_t1_loop i).trips) (c0_i32_580 : BitVec 32) : Fin 4 → Nat :=
  let c0_582 : Index := 0#32
  let c4_i32_579 : BitVec 32 := 4#32
  let c0_i32_242 : BitVec 32 := 0#32
  let c1_i32_244 : BitVec 32 := 1#32
  let arg20 : BitVec 32 := Scf.iv c0_i32_242 c1_i32_244 k0_t1
  let v788 : BitVec 32 := Scalar.muli c4_i32_579 arg20
  let v789 : BitVec 32 := Scalar.addi v788 c0_i32_580
  let v792 : Index := Scalar.indexCast v789
  let c0_583 : Index := 0#32
  let c0_584 : Index := 0#32
  ![0, v792.toNat, 0, 0]
def k0_off6 (i : grid0.Coords) (k0_t1 : Fin (k0_t1_loop i).trips) (c0_i32_580 : BitVec 32) : Fin 4 → Nat :=
  let c0_585 : Index := 0#32
  let arg1 : BitVec 32 := BitVec.ofNat 32 (i 1).val
  let c4_i32_579 : BitVec 32 := 4#32
  let c0_i32_242 : BitVec 32 := 0#32
  let c1_i32_244 : BitVec 32 := 1#32
  let arg20 : BitVec 32 := Scf.iv c0_i32_242 c1_i32_244 k0_t1
  let v788 : BitVec 32 := Scalar.muli c4_i32_579 arg20
  let v789 : BitVec 32 := Scalar.addi v788 c0_i32_580
  let v790 : BitVec 32 := Scalar.subi arg1 v789
  let c2_i32_581 : BitVec 32 := 2#32
  let v791 : BitVec 32 := Scalar.minsi v790 c2_i32_581
  let v795 : Index := Scalar.indexCast v791
  let c0_586 : Index := 0#32
  let c0_587 : Index := 0#32
  ![0, v795.toNat, 0, 0]
def k0_off7 (i : grid0.Coords) (k0_t1 : Fin (k0_t1_loop i).trips) (c0_i32_580 : BitVec 32) : Fin 5 → Nat :=
  let c0_593 : Index := 0#32
  let c0_594 : Index := 0#32
  let c4_i32_579 : BitVec 32 := 4#32
  let c0_i32_242 : BitVec 32 := 0#32
  let c1_i32_244 : BitVec 32 := 1#32
  let arg20 : BitVec 32 := Scf.iv c0_i32_242 c1_i32_244 k0_t1
  let v788 : BitVec 32 := Scalar.muli c4_i32_579 arg20
  let v789 : BitVec 32 := Scalar.addi v788 c0_i32_580
  let v806 : Index := Scalar.indexCast v789
  let c0_595 : Index := 0#32
  let c0_596 : Index := 0#32
  ![0, 0, v806.toNat, 0, 0]
def k0_off8 (i : grid0.Coords) (k0_t1 : Fin (k0_t1_loop i).trips) (c0_i32_580 : BitVec 32) : Fin 4 → Nat :=
  let c0_598 : Index := 0#32
  let c4_i32_579 : BitVec 32 := 4#32
  let c0_i32_242 : BitVec 32 := 0#32
  let c1_i32_244 : BitVec 32 := 1#32
  let arg20 : BitVec 32 := Scf.iv c0_i32_242 c1_i32_244 k0_t1
  let v788 : BitVec 32 := Scalar.muli c4_i32_579 arg20
  let v789 : BitVec 32 := Scalar.addi v788 c0_i32_580
  let v813 : Index := Scalar.indexCast v789
  let c0_599 : Index := 0#32
  let c128_600 : Index := 128#32
  ![0, v813.toNat, 0, 128]
def k0_off9 (i : grid0.Coords) (k0_t1 : Fin (k0_t1_loop i).trips) (c0_i32_580 : BitVec 32) : Fin 4 → Nat :=
  let c1_601 : Index := 1#32
  let arg1 : BitVec 32 := BitVec.ofNat 32 (i 1).val
  let c4_i32_579 : BitVec 32 := 4#32
  let c0_i32_242 : BitVec 32 := 0#32
  let c1_i32_244 : BitVec 32 := 1#32
  let arg20 : BitVec 32 := Scf.iv c0_i32_242 c1_i32_244 k0_t1
  let v788 : BitVec 32 := Scalar.muli c4_i32_579 arg20
  let v789 : BitVec 32 := Scalar.addi v788 c0_i32_580
  let v790 : BitVec 32 := Scalar.subi arg1 v789
  let c2_i32_581 : BitVec 32 := 2#32
  let v791 : BitVec 32 := Scalar.minsi v790 c2_i32_581
  let v816 : Index := Scalar.indexCast v791
  let c0_602 : Index := 0#32
  let c0_603 : Index := 0#32
  ![1, v816.toNat, 0, 0]
def k0_off10 (i : grid0.Coords) (k0_t1 : Fin (k0_t1_loop i).trips) (c0_i32_580 : BitVec 32) : Fin 5 → Nat :=
  let c0_609 : Index := 0#32
  let c1_610 : Index := 1#32
  let c4_i32_579 : BitVec 32 := 4#32
  let c0_i32_242 : BitVec 32 := 0#32
  let c1_i32_244 : BitVec 32 := 1#32
  let arg20 : BitVec 32 := Scf.iv c0_i32_242 c1_i32_244 k0_t1
  let v788 : BitVec 32 := Scalar.muli c4_i32_579 arg20
  let v789 : BitVec 32 := Scalar.addi v788 c0_i32_580
  let v827 : Index := Scalar.indexCast v789
  let c0_611 : Index := 0#32
  let c0_612 : Index := 0#32
  ![0, 1, v827.toNat, 0, 0]
def k0_off11 (i : grid0.Coords) (k0_t1 : Fin (k0_t1_loop i).trips) (c0_i32_580 : BitVec 32) : Fin 4 → Nat :=
  let c0_614 : Index := 0#32
  let c4_i32_579 : BitVec 32 := 4#32
  let c0_i32_242 : BitVec 32 := 0#32
  let c1_i32_244 : BitVec 32 := 1#32
  let arg20 : BitVec 32 := Scf.iv c0_i32_242 c1_i32_244 k0_t1
  let v788 : BitVec 32 := Scalar.muli c4_i32_579 arg20
  let v789 : BitVec 32 := Scalar.addi v788 c0_i32_580
  let v834 : Index := Scalar.indexCast v789
  let c0_615 : Index := 0#32
  let c256_616 : Index := 256#32
  ![0, v834.toNat, 0, 256]
def k0_off12 (i : grid0.Coords) (k0_t1 : Fin (k0_t1_loop i).trips) (c0_i32_580 : BitVec 32) : Fin 4 → Nat :=
  let c2_617 : Index := 2#32
  let arg1 : BitVec 32 := BitVec.ofNat 32 (i 1).val
  let c4_i32_579 : BitVec 32 := 4#32
  let c0_i32_242 : BitVec 32 := 0#32
  let c1_i32_244 : BitVec 32 := 1#32
  let arg20 : BitVec 32 := Scf.iv c0_i32_242 c1_i32_244 k0_t1
  let v788 : BitVec 32 := Scalar.muli c4_i32_579 arg20
  let v789 : BitVec 32 := Scalar.addi v788 c0_i32_580
  let v790 : BitVec 32 := Scalar.subi arg1 v789
  let c2_i32_581 : BitVec 32 := 2#32
  let v791 : BitVec 32 := Scalar.minsi v790 c2_i32_581
  let v837 : Index := Scalar.indexCast v791
  let c0_618 : Index := 0#32
  let c0_619 : Index := 0#32
  ![2, v837.toNat, 0, 0]
def k0_off13 (i : grid0.Coords) (k0_t1 : Fin (k0_t1_loop i).trips) (c0_i32_580 : BitVec 32) : Fin 5 → Nat :=
  let c0_625 : Index := 0#32
  let c2_626 : Index := 2#32
  let c4_i32_579 : BitVec 32 := 4#32
  let c0_i32_242 : BitVec 32 := 0#32
  let c1_i32_244 : BitVec 32 := 1#32
  let arg20 : BitVec 32 := Scf.iv c0_i32_242 c1_i32_244 k0_t1
  let v788 : BitVec 32 := Scalar.muli c4_i32_579 arg20
  let v789 : BitVec 32 := Scalar.addi v788 c0_i32_580
  let v848 : Index := Scalar.indexCast v789
  let c0_627 : Index := 0#32
  let c0_628 : Index := 0#32
  ![0, 2, v848.toNat, 0, 0]
def k0_off14 (i : grid0.Coords) (k0_t1 : Fin (k0_t1_loop i).trips) (c0_i32_580 : BitVec 32) : Fin 4 → Nat :=
  let c0_630 : Index := 0#32
  let c4_i32_579 : BitVec 32 := 4#32
  let c0_i32_242 : BitVec 32 := 0#32
  let c1_i32_244 : BitVec 32 := 1#32
  let arg20 : BitVec 32 := Scf.iv c0_i32_242 c1_i32_244 k0_t1
  let v788 : BitVec 32 := Scalar.muli c4_i32_579 arg20
  let v789 : BitVec 32 := Scalar.addi v788 c0_i32_580
  let v855 : Index := Scalar.indexCast v789
  let c0_631 : Index := 0#32
  let c384_632 : Index := 384#32
  ![0, v855.toNat, 0, 384]
def k0_off15 (i : grid0.Coords) (k0_t1 : Fin (k0_t1_loop i).trips) (c0_i32_580 : BitVec 32) : Fin 4 → Nat :=
  let c3_633 : Index := 3#32
  let arg1 : BitVec 32 := BitVec.ofNat 32 (i 1).val
  let c4_i32_579 : BitVec 32 := 4#32
  let c0_i32_242 : BitVec 32 := 0#32
  let c1_i32_244 : BitVec 32 := 1#32
  let arg20 : BitVec 32 := Scf.iv c0_i32_242 c1_i32_244 k0_t1
  let v788 : BitVec 32 := Scalar.muli c4_i32_579 arg20
  let v789 : BitVec 32 := Scalar.addi v788 c0_i32_580
  let v790 : BitVec 32 := Scalar.subi arg1 v789
  let c2_i32_581 : BitVec 32 := 2#32
  let v791 : BitVec 32 := Scalar.minsi v790 c2_i32_581
  let v858 : Index := Scalar.indexCast v791
  let c0_634 : Index := 0#32
  let c0_635 : Index := 0#32
  ![3, v858.toNat, 0, 0]
def k0_off16 (i : grid0.Coords) (k0_t1 : Fin (k0_t1_loop i).trips) (c0_i32_580 : BitVec 32) : Fin 5 → Nat :=
  let c0_641 : Index := 0#32
  let c3_642 : Index := 3#32
  let c4_i32_579 : BitVec 32 := 4#32
  let c0_i32_242 : BitVec 32 := 0#32
  let c1_i32_244 : BitVec 32 := 1#32
  let arg20 : BitVec 32 := Scf.iv c0_i32_242 c1_i32_244 k0_t1
  let v788 : BitVec 32 := Scalar.muli c4_i32_579 arg20
  let v789 : BitVec 32 := Scalar.addi v788 c0_i32_580
  let v869 : Index := Scalar.indexCast v789
  let c0_643 : Index := 0#32
  let c0_644 : Index := 0#32
  ![0, 3, v869.toNat, 0, 0]
def k0_off17 (i : grid0.Coords) (k0_t1 : Fin (k0_t1_loop i).trips) (c0_i32_580 : BitVec 32) : Fin 4 → Nat :=
  let c1_646 : Index := 1#32
  let c4_i32_579 : BitVec 32 := 4#32
  let c0_i32_242 : BitVec 32 := 0#32
  let c1_i32_244 : BitVec 32 := 1#32
  let arg20 : BitVec 32 := Scf.iv c0_i32_242 c1_i32_244 k0_t1
  let v788 : BitVec 32 := Scalar.muli c4_i32_579 arg20
  let v789 : BitVec 32 := Scalar.addi v788 c0_i32_580
  let v876 : Index := Scalar.indexCast v789
  let c0_647 : Index := 0#32
  let c0_648 : Index := 0#32
  ![1, v876.toNat, 0, 0]
def k0_off18 (i : grid0.Coords) (k0_t1 : Fin (k0_t1_loop i).trips) (c0_i32_580 : BitVec 32) : Fin 5 → Nat :=
  let c1_657 : Index := 1#32
  let c0_658 : Index := 0#32
  let c4_i32_579 : BitVec 32 := 4#32
  let c0_i32_242 : BitVec 32 := 0#32
  let c1_i32_244 : BitVec 32 := 1#32
  let arg20 : BitVec 32 := Scf.iv c0_i32_242 c1_i32_244 k0_t1
  let v788 : BitVec 32 := Scalar.muli c4_i32_579 arg20
  let v789 : BitVec 32 := Scalar.addi v788 c0_i32_580
  let v890 : Index := Scalar.indexCast v789
  let c0_659 : Index := 0#32
  let c0_660 : Index := 0#32
  ![1, 0, v890.toNat, 0, 0]
def k0_off19 (i : grid0.Coords) (k0_t1 : Fin (k0_t1_loop i).trips) (c0_i32_580 : BitVec 32) : Fin 4 → Nat :=
  let c1_662 : Index := 1#32
  let c4_i32_579 : BitVec 32 := 4#32
  let c0_i32_242 : BitVec 32 := 0#32
  let c1_i32_244 : BitVec 32 := 1#32
  let arg20 : BitVec 32 := Scf.iv c0_i32_242 c1_i32_244 k0_t1
  let v788 : BitVec 32 := Scalar.muli c4_i32_579 arg20
  let v789 : BitVec 32 := Scalar.addi v788 c0_i32_580
  let v897 : Index := Scalar.indexCast v789
  let c0_663 : Index := 0#32
  let c128_664 : Index := 128#32
  ![1, v897.toNat, 0, 128]
def k0_off20 (i : grid0.Coords) (k0_t1 : Fin (k0_t1_loop i).trips) (c0_i32_580 : BitVec 32) : Fin 5 → Nat :=
  let c1_673 : Index := 1#32
  let c1_674 : Index := 1#32
  let c4_i32_579 : BitVec 32 := 4#32
  let c0_i32_242 : BitVec 32 := 0#32
  let c1_i32_244 : BitVec 32 := 1#32
  let arg20 : BitVec 32 := Scf.iv c0_i32_242 c1_i32_244 k0_t1
  let v788 : BitVec 32 := Scalar.muli c4_i32_579 arg20
  let v789 : BitVec 32 := Scalar.addi v788 c0_i32_580
  let v911 : Index := Scalar.indexCast v789
  let c0_675 : Index := 0#32
  let c0_676 : Index := 0#32
  ![1, 1, v911.toNat, 0, 0]
def k0_off21 (i : grid0.Coords) (k0_t1 : Fin (k0_t1_loop i).trips) (c0_i32_580 : BitVec 32) : Fin 4 → Nat :=
  let c1_678 : Index := 1#32
  let c4_i32_579 : BitVec 32 := 4#32
  let c0_i32_242 : BitVec 32 := 0#32
  let c1_i32_244 : BitVec 32 := 1#32
  let arg20 : BitVec 32 := Scf.iv c0_i32_242 c1_i32_244 k0_t1
  let v788 : BitVec 32 := Scalar.muli c4_i32_579 arg20
  let v789 : BitVec 32 := Scalar.addi v788 c0_i32_580
  let v918 : Index := Scalar.indexCast v789
  let c0_679 : Index := 0#32
  let c256_680 : Index := 256#32
  ![1, v918.toNat, 0, 256]
def k0_off22 (i : grid0.Coords) (k0_t1 : Fin (k0_t1_loop i).trips) (c0_i32_580 : BitVec 32) : Fin 5 → Nat :=
  let c1_689 : Index := 1#32
  let c2_690 : Index := 2#32
  let c4_i32_579 : BitVec 32 := 4#32
  let c0_i32_242 : BitVec 32 := 0#32
  let c1_i32_244 : BitVec 32 := 1#32
  let arg20 : BitVec 32 := Scf.iv c0_i32_242 c1_i32_244 k0_t1
  let v788 : BitVec 32 := Scalar.muli c4_i32_579 arg20
  let v789 : BitVec 32 := Scalar.addi v788 c0_i32_580
  let v932 : Index := Scalar.indexCast v789
  let c0_691 : Index := 0#32
  let c0_692 : Index := 0#32
  ![1, 2, v932.toNat, 0, 0]
def k0_off23 (i : grid0.Coords) (k0_t1 : Fin (k0_t1_loop i).trips) (c0_i32_580 : BitVec 32) : Fin 4 → Nat :=
  let c1_694 : Index := 1#32
  let c4_i32_579 : BitVec 32 := 4#32
  let c0_i32_242 : BitVec 32 := 0#32
  let c1_i32_244 : BitVec 32 := 1#32
  let arg20 : BitVec 32 := Scf.iv c0_i32_242 c1_i32_244 k0_t1
  let v788 : BitVec 32 := Scalar.muli c4_i32_579 arg20
  let v789 : BitVec 32 := Scalar.addi v788 c0_i32_580
  let v939 : Index := Scalar.indexCast v789
  let c0_695 : Index := 0#32
  let c384_696 : Index := 384#32
  ![1, v939.toNat, 0, 384]
def k0_off24 (i : grid0.Coords) (k0_t1 : Fin (k0_t1_loop i).trips) (c0_i32_580 : BitVec 32) : Fin 5 → Nat :=
  let c1_705 : Index := 1#32
  let c3_706 : Index := 3#32
  let c4_i32_579 : BitVec 32 := 4#32
  let c0_i32_242 : BitVec 32 := 0#32
  let c1_i32_244 : BitVec 32 := 1#32
  let arg20 : BitVec 32 := Scf.iv c0_i32_242 c1_i32_244 k0_t1
  let v788 : BitVec 32 := Scalar.muli c4_i32_579 arg20
  let v789 : BitVec 32 := Scalar.addi v788 c0_i32_580
  let v953 : Index := Scalar.indexCast v789
  let c0_707 : Index := 0#32
  let c0_708 : Index := 0#32
  ![1, 3, v953.toNat, 0, 0]
@[reducible] def k0_t2_loop (i : grid0.Coords) : Scf.Loop 32 :=
  let c0_i32_242 : BitVec 32 := 0#32
  let arg1 : BitVec 32 := BitVec.ofNat 32 (i 1).val
  let c1_i32_236 : BitVec 32 := 1#32
  let v244 : BitVec 32 := Scalar.addi arg1 c1_i32_236
  let c0_i32 : BitVec 32 := 0#32
  let v246 : BitVec 1 := Scalar.cmpi .sgt v244 c0_i32
  let v247 : BitVec 32 := Scalar.extui v246
  let c0_i32_237 : BitVec 32 := 0#32
  let v248 : BitVec 1 := Scalar.cmpi .slt v244 c0_i32_237
  let v249 : BitVec 32 := Scalar.extui v248
  let v250 : BitVec 32 := Scalar.subi v247 v249
  let c4_i32 : BitVec 32 := 4#32
  let c0_i32_238 : BitVec 32 := 0#32
  let v251 : BitVec 1 := Scalar.cmpi .sgt c4_i32 c0_i32_238
  let v252 : BitVec 32 := Scalar.extui v251
  let c0_i32_239 : BitVec 32 := 0#32
  let v253 : BitVec 1 := Scalar.cmpi .slt c4_i32 c0_i32_239
  let v254 : BitVec 32 := Scalar.extui v253
  let v255 : BitVec 32 := Scalar.subi v252 v254
  let v256 : BitVec 1 := Scalar.cmpi .ne v250 v255
  let v257 : BitVec 32 := Scalar.remsi v244 c4_i32
  let c0_i32_240 : BitVec 32 := 0#32
  let v258 : BitVec 1 := Scalar.cmpi .ne v257 c0_i32_240
  let v259 : BitVec 1 := Scalar.andi v256 v258
  let v245 : BitVec 32 := Scalar.divsi v244 c4_i32
  let c1_i32_241 : BitVec 32 := 1#32
  let v260 : BitVec 32 := Scalar.subi v245 c1_i32_241
  let v261 : BitVec 32 := Scalar.select v259 v260 v245
  let v262 : BitVec 32 := Scalar.subi v261 c0_i32_242
  let c1_i32_243 : BitVec 32 := 1#32
  let v264 : BitVec 32 := Scalar.divsi v262 c1_i32_243
  let v265 : BitVec 32 := Scalar.muli v264 c1_i32_243
  let v266 : BitVec 32 := Scalar.addi c0_i32_242 v265
  let v263 : BitVec 32 := Scalar.addi c0_i32_242 v262
  let c1_i32_245 : BitVec 32 := 1#32
  ⟨v266, v263, c1_i32_245⟩
def k0_off25 (i : grid0.Coords) (k0_t2 : Fin (k0_t2_loop i).trips) (c0_i32_580 : BitVec 32) : Fin 4 → Nat :=
  let c0_582 : Index := 0#32
  let c4_i32_579 : BitVec 32 := 4#32
  let c0_i32_242 : BitVec 32 := 0#32
  let arg1 : BitVec 32 := BitVec.ofNat 32 (i 1).val
  let c1_i32_236 : BitVec 32 := 1#32
  let v244 : BitVec 32 := Scalar.addi arg1 c1_i32_236
  let c0_i32 : BitVec 32 := 0#32
  let v246 : BitVec 1 := Scalar.cmpi .sgt v244 c0_i32
  let v247 : BitVec 32 := Scalar.extui v246
  let c0_i32_237 : BitVec 32 := 0#32
  let v248 : BitVec 1 := Scalar.cmpi .slt v244 c0_i32_237
  let v249 : BitVec 32 := Scalar.extui v248
  let v250 : BitVec 32 := Scalar.subi v247 v249
  let c4_i32 : BitVec 32 := 4#32
  let c0_i32_238 : BitVec 32 := 0#32
  let v251 : BitVec 1 := Scalar.cmpi .sgt c4_i32 c0_i32_238
  let v252 : BitVec 32 := Scalar.extui v251
  let c0_i32_239 : BitVec 32 := 0#32
  let v253 : BitVec 1 := Scalar.cmpi .slt c4_i32 c0_i32_239
  let v254 : BitVec 32 := Scalar.extui v253
  let v255 : BitVec 32 := Scalar.subi v252 v254
  let v256 : BitVec 1 := Scalar.cmpi .ne v250 v255
  let v257 : BitVec 32 := Scalar.remsi v244 c4_i32
  let c0_i32_240 : BitVec 32 := 0#32
  let v258 : BitVec 1 := Scalar.cmpi .ne v257 c0_i32_240
  let v259 : BitVec 1 := Scalar.andi v256 v258
  let v245 : BitVec 32 := Scalar.divsi v244 c4_i32
  let c1_i32_241 : BitVec 32 := 1#32
  let v260 : BitVec 32 := Scalar.subi v245 c1_i32_241
  let v261 : BitVec 32 := Scalar.select v259 v260 v245
  let v262 : BitVec 32 := Scalar.subi v261 c0_i32_242
  let c1_i32_243 : BitVec 32 := 1#32
  let v264 : BitVec 32 := Scalar.divsi v262 c1_i32_243
  let v265 : BitVec 32 := Scalar.muli v264 c1_i32_243
  let v266 : BitVec 32 := Scalar.addi c0_i32_242 v265
  let c1_i32_245 : BitVec 32 := 1#32
  let arg20 : BitVec 32 := Scf.iv v266 c1_i32_245 k0_t2
  let v788 : BitVec 32 := Scalar.muli c4_i32_579 arg20
  let v789 : BitVec 32 := Scalar.addi v788 c0_i32_580
  let v792 : Index := Scalar.indexCast v789
  let c0_583 : Index := 0#32
  let c0_584 : Index := 0#32
  ![0, v792.toNat, 0, 0]
def k0_off26 (i : grid0.Coords) (k0_t2 : Fin (k0_t2_loop i).trips) (c0_i32_580 : BitVec 32) : Fin 4 → Nat :=
  let c0_585 : Index := 0#32
  let arg1 : BitVec 32 := BitVec.ofNat 32 (i 1).val
  let c4_i32_579 : BitVec 32 := 4#32
  let c0_i32_242 : BitVec 32 := 0#32
  let c1_i32_236 : BitVec 32 := 1#32
  let v244 : BitVec 32 := Scalar.addi arg1 c1_i32_236
  let c0_i32 : BitVec 32 := 0#32
  let v246 : BitVec 1 := Scalar.cmpi .sgt v244 c0_i32
  let v247 : BitVec 32 := Scalar.extui v246
  let c0_i32_237 : BitVec 32 := 0#32
  let v248 : BitVec 1 := Scalar.cmpi .slt v244 c0_i32_237
  let v249 : BitVec 32 := Scalar.extui v248
  let v250 : BitVec 32 := Scalar.subi v247 v249
  let c4_i32 : BitVec 32 := 4#32
  let c0_i32_238 : BitVec 32 := 0#32
  let v251 : BitVec 1 := Scalar.cmpi .sgt c4_i32 c0_i32_238
  let v252 : BitVec 32 := Scalar.extui v251
  let c0_i32_239 : BitVec 32 := 0#32
  let v253 : BitVec 1 := Scalar.cmpi .slt c4_i32 c0_i32_239
  let v254 : BitVec 32 := Scalar.extui v253
  let v255 : BitVec 32 := Scalar.subi v252 v254
  let v256 : BitVec 1 := Scalar.cmpi .ne v250 v255
  let v257 : BitVec 32 := Scalar.remsi v244 c4_i32
  let c0_i32_240 : BitVec 32 := 0#32
  let v258 : BitVec 1 := Scalar.cmpi .ne v257 c0_i32_240
  let v259 : BitVec 1 := Scalar.andi v256 v258
  let v245 : BitVec 32 := Scalar.divsi v244 c4_i32
  let c1_i32_241 : BitVec 32 := 1#32
  let v260 : BitVec 32 := Scalar.subi v245 c1_i32_241
  let v261 : BitVec 32 := Scalar.select v259 v260 v245
  let v262 : BitVec 32 := Scalar.subi v261 c0_i32_242
  let c1_i32_243 : BitVec 32 := 1#32
  let v264 : BitVec 32 := Scalar.divsi v262 c1_i32_243
  let v265 : BitVec 32 := Scalar.muli v264 c1_i32_243
  let v266 : BitVec 32 := Scalar.addi c0_i32_242 v265
  let c1_i32_245 : BitVec 32 := 1#32
  let arg20 : BitVec 32 := Scf.iv v266 c1_i32_245 k0_t2
  let v788 : BitVec 32 := Scalar.muli c4_i32_579 arg20
  let v789 : BitVec 32 := Scalar.addi v788 c0_i32_580
  let v790 : BitVec 32 := Scalar.subi arg1 v789
  let c2_i32_581 : BitVec 32 := 2#32
  let v791 : BitVec 32 := Scalar.minsi v790 c2_i32_581
  let v795 : Index := Scalar.indexCast v791
  let c0_586 : Index := 0#32
  let c0_587 : Index := 0#32
  ![0, v795.toNat, 0, 0]
def k0_off27 (i : grid0.Coords) (k0_t2 : Fin (k0_t2_loop i).trips) (c0_i32_580 : BitVec 32) : Fin 5 → Nat :=
  let c0_593 : Index := 0#32
  let c0_594 : Index := 0#32
  let c4_i32_579 : BitVec 32 := 4#32
  let c0_i32_242 : BitVec 32 := 0#32
  let arg1 : BitVec 32 := BitVec.ofNat 32 (i 1).val
  let c1_i32_236 : BitVec 32 := 1#32
  let v244 : BitVec 32 := Scalar.addi arg1 c1_i32_236
  let c0_i32 : BitVec 32 := 0#32
  let v246 : BitVec 1 := Scalar.cmpi .sgt v244 c0_i32
  let v247 : BitVec 32 := Scalar.extui v246
  let c0_i32_237 : BitVec 32 := 0#32
  let v248 : BitVec 1 := Scalar.cmpi .slt v244 c0_i32_237
  let v249 : BitVec 32 := Scalar.extui v248
  let v250 : BitVec 32 := Scalar.subi v247 v249
  let c4_i32 : BitVec 32 := 4#32
  let c0_i32_238 : BitVec 32 := 0#32
  let v251 : BitVec 1 := Scalar.cmpi .sgt c4_i32 c0_i32_238
  let v252 : BitVec 32 := Scalar.extui v251
  let c0_i32_239 : BitVec 32 := 0#32
  let v253 : BitVec 1 := Scalar.cmpi .slt c4_i32 c0_i32_239
  let v254 : BitVec 32 := Scalar.extui v253
  let v255 : BitVec 32 := Scalar.subi v252 v254
  let v256 : BitVec 1 := Scalar.cmpi .ne v250 v255
  let v257 : BitVec 32 := Scalar.remsi v244 c4_i32
  let c0_i32_240 : BitVec 32 := 0#32
  let v258 : BitVec 1 := Scalar.cmpi .ne v257 c0_i32_240
  let v259 : BitVec 1 := Scalar.andi v256 v258
  let v245 : BitVec 32 := Scalar.divsi v244 c4_i32
  let c1_i32_241 : BitVec 32 := 1#32
  let v260 : BitVec 32 := Scalar.subi v245 c1_i32_241
  let v261 : BitVec 32 := Scalar.select v259 v260 v245
  let v262 : BitVec 32 := Scalar.subi v261 c0_i32_242
  let c1_i32_243 : BitVec 32 := 1#32
  let v264 : BitVec 32 := Scalar.divsi v262 c1_i32_243
  let v265 : BitVec 32 := Scalar.muli v264 c1_i32_243
  let v266 : BitVec 32 := Scalar.addi c0_i32_242 v265
  let c1_i32_245 : BitVec 32 := 1#32
  let arg20 : BitVec 32 := Scf.iv v266 c1_i32_245 k0_t2
  let v788 : BitVec 32 := Scalar.muli c4_i32_579 arg20
  let v789 : BitVec 32 := Scalar.addi v788 c0_i32_580
  let v806 : Index := Scalar.indexCast v789
  let c0_595 : Index := 0#32
  let c0_596 : Index := 0#32
  ![0, 0, v806.toNat, 0, 0]
def k0_off28 (i : grid0.Coords) (k0_t2 : Fin (k0_t2_loop i).trips) (c0_i32_580 : BitVec 32) : Fin 4 → Nat :=
  let c0_598 : Index := 0#32
  let c4_i32_579 : BitVec 32 := 4#32
  let c0_i32_242 : BitVec 32 := 0#32
  let arg1 : BitVec 32 := BitVec.ofNat 32 (i 1).val
  let c1_i32_236 : BitVec 32 := 1#32
  let v244 : BitVec 32 := Scalar.addi arg1 c1_i32_236
  let c0_i32 : BitVec 32 := 0#32
  let v246 : BitVec 1 := Scalar.cmpi .sgt v244 c0_i32
  let v247 : BitVec 32 := Scalar.extui v246
  let c0_i32_237 : BitVec 32 := 0#32
  let v248 : BitVec 1 := Scalar.cmpi .slt v244 c0_i32_237
  let v249 : BitVec 32 := Scalar.extui v248
  let v250 : BitVec 32 := Scalar.subi v247 v249
  let c4_i32 : BitVec 32 := 4#32
  let c0_i32_238 : BitVec 32 := 0#32
  let v251 : BitVec 1 := Scalar.cmpi .sgt c4_i32 c0_i32_238
  let v252 : BitVec 32 := Scalar.extui v251
  let c0_i32_239 : BitVec 32 := 0#32
  let v253 : BitVec 1 := Scalar.cmpi .slt c4_i32 c0_i32_239
  let v254 : BitVec 32 := Scalar.extui v253
  let v255 : BitVec 32 := Scalar.subi v252 v254
  let v256 : BitVec 1 := Scalar.cmpi .ne v250 v255
  let v257 : BitVec 32 := Scalar.remsi v244 c4_i32
  let c0_i32_240 : BitVec 32 := 0#32
  let v258 : BitVec 1 := Scalar.cmpi .ne v257 c0_i32_240
  let v259 : BitVec 1 := Scalar.andi v256 v258
  let v245 : BitVec 32 := Scalar.divsi v244 c4_i32
  let c1_i32_241 : BitVec 32 := 1#32
  let v260 : BitVec 32 := Scalar.subi v245 c1_i32_241
  let v261 : BitVec 32 := Scalar.select v259 v260 v245
  let v262 : BitVec 32 := Scalar.subi v261 c0_i32_242
  let c1_i32_243 : BitVec 32 := 1#32
  let v264 : BitVec 32 := Scalar.divsi v262 c1_i32_243
  let v265 : BitVec 32 := Scalar.muli v264 c1_i32_243
  let v266 : BitVec 32 := Scalar.addi c0_i32_242 v265
  let c1_i32_245 : BitVec 32 := 1#32
  let arg20 : BitVec 32 := Scf.iv v266 c1_i32_245 k0_t2
  let v788 : BitVec 32 := Scalar.muli c4_i32_579 arg20
  let v789 : BitVec 32 := Scalar.addi v788 c0_i32_580
  let v813 : Index := Scalar.indexCast v789
  let c0_599 : Index := 0#32
  let c128_600 : Index := 128#32
  ![0, v813.toNat, 0, 128]
def k0_off29 (i : grid0.Coords) (k0_t2 : Fin (k0_t2_loop i).trips) (c0_i32_580 : BitVec 32) : Fin 4 → Nat :=
  let c1_601 : Index := 1#32
  let arg1 : BitVec 32 := BitVec.ofNat 32 (i 1).val
  let c4_i32_579 : BitVec 32 := 4#32
  let c0_i32_242 : BitVec 32 := 0#32
  let c1_i32_236 : BitVec 32 := 1#32
  let v244 : BitVec 32 := Scalar.addi arg1 c1_i32_236
  let c0_i32 : BitVec 32 := 0#32
  let v246 : BitVec 1 := Scalar.cmpi .sgt v244 c0_i32
  let v247 : BitVec 32 := Scalar.extui v246
  let c0_i32_237 : BitVec 32 := 0#32
  let v248 : BitVec 1 := Scalar.cmpi .slt v244 c0_i32_237
  let v249 : BitVec 32 := Scalar.extui v248
  let v250 : BitVec 32 := Scalar.subi v247 v249
  let c4_i32 : BitVec 32 := 4#32
  let c0_i32_238 : BitVec 32 := 0#32
  let v251 : BitVec 1 := Scalar.cmpi .sgt c4_i32 c0_i32_238
  let v252 : BitVec 32 := Scalar.extui v251
  let c0_i32_239 : BitVec 32 := 0#32
  let v253 : BitVec 1 := Scalar.cmpi .slt c4_i32 c0_i32_239
  let v254 : BitVec 32 := Scalar.extui v253
  let v255 : BitVec 32 := Scalar.subi v252 v254
  let v256 : BitVec 1 := Scalar.cmpi .ne v250 v255
  let v257 : BitVec 32 := Scalar.remsi v244 c4_i32
  let c0_i32_240 : BitVec 32 := 0#32
  let v258 : BitVec 1 := Scalar.cmpi .ne v257 c0_i32_240
  let v259 : BitVec 1 := Scalar.andi v256 v258
  let v245 : BitVec 32 := Scalar.divsi v244 c4_i32
  let c1_i32_241 : BitVec 32 := 1#32
  let v260 : BitVec 32 := Scalar.subi v245 c1_i32_241
  let v261 : BitVec 32 := Scalar.select v259 v260 v245
  let v262 : BitVec 32 := Scalar.subi v261 c0_i32_242
  let c1_i32_243 : BitVec 32 := 1#32
  let v264 : BitVec 32 := Scalar.divsi v262 c1_i32_243
  let v265 : BitVec 32 := Scalar.muli v264 c1_i32_243
  let v266 : BitVec 32 := Scalar.addi c0_i32_242 v265
  let c1_i32_245 : BitVec 32 := 1#32
  let arg20 : BitVec 32 := Scf.iv v266 c1_i32_245 k0_t2
  let v788 : BitVec 32 := Scalar.muli c4_i32_579 arg20
  let v789 : BitVec 32 := Scalar.addi v788 c0_i32_580
  let v790 : BitVec 32 := Scalar.subi arg1 v789
  let c2_i32_581 : BitVec 32 := 2#32
  let v791 : BitVec 32 := Scalar.minsi v790 c2_i32_581
  let v816 : Index := Scalar.indexCast v791
  let c0_602 : Index := 0#32
  let c0_603 : Index := 0#32
  ![1, v816.toNat, 0, 0]
def k0_off30 (i : grid0.Coords) (k0_t2 : Fin (k0_t2_loop i).trips) (c0_i32_580 : BitVec 32) : Fin 5 → Nat :=
  let c0_609 : Index := 0#32
  let c1_610 : Index := 1#32
  let c4_i32_579 : BitVec 32 := 4#32
  let c0_i32_242 : BitVec 32 := 0#32
  let arg1 : BitVec 32 := BitVec.ofNat 32 (i 1).val
  let c1_i32_236 : BitVec 32 := 1#32
  let v244 : BitVec 32 := Scalar.addi arg1 c1_i32_236
  let c0_i32 : BitVec 32 := 0#32
  let v246 : BitVec 1 := Scalar.cmpi .sgt v244 c0_i32
  let v247 : BitVec 32 := Scalar.extui v246
  let c0_i32_237 : BitVec 32 := 0#32
  let v248 : BitVec 1 := Scalar.cmpi .slt v244 c0_i32_237
  let v249 : BitVec 32 := Scalar.extui v248
  let v250 : BitVec 32 := Scalar.subi v247 v249
  let c4_i32 : BitVec 32 := 4#32
  let c0_i32_238 : BitVec 32 := 0#32
  let v251 : BitVec 1 := Scalar.cmpi .sgt c4_i32 c0_i32_238
  let v252 : BitVec 32 := Scalar.extui v251
  let c0_i32_239 : BitVec 32 := 0#32
  let v253 : BitVec 1 := Scalar.cmpi .slt c4_i32 c0_i32_239
  let v254 : BitVec 32 := Scalar.extui v253
  let v255 : BitVec 32 := Scalar.subi v252 v254
  let v256 : BitVec 1 := Scalar.cmpi .ne v250 v255
  let v257 : BitVec 32 := Scalar.remsi v244 c4_i32
  let c0_i32_240 : BitVec 32 := 0#32
  let v258 : BitVec 1 := Scalar.cmpi .ne v257 c0_i32_240
  let v259 : BitVec 1 := Scalar.andi v256 v258
  let v245 : BitVec 32 := Scalar.divsi v244 c4_i32
  let c1_i32_241 : BitVec 32 := 1#32
  let v260 : BitVec 32 := Scalar.subi v245 c1_i32_241
  let v261 : BitVec 32 := Scalar.select v259 v260 v245
  let v262 : BitVec 32 := Scalar.subi v261 c0_i32_242
  let c1_i32_243 : BitVec 32 := 1#32
  let v264 : BitVec 32 := Scalar.divsi v262 c1_i32_243
  let v265 : BitVec 32 := Scalar.muli v264 c1_i32_243
  let v266 : BitVec 32 := Scalar.addi c0_i32_242 v265
  let c1_i32_245 : BitVec 32 := 1#32
  let arg20 : BitVec 32 := Scf.iv v266 c1_i32_245 k0_t2
  let v788 : BitVec 32 := Scalar.muli c4_i32_579 arg20
  let v789 : BitVec 32 := Scalar.addi v788 c0_i32_580
  let v827 : Index := Scalar.indexCast v789
  let c0_611 : Index := 0#32
  let c0_612 : Index := 0#32
  ![0, 1, v827.toNat, 0, 0]
def k0_off31 (i : grid0.Coords) (k0_t2 : Fin (k0_t2_loop i).trips) (c0_i32_580 : BitVec 32) : Fin 4 → Nat :=
  let c0_614 : Index := 0#32
  let c4_i32_579 : BitVec 32 := 4#32
  let c0_i32_242 : BitVec 32 := 0#32
  let arg1 : BitVec 32 := BitVec.ofNat 32 (i 1).val
  let c1_i32_236 : BitVec 32 := 1#32
  let v244 : BitVec 32 := Scalar.addi arg1 c1_i32_236
  let c0_i32 : BitVec 32 := 0#32
  let v246 : BitVec 1 := Scalar.cmpi .sgt v244 c0_i32
  let v247 : BitVec 32 := Scalar.extui v246
  let c0_i32_237 : BitVec 32 := 0#32
  let v248 : BitVec 1 := Scalar.cmpi .slt v244 c0_i32_237
  let v249 : BitVec 32 := Scalar.extui v248
  let v250 : BitVec 32 := Scalar.subi v247 v249
  let c4_i32 : BitVec 32 := 4#32
  let c0_i32_238 : BitVec 32 := 0#32
  let v251 : BitVec 1 := Scalar.cmpi .sgt c4_i32 c0_i32_238
  let v252 : BitVec 32 := Scalar.extui v251
  let c0_i32_239 : BitVec 32 := 0#32
  let v253 : BitVec 1 := Scalar.cmpi .slt c4_i32 c0_i32_239
  let v254 : BitVec 32 := Scalar.extui v253
  let v255 : BitVec 32 := Scalar.subi v252 v254
  let v256 : BitVec 1 := Scalar.cmpi .ne v250 v255
  let v257 : BitVec 32 := Scalar.remsi v244 c4_i32
  let c0_i32_240 : BitVec 32 := 0#32
  let v258 : BitVec 1 := Scalar.cmpi .ne v257 c0_i32_240
  let v259 : BitVec 1 := Scalar.andi v256 v258
  let v245 : BitVec 32 := Scalar.divsi v244 c4_i32
  let c1_i32_241 : BitVec 32 := 1#32
  let v260 : BitVec 32 := Scalar.subi v245 c1_i32_241
  let v261 : BitVec 32 := Scalar.select v259 v260 v245
  let v262 : BitVec 32 := Scalar.subi v261 c0_i32_242
  let c1_i32_243 : BitVec 32 := 1#32
  let v264 : BitVec 32 := Scalar.divsi v262 c1_i32_243
  let v265 : BitVec 32 := Scalar.muli v264 c1_i32_243
  let v266 : BitVec 32 := Scalar.addi c0_i32_242 v265
  let c1_i32_245 : BitVec 32 := 1#32
  let arg20 : BitVec 32 := Scf.iv v266 c1_i32_245 k0_t2
  let v788 : BitVec 32 := Scalar.muli c4_i32_579 arg20
  let v789 : BitVec 32 := Scalar.addi v788 c0_i32_580
  let v834 : Index := Scalar.indexCast v789
  let c0_615 : Index := 0#32
  let c256_616 : Index := 256#32
  ![0, v834.toNat, 0, 256]
def k0_off32 (i : grid0.Coords) (k0_t2 : Fin (k0_t2_loop i).trips) (c0_i32_580 : BitVec 32) : Fin 4 → Nat :=
  let c2_617 : Index := 2#32
  let arg1 : BitVec 32 := BitVec.ofNat 32 (i 1).val
  let c4_i32_579 : BitVec 32 := 4#32
  let c0_i32_242 : BitVec 32 := 0#32
  let c1_i32_236 : BitVec 32 := 1#32
  let v244 : BitVec 32 := Scalar.addi arg1 c1_i32_236
  let c0_i32 : BitVec 32 := 0#32
  let v246 : BitVec 1 := Scalar.cmpi .sgt v244 c0_i32
  let v247 : BitVec 32 := Scalar.extui v246
  let c0_i32_237 : BitVec 32 := 0#32
  let v248 : BitVec 1 := Scalar.cmpi .slt v244 c0_i32_237
  let v249 : BitVec 32 := Scalar.extui v248
  let v250 : BitVec 32 := Scalar.subi v247 v249
  let c4_i32 : BitVec 32 := 4#32
  let c0_i32_238 : BitVec 32 := 0#32
  let v251 : BitVec 1 := Scalar.cmpi .sgt c4_i32 c0_i32_238
  let v252 : BitVec 32 := Scalar.extui v251
  let c0_i32_239 : BitVec 32 := 0#32
  let v253 : BitVec 1 := Scalar.cmpi .slt c4_i32 c0_i32_239
  let v254 : BitVec 32 := Scalar.extui v253
  let v255 : BitVec 32 := Scalar.subi v252 v254
  let v256 : BitVec 1 := Scalar.cmpi .ne v250 v255
  let v257 : BitVec 32 := Scalar.remsi v244 c4_i32
  let c0_i32_240 : BitVec 32 := 0#32
  let v258 : BitVec 1 := Scalar.cmpi .ne v257 c0_i32_240
  let v259 : BitVec 1 := Scalar.andi v256 v258
  let v245 : BitVec 32 := Scalar.divsi v244 c4_i32
  let c1_i32_241 : BitVec 32 := 1#32
  let v260 : BitVec 32 := Scalar.subi v245 c1_i32_241
  let v261 : BitVec 32 := Scalar.select v259 v260 v245
  let v262 : BitVec 32 := Scalar.subi v261 c0_i32_242
  let c1_i32_243 : BitVec 32 := 1#32
  let v264 : BitVec 32 := Scalar.divsi v262 c1_i32_243
  let v265 : BitVec 32 := Scalar.muli v264 c1_i32_243
  let v266 : BitVec 32 := Scalar.addi c0_i32_242 v265
  let c1_i32_245 : BitVec 32 := 1#32
  let arg20 : BitVec 32 := Scf.iv v266 c1_i32_245 k0_t2
  let v788 : BitVec 32 := Scalar.muli c4_i32_579 arg20
  let v789 : BitVec 32 := Scalar.addi v788 c0_i32_580
  let v790 : BitVec 32 := Scalar.subi arg1 v789
  let c2_i32_581 : BitVec 32 := 2#32
  let v791 : BitVec 32 := Scalar.minsi v790 c2_i32_581
  let v837 : Index := Scalar.indexCast v791
  let c0_618 : Index := 0#32
  let c0_619 : Index := 0#32
  ![2, v837.toNat, 0, 0]
def k0_off33 (i : grid0.Coords) (k0_t2 : Fin (k0_t2_loop i).trips) (c0_i32_580 : BitVec 32) : Fin 5 → Nat :=
  let c0_625 : Index := 0#32
  let c2_626 : Index := 2#32
  let c4_i32_579 : BitVec 32 := 4#32
  let c0_i32_242 : BitVec 32 := 0#32
  let arg1 : BitVec 32 := BitVec.ofNat 32 (i 1).val
  let c1_i32_236 : BitVec 32 := 1#32
  let v244 : BitVec 32 := Scalar.addi arg1 c1_i32_236
  let c0_i32 : BitVec 32 := 0#32
  let v246 : BitVec 1 := Scalar.cmpi .sgt v244 c0_i32
  let v247 : BitVec 32 := Scalar.extui v246
  let c0_i32_237 : BitVec 32 := 0#32
  let v248 : BitVec 1 := Scalar.cmpi .slt v244 c0_i32_237
  let v249 : BitVec 32 := Scalar.extui v248
  let v250 : BitVec 32 := Scalar.subi v247 v249
  let c4_i32 : BitVec 32 := 4#32
  let c0_i32_238 : BitVec 32 := 0#32
  let v251 : BitVec 1 := Scalar.cmpi .sgt c4_i32 c0_i32_238
  let v252 : BitVec 32 := Scalar.extui v251
  let c0_i32_239 : BitVec 32 := 0#32
  let v253 : BitVec 1 := Scalar.cmpi .slt c4_i32 c0_i32_239
  let v254 : BitVec 32 := Scalar.extui v253
  let v255 : BitVec 32 := Scalar.subi v252 v254
  let v256 : BitVec 1 := Scalar.cmpi .ne v250 v255
  let v257 : BitVec 32 := Scalar.remsi v244 c4_i32
  let c0_i32_240 : BitVec 32 := 0#32
  let v258 : BitVec 1 := Scalar.cmpi .ne v257 c0_i32_240
  let v259 : BitVec 1 := Scalar.andi v256 v258
  let v245 : BitVec 32 := Scalar.divsi v244 c4_i32
  let c1_i32_241 : BitVec 32 := 1#32
  let v260 : BitVec 32 := Scalar.subi v245 c1_i32_241
  let v261 : BitVec 32 := Scalar.select v259 v260 v245
  let v262 : BitVec 32 := Scalar.subi v261 c0_i32_242
  let c1_i32_243 : BitVec 32 := 1#32
  let v264 : BitVec 32 := Scalar.divsi v262 c1_i32_243
  let v265 : BitVec 32 := Scalar.muli v264 c1_i32_243
  let v266 : BitVec 32 := Scalar.addi c0_i32_242 v265
  let c1_i32_245 : BitVec 32 := 1#32
  let arg20 : BitVec 32 := Scf.iv v266 c1_i32_245 k0_t2
  let v788 : BitVec 32 := Scalar.muli c4_i32_579 arg20
  let v789 : BitVec 32 := Scalar.addi v788 c0_i32_580
  let v848 : Index := Scalar.indexCast v789
  let c0_627 : Index := 0#32
  let c0_628 : Index := 0#32
  ![0, 2, v848.toNat, 0, 0]
def k0_off34 (i : grid0.Coords) (k0_t2 : Fin (k0_t2_loop i).trips) (c0_i32_580 : BitVec 32) : Fin 4 → Nat :=
  let c0_630 : Index := 0#32
  let c4_i32_579 : BitVec 32 := 4#32
  let c0_i32_242 : BitVec 32 := 0#32
  let arg1 : BitVec 32 := BitVec.ofNat 32 (i 1).val
  let c1_i32_236 : BitVec 32 := 1#32
  let v244 : BitVec 32 := Scalar.addi arg1 c1_i32_236
  let c0_i32 : BitVec 32 := 0#32
  let v246 : BitVec 1 := Scalar.cmpi .sgt v244 c0_i32
  let v247 : BitVec 32 := Scalar.extui v246
  let c0_i32_237 : BitVec 32 := 0#32
  let v248 : BitVec 1 := Scalar.cmpi .slt v244 c0_i32_237
  let v249 : BitVec 32 := Scalar.extui v248
  let v250 : BitVec 32 := Scalar.subi v247 v249
  let c4_i32 : BitVec 32 := 4#32
  let c0_i32_238 : BitVec 32 := 0#32
  let v251 : BitVec 1 := Scalar.cmpi .sgt c4_i32 c0_i32_238
  let v252 : BitVec 32 := Scalar.extui v251
  let c0_i32_239 : BitVec 32 := 0#32
  let v253 : BitVec 1 := Scalar.cmpi .slt c4_i32 c0_i32_239
  let v254 : BitVec 32 := Scalar.extui v253
  let v255 : BitVec 32 := Scalar.subi v252 v254
  let v256 : BitVec 1 := Scalar.cmpi .ne v250 v255
  let v257 : BitVec 32 := Scalar.remsi v244 c4_i32
  let c0_i32_240 : BitVec 32 := 0#32
  let v258 : BitVec 1 := Scalar.cmpi .ne v257 c0_i32_240
  let v259 : BitVec 1 := Scalar.andi v256 v258
  let v245 : BitVec 32 := Scalar.divsi v244 c4_i32
  let c1_i32_241 : BitVec 32 := 1#32
  let v260 : BitVec 32 := Scalar.subi v245 c1_i32_241
  let v261 : BitVec 32 := Scalar.select v259 v260 v245
  let v262 : BitVec 32 := Scalar.subi v261 c0_i32_242
  let c1_i32_243 : BitVec 32 := 1#32
  let v264 : BitVec 32 := Scalar.divsi v262 c1_i32_243
  let v265 : BitVec 32 := Scalar.muli v264 c1_i32_243
  let v266 : BitVec 32 := Scalar.addi c0_i32_242 v265
  let c1_i32_245 : BitVec 32 := 1#32
  let arg20 : BitVec 32 := Scf.iv v266 c1_i32_245 k0_t2
  let v788 : BitVec 32 := Scalar.muli c4_i32_579 arg20
  let v789 : BitVec 32 := Scalar.addi v788 c0_i32_580
  let v855 : Index := Scalar.indexCast v789
  let c0_631 : Index := 0#32
  let c384_632 : Index := 384#32
  ![0, v855.toNat, 0, 384]
def k0_off35 (i : grid0.Coords) (k0_t2 : Fin (k0_t2_loop i).trips) (c0_i32_580 : BitVec 32) : Fin 4 → Nat :=
  let c3_633 : Index := 3#32
  let arg1 : BitVec 32 := BitVec.ofNat 32 (i 1).val
  let c4_i32_579 : BitVec 32 := 4#32
  let c0_i32_242 : BitVec 32 := 0#32
  let c1_i32_236 : BitVec 32 := 1#32
  let v244 : BitVec 32 := Scalar.addi arg1 c1_i32_236
  let c0_i32 : BitVec 32 := 0#32
  let v246 : BitVec 1 := Scalar.cmpi .sgt v244 c0_i32
  let v247 : BitVec 32 := Scalar.extui v246
  let c0_i32_237 : BitVec 32 := 0#32
  let v248 : BitVec 1 := Scalar.cmpi .slt v244 c0_i32_237
  let v249 : BitVec 32 := Scalar.extui v248
  let v250 : BitVec 32 := Scalar.subi v247 v249
  let c4_i32 : BitVec 32 := 4#32
  let c0_i32_238 : BitVec 32 := 0#32
  let v251 : BitVec 1 := Scalar.cmpi .sgt c4_i32 c0_i32_238
  let v252 : BitVec 32 := Scalar.extui v251
  let c0_i32_239 : BitVec 32 := 0#32
  let v253 : BitVec 1 := Scalar.cmpi .slt c4_i32 c0_i32_239
  let v254 : BitVec 32 := Scalar.extui v253
  let v255 : BitVec 32 := Scalar.subi v252 v254
  let v256 : BitVec 1 := Scalar.cmpi .ne v250 v255
  let v257 : BitVec 32 := Scalar.remsi v244 c4_i32
  let c0_i32_240 : BitVec 32 := 0#32
  let v258 : BitVec 1 := Scalar.cmpi .ne v257 c0_i32_240
  let v259 : BitVec 1 := Scalar.andi v256 v258
  let v245 : BitVec 32 := Scalar.divsi v244 c4_i32
  let c1_i32_241 : BitVec 32 := 1#32
  let v260 : BitVec 32 := Scalar.subi v245 c1_i32_241
  let v261 : BitVec 32 := Scalar.select v259 v260 v245
  let v262 : BitVec 32 := Scalar.subi v261 c0_i32_242
  let c1_i32_243 : BitVec 32 := 1#32
  let v264 : BitVec 32 := Scalar.divsi v262 c1_i32_243
  let v265 : BitVec 32 := Scalar.muli v264 c1_i32_243
  let v266 : BitVec 32 := Scalar.addi c0_i32_242 v265
  let c1_i32_245 : BitVec 32 := 1#32
  let arg20 : BitVec 32 := Scf.iv v266 c1_i32_245 k0_t2
  let v788 : BitVec 32 := Scalar.muli c4_i32_579 arg20
  let v789 : BitVec 32 := Scalar.addi v788 c0_i32_580
  let v790 : BitVec 32 := Scalar.subi arg1 v789
  let c2_i32_581 : BitVec 32 := 2#32
  let v791 : BitVec 32 := Scalar.minsi v790 c2_i32_581
  let v858 : Index := Scalar.indexCast v791
  let c0_634 : Index := 0#32
  let c0_635 : Index := 0#32
  ![3, v858.toNat, 0, 0]
def k0_off36 (i : grid0.Coords) (k0_t2 : Fin (k0_t2_loop i).trips) (c0_i32_580 : BitVec 32) : Fin 5 → Nat :=
  let c0_641 : Index := 0#32
  let c3_642 : Index := 3#32
  let c4_i32_579 : BitVec 32 := 4#32
  let c0_i32_242 : BitVec 32 := 0#32
  let arg1 : BitVec 32 := BitVec.ofNat 32 (i 1).val
  let c1_i32_236 : BitVec 32 := 1#32
  let v244 : BitVec 32 := Scalar.addi arg1 c1_i32_236
  let c0_i32 : BitVec 32 := 0#32
  let v246 : BitVec 1 := Scalar.cmpi .sgt v244 c0_i32
  let v247 : BitVec 32 := Scalar.extui v246
  let c0_i32_237 : BitVec 32 := 0#32
  let v248 : BitVec 1 := Scalar.cmpi .slt v244 c0_i32_237
  let v249 : BitVec 32 := Scalar.extui v248
  let v250 : BitVec 32 := Scalar.subi v247 v249
  let c4_i32 : BitVec 32 := 4#32
  let c0_i32_238 : BitVec 32 := 0#32
  let v251 : BitVec 1 := Scalar.cmpi .sgt c4_i32 c0_i32_238
  let v252 : BitVec 32 := Scalar.extui v251
  let c0_i32_239 : BitVec 32 := 0#32
  let v253 : BitVec 1 := Scalar.cmpi .slt c4_i32 c0_i32_239
  let v254 : BitVec 32 := Scalar.extui v253
  let v255 : BitVec 32 := Scalar.subi v252 v254
  let v256 : BitVec 1 := Scalar.cmpi .ne v250 v255
  let v257 : BitVec 32 := Scalar.remsi v244 c4_i32
  let c0_i32_240 : BitVec 32 := 0#32
  let v258 : BitVec 1 := Scalar.cmpi .ne v257 c0_i32_240
  let v259 : BitVec 1 := Scalar.andi v256 v258
  let v245 : BitVec 32 := Scalar.divsi v244 c4_i32
  let c1_i32_241 : BitVec 32 := 1#32
  let v260 : BitVec 32 := Scalar.subi v245 c1_i32_241
  let v261 : BitVec 32 := Scalar.select v259 v260 v245
  let v262 : BitVec 32 := Scalar.subi v261 c0_i32_242
  let c1_i32_243 : BitVec 32 := 1#32
  let v264 : BitVec 32 := Scalar.divsi v262 c1_i32_243
  let v265 : BitVec 32 := Scalar.muli v264 c1_i32_243
  let v266 : BitVec 32 := Scalar.addi c0_i32_242 v265
  let c1_i32_245 : BitVec 32 := 1#32
  let arg20 : BitVec 32 := Scf.iv v266 c1_i32_245 k0_t2
  let v788 : BitVec 32 := Scalar.muli c4_i32_579 arg20
  let v789 : BitVec 32 := Scalar.addi v788 c0_i32_580
  let v869 : Index := Scalar.indexCast v789
  let c0_643 : Index := 0#32
  let c0_644 : Index := 0#32
  ![0, 3, v869.toNat, 0, 0]
def k0_off37 (i : grid0.Coords) (k0_t2 : Fin (k0_t2_loop i).trips) (c0_i32_580 : BitVec 32) : Fin 4 → Nat :=
  let c1_646 : Index := 1#32
  let c4_i32_579 : BitVec 32 := 4#32
  let c0_i32_242 : BitVec 32 := 0#32
  let arg1 : BitVec 32 := BitVec.ofNat 32 (i 1).val
  let c1_i32_236 : BitVec 32 := 1#32
  let v244 : BitVec 32 := Scalar.addi arg1 c1_i32_236
  let c0_i32 : BitVec 32 := 0#32
  let v246 : BitVec 1 := Scalar.cmpi .sgt v244 c0_i32
  let v247 : BitVec 32 := Scalar.extui v246
  let c0_i32_237 : BitVec 32 := 0#32
  let v248 : BitVec 1 := Scalar.cmpi .slt v244 c0_i32_237
  let v249 : BitVec 32 := Scalar.extui v248
  let v250 : BitVec 32 := Scalar.subi v247 v249
  let c4_i32 : BitVec 32 := 4#32
  let c0_i32_238 : BitVec 32 := 0#32
  let v251 : BitVec 1 := Scalar.cmpi .sgt c4_i32 c0_i32_238
  let v252 : BitVec 32 := Scalar.extui v251
  let c0_i32_239 : BitVec 32 := 0#32
  let v253 : BitVec 1 := Scalar.cmpi .slt c4_i32 c0_i32_239
  let v254 : BitVec 32 := Scalar.extui v253
  let v255 : BitVec 32 := Scalar.subi v252 v254
  let v256 : BitVec 1 := Scalar.cmpi .ne v250 v255
  let v257 : BitVec 32 := Scalar.remsi v244 c4_i32
  let c0_i32_240 : BitVec 32 := 0#32
  let v258 : BitVec 1 := Scalar.cmpi .ne v257 c0_i32_240
  let v259 : BitVec 1 := Scalar.andi v256 v258
  let v245 : BitVec 32 := Scalar.divsi v244 c4_i32
  let c1_i32_241 : BitVec 32 := 1#32
  let v260 : BitVec 32 := Scalar.subi v245 c1_i32_241
  let v261 : BitVec 32 := Scalar.select v259 v260 v245
  let v262 : BitVec 32 := Scalar.subi v261 c0_i32_242
  let c1_i32_243 : BitVec 32 := 1#32
  let v264 : BitVec 32 := Scalar.divsi v262 c1_i32_243
  let v265 : BitVec 32 := Scalar.muli v264 c1_i32_243
  let v266 : BitVec 32 := Scalar.addi c0_i32_242 v265
  let c1_i32_245 : BitVec 32 := 1#32
  let arg20 : BitVec 32 := Scf.iv v266 c1_i32_245 k0_t2
  let v788 : BitVec 32 := Scalar.muli c4_i32_579 arg20
  let v789 : BitVec 32 := Scalar.addi v788 c0_i32_580
  let v876 : Index := Scalar.indexCast v789
  let c0_647 : Index := 0#32
  let c0_648 : Index := 0#32
  ![1, v876.toNat, 0, 0]
def k0_off38 (i : grid0.Coords) (k0_t2 : Fin (k0_t2_loop i).trips) (c0_i32_580 : BitVec 32) : Fin 5 → Nat :=
  let c1_657 : Index := 1#32
  let c0_658 : Index := 0#32
  let c4_i32_579 : BitVec 32 := 4#32
  let c0_i32_242 : BitVec 32 := 0#32
  let arg1 : BitVec 32 := BitVec.ofNat 32 (i 1).val
  let c1_i32_236 : BitVec 32 := 1#32
  let v244 : BitVec 32 := Scalar.addi arg1 c1_i32_236
  let c0_i32 : BitVec 32 := 0#32
  let v246 : BitVec 1 := Scalar.cmpi .sgt v244 c0_i32
  let v247 : BitVec 32 := Scalar.extui v246
  let c0_i32_237 : BitVec 32 := 0#32
  let v248 : BitVec 1 := Scalar.cmpi .slt v244 c0_i32_237
  let v249 : BitVec 32 := Scalar.extui v248
  let v250 : BitVec 32 := Scalar.subi v247 v249
  let c4_i32 : BitVec 32 := 4#32
  let c0_i32_238 : BitVec 32 := 0#32
  let v251 : BitVec 1 := Scalar.cmpi .sgt c4_i32 c0_i32_238
  let v252 : BitVec 32 := Scalar.extui v251
  let c0_i32_239 : BitVec 32 := 0#32
  let v253 : BitVec 1 := Scalar.cmpi .slt c4_i32 c0_i32_239
  let v254 : BitVec 32 := Scalar.extui v253
  let v255 : BitVec 32 := Scalar.subi v252 v254
  let v256 : BitVec 1 := Scalar.cmpi .ne v250 v255
  let v257 : BitVec 32 := Scalar.remsi v244 c4_i32
  let c0_i32_240 : BitVec 32 := 0#32
  let v258 : BitVec 1 := Scalar.cmpi .ne v257 c0_i32_240
  let v259 : BitVec 1 := Scalar.andi v256 v258
  let v245 : BitVec 32 := Scalar.divsi v244 c4_i32
  let c1_i32_241 : BitVec 32 := 1#32
  let v260 : BitVec 32 := Scalar.subi v245 c1_i32_241
  let v261 : BitVec 32 := Scalar.select v259 v260 v245
  let v262 : BitVec 32 := Scalar.subi v261 c0_i32_242
  let c1_i32_243 : BitVec 32 := 1#32
  let v264 : BitVec 32 := Scalar.divsi v262 c1_i32_243
  let v265 : BitVec 32 := Scalar.muli v264 c1_i32_243
  let v266 : BitVec 32 := Scalar.addi c0_i32_242 v265
  let c1_i32_245 : BitVec 32 := 1#32
  let arg20 : BitVec 32 := Scf.iv v266 c1_i32_245 k0_t2
  let v788 : BitVec 32 := Scalar.muli c4_i32_579 arg20
  let v789 : BitVec 32 := Scalar.addi v788 c0_i32_580
  let v890 : Index := Scalar.indexCast v789
  let c0_659 : Index := 0#32
  let c0_660 : Index := 0#32
  ![1, 0, v890.toNat, 0, 0]
def k0_off39 (i : grid0.Coords) (k0_t2 : Fin (k0_t2_loop i).trips) (c0_i32_580 : BitVec 32) : Fin 4 → Nat :=
  let c1_662 : Index := 1#32
  let c4_i32_579 : BitVec 32 := 4#32
  let c0_i32_242 : BitVec 32 := 0#32
  let arg1 : BitVec 32 := BitVec.ofNat 32 (i 1).val
  let c1_i32_236 : BitVec 32 := 1#32
  let v244 : BitVec 32 := Scalar.addi arg1 c1_i32_236
  let c0_i32 : BitVec 32 := 0#32
  let v246 : BitVec 1 := Scalar.cmpi .sgt v244 c0_i32
  let v247 : BitVec 32 := Scalar.extui v246
  let c0_i32_237 : BitVec 32 := 0#32
  let v248 : BitVec 1 := Scalar.cmpi .slt v244 c0_i32_237
  let v249 : BitVec 32 := Scalar.extui v248
  let v250 : BitVec 32 := Scalar.subi v247 v249
  let c4_i32 : BitVec 32 := 4#32
  let c0_i32_238 : BitVec 32 := 0#32
  let v251 : BitVec 1 := Scalar.cmpi .sgt c4_i32 c0_i32_238
  let v252 : BitVec 32 := Scalar.extui v251
  let c0_i32_239 : BitVec 32 := 0#32
  let v253 : BitVec 1 := Scalar.cmpi .slt c4_i32 c0_i32_239
  let v254 : BitVec 32 := Scalar.extui v253
  let v255 : BitVec 32 := Scalar.subi v252 v254
  let v256 : BitVec 1 := Scalar.cmpi .ne v250 v255
  let v257 : BitVec 32 := Scalar.remsi v244 c4_i32
  let c0_i32_240 : BitVec 32 := 0#32
  let v258 : BitVec 1 := Scalar.cmpi .ne v257 c0_i32_240
  let v259 : BitVec 1 := Scalar.andi v256 v258
  let v245 : BitVec 32 := Scalar.divsi v244 c4_i32
  let c1_i32_241 : BitVec 32 := 1#32
  let v260 : BitVec 32 := Scalar.subi v245 c1_i32_241
  let v261 : BitVec 32 := Scalar.select v259 v260 v245
  let v262 : BitVec 32 := Scalar.subi v261 c0_i32_242
  let c1_i32_243 : BitVec 32 := 1#32
  let v264 : BitVec 32 := Scalar.divsi v262 c1_i32_243
  let v265 : BitVec 32 := Scalar.muli v264 c1_i32_243
  let v266 : BitVec 32 := Scalar.addi c0_i32_242 v265
  let c1_i32_245 : BitVec 32 := 1#32
  let arg20 : BitVec 32 := Scf.iv v266 c1_i32_245 k0_t2
  let v788 : BitVec 32 := Scalar.muli c4_i32_579 arg20
  let v789 : BitVec 32 := Scalar.addi v788 c0_i32_580
  let v897 : Index := Scalar.indexCast v789
  let c0_663 : Index := 0#32
  let c128_664 : Index := 128#32
  ![1, v897.toNat, 0, 128]
def k0_off40 (i : grid0.Coords) (k0_t2 : Fin (k0_t2_loop i).trips) (c0_i32_580 : BitVec 32) : Fin 5 → Nat :=
  let c1_673 : Index := 1#32
  let c1_674 : Index := 1#32
  let c4_i32_579 : BitVec 32 := 4#32
  let c0_i32_242 : BitVec 32 := 0#32
  let arg1 : BitVec 32 := BitVec.ofNat 32 (i 1).val
  let c1_i32_236 : BitVec 32 := 1#32
  let v244 : BitVec 32 := Scalar.addi arg1 c1_i32_236
  let c0_i32 : BitVec 32 := 0#32
  let v246 : BitVec 1 := Scalar.cmpi .sgt v244 c0_i32
  let v247 : BitVec 32 := Scalar.extui v246
  let c0_i32_237 : BitVec 32 := 0#32
  let v248 : BitVec 1 := Scalar.cmpi .slt v244 c0_i32_237
  let v249 : BitVec 32 := Scalar.extui v248
  let v250 : BitVec 32 := Scalar.subi v247 v249
  let c4_i32 : BitVec 32 := 4#32
  let c0_i32_238 : BitVec 32 := 0#32
  let v251 : BitVec 1 := Scalar.cmpi .sgt c4_i32 c0_i32_238
  let v252 : BitVec 32 := Scalar.extui v251
  let c0_i32_239 : BitVec 32 := 0#32
  let v253 : BitVec 1 := Scalar.cmpi .slt c4_i32 c0_i32_239
  let v254 : BitVec 32 := Scalar.extui v253
  let v255 : BitVec 32 := Scalar.subi v252 v254
  let v256 : BitVec 1 := Scalar.cmpi .ne v250 v255
  let v257 : BitVec 32 := Scalar.remsi v244 c4_i32
  let c0_i32_240 : BitVec 32 := 0#32
  let v258 : BitVec 1 := Scalar.cmpi .ne v257 c0_i32_240
  let v259 : BitVec 1 := Scalar.andi v256 v258
  let v245 : BitVec 32 := Scalar.divsi v244 c4_i32
  let c1_i32_241 : BitVec 32 := 1#32
  let v260 : BitVec 32 := Scalar.subi v245 c1_i32_241
  let v261 : BitVec 32 := Scalar.select v259 v260 v245
  let v262 : BitVec 32 := Scalar.subi v261 c0_i32_242
  let c1_i32_243 : BitVec 32 := 1#32
  let v264 : BitVec 32 := Scalar.divsi v262 c1_i32_243
  let v265 : BitVec 32 := Scalar.muli v264 c1_i32_243
  let v266 : BitVec 32 := Scalar.addi c0_i32_242 v265
  let c1_i32_245 : BitVec 32 := 1#32
  let arg20 : BitVec 32 := Scf.iv v266 c1_i32_245 k0_t2
  let v788 : BitVec 32 := Scalar.muli c4_i32_579 arg20
  let v789 : BitVec 32 := Scalar.addi v788 c0_i32_580
  let v911 : Index := Scalar.indexCast v789
  let c0_675 : Index := 0#32
  let c0_676 : Index := 0#32
  ![1, 1, v911.toNat, 0, 0]
def k0_off41 (i : grid0.Coords) (k0_t2 : Fin (k0_t2_loop i).trips) (c0_i32_580 : BitVec 32) : Fin 4 → Nat :=
  let c1_678 : Index := 1#32
  let c4_i32_579 : BitVec 32 := 4#32
  let c0_i32_242 : BitVec 32 := 0#32
  let arg1 : BitVec 32 := BitVec.ofNat 32 (i 1).val
  let c1_i32_236 : BitVec 32 := 1#32
  let v244 : BitVec 32 := Scalar.addi arg1 c1_i32_236
  let c0_i32 : BitVec 32 := 0#32
  let v246 : BitVec 1 := Scalar.cmpi .sgt v244 c0_i32
  let v247 : BitVec 32 := Scalar.extui v246
  let c0_i32_237 : BitVec 32 := 0#32
  let v248 : BitVec 1 := Scalar.cmpi .slt v244 c0_i32_237
  let v249 : BitVec 32 := Scalar.extui v248
  let v250 : BitVec 32 := Scalar.subi v247 v249
  let c4_i32 : BitVec 32 := 4#32
  let c0_i32_238 : BitVec 32 := 0#32
  let v251 : BitVec 1 := Scalar.cmpi .sgt c4_i32 c0_i32_238
  let v252 : BitVec 32 := Scalar.extui v251
  let c0_i32_239 : BitVec 32 := 0#32
  let v253 : BitVec 1 := Scalar.cmpi .slt c4_i32 c0_i32_239
  let v254 : BitVec 32 := Scalar.extui v253
  let v255 : BitVec 32 := Scalar.subi v252 v254
  let v256 : BitVec 1 := Scalar.cmpi .ne v250 v255
  let v257 : BitVec 32 := Scalar.remsi v244 c4_i32
  let c0_i32_240 : BitVec 32 := 0#32
  let v258 : BitVec 1 := Scalar.cmpi .ne v257 c0_i32_240
  let v259 : BitVec 1 := Scalar.andi v256 v258
  let v245 : BitVec 32 := Scalar.divsi v244 c4_i32
  let c1_i32_241 : BitVec 32 := 1#32
  let v260 : BitVec 32 := Scalar.subi v245 c1_i32_241
  let v261 : BitVec 32 := Scalar.select v259 v260 v245
  let v262 : BitVec 32 := Scalar.subi v261 c0_i32_242
  let c1_i32_243 : BitVec 32 := 1#32
  let v264 : BitVec 32 := Scalar.divsi v262 c1_i32_243
  let v265 : BitVec 32 := Scalar.muli v264 c1_i32_243
  let v266 : BitVec 32 := Scalar.addi c0_i32_242 v265
  let c1_i32_245 : BitVec 32 := 1#32
  let arg20 : BitVec 32 := Scf.iv v266 c1_i32_245 k0_t2
  let v788 : BitVec 32 := Scalar.muli c4_i32_579 arg20
  let v789 : BitVec 32 := Scalar.addi v788 c0_i32_580
  let v918 : Index := Scalar.indexCast v789
  let c0_679 : Index := 0#32
  let c256_680 : Index := 256#32
  ![1, v918.toNat, 0, 256]
def k0_off42 (i : grid0.Coords) (k0_t2 : Fin (k0_t2_loop i).trips) (c0_i32_580 : BitVec 32) : Fin 5 → Nat :=
  let c1_689 : Index := 1#32
  let c2_690 : Index := 2#32
  let c4_i32_579 : BitVec 32 := 4#32
  let c0_i32_242 : BitVec 32 := 0#32
  let arg1 : BitVec 32 := BitVec.ofNat 32 (i 1).val
  let c1_i32_236 : BitVec 32 := 1#32
  let v244 : BitVec 32 := Scalar.addi arg1 c1_i32_236
  let c0_i32 : BitVec 32 := 0#32
  let v246 : BitVec 1 := Scalar.cmpi .sgt v244 c0_i32
  let v247 : BitVec 32 := Scalar.extui v246
  let c0_i32_237 : BitVec 32 := 0#32
  let v248 : BitVec 1 := Scalar.cmpi .slt v244 c0_i32_237
  let v249 : BitVec 32 := Scalar.extui v248
  let v250 : BitVec 32 := Scalar.subi v247 v249
  let c4_i32 : BitVec 32 := 4#32
  let c0_i32_238 : BitVec 32 := 0#32
  let v251 : BitVec 1 := Scalar.cmpi .sgt c4_i32 c0_i32_238
  let v252 : BitVec 32 := Scalar.extui v251
  let c0_i32_239 : BitVec 32 := 0#32
  let v253 : BitVec 1 := Scalar.cmpi .slt c4_i32 c0_i32_239
  let v254 : BitVec 32 := Scalar.extui v253
  let v255 : BitVec 32 := Scalar.subi v252 v254
  let v256 : BitVec 1 := Scalar.cmpi .ne v250 v255
  let v257 : BitVec 32 := Scalar.remsi v244 c4_i32
  let c0_i32_240 : BitVec 32 := 0#32
  let v258 : BitVec 1 := Scalar.cmpi .ne v257 c0_i32_240
  let v259 : BitVec 1 := Scalar.andi v256 v258
  let v245 : BitVec 32 := Scalar.divsi v244 c4_i32
  let c1_i32_241 : BitVec 32 := 1#32
  let v260 : BitVec 32 := Scalar.subi v245 c1_i32_241
  let v261 : BitVec 32 := Scalar.select v259 v260 v245
  let v262 : BitVec 32 := Scalar.subi v261 c0_i32_242
  let c1_i32_243 : BitVec 32 := 1#32
  let v264 : BitVec 32 := Scalar.divsi v262 c1_i32_243
  let v265 : BitVec 32 := Scalar.muli v264 c1_i32_243
  let v266 : BitVec 32 := Scalar.addi c0_i32_242 v265
  let c1_i32_245 : BitVec 32 := 1#32
  let arg20 : BitVec 32 := Scf.iv v266 c1_i32_245 k0_t2
  let v788 : BitVec 32 := Scalar.muli c4_i32_579 arg20
  let v789 : BitVec 32 := Scalar.addi v788 c0_i32_580
  let v932 : Index := Scalar.indexCast v789
  let c0_691 : Index := 0#32
  let c0_692 : Index := 0#32
  ![1, 2, v932.toNat, 0, 0]
def k0_off43 (i : grid0.Coords) (k0_t2 : Fin (k0_t2_loop i).trips) (c0_i32_580 : BitVec 32) : Fin 4 → Nat :=
  let c1_694 : Index := 1#32
  let c4_i32_579 : BitVec 32 := 4#32
  let c0_i32_242 : BitVec 32 := 0#32
  let arg1 : BitVec 32 := BitVec.ofNat 32 (i 1).val
  let c1_i32_236 : BitVec 32 := 1#32
  let v244 : BitVec 32 := Scalar.addi arg1 c1_i32_236
  let c0_i32 : BitVec 32 := 0#32
  let v246 : BitVec 1 := Scalar.cmpi .sgt v244 c0_i32
  let v247 : BitVec 32 := Scalar.extui v246
  let c0_i32_237 : BitVec 32 := 0#32
  let v248 : BitVec 1 := Scalar.cmpi .slt v244 c0_i32_237
  let v249 : BitVec 32 := Scalar.extui v248
  let v250 : BitVec 32 := Scalar.subi v247 v249
  let c4_i32 : BitVec 32 := 4#32
  let c0_i32_238 : BitVec 32 := 0#32
  let v251 : BitVec 1 := Scalar.cmpi .sgt c4_i32 c0_i32_238
  let v252 : BitVec 32 := Scalar.extui v251
  let c0_i32_239 : BitVec 32 := 0#32
  let v253 : BitVec 1 := Scalar.cmpi .slt c4_i32 c0_i32_239
  let v254 : BitVec 32 := Scalar.extui v253
  let v255 : BitVec 32 := Scalar.subi v252 v254
  let v256 : BitVec 1 := Scalar.cmpi .ne v250 v255
  let v257 : BitVec 32 := Scalar.remsi v244 c4_i32
  let c0_i32_240 : BitVec 32 := 0#32
  let v258 : BitVec 1 := Scalar.cmpi .ne v257 c0_i32_240
  let v259 : BitVec 1 := Scalar.andi v256 v258
  let v245 : BitVec 32 := Scalar.divsi v244 c4_i32
  let c1_i32_241 : BitVec 32 := 1#32
  let v260 : BitVec 32 := Scalar.subi v245 c1_i32_241
  let v261 : BitVec 32 := Scalar.select v259 v260 v245
  let v262 : BitVec 32 := Scalar.subi v261 c0_i32_242
  let c1_i32_243 : BitVec 32 := 1#32
  let v264 : BitVec 32 := Scalar.divsi v262 c1_i32_243
  let v265 : BitVec 32 := Scalar.muli v264 c1_i32_243
  let v266 : BitVec 32 := Scalar.addi c0_i32_242 v265
  let c1_i32_245 : BitVec 32 := 1#32
  let arg20 : BitVec 32 := Scf.iv v266 c1_i32_245 k0_t2
  let v788 : BitVec 32 := Scalar.muli c4_i32_579 arg20
  let v789 : BitVec 32 := Scalar.addi v788 c0_i32_580
  let v939 : Index := Scalar.indexCast v789
  let c0_695 : Index := 0#32
  let c384_696 : Index := 384#32
  ![1, v939.toNat, 0, 384]
def k0_off44 (i : grid0.Coords) (k0_t2 : Fin (k0_t2_loop i).trips) (c0_i32_580 : BitVec 32) : Fin 5 → Nat :=
  let c1_705 : Index := 1#32
  let c3_706 : Index := 3#32
  let c4_i32_579 : BitVec 32 := 4#32
  let c0_i32_242 : BitVec 32 := 0#32
  let arg1 : BitVec 32 := BitVec.ofNat 32 (i 1).val
  let c1_i32_236 : BitVec 32 := 1#32
  let v244 : BitVec 32 := Scalar.addi arg1 c1_i32_236
  let c0_i32 : BitVec 32 := 0#32
  let v246 : BitVec 1 := Scalar.cmpi .sgt v244 c0_i32
  let v247 : BitVec 32 := Scalar.extui v246
  let c0_i32_237 : BitVec 32 := 0#32
  let v248 : BitVec 1 := Scalar.cmpi .slt v244 c0_i32_237
  let v249 : BitVec 32 := Scalar.extui v248
  let v250 : BitVec 32 := Scalar.subi v247 v249
  let c4_i32 : BitVec 32 := 4#32
  let c0_i32_238 : BitVec 32 := 0#32
  let v251 : BitVec 1 := Scalar.cmpi .sgt c4_i32 c0_i32_238
  let v252 : BitVec 32 := Scalar.extui v251
  let c0_i32_239 : BitVec 32 := 0#32
  let v253 : BitVec 1 := Scalar.cmpi .slt c4_i32 c0_i32_239
  let v254 : BitVec 32 := Scalar.extui v253
  let v255 : BitVec 32 := Scalar.subi v252 v254
  let v256 : BitVec 1 := Scalar.cmpi .ne v250 v255
  let v257 : BitVec 32 := Scalar.remsi v244 c4_i32
  let c0_i32_240 : BitVec 32 := 0#32
  let v258 : BitVec 1 := Scalar.cmpi .ne v257 c0_i32_240
  let v259 : BitVec 1 := Scalar.andi v256 v258
  let v245 : BitVec 32 := Scalar.divsi v244 c4_i32
  let c1_i32_241 : BitVec 32 := 1#32
  let v260 : BitVec 32 := Scalar.subi v245 c1_i32_241
  let v261 : BitVec 32 := Scalar.select v259 v260 v245
  let v262 : BitVec 32 := Scalar.subi v261 c0_i32_242
  let c1_i32_243 : BitVec 32 := 1#32
  let v264 : BitVec 32 := Scalar.divsi v262 c1_i32_243
  let v265 : BitVec 32 := Scalar.muli v264 c1_i32_243
  let v266 : BitVec 32 := Scalar.addi c0_i32_242 v265
  let c1_i32_245 : BitVec 32 := 1#32
  let arg20 : BitVec 32 := Scf.iv v266 c1_i32_245 k0_t2
  let v788 : BitVec 32 := Scalar.muli c4_i32_579 arg20
  let v789 : BitVec 32 := Scalar.addi v788 c0_i32_580
  let v953 : Index := Scalar.indexCast v789
  let c0_707 : Index := 0#32
  let c0_708 : Index := 0#32
  ![1, 3, v953.toNat, 0, 0]
def k0_cond1 (i : grid0.Coords) : BitVec 1 :=
  let arg1 : BitVec 32 := BitVec.ofNat 32 (i 1).val
  let c1_i32_236 : BitVec 32 := 1#32
  let v244 : BitVec 32 := Scalar.addi arg1 c1_i32_236
  let c0_i32_247 : BitVec 32 := 0#32
  let v270 : BitVec 1 := Scalar.cmpi .sgt v244 c0_i32_247
  let v271 : BitVec 32 := Scalar.extui v270
  let c0_i32_248 : BitVec 32 := 0#32
  let v272 : BitVec 1 := Scalar.cmpi .slt v244 c0_i32_248
  let v273 : BitVec 32 := Scalar.extui v272
  let v274 : BitVec 32 := Scalar.subi v271 v273
  let c4_i32_246 : BitVec 32 := 4#32
  let c0_i32_249 : BitVec 32 := 0#32
  let v275 : BitVec 1 := Scalar.cmpi .sgt c4_i32_246 c0_i32_249
  let v276 : BitVec 32 := Scalar.extui v275
  let c0_i32_250 : BitVec 32 := 0#32
  let v277 : BitVec 1 := Scalar.cmpi .slt c4_i32_246 c0_i32_250
  let v278 : BitVec 32 := Scalar.extui v277
  let v279 : BitVec 32 := Scalar.subi v276 v278
  let v280 : BitVec 1 := Scalar.cmpi .ne v274 v279
  let v281 : BitVec 32 := Scalar.remsi v244 c4_i32_246
  let c0_i32_251 : BitVec 32 := 0#32
  let v282 : BitVec 1 := Scalar.cmpi .ne v281 c0_i32_251
  let v283 : BitVec 1 := Scalar.andi v280 v282
  let v269 : BitVec 32 := Scalar.divsi v244 c4_i32_246
  let c1_i32_252 : BitVec 32 := 1#32
  let v284 : BitVec 32 := Scalar.subi v269 c1_i32_252
  let v285 : BitVec 32 := Scalar.select v283 v284 v269
  let c4_i32_253 : BitVec 32 := 4#32
  let v286 : BitVec 32 := Scalar.muli v285 c4_i32_253
  let v287 : BitVec 32 := Scalar.subi v244 v286
  let c2_i32 : BitVec 32 := 2#32
  let v288 : BitVec 1 := Scalar.cmpi .sge v287 c2_i32
  let v289 : BitVec 32 := Scalar.extui v288
  let c0_i32_254 : BitVec 32 := 0#32
  let v290 : BitVec 1 := Scalar.cmpi .ne v289 c0_i32_254
  v290

def k0_off45 (i : grid0.Coords) (c0_i32_579 : BitVec 32) : Fin 4 → Nat :=
  let c0_581 : Index := 0#32
  let arg1 : BitVec 32 := BitVec.ofNat 32 (i 1).val
  let c1_i32_236 : BitVec 32 := 1#32
  let v244 : BitVec 32 := Scalar.addi arg1 c1_i32_236
  let c0_i32_247 : BitVec 32 := 0#32
  let v270 : BitVec 1 := Scalar.cmpi .sgt v244 c0_i32_247
  let v271 : BitVec 32 := Scalar.extui v270
  let c0_i32_248 : BitVec 32 := 0#32
  let v272 : BitVec 1 := Scalar.cmpi .slt v244 c0_i32_248
  let v273 : BitVec 32 := Scalar.extui v272
  let v274 : BitVec 32 := Scalar.subi v271 v273
  let c4_i32_246 : BitVec 32 := 4#32
  let c0_i32_249 : BitVec 32 := 0#32
  let v275 : BitVec 1 := Scalar.cmpi .sgt c4_i32_246 c0_i32_249
  let v276 : BitVec 32 := Scalar.extui v275
  let c0_i32_250 : BitVec 32 := 0#32
  let v277 : BitVec 1 := Scalar.cmpi .slt c4_i32_246 c0_i32_250
  let v278 : BitVec 32 := Scalar.extui v277
  let v279 : BitVec 32 := Scalar.subi v276 v278
  let v280 : BitVec 1 := Scalar.cmpi .ne v274 v279
  let v281 : BitVec 32 := Scalar.remsi v244 c4_i32_246
  let c0_i32_251 : BitVec 32 := 0#32
  let v282 : BitVec 1 := Scalar.cmpi .ne v281 c0_i32_251
  let v283 : BitVec 1 := Scalar.andi v280 v282
  let v269 : BitVec 32 := Scalar.divsi v244 c4_i32_246
  let c1_i32_252 : BitVec 32 := 1#32
  let v284 : BitVec 32 := Scalar.subi v269 c1_i32_252
  let v285 : BitVec 32 := Scalar.select v283 v284 v269
  let c4_i32_253 : BitVec 32 := 4#32
  let v286 : BitVec 32 := Scalar.muli v285 c4_i32_253
  let v788 : BitVec 32 := Scalar.addi v286 c0_i32_579
  let v791 : Index := Scalar.indexCast v788
  let c0_582 : Index := 0#32
  let c0_583 : Index := 0#32
  ![0, v791.toNat, 0, 0]
def k0_off46 (i : grid0.Coords) (c0_i32_579 : BitVec 32) : Fin 4 → Nat :=
  let c0_584 : Index := 0#32
  let arg1 : BitVec 32 := BitVec.ofNat 32 (i 1).val
  let c1_i32_236 : BitVec 32 := 1#32
  let v244 : BitVec 32 := Scalar.addi arg1 c1_i32_236
  let c0_i32_247 : BitVec 32 := 0#32
  let v270 : BitVec 1 := Scalar.cmpi .sgt v244 c0_i32_247
  let v271 : BitVec 32 := Scalar.extui v270
  let c0_i32_248 : BitVec 32 := 0#32
  let v272 : BitVec 1 := Scalar.cmpi .slt v244 c0_i32_248
  let v273 : BitVec 32 := Scalar.extui v272
  let v274 : BitVec 32 := Scalar.subi v271 v273
  let c4_i32_246 : BitVec 32 := 4#32
  let c0_i32_249 : BitVec 32 := 0#32
  let v275 : BitVec 1 := Scalar.cmpi .sgt c4_i32_246 c0_i32_249
  let v276 : BitVec 32 := Scalar.extui v275
  let c0_i32_250 : BitVec 32 := 0#32
  let v277 : BitVec 1 := Scalar.cmpi .slt c4_i32_246 c0_i32_250
  let v278 : BitVec 32 := Scalar.extui v277
  let v279 : BitVec 32 := Scalar.subi v276 v278
  let v280 : BitVec 1 := Scalar.cmpi .ne v274 v279
  let v281 : BitVec 32 := Scalar.remsi v244 c4_i32_246
  let c0_i32_251 : BitVec 32 := 0#32
  let v282 : BitVec 1 := Scalar.cmpi .ne v281 c0_i32_251
  let v283 : BitVec 1 := Scalar.andi v280 v282
  let v269 : BitVec 32 := Scalar.divsi v244 c4_i32_246
  let c1_i32_252 : BitVec 32 := 1#32
  let v284 : BitVec 32 := Scalar.subi v269 c1_i32_252
  let v285 : BitVec 32 := Scalar.select v283 v284 v269
  let c4_i32_253 : BitVec 32 := 4#32
  let v286 : BitVec 32 := Scalar.muli v285 c4_i32_253
  let v788 : BitVec 32 := Scalar.addi v286 c0_i32_579
  let v789 : BitVec 32 := Scalar.subi arg1 v788
  let c2_i32_580 : BitVec 32 := 2#32
  let v790 : BitVec 32 := Scalar.minsi v789 c2_i32_580
  let v794 : Index := Scalar.indexCast v790
  let c0_585 : Index := 0#32
  let c0_586 : Index := 0#32
  ![0, v794.toNat, 0, 0]
def k0_off47 (i : grid0.Coords) (c0_i32_579 : BitVec 32) : Fin 5 → Nat :=
  let c0_592 : Index := 0#32
  let c0_593 : Index := 0#32
  let arg1 : BitVec 32 := BitVec.ofNat 32 (i 1).val
  let c1_i32_236 : BitVec 32 := 1#32
  let v244 : BitVec 32 := Scalar.addi arg1 c1_i32_236
  let c0_i32_247 : BitVec 32 := 0#32
  let v270 : BitVec 1 := Scalar.cmpi .sgt v244 c0_i32_247
  let v271 : BitVec 32 := Scalar.extui v270
  let c0_i32_248 : BitVec 32 := 0#32
  let v272 : BitVec 1 := Scalar.cmpi .slt v244 c0_i32_248
  let v273 : BitVec 32 := Scalar.extui v272
  let v274 : BitVec 32 := Scalar.subi v271 v273
  let c4_i32_246 : BitVec 32 := 4#32
  let c0_i32_249 : BitVec 32 := 0#32
  let v275 : BitVec 1 := Scalar.cmpi .sgt c4_i32_246 c0_i32_249
  let v276 : BitVec 32 := Scalar.extui v275
  let c0_i32_250 : BitVec 32 := 0#32
  let v277 : BitVec 1 := Scalar.cmpi .slt c4_i32_246 c0_i32_250
  let v278 : BitVec 32 := Scalar.extui v277
  let v279 : BitVec 32 := Scalar.subi v276 v278
  let v280 : BitVec 1 := Scalar.cmpi .ne v274 v279
  let v281 : BitVec 32 := Scalar.remsi v244 c4_i32_246
  let c0_i32_251 : BitVec 32 := 0#32
  let v282 : BitVec 1 := Scalar.cmpi .ne v281 c0_i32_251
  let v283 : BitVec 1 := Scalar.andi v280 v282
  let v269 : BitVec 32 := Scalar.divsi v244 c4_i32_246
  let c1_i32_252 : BitVec 32 := 1#32
  let v284 : BitVec 32 := Scalar.subi v269 c1_i32_252
  let v285 : BitVec 32 := Scalar.select v283 v284 v269
  let c4_i32_253 : BitVec 32 := 4#32
  let v286 : BitVec 32 := Scalar.muli v285 c4_i32_253
  let v788 : BitVec 32 := Scalar.addi v286 c0_i32_579
  let v805 : Index := Scalar.indexCast v788
  let c0_594 : Index := 0#32
  let c0_595 : Index := 0#32
  ![0, 0, v805.toNat, 0, 0]
def k0_off48 (i : grid0.Coords) (c0_i32_579 : BitVec 32) : Fin 4 → Nat :=
  let c0_597 : Index := 0#32
  let arg1 : BitVec 32 := BitVec.ofNat 32 (i 1).val
  let c1_i32_236 : BitVec 32 := 1#32
  let v244 : BitVec 32 := Scalar.addi arg1 c1_i32_236
  let c0_i32_247 : BitVec 32 := 0#32
  let v270 : BitVec 1 := Scalar.cmpi .sgt v244 c0_i32_247
  let v271 : BitVec 32 := Scalar.extui v270
  let c0_i32_248 : BitVec 32 := 0#32
  let v272 : BitVec 1 := Scalar.cmpi .slt v244 c0_i32_248
  let v273 : BitVec 32 := Scalar.extui v272
  let v274 : BitVec 32 := Scalar.subi v271 v273
  let c4_i32_246 : BitVec 32 := 4#32
  let c0_i32_249 : BitVec 32 := 0#32
  let v275 : BitVec 1 := Scalar.cmpi .sgt c4_i32_246 c0_i32_249
  let v276 : BitVec 32 := Scalar.extui v275
  let c0_i32_250 : BitVec 32 := 0#32
  let v277 : BitVec 1 := Scalar.cmpi .slt c4_i32_246 c0_i32_250
  let v278 : BitVec 32 := Scalar.extui v277
  let v279 : BitVec 32 := Scalar.subi v276 v278
  let v280 : BitVec 1 := Scalar.cmpi .ne v274 v279
  let v281 : BitVec 32 := Scalar.remsi v244 c4_i32_246
  let c0_i32_251 : BitVec 32 := 0#32
  let v282 : BitVec 1 := Scalar.cmpi .ne v281 c0_i32_251
  let v283 : BitVec 1 := Scalar.andi v280 v282
  let v269 : BitVec 32 := Scalar.divsi v244 c4_i32_246
  let c1_i32_252 : BitVec 32 := 1#32
  let v284 : BitVec 32 := Scalar.subi v269 c1_i32_252
  let v285 : BitVec 32 := Scalar.select v283 v284 v269
  let c4_i32_253 : BitVec 32 := 4#32
  let v286 : BitVec 32 := Scalar.muli v285 c4_i32_253
  let v788 : BitVec 32 := Scalar.addi v286 c0_i32_579
  let v812 : Index := Scalar.indexCast v788
  let c0_598 : Index := 0#32
  let c128_599 : Index := 128#32
  ![0, v812.toNat, 0, 128]
def k0_off49 (i : grid0.Coords) (c0_i32_579 : BitVec 32) : Fin 4 → Nat :=
  let c1_600 : Index := 1#32
  let arg1 : BitVec 32 := BitVec.ofNat 32 (i 1).val
  let c1_i32_236 : BitVec 32 := 1#32
  let v244 : BitVec 32 := Scalar.addi arg1 c1_i32_236
  let c0_i32_247 : BitVec 32 := 0#32
  let v270 : BitVec 1 := Scalar.cmpi .sgt v244 c0_i32_247
  let v271 : BitVec 32 := Scalar.extui v270
  let c0_i32_248 : BitVec 32 := 0#32
  let v272 : BitVec 1 := Scalar.cmpi .slt v244 c0_i32_248
  let v273 : BitVec 32 := Scalar.extui v272
  let v274 : BitVec 32 := Scalar.subi v271 v273
  let c4_i32_246 : BitVec 32 := 4#32
  let c0_i32_249 : BitVec 32 := 0#32
  let v275 : BitVec 1 := Scalar.cmpi .sgt c4_i32_246 c0_i32_249
  let v276 : BitVec 32 := Scalar.extui v275
  let c0_i32_250 : BitVec 32 := 0#32
  let v277 : BitVec 1 := Scalar.cmpi .slt c4_i32_246 c0_i32_250
  let v278 : BitVec 32 := Scalar.extui v277
  let v279 : BitVec 32 := Scalar.subi v276 v278
  let v280 : BitVec 1 := Scalar.cmpi .ne v274 v279
  let v281 : BitVec 32 := Scalar.remsi v244 c4_i32_246
  let c0_i32_251 : BitVec 32 := 0#32
  let v282 : BitVec 1 := Scalar.cmpi .ne v281 c0_i32_251
  let v283 : BitVec 1 := Scalar.andi v280 v282
  let v269 : BitVec 32 := Scalar.divsi v244 c4_i32_246
  let c1_i32_252 : BitVec 32 := 1#32
  let v284 : BitVec 32 := Scalar.subi v269 c1_i32_252
  let v285 : BitVec 32 := Scalar.select v283 v284 v269
  let c4_i32_253 : BitVec 32 := 4#32
  let v286 : BitVec 32 := Scalar.muli v285 c4_i32_253
  let v788 : BitVec 32 := Scalar.addi v286 c0_i32_579
  let v789 : BitVec 32 := Scalar.subi arg1 v788
  let c2_i32_580 : BitVec 32 := 2#32
  let v790 : BitVec 32 := Scalar.minsi v789 c2_i32_580
  let v815 : Index := Scalar.indexCast v790
  let c0_601 : Index := 0#32
  let c0_602 : Index := 0#32
  ![1, v815.toNat, 0, 0]
def k0_off50 (i : grid0.Coords) (c0_i32_579 : BitVec 32) : Fin 5 → Nat :=
  let c0_608 : Index := 0#32
  let c1_609 : Index := 1#32
  let arg1 : BitVec 32 := BitVec.ofNat 32 (i 1).val
  let c1_i32_236 : BitVec 32 := 1#32
  let v244 : BitVec 32 := Scalar.addi arg1 c1_i32_236
  let c0_i32_247 : BitVec 32 := 0#32
  let v270 : BitVec 1 := Scalar.cmpi .sgt v244 c0_i32_247
  let v271 : BitVec 32 := Scalar.extui v270
  let c0_i32_248 : BitVec 32 := 0#32
  let v272 : BitVec 1 := Scalar.cmpi .slt v244 c0_i32_248
  let v273 : BitVec 32 := Scalar.extui v272
  let v274 : BitVec 32 := Scalar.subi v271 v273
  let c4_i32_246 : BitVec 32 := 4#32
  let c0_i32_249 : BitVec 32 := 0#32
  let v275 : BitVec 1 := Scalar.cmpi .sgt c4_i32_246 c0_i32_249
  let v276 : BitVec 32 := Scalar.extui v275
  let c0_i32_250 : BitVec 32 := 0#32
  let v277 : BitVec 1 := Scalar.cmpi .slt c4_i32_246 c0_i32_250
  let v278 : BitVec 32 := Scalar.extui v277
  let v279 : BitVec 32 := Scalar.subi v276 v278
  let v280 : BitVec 1 := Scalar.cmpi .ne v274 v279
  let v281 : BitVec 32 := Scalar.remsi v244 c4_i32_246
  let c0_i32_251 : BitVec 32 := 0#32
  let v282 : BitVec 1 := Scalar.cmpi .ne v281 c0_i32_251
  let v283 : BitVec 1 := Scalar.andi v280 v282
  let v269 : BitVec 32 := Scalar.divsi v244 c4_i32_246
  let c1_i32_252 : BitVec 32 := 1#32
  let v284 : BitVec 32 := Scalar.subi v269 c1_i32_252
  let v285 : BitVec 32 := Scalar.select v283 v284 v269
  let c4_i32_253 : BitVec 32 := 4#32
  let v286 : BitVec 32 := Scalar.muli v285 c4_i32_253
  let v788 : BitVec 32 := Scalar.addi v286 c0_i32_579
  let v826 : Index := Scalar.indexCast v788
  let c0_610 : Index := 0#32
  let c0_611 : Index := 0#32
  ![0, 1, v826.toNat, 0, 0]
def k0_off51 (i : grid0.Coords) (c0_i32_579 : BitVec 32) : Fin 4 → Nat :=
  let c0_613 : Index := 0#32
  let arg1 : BitVec 32 := BitVec.ofNat 32 (i 1).val
  let c1_i32_236 : BitVec 32 := 1#32
  let v244 : BitVec 32 := Scalar.addi arg1 c1_i32_236
  let c0_i32_247 : BitVec 32 := 0#32
  let v270 : BitVec 1 := Scalar.cmpi .sgt v244 c0_i32_247
  let v271 : BitVec 32 := Scalar.extui v270
  let c0_i32_248 : BitVec 32 := 0#32
  let v272 : BitVec 1 := Scalar.cmpi .slt v244 c0_i32_248
  let v273 : BitVec 32 := Scalar.extui v272
  let v274 : BitVec 32 := Scalar.subi v271 v273
  let c4_i32_246 : BitVec 32 := 4#32
  let c0_i32_249 : BitVec 32 := 0#32
  let v275 : BitVec 1 := Scalar.cmpi .sgt c4_i32_246 c0_i32_249
  let v276 : BitVec 32 := Scalar.extui v275
  let c0_i32_250 : BitVec 32 := 0#32
  let v277 : BitVec 1 := Scalar.cmpi .slt c4_i32_246 c0_i32_250
  let v278 : BitVec 32 := Scalar.extui v277
  let v279 : BitVec 32 := Scalar.subi v276 v278
  let v280 : BitVec 1 := Scalar.cmpi .ne v274 v279
  let v281 : BitVec 32 := Scalar.remsi v244 c4_i32_246
  let c0_i32_251 : BitVec 32 := 0#32
  let v282 : BitVec 1 := Scalar.cmpi .ne v281 c0_i32_251
  let v283 : BitVec 1 := Scalar.andi v280 v282
  let v269 : BitVec 32 := Scalar.divsi v244 c4_i32_246
  let c1_i32_252 : BitVec 32 := 1#32
  let v284 : BitVec 32 := Scalar.subi v269 c1_i32_252
  let v285 : BitVec 32 := Scalar.select v283 v284 v269
  let c4_i32_253 : BitVec 32 := 4#32
  let v286 : BitVec 32 := Scalar.muli v285 c4_i32_253
  let v788 : BitVec 32 := Scalar.addi v286 c0_i32_579
  let v833 : Index := Scalar.indexCast v788
  let c0_614 : Index := 0#32
  let c256_615 : Index := 256#32
  ![0, v833.toNat, 0, 256]
def k0_off52 (i : grid0.Coords) (c0_i32_579 : BitVec 32) : Fin 4 → Nat :=
  let c2_616 : Index := 2#32
  let arg1 : BitVec 32 := BitVec.ofNat 32 (i 1).val
  let c1_i32_236 : BitVec 32 := 1#32
  let v244 : BitVec 32 := Scalar.addi arg1 c1_i32_236
  let c0_i32_247 : BitVec 32 := 0#32
  let v270 : BitVec 1 := Scalar.cmpi .sgt v244 c0_i32_247
  let v271 : BitVec 32 := Scalar.extui v270
  let c0_i32_248 : BitVec 32 := 0#32
  let v272 : BitVec 1 := Scalar.cmpi .slt v244 c0_i32_248
  let v273 : BitVec 32 := Scalar.extui v272
  let v274 : BitVec 32 := Scalar.subi v271 v273
  let c4_i32_246 : BitVec 32 := 4#32
  let c0_i32_249 : BitVec 32 := 0#32
  let v275 : BitVec 1 := Scalar.cmpi .sgt c4_i32_246 c0_i32_249
  let v276 : BitVec 32 := Scalar.extui v275
  let c0_i32_250 : BitVec 32 := 0#32
  let v277 : BitVec 1 := Scalar.cmpi .slt c4_i32_246 c0_i32_250
  let v278 : BitVec 32 := Scalar.extui v277
  let v279 : BitVec 32 := Scalar.subi v276 v278
  let v280 : BitVec 1 := Scalar.cmpi .ne v274 v279
  let v281 : BitVec 32 := Scalar.remsi v244 c4_i32_246
  let c0_i32_251 : BitVec 32 := 0#32
  let v282 : BitVec 1 := Scalar.cmpi .ne v281 c0_i32_251
  let v283 : BitVec 1 := Scalar.andi v280 v282
  let v269 : BitVec 32 := Scalar.divsi v244 c4_i32_246
  let c1_i32_252 : BitVec 32 := 1#32
  let v284 : BitVec 32 := Scalar.subi v269 c1_i32_252
  let v285 : BitVec 32 := Scalar.select v283 v284 v269
  let c4_i32_253 : BitVec 32 := 4#32
  let v286 : BitVec 32 := Scalar.muli v285 c4_i32_253
  let v788 : BitVec 32 := Scalar.addi v286 c0_i32_579
  let v789 : BitVec 32 := Scalar.subi arg1 v788
  let c2_i32_580 : BitVec 32 := 2#32
  let v790 : BitVec 32 := Scalar.minsi v789 c2_i32_580
  let v836 : Index := Scalar.indexCast v790
  let c0_617 : Index := 0#32
  let c0_618 : Index := 0#32
  ![2, v836.toNat, 0, 0]
def k0_off53 (i : grid0.Coords) (c0_i32_579 : BitVec 32) : Fin 5 → Nat :=
  let c0_624 : Index := 0#32
  let c2_625 : Index := 2#32
  let arg1 : BitVec 32 := BitVec.ofNat 32 (i 1).val
  let c1_i32_236 : BitVec 32 := 1#32
  let v244 : BitVec 32 := Scalar.addi arg1 c1_i32_236
  let c0_i32_247 : BitVec 32 := 0#32
  let v270 : BitVec 1 := Scalar.cmpi .sgt v244 c0_i32_247
  let v271 : BitVec 32 := Scalar.extui v270
  let c0_i32_248 : BitVec 32 := 0#32
  let v272 : BitVec 1 := Scalar.cmpi .slt v244 c0_i32_248
  let v273 : BitVec 32 := Scalar.extui v272
  let v274 : BitVec 32 := Scalar.subi v271 v273
  let c4_i32_246 : BitVec 32 := 4#32
  let c0_i32_249 : BitVec 32 := 0#32
  let v275 : BitVec 1 := Scalar.cmpi .sgt c4_i32_246 c0_i32_249
  let v276 : BitVec 32 := Scalar.extui v275
  let c0_i32_250 : BitVec 32 := 0#32
  let v277 : BitVec 1 := Scalar.cmpi .slt c4_i32_246 c0_i32_250
  let v278 : BitVec 32 := Scalar.extui v277
  let v279 : BitVec 32 := Scalar.subi v276 v278
  let v280 : BitVec 1 := Scalar.cmpi .ne v274 v279
  let v281 : BitVec 32 := Scalar.remsi v244 c4_i32_246
  let c0_i32_251 : BitVec 32 := 0#32
  let v282 : BitVec 1 := Scalar.cmpi .ne v281 c0_i32_251
  let v283 : BitVec 1 := Scalar.andi v280 v282
  let v269 : BitVec 32 := Scalar.divsi v244 c4_i32_246
  let c1_i32_252 : BitVec 32 := 1#32
  let v284 : BitVec 32 := Scalar.subi v269 c1_i32_252
  let v285 : BitVec 32 := Scalar.select v283 v284 v269
  let c4_i32_253 : BitVec 32 := 4#32
  let v286 : BitVec 32 := Scalar.muli v285 c4_i32_253
  let v788 : BitVec 32 := Scalar.addi v286 c0_i32_579
  let v847 : Index := Scalar.indexCast v788
  let c0_626 : Index := 0#32
  let c0_627 : Index := 0#32
  ![0, 2, v847.toNat, 0, 0]
def k0_off54 (i : grid0.Coords) (c0_i32_579 : BitVec 32) : Fin 4 → Nat :=
  let c0_629 : Index := 0#32
  let arg1 : BitVec 32 := BitVec.ofNat 32 (i 1).val
  let c1_i32_236 : BitVec 32 := 1#32
  let v244 : BitVec 32 := Scalar.addi arg1 c1_i32_236
  let c0_i32_247 : BitVec 32 := 0#32
  let v270 : BitVec 1 := Scalar.cmpi .sgt v244 c0_i32_247
  let v271 : BitVec 32 := Scalar.extui v270
  let c0_i32_248 : BitVec 32 := 0#32
  let v272 : BitVec 1 := Scalar.cmpi .slt v244 c0_i32_248
  let v273 : BitVec 32 := Scalar.extui v272
  let v274 : BitVec 32 := Scalar.subi v271 v273
  let c4_i32_246 : BitVec 32 := 4#32
  let c0_i32_249 : BitVec 32 := 0#32
  let v275 : BitVec 1 := Scalar.cmpi .sgt c4_i32_246 c0_i32_249
  let v276 : BitVec 32 := Scalar.extui v275
  let c0_i32_250 : BitVec 32 := 0#32
  let v277 : BitVec 1 := Scalar.cmpi .slt c4_i32_246 c0_i32_250
  let v278 : BitVec 32 := Scalar.extui v277
  let v279 : BitVec 32 := Scalar.subi v276 v278
  let v280 : BitVec 1 := Scalar.cmpi .ne v274 v279
  let v281 : BitVec 32 := Scalar.remsi v244 c4_i32_246
  let c0_i32_251 : BitVec 32 := 0#32
  let v282 : BitVec 1 := Scalar.cmpi .ne v281 c0_i32_251
  let v283 : BitVec 1 := Scalar.andi v280 v282
  let v269 : BitVec 32 := Scalar.divsi v244 c4_i32_246
  let c1_i32_252 : BitVec 32 := 1#32
  let v284 : BitVec 32 := Scalar.subi v269 c1_i32_252
  let v285 : BitVec 32 := Scalar.select v283 v284 v269
  let c4_i32_253 : BitVec 32 := 4#32
  let v286 : BitVec 32 := Scalar.muli v285 c4_i32_253
  let v788 : BitVec 32 := Scalar.addi v286 c0_i32_579
  let v854 : Index := Scalar.indexCast v788
  let c0_630 : Index := 0#32
  let c384_631 : Index := 384#32
  ![0, v854.toNat, 0, 384]
def k0_off55 (i : grid0.Coords) (c0_i32_579 : BitVec 32) : Fin 4 → Nat :=
  let c3_632 : Index := 3#32
  let arg1 : BitVec 32 := BitVec.ofNat 32 (i 1).val
  let c1_i32_236 : BitVec 32 := 1#32
  let v244 : BitVec 32 := Scalar.addi arg1 c1_i32_236
  let c0_i32_247 : BitVec 32 := 0#32
  let v270 : BitVec 1 := Scalar.cmpi .sgt v244 c0_i32_247
  let v271 : BitVec 32 := Scalar.extui v270
  let c0_i32_248 : BitVec 32 := 0#32
  let v272 : BitVec 1 := Scalar.cmpi .slt v244 c0_i32_248
  let v273 : BitVec 32 := Scalar.extui v272
  let v274 : BitVec 32 := Scalar.subi v271 v273
  let c4_i32_246 : BitVec 32 := 4#32
  let c0_i32_249 : BitVec 32 := 0#32
  let v275 : BitVec 1 := Scalar.cmpi .sgt c4_i32_246 c0_i32_249
  let v276 : BitVec 32 := Scalar.extui v275
  let c0_i32_250 : BitVec 32 := 0#32
  let v277 : BitVec 1 := Scalar.cmpi .slt c4_i32_246 c0_i32_250
  let v278 : BitVec 32 := Scalar.extui v277
  let v279 : BitVec 32 := Scalar.subi v276 v278
  let v280 : BitVec 1 := Scalar.cmpi .ne v274 v279
  let v281 : BitVec 32 := Scalar.remsi v244 c4_i32_246
  let c0_i32_251 : BitVec 32 := 0#32
  let v282 : BitVec 1 := Scalar.cmpi .ne v281 c0_i32_251
  let v283 : BitVec 1 := Scalar.andi v280 v282
  let v269 : BitVec 32 := Scalar.divsi v244 c4_i32_246
  let c1_i32_252 : BitVec 32 := 1#32
  let v284 : BitVec 32 := Scalar.subi v269 c1_i32_252
  let v285 : BitVec 32 := Scalar.select v283 v284 v269
  let c4_i32_253 : BitVec 32 := 4#32
  let v286 : BitVec 32 := Scalar.muli v285 c4_i32_253
  let v788 : BitVec 32 := Scalar.addi v286 c0_i32_579
  let v789 : BitVec 32 := Scalar.subi arg1 v788
  let c2_i32_580 : BitVec 32 := 2#32
  let v790 : BitVec 32 := Scalar.minsi v789 c2_i32_580
  let v857 : Index := Scalar.indexCast v790
  let c0_633 : Index := 0#32
  let c0_634 : Index := 0#32
  ![3, v857.toNat, 0, 0]
def k0_off56 (i : grid0.Coords) (c0_i32_579 : BitVec 32) : Fin 5 → Nat :=
  let c0_640 : Index := 0#32
  let c3_641 : Index := 3#32
  let arg1 : BitVec 32 := BitVec.ofNat 32 (i 1).val
  let c1_i32_236 : BitVec 32 := 1#32
  let v244 : BitVec 32 := Scalar.addi arg1 c1_i32_236
  let c0_i32_247 : BitVec 32 := 0#32
  let v270 : BitVec 1 := Scalar.cmpi .sgt v244 c0_i32_247
  let v271 : BitVec 32 := Scalar.extui v270
  let c0_i32_248 : BitVec 32 := 0#32
  let v272 : BitVec 1 := Scalar.cmpi .slt v244 c0_i32_248
  let v273 : BitVec 32 := Scalar.extui v272
  let v274 : BitVec 32 := Scalar.subi v271 v273
  let c4_i32_246 : BitVec 32 := 4#32
  let c0_i32_249 : BitVec 32 := 0#32
  let v275 : BitVec 1 := Scalar.cmpi .sgt c4_i32_246 c0_i32_249
  let v276 : BitVec 32 := Scalar.extui v275
  let c0_i32_250 : BitVec 32 := 0#32
  let v277 : BitVec 1 := Scalar.cmpi .slt c4_i32_246 c0_i32_250
  let v278 : BitVec 32 := Scalar.extui v277
  let v279 : BitVec 32 := Scalar.subi v276 v278
  let v280 : BitVec 1 := Scalar.cmpi .ne v274 v279
  let v281 : BitVec 32 := Scalar.remsi v244 c4_i32_246
  let c0_i32_251 : BitVec 32 := 0#32
  let v282 : BitVec 1 := Scalar.cmpi .ne v281 c0_i32_251
  let v283 : BitVec 1 := Scalar.andi v280 v282
  let v269 : BitVec 32 := Scalar.divsi v244 c4_i32_246
  let c1_i32_252 : BitVec 32 := 1#32
  let v284 : BitVec 32 := Scalar.subi v269 c1_i32_252
  let v285 : BitVec 32 := Scalar.select v283 v284 v269
  let c4_i32_253 : BitVec 32 := 4#32
  let v286 : BitVec 32 := Scalar.muli v285 c4_i32_253
  let v788 : BitVec 32 := Scalar.addi v286 c0_i32_579
  let v868 : Index := Scalar.indexCast v788
  let c0_642 : Index := 0#32
  let c0_643 : Index := 0#32
  ![0, 3, v868.toNat, 0, 0]
def k0_off57 (i : grid0.Coords) (c0_i32_579 : BitVec 32) : Fin 4 → Nat :=
  let c1_645 : Index := 1#32
  let arg1 : BitVec 32 := BitVec.ofNat 32 (i 1).val
  let c1_i32_236 : BitVec 32 := 1#32
  let v244 : BitVec 32 := Scalar.addi arg1 c1_i32_236
  let c0_i32_247 : BitVec 32 := 0#32
  let v270 : BitVec 1 := Scalar.cmpi .sgt v244 c0_i32_247
  let v271 : BitVec 32 := Scalar.extui v270
  let c0_i32_248 : BitVec 32 := 0#32
  let v272 : BitVec 1 := Scalar.cmpi .slt v244 c0_i32_248
  let v273 : BitVec 32 := Scalar.extui v272
  let v274 : BitVec 32 := Scalar.subi v271 v273
  let c4_i32_246 : BitVec 32 := 4#32
  let c0_i32_249 : BitVec 32 := 0#32
  let v275 : BitVec 1 := Scalar.cmpi .sgt c4_i32_246 c0_i32_249
  let v276 : BitVec 32 := Scalar.extui v275
  let c0_i32_250 : BitVec 32 := 0#32
  let v277 : BitVec 1 := Scalar.cmpi .slt c4_i32_246 c0_i32_250
  let v278 : BitVec 32 := Scalar.extui v277
  let v279 : BitVec 32 := Scalar.subi v276 v278
  let v280 : BitVec 1 := Scalar.cmpi .ne v274 v279
  let v281 : BitVec 32 := Scalar.remsi v244 c4_i32_246
  let c0_i32_251 : BitVec 32 := 0#32
  let v282 : BitVec 1 := Scalar.cmpi .ne v281 c0_i32_251
  let v283 : BitVec 1 := Scalar.andi v280 v282
  let v269 : BitVec 32 := Scalar.divsi v244 c4_i32_246
  let c1_i32_252 : BitVec 32 := 1#32
  let v284 : BitVec 32 := Scalar.subi v269 c1_i32_252
  let v285 : BitVec 32 := Scalar.select v283 v284 v269
  let c4_i32_253 : BitVec 32 := 4#32
  let v286 : BitVec 32 := Scalar.muli v285 c4_i32_253
  let v788 : BitVec 32 := Scalar.addi v286 c0_i32_579
  let v875 : Index := Scalar.indexCast v788
  let c0_646 : Index := 0#32
  let c0_647 : Index := 0#32
  ![1, v875.toNat, 0, 0]
def k0_off58 (i : grid0.Coords) (c0_i32_579 : BitVec 32) : Fin 5 → Nat :=
  let c1_656 : Index := 1#32
  let c0_657 : Index := 0#32
  let arg1 : BitVec 32 := BitVec.ofNat 32 (i 1).val
  let c1_i32_236 : BitVec 32 := 1#32
  let v244 : BitVec 32 := Scalar.addi arg1 c1_i32_236
  let c0_i32_247 : BitVec 32 := 0#32
  let v270 : BitVec 1 := Scalar.cmpi .sgt v244 c0_i32_247
  let v271 : BitVec 32 := Scalar.extui v270
  let c0_i32_248 : BitVec 32 := 0#32
  let v272 : BitVec 1 := Scalar.cmpi .slt v244 c0_i32_248
  let v273 : BitVec 32 := Scalar.extui v272
  let v274 : BitVec 32 := Scalar.subi v271 v273
  let c4_i32_246 : BitVec 32 := 4#32
  let c0_i32_249 : BitVec 32 := 0#32
  let v275 : BitVec 1 := Scalar.cmpi .sgt c4_i32_246 c0_i32_249
  let v276 : BitVec 32 := Scalar.extui v275
  let c0_i32_250 : BitVec 32 := 0#32
  let v277 : BitVec 1 := Scalar.cmpi .slt c4_i32_246 c0_i32_250
  let v278 : BitVec 32 := Scalar.extui v277
  let v279 : BitVec 32 := Scalar.subi v276 v278
  let v280 : BitVec 1 := Scalar.cmpi .ne v274 v279
  let v281 : BitVec 32 := Scalar.remsi v244 c4_i32_246
  let c0_i32_251 : BitVec 32 := 0#32
  let v282 : BitVec 1 := Scalar.cmpi .ne v281 c0_i32_251
  let v283 : BitVec 1 := Scalar.andi v280 v282
  let v269 : BitVec 32 := Scalar.divsi v244 c4_i32_246
  let c1_i32_252 : BitVec 32 := 1#32
  let v284 : BitVec 32 := Scalar.subi v269 c1_i32_252
  let v285 : BitVec 32 := Scalar.select v283 v284 v269
  let c4_i32_253 : BitVec 32 := 4#32
  let v286 : BitVec 32 := Scalar.muli v285 c4_i32_253
  let v788 : BitVec 32 := Scalar.addi v286 c0_i32_579
  let v889 : Index := Scalar.indexCast v788
  let c0_658 : Index := 0#32
  let c0_659 : Index := 0#32
  ![1, 0, v889.toNat, 0, 0]
def k0_off59 (i : grid0.Coords) (c0_i32_579 : BitVec 32) : Fin 4 → Nat :=
  let c1_661 : Index := 1#32
  let arg1 : BitVec 32 := BitVec.ofNat 32 (i 1).val
  let c1_i32_236 : BitVec 32 := 1#32
  let v244 : BitVec 32 := Scalar.addi arg1 c1_i32_236
  let c0_i32_247 : BitVec 32 := 0#32
  let v270 : BitVec 1 := Scalar.cmpi .sgt v244 c0_i32_247
  let v271 : BitVec 32 := Scalar.extui v270
  let c0_i32_248 : BitVec 32 := 0#32
  let v272 : BitVec 1 := Scalar.cmpi .slt v244 c0_i32_248
  let v273 : BitVec 32 := Scalar.extui v272
  let v274 : BitVec 32 := Scalar.subi v271 v273
  let c4_i32_246 : BitVec 32 := 4#32
  let c0_i32_249 : BitVec 32 := 0#32
  let v275 : BitVec 1 := Scalar.cmpi .sgt c4_i32_246 c0_i32_249
  let v276 : BitVec 32 := Scalar.extui v275
  let c0_i32_250 : BitVec 32 := 0#32
  let v277 : BitVec 1 := Scalar.cmpi .slt c4_i32_246 c0_i32_250
  let v278 : BitVec 32 := Scalar.extui v277
  let v279 : BitVec 32 := Scalar.subi v276 v278
  let v280 : BitVec 1 := Scalar.cmpi .ne v274 v279
  let v281 : BitVec 32 := Scalar.remsi v244 c4_i32_246
  let c0_i32_251 : BitVec 32 := 0#32
  let v282 : BitVec 1 := Scalar.cmpi .ne v281 c0_i32_251
  let v283 : BitVec 1 := Scalar.andi v280 v282
  let v269 : BitVec 32 := Scalar.divsi v244 c4_i32_246
  let c1_i32_252 : BitVec 32 := 1#32
  let v284 : BitVec 32 := Scalar.subi v269 c1_i32_252
  let v285 : BitVec 32 := Scalar.select v283 v284 v269
  let c4_i32_253 : BitVec 32 := 4#32
  let v286 : BitVec 32 := Scalar.muli v285 c4_i32_253
  let v788 : BitVec 32 := Scalar.addi v286 c0_i32_579
  let v896 : Index := Scalar.indexCast v788
  let c0_662 : Index := 0#32
  let c128_663 : Index := 128#32
  ![1, v896.toNat, 0, 128]
def k0_off60 (i : grid0.Coords) (c0_i32_579 : BitVec 32) : Fin 5 → Nat :=
  let c1_672 : Index := 1#32
  let c1_673 : Index := 1#32
  let arg1 : BitVec 32 := BitVec.ofNat 32 (i 1).val
  let c1_i32_236 : BitVec 32 := 1#32
  let v244 : BitVec 32 := Scalar.addi arg1 c1_i32_236
  let c0_i32_247 : BitVec 32 := 0#32
  let v270 : BitVec 1 := Scalar.cmpi .sgt v244 c0_i32_247
  let v271 : BitVec 32 := Scalar.extui v270
  let c0_i32_248 : BitVec 32 := 0#32
  let v272 : BitVec 1 := Scalar.cmpi .slt v244 c0_i32_248
  let v273 : BitVec 32 := Scalar.extui v272
  let v274 : BitVec 32 := Scalar.subi v271 v273
  let c4_i32_246 : BitVec 32 := 4#32
  let c0_i32_249 : BitVec 32 := 0#32
  let v275 : BitVec 1 := Scalar.cmpi .sgt c4_i32_246 c0_i32_249
  let v276 : BitVec 32 := Scalar.extui v275
  let c0_i32_250 : BitVec 32 := 0#32
  let v277 : BitVec 1 := Scalar.cmpi .slt c4_i32_246 c0_i32_250
  let v278 : BitVec 32 := Scalar.extui v277
  let v279 : BitVec 32 := Scalar.subi v276 v278
  let v280 : BitVec 1 := Scalar.cmpi .ne v274 v279
  let v281 : BitVec 32 := Scalar.remsi v244 c4_i32_246
  let c0_i32_251 : BitVec 32 := 0#32
  let v282 : BitVec 1 := Scalar.cmpi .ne v281 c0_i32_251
  let v283 : BitVec 1 := Scalar.andi v280 v282
  let v269 : BitVec 32 := Scalar.divsi v244 c4_i32_246
  let c1_i32_252 : BitVec 32 := 1#32
  let v284 : BitVec 32 := Scalar.subi v269 c1_i32_252
  let v285 : BitVec 32 := Scalar.select v283 v284 v269
  let c4_i32_253 : BitVec 32 := 4#32
  let v286 : BitVec 32 := Scalar.muli v285 c4_i32_253
  let v788 : BitVec 32 := Scalar.addi v286 c0_i32_579
  let v910 : Index := Scalar.indexCast v788
  let c0_674 : Index := 0#32
  let c0_675 : Index := 0#32
  ![1, 1, v910.toNat, 0, 0]
def k0_off61 (i : grid0.Coords) (c0_i32_579 : BitVec 32) : Fin 4 → Nat :=
  let c1_677 : Index := 1#32
  let arg1 : BitVec 32 := BitVec.ofNat 32 (i 1).val
  let c1_i32_236 : BitVec 32 := 1#32
  let v244 : BitVec 32 := Scalar.addi arg1 c1_i32_236
  let c0_i32_247 : BitVec 32 := 0#32
  let v270 : BitVec 1 := Scalar.cmpi .sgt v244 c0_i32_247
  let v271 : BitVec 32 := Scalar.extui v270
  let c0_i32_248 : BitVec 32 := 0#32
  let v272 : BitVec 1 := Scalar.cmpi .slt v244 c0_i32_248
  let v273 : BitVec 32 := Scalar.extui v272
  let v274 : BitVec 32 := Scalar.subi v271 v273
  let c4_i32_246 : BitVec 32 := 4#32
  let c0_i32_249 : BitVec 32 := 0#32
  let v275 : BitVec 1 := Scalar.cmpi .sgt c4_i32_246 c0_i32_249
  let v276 : BitVec 32 := Scalar.extui v275
  let c0_i32_250 : BitVec 32 := 0#32
  let v277 : BitVec 1 := Scalar.cmpi .slt c4_i32_246 c0_i32_250
  let v278 : BitVec 32 := Scalar.extui v277
  let v279 : BitVec 32 := Scalar.subi v276 v278
  let v280 : BitVec 1 := Scalar.cmpi .ne v274 v279
  let v281 : BitVec 32 := Scalar.remsi v244 c4_i32_246
  let c0_i32_251 : BitVec 32 := 0#32
  let v282 : BitVec 1 := Scalar.cmpi .ne v281 c0_i32_251
  let v283 : BitVec 1 := Scalar.andi v280 v282
  let v269 : BitVec 32 := Scalar.divsi v244 c4_i32_246
  let c1_i32_252 : BitVec 32 := 1#32
  let v284 : BitVec 32 := Scalar.subi v269 c1_i32_252
  let v285 : BitVec 32 := Scalar.select v283 v284 v269
  let c4_i32_253 : BitVec 32 := 4#32
  let v286 : BitVec 32 := Scalar.muli v285 c4_i32_253
  let v788 : BitVec 32 := Scalar.addi v286 c0_i32_579
  let v917 : Index := Scalar.indexCast v788
  let c0_678 : Index := 0#32
  let c256_679 : Index := 256#32
  ![1, v917.toNat, 0, 256]
def k0_off62 (i : grid0.Coords) (c0_i32_579 : BitVec 32) : Fin 5 → Nat :=
  let c1_688 : Index := 1#32
  let c2_689 : Index := 2#32
  let arg1 : BitVec 32 := BitVec.ofNat 32 (i 1).val
  let c1_i32_236 : BitVec 32 := 1#32
  let v244 : BitVec 32 := Scalar.addi arg1 c1_i32_236
  let c0_i32_247 : BitVec 32 := 0#32
  let v270 : BitVec 1 := Scalar.cmpi .sgt v244 c0_i32_247
  let v271 : BitVec 32 := Scalar.extui v270
  let c0_i32_248 : BitVec 32 := 0#32
  let v272 : BitVec 1 := Scalar.cmpi .slt v244 c0_i32_248
  let v273 : BitVec 32 := Scalar.extui v272
  let v274 : BitVec 32 := Scalar.subi v271 v273
  let c4_i32_246 : BitVec 32 := 4#32
  let c0_i32_249 : BitVec 32 := 0#32
  let v275 : BitVec 1 := Scalar.cmpi .sgt c4_i32_246 c0_i32_249
  let v276 : BitVec 32 := Scalar.extui v275
  let c0_i32_250 : BitVec 32 := 0#32
  let v277 : BitVec 1 := Scalar.cmpi .slt c4_i32_246 c0_i32_250
  let v278 : BitVec 32 := Scalar.extui v277
  let v279 : BitVec 32 := Scalar.subi v276 v278
  let v280 : BitVec 1 := Scalar.cmpi .ne v274 v279
  let v281 : BitVec 32 := Scalar.remsi v244 c4_i32_246
  let c0_i32_251 : BitVec 32 := 0#32
  let v282 : BitVec 1 := Scalar.cmpi .ne v281 c0_i32_251
  let v283 : BitVec 1 := Scalar.andi v280 v282
  let v269 : BitVec 32 := Scalar.divsi v244 c4_i32_246
  let c1_i32_252 : BitVec 32 := 1#32
  let v284 : BitVec 32 := Scalar.subi v269 c1_i32_252
  let v285 : BitVec 32 := Scalar.select v283 v284 v269
  let c4_i32_253 : BitVec 32 := 4#32
  let v286 : BitVec 32 := Scalar.muli v285 c4_i32_253
  let v788 : BitVec 32 := Scalar.addi v286 c0_i32_579
  let v931 : Index := Scalar.indexCast v788
  let c0_690 : Index := 0#32
  let c0_691 : Index := 0#32
  ![1, 2, v931.toNat, 0, 0]
def k0_off63 (i : grid0.Coords) (c0_i32_579 : BitVec 32) : Fin 4 → Nat :=
  let c1_693 : Index := 1#32
  let arg1 : BitVec 32 := BitVec.ofNat 32 (i 1).val
  let c1_i32_236 : BitVec 32 := 1#32
  let v244 : BitVec 32 := Scalar.addi arg1 c1_i32_236
  let c0_i32_247 : BitVec 32 := 0#32
  let v270 : BitVec 1 := Scalar.cmpi .sgt v244 c0_i32_247
  let v271 : BitVec 32 := Scalar.extui v270
  let c0_i32_248 : BitVec 32 := 0#32
  let v272 : BitVec 1 := Scalar.cmpi .slt v244 c0_i32_248
  let v273 : BitVec 32 := Scalar.extui v272
  let v274 : BitVec 32 := Scalar.subi v271 v273
  let c4_i32_246 : BitVec 32 := 4#32
  let c0_i32_249 : BitVec 32 := 0#32
  let v275 : BitVec 1 := Scalar.cmpi .sgt c4_i32_246 c0_i32_249
  let v276 : BitVec 32 := Scalar.extui v275
  let c0_i32_250 : BitVec 32 := 0#32
  let v277 : BitVec 1 := Scalar.cmpi .slt c4_i32_246 c0_i32_250
  let v278 : BitVec 32 := Scalar.extui v277
  let v279 : BitVec 32 := Scalar.subi v276 v278
  let v280 : BitVec 1 := Scalar.cmpi .ne v274 v279
  let v281 : BitVec 32 := Scalar.remsi v244 c4_i32_246
  let c0_i32_251 : BitVec 32 := 0#32
  let v282 : BitVec 1 := Scalar.cmpi .ne v281 c0_i32_251
  let v283 : BitVec 1 := Scalar.andi v280 v282
  let v269 : BitVec 32 := Scalar.divsi v244 c4_i32_246
  let c1_i32_252 : BitVec 32 := 1#32
  let v284 : BitVec 32 := Scalar.subi v269 c1_i32_252
  let v285 : BitVec 32 := Scalar.select v283 v284 v269
  let c4_i32_253 : BitVec 32 := 4#32
  let v286 : BitVec 32 := Scalar.muli v285 c4_i32_253
  let v788 : BitVec 32 := Scalar.addi v286 c0_i32_579
  let v938 : Index := Scalar.indexCast v788
  let c0_694 : Index := 0#32
  let c384_695 : Index := 384#32
  ![1, v938.toNat, 0, 384]
def k0_off64 (i : grid0.Coords) (c0_i32_579 : BitVec 32) : Fin 5 → Nat :=
  let c1_704 : Index := 1#32
  let c3_705 : Index := 3#32
  let arg1 : BitVec 32 := BitVec.ofNat 32 (i 1).val
  let c1_i32_236 : BitVec 32 := 1#32
  let v244 : BitVec 32 := Scalar.addi arg1 c1_i32_236
  let c0_i32_247 : BitVec 32 := 0#32
  let v270 : BitVec 1 := Scalar.cmpi .sgt v244 c0_i32_247
  let v271 : BitVec 32 := Scalar.extui v270
  let c0_i32_248 : BitVec 32 := 0#32
  let v272 : BitVec 1 := Scalar.cmpi .slt v244 c0_i32_248
  let v273 : BitVec 32 := Scalar.extui v272
  let v274 : BitVec 32 := Scalar.subi v271 v273
  let c4_i32_246 : BitVec 32 := 4#32
  let c0_i32_249 : BitVec 32 := 0#32
  let v275 : BitVec 1 := Scalar.cmpi .sgt c4_i32_246 c0_i32_249
  let v276 : BitVec 32 := Scalar.extui v275
  let c0_i32_250 : BitVec 32 := 0#32
  let v277 : BitVec 1 := Scalar.cmpi .slt c4_i32_246 c0_i32_250
  let v278 : BitVec 32 := Scalar.extui v277
  let v279 : BitVec 32 := Scalar.subi v276 v278
  let v280 : BitVec 1 := Scalar.cmpi .ne v274 v279
  let v281 : BitVec 32 := Scalar.remsi v244 c4_i32_246
  let c0_i32_251 : BitVec 32 := 0#32
  let v282 : BitVec 1 := Scalar.cmpi .ne v281 c0_i32_251
  let v283 : BitVec 1 := Scalar.andi v280 v282
  let v269 : BitVec 32 := Scalar.divsi v244 c4_i32_246
  let c1_i32_252 : BitVec 32 := 1#32
  let v284 : BitVec 32 := Scalar.subi v269 c1_i32_252
  let v285 : BitVec 32 := Scalar.select v283 v284 v269
  let c4_i32_253 : BitVec 32 := 4#32
  let v286 : BitVec 32 := Scalar.muli v285 c4_i32_253
  let v788 : BitVec 32 := Scalar.addi v286 c0_i32_579
  let v952 : Index := Scalar.indexCast v788
  let c0_706 : Index := 0#32
  let c0_707 : Index := 0#32
  ![1, 3, v952.toNat, 0, 0]
def k0_cond2 (i : grid0.Coords) : BitVec 1 :=
  let arg1 : BitVec 32 := BitVec.ofNat 32 (i 1).val
  let c1_i32_236 : BitVec 32 := 1#32
  let v244 : BitVec 32 := Scalar.addi arg1 c1_i32_236
  let c0_i32_256 : BitVec 32 := 0#32
  let v293 : BitVec 1 := Scalar.cmpi .sgt v244 c0_i32_256
  let v294 : BitVec 32 := Scalar.extui v293
  let c0_i32_257 : BitVec 32 := 0#32
  let v295 : BitVec 1 := Scalar.cmpi .slt v244 c0_i32_257
  let v296 : BitVec 32 := Scalar.extui v295
  let v297 : BitVec 32 := Scalar.subi v294 v296
  let c2_i32_255 : BitVec 32 := 2#32
  let c0_i32_258 : BitVec 32 := 0#32
  let v298 : BitVec 1 := Scalar.cmpi .sgt c2_i32_255 c0_i32_258
  let v299 : BitVec 32 := Scalar.extui v298
  let c0_i32_259 : BitVec 32 := 0#32
  let v300 : BitVec 1 := Scalar.cmpi .slt c2_i32_255 c0_i32_259
  let v301 : BitVec 32 := Scalar.extui v300
  let v302 : BitVec 32 := Scalar.subi v299 v301
  let v303 : BitVec 1 := Scalar.cmpi .ne v297 v302
  let v304 : BitVec 32 := Scalar.remsi v244 c2_i32_255
  let c0_i32_260 : BitVec 32 := 0#32
  let v305 : BitVec 1 := Scalar.cmpi .ne v304 c0_i32_260
  let v306 : BitVec 1 := Scalar.andi v303 v305
  let v292 : BitVec 32 := Scalar.divsi v244 c2_i32_255
  let c1_i32_261 : BitVec 32 := 1#32
  let v307 : BitVec 32 := Scalar.subi v292 c1_i32_261
  let v308 : BitVec 32 := Scalar.select v306 v307 v292
  let c2_i32_262 : BitVec 32 := 2#32
  let v309 : BitVec 32 := Scalar.muli v308 c2_i32_262
  let v310 : BitVec 32 := Scalar.subi v244 v309
  let c1_i32_263 : BitVec 32 := 1#32
  let v311 : BitVec 1 := Scalar.cmpi .eq v310 c1_i32_263
  let v312 : BitVec 32 := Scalar.extui v311
  let c0_i32_264 : BitVec 32 := 0#32
  let v313 : BitVec 1 := Scalar.cmpi .ne v312 c0_i32_264
  v313

def k0_off65 (i : grid0.Coords) : Fin 4 → Nat :=
  let c0_581 : Index := 0#32
  let arg1 : BitVec 32 := BitVec.ofNat 32 (i 1).val
  let c1_i32_236 : BitVec 32 := 1#32
  let v244 : BitVec 32 := Scalar.addi arg1 c1_i32_236
  let c0_i32_256 : BitVec 32 := 0#32
  let v293 : BitVec 1 := Scalar.cmpi .sgt v244 c0_i32_256
  let v294 : BitVec 32 := Scalar.extui v293
  let c0_i32_257 : BitVec 32 := 0#32
  let v295 : BitVec 1 := Scalar.cmpi .slt v244 c0_i32_257
  let v296 : BitVec 32 := Scalar.extui v295
  let v297 : BitVec 32 := Scalar.subi v294 v296
  let c2_i32_255 : BitVec 32 := 2#32
  let c0_i32_258 : BitVec 32 := 0#32
  let v298 : BitVec 1 := Scalar.cmpi .sgt c2_i32_255 c0_i32_258
  let v299 : BitVec 32 := Scalar.extui v298
  let c0_i32_259 : BitVec 32 := 0#32
  let v300 : BitVec 1 := Scalar.cmpi .slt c2_i32_255 c0_i32_259
  let v301 : BitVec 32 := Scalar.extui v300
  let v302 : BitVec 32 := Scalar.subi v299 v301
  let v303 : BitVec 1 := Scalar.cmpi .ne v297 v302
  let v304 : BitVec 32 := Scalar.remsi v244 c2_i32_255
  let c0_i32_260 : BitVec 32 := 0#32
  let v305 : BitVec 1 := Scalar.cmpi .ne v304 c0_i32_260
  let v306 : BitVec 1 := Scalar.andi v303 v305
  let v292 : BitVec 32 := Scalar.divsi v244 c2_i32_255
  let c1_i32_261 : BitVec 32 := 1#32
  let v307 : BitVec 32 := Scalar.subi v292 c1_i32_261
  let v308 : BitVec 32 := Scalar.select v306 v307 v292
  let c2_i32_262 : BitVec 32 := 2#32
  let v309 : BitVec 32 := Scalar.muli v308 c2_i32_262
  let c0_i32_579 : BitVec 32 := 0#32
  let v788 : BitVec 32 := Scalar.addi v309 c0_i32_579
  let v791 : Index := Scalar.indexCast v788
  let c0_582 : Index := 0#32
  let c0_583 : Index := 0#32
  ![0, v791.toNat, 0, 0]
def k0_off66 (i : grid0.Coords) : Fin 4 → Nat :=
  let c0_584 : Index := 0#32
  let arg1 : BitVec 32 := BitVec.ofNat 32 (i 1).val
  let c1_i32_236 : BitVec 32 := 1#32
  let v244 : BitVec 32 := Scalar.addi arg1 c1_i32_236
  let c0_i32_256 : BitVec 32 := 0#32
  let v293 : BitVec 1 := Scalar.cmpi .sgt v244 c0_i32_256
  let v294 : BitVec 32 := Scalar.extui v293
  let c0_i32_257 : BitVec 32 := 0#32
  let v295 : BitVec 1 := Scalar.cmpi .slt v244 c0_i32_257
  let v296 : BitVec 32 := Scalar.extui v295
  let v297 : BitVec 32 := Scalar.subi v294 v296
  let c2_i32_255 : BitVec 32 := 2#32
  let c0_i32_258 : BitVec 32 := 0#32
  let v298 : BitVec 1 := Scalar.cmpi .sgt c2_i32_255 c0_i32_258
  let v299 : BitVec 32 := Scalar.extui v298
  let c0_i32_259 : BitVec 32 := 0#32
  let v300 : BitVec 1 := Scalar.cmpi .slt c2_i32_255 c0_i32_259
  let v301 : BitVec 32 := Scalar.extui v300
  let v302 : BitVec 32 := Scalar.subi v299 v301
  let v303 : BitVec 1 := Scalar.cmpi .ne v297 v302
  let v304 : BitVec 32 := Scalar.remsi v244 c2_i32_255
  let c0_i32_260 : BitVec 32 := 0#32
  let v305 : BitVec 1 := Scalar.cmpi .ne v304 c0_i32_260
  let v306 : BitVec 1 := Scalar.andi v303 v305
  let v292 : BitVec 32 := Scalar.divsi v244 c2_i32_255
  let c1_i32_261 : BitVec 32 := 1#32
  let v307 : BitVec 32 := Scalar.subi v292 c1_i32_261
  let v308 : BitVec 32 := Scalar.select v306 v307 v292
  let c2_i32_262 : BitVec 32 := 2#32
  let v309 : BitVec 32 := Scalar.muli v308 c2_i32_262
  let c0_i32_579 : BitVec 32 := 0#32
  let v788 : BitVec 32 := Scalar.addi v309 c0_i32_579
  let v789 : BitVec 32 := Scalar.subi arg1 v788
  let c2_i32_580 : BitVec 32 := 2#32
  let v790 : BitVec 32 := Scalar.minsi v789 c2_i32_580
  let v794 : Index := Scalar.indexCast v790
  let c0_585 : Index := 0#32
  let c0_586 : Index := 0#32
  ![0, v794.toNat, 0, 0]
def k0_off67 (i : grid0.Coords) : Fin 5 → Nat :=
  let c0_592 : Index := 0#32
  let c0_593 : Index := 0#32
  let arg1 : BitVec 32 := BitVec.ofNat 32 (i 1).val
  let c1_i32_236 : BitVec 32 := 1#32
  let v244 : BitVec 32 := Scalar.addi arg1 c1_i32_236
  let c0_i32_256 : BitVec 32 := 0#32
  let v293 : BitVec 1 := Scalar.cmpi .sgt v244 c0_i32_256
  let v294 : BitVec 32 := Scalar.extui v293
  let c0_i32_257 : BitVec 32 := 0#32
  let v295 : BitVec 1 := Scalar.cmpi .slt v244 c0_i32_257
  let v296 : BitVec 32 := Scalar.extui v295
  let v297 : BitVec 32 := Scalar.subi v294 v296
  let c2_i32_255 : BitVec 32 := 2#32
  let c0_i32_258 : BitVec 32 := 0#32
  let v298 : BitVec 1 := Scalar.cmpi .sgt c2_i32_255 c0_i32_258
  let v299 : BitVec 32 := Scalar.extui v298
  let c0_i32_259 : BitVec 32 := 0#32
  let v300 : BitVec 1 := Scalar.cmpi .slt c2_i32_255 c0_i32_259
  let v301 : BitVec 32 := Scalar.extui v300
  let v302 : BitVec 32 := Scalar.subi v299 v301
  let v303 : BitVec 1 := Scalar.cmpi .ne v297 v302
  let v304 : BitVec 32 := Scalar.remsi v244 c2_i32_255
  let c0_i32_260 : BitVec 32 := 0#32
  let v305 : BitVec 1 := Scalar.cmpi .ne v304 c0_i32_260
  let v306 : BitVec 1 := Scalar.andi v303 v305
  let v292 : BitVec 32 := Scalar.divsi v244 c2_i32_255
  let c1_i32_261 : BitVec 32 := 1#32
  let v307 : BitVec 32 := Scalar.subi v292 c1_i32_261
  let v308 : BitVec 32 := Scalar.select v306 v307 v292
  let c2_i32_262 : BitVec 32 := 2#32
  let v309 : BitVec 32 := Scalar.muli v308 c2_i32_262
  let c0_i32_579 : BitVec 32 := 0#32
  let v788 : BitVec 32 := Scalar.addi v309 c0_i32_579
  let v805 : Index := Scalar.indexCast v788
  let c0_594 : Index := 0#32
  let c0_595 : Index := 0#32
  ![0, 0, v805.toNat, 0, 0]
def k0_off68 (i : grid0.Coords) : Fin 4 → Nat :=
  let c0_597 : Index := 0#32
  let arg1 : BitVec 32 := BitVec.ofNat 32 (i 1).val
  let c1_i32_236 : BitVec 32 := 1#32
  let v244 : BitVec 32 := Scalar.addi arg1 c1_i32_236
  let c0_i32_256 : BitVec 32 := 0#32
  let v293 : BitVec 1 := Scalar.cmpi .sgt v244 c0_i32_256
  let v294 : BitVec 32 := Scalar.extui v293
  let c0_i32_257 : BitVec 32 := 0#32
  let v295 : BitVec 1 := Scalar.cmpi .slt v244 c0_i32_257
  let v296 : BitVec 32 := Scalar.extui v295
  let v297 : BitVec 32 := Scalar.subi v294 v296
  let c2_i32_255 : BitVec 32 := 2#32
  let c0_i32_258 : BitVec 32 := 0#32
  let v298 : BitVec 1 := Scalar.cmpi .sgt c2_i32_255 c0_i32_258
  let v299 : BitVec 32 := Scalar.extui v298
  let c0_i32_259 : BitVec 32 := 0#32
  let v300 : BitVec 1 := Scalar.cmpi .slt c2_i32_255 c0_i32_259
  let v301 : BitVec 32 := Scalar.extui v300
  let v302 : BitVec 32 := Scalar.subi v299 v301
  let v303 : BitVec 1 := Scalar.cmpi .ne v297 v302
  let v304 : BitVec 32 := Scalar.remsi v244 c2_i32_255
  let c0_i32_260 : BitVec 32 := 0#32
  let v305 : BitVec 1 := Scalar.cmpi .ne v304 c0_i32_260
  let v306 : BitVec 1 := Scalar.andi v303 v305
  let v292 : BitVec 32 := Scalar.divsi v244 c2_i32_255
  let c1_i32_261 : BitVec 32 := 1#32
  let v307 : BitVec 32 := Scalar.subi v292 c1_i32_261
  let v308 : BitVec 32 := Scalar.select v306 v307 v292
  let c2_i32_262 : BitVec 32 := 2#32
  let v309 : BitVec 32 := Scalar.muli v308 c2_i32_262
  let c0_i32_579 : BitVec 32 := 0#32
  let v788 : BitVec 32 := Scalar.addi v309 c0_i32_579
  let v812 : Index := Scalar.indexCast v788
  let c0_598 : Index := 0#32
  let c128_599 : Index := 128#32
  ![0, v812.toNat, 0, 128]
def k0_off69 (i : grid0.Coords) : Fin 4 → Nat :=
  let c1_600 : Index := 1#32
  let arg1 : BitVec 32 := BitVec.ofNat 32 (i 1).val
  let c1_i32_236 : BitVec 32 := 1#32
  let v244 : BitVec 32 := Scalar.addi arg1 c1_i32_236
  let c0_i32_256 : BitVec 32 := 0#32
  let v293 : BitVec 1 := Scalar.cmpi .sgt v244 c0_i32_256
  let v294 : BitVec 32 := Scalar.extui v293
  let c0_i32_257 : BitVec 32 := 0#32
  let v295 : BitVec 1 := Scalar.cmpi .slt v244 c0_i32_257
  let v296 : BitVec 32 := Scalar.extui v295
  let v297 : BitVec 32 := Scalar.subi v294 v296
  let c2_i32_255 : BitVec 32 := 2#32
  let c0_i32_258 : BitVec 32 := 0#32
  let v298 : BitVec 1 := Scalar.cmpi .sgt c2_i32_255 c0_i32_258
  let v299 : BitVec 32 := Scalar.extui v298
  let c0_i32_259 : BitVec 32 := 0#32
  let v300 : BitVec 1 := Scalar.cmpi .slt c2_i32_255 c0_i32_259
  let v301 : BitVec 32 := Scalar.extui v300
  let v302 : BitVec 32 := Scalar.subi v299 v301
  let v303 : BitVec 1 := Scalar.cmpi .ne v297 v302
  let v304 : BitVec 32 := Scalar.remsi v244 c2_i32_255
  let c0_i32_260 : BitVec 32 := 0#32
  let v305 : BitVec 1 := Scalar.cmpi .ne v304 c0_i32_260
  let v306 : BitVec 1 := Scalar.andi v303 v305
  let v292 : BitVec 32 := Scalar.divsi v244 c2_i32_255
  let c1_i32_261 : BitVec 32 := 1#32
  let v307 : BitVec 32 := Scalar.subi v292 c1_i32_261
  let v308 : BitVec 32 := Scalar.select v306 v307 v292
  let c2_i32_262 : BitVec 32 := 2#32
  let v309 : BitVec 32 := Scalar.muli v308 c2_i32_262
  let c0_i32_579 : BitVec 32 := 0#32
  let v788 : BitVec 32 := Scalar.addi v309 c0_i32_579
  let v789 : BitVec 32 := Scalar.subi arg1 v788
  let c2_i32_580 : BitVec 32 := 2#32
  let v790 : BitVec 32 := Scalar.minsi v789 c2_i32_580
  let v815 : Index := Scalar.indexCast v790
  let c0_601 : Index := 0#32
  let c0_602 : Index := 0#32
  ![1, v815.toNat, 0, 0]
def k0_off70 (i : grid0.Coords) : Fin 5 → Nat :=
  let c0_608 : Index := 0#32
  let c1_609 : Index := 1#32
  let arg1 : BitVec 32 := BitVec.ofNat 32 (i 1).val
  let c1_i32_236 : BitVec 32 := 1#32
  let v244 : BitVec 32 := Scalar.addi arg1 c1_i32_236
  let c0_i32_256 : BitVec 32 := 0#32
  let v293 : BitVec 1 := Scalar.cmpi .sgt v244 c0_i32_256
  let v294 : BitVec 32 := Scalar.extui v293
  let c0_i32_257 : BitVec 32 := 0#32
  let v295 : BitVec 1 := Scalar.cmpi .slt v244 c0_i32_257
  let v296 : BitVec 32 := Scalar.extui v295
  let v297 : BitVec 32 := Scalar.subi v294 v296
  let c2_i32_255 : BitVec 32 := 2#32
  let c0_i32_258 : BitVec 32 := 0#32
  let v298 : BitVec 1 := Scalar.cmpi .sgt c2_i32_255 c0_i32_258
  let v299 : BitVec 32 := Scalar.extui v298
  let c0_i32_259 : BitVec 32 := 0#32
  let v300 : BitVec 1 := Scalar.cmpi .slt c2_i32_255 c0_i32_259
  let v301 : BitVec 32 := Scalar.extui v300
  let v302 : BitVec 32 := Scalar.subi v299 v301
  let v303 : BitVec 1 := Scalar.cmpi .ne v297 v302
  let v304 : BitVec 32 := Scalar.remsi v244 c2_i32_255
  let c0_i32_260 : BitVec 32 := 0#32
  let v305 : BitVec 1 := Scalar.cmpi .ne v304 c0_i32_260
  let v306 : BitVec 1 := Scalar.andi v303 v305
  let v292 : BitVec 32 := Scalar.divsi v244 c2_i32_255
  let c1_i32_261 : BitVec 32 := 1#32
  let v307 : BitVec 32 := Scalar.subi v292 c1_i32_261
  let v308 : BitVec 32 := Scalar.select v306 v307 v292
  let c2_i32_262 : BitVec 32 := 2#32
  let v309 : BitVec 32 := Scalar.muli v308 c2_i32_262
  let c0_i32_579 : BitVec 32 := 0#32
  let v788 : BitVec 32 := Scalar.addi v309 c0_i32_579
  let v826 : Index := Scalar.indexCast v788
  let c0_610 : Index := 0#32
  let c0_611 : Index := 0#32
  ![0, 1, v826.toNat, 0, 0]
def k0_off71 (i : grid0.Coords) : Fin 4 → Nat :=
  let c0_613 : Index := 0#32
  let arg1 : BitVec 32 := BitVec.ofNat 32 (i 1).val
  let c1_i32_236 : BitVec 32 := 1#32
  let v244 : BitVec 32 := Scalar.addi arg1 c1_i32_236
  let c0_i32_256 : BitVec 32 := 0#32
  let v293 : BitVec 1 := Scalar.cmpi .sgt v244 c0_i32_256
  let v294 : BitVec 32 := Scalar.extui v293
  let c0_i32_257 : BitVec 32 := 0#32
  let v295 : BitVec 1 := Scalar.cmpi .slt v244 c0_i32_257
  let v296 : BitVec 32 := Scalar.extui v295
  let v297 : BitVec 32 := Scalar.subi v294 v296
  let c2_i32_255 : BitVec 32 := 2#32
  let c0_i32_258 : BitVec 32 := 0#32
  let v298 : BitVec 1 := Scalar.cmpi .sgt c2_i32_255 c0_i32_258
  let v299 : BitVec 32 := Scalar.extui v298
  let c0_i32_259 : BitVec 32 := 0#32
  let v300 : BitVec 1 := Scalar.cmpi .slt c2_i32_255 c0_i32_259
  let v301 : BitVec 32 := Scalar.extui v300
  let v302 : BitVec 32 := Scalar.subi v299 v301
  let v303 : BitVec 1 := Scalar.cmpi .ne v297 v302
  let v304 : BitVec 32 := Scalar.remsi v244 c2_i32_255
  let c0_i32_260 : BitVec 32 := 0#32
  let v305 : BitVec 1 := Scalar.cmpi .ne v304 c0_i32_260
  let v306 : BitVec 1 := Scalar.andi v303 v305
  let v292 : BitVec 32 := Scalar.divsi v244 c2_i32_255
  let c1_i32_261 : BitVec 32 := 1#32
  let v307 : BitVec 32 := Scalar.subi v292 c1_i32_261
  let v308 : BitVec 32 := Scalar.select v306 v307 v292
  let c2_i32_262 : BitVec 32 := 2#32
  let v309 : BitVec 32 := Scalar.muli v308 c2_i32_262
  let c0_i32_579 : BitVec 32 := 0#32
  let v788 : BitVec 32 := Scalar.addi v309 c0_i32_579
  let v833 : Index := Scalar.indexCast v788
  let c0_614 : Index := 0#32
  let c256_615 : Index := 256#32
  ![0, v833.toNat, 0, 256]
def k0_off72 (i : grid0.Coords) : Fin 4 → Nat :=
  let c2_616 : Index := 2#32
  let arg1 : BitVec 32 := BitVec.ofNat 32 (i 1).val
  let c1_i32_236 : BitVec 32 := 1#32
  let v244 : BitVec 32 := Scalar.addi arg1 c1_i32_236
  let c0_i32_256 : BitVec 32 := 0#32
  let v293 : BitVec 1 := Scalar.cmpi .sgt v244 c0_i32_256
  let v294 : BitVec 32 := Scalar.extui v293
  let c0_i32_257 : BitVec 32 := 0#32
  let v295 : BitVec 1 := Scalar.cmpi .slt v244 c0_i32_257
  let v296 : BitVec 32 := Scalar.extui v295
  let v297 : BitVec 32 := Scalar.subi v294 v296
  let c2_i32_255 : BitVec 32 := 2#32
  let c0_i32_258 : BitVec 32 := 0#32
  let v298 : BitVec 1 := Scalar.cmpi .sgt c2_i32_255 c0_i32_258
  let v299 : BitVec 32 := Scalar.extui v298
  let c0_i32_259 : BitVec 32 := 0#32
  let v300 : BitVec 1 := Scalar.cmpi .slt c2_i32_255 c0_i32_259
  let v301 : BitVec 32 := Scalar.extui v300
  let v302 : BitVec 32 := Scalar.subi v299 v301
  let v303 : BitVec 1 := Scalar.cmpi .ne v297 v302
  let v304 : BitVec 32 := Scalar.remsi v244 c2_i32_255
  let c0_i32_260 : BitVec 32 := 0#32
  let v305 : BitVec 1 := Scalar.cmpi .ne v304 c0_i32_260
  let v306 : BitVec 1 := Scalar.andi v303 v305
  let v292 : BitVec 32 := Scalar.divsi v244 c2_i32_255
  let c1_i32_261 : BitVec 32 := 1#32
  let v307 : BitVec 32 := Scalar.subi v292 c1_i32_261
  let v308 : BitVec 32 := Scalar.select v306 v307 v292
  let c2_i32_262 : BitVec 32 := 2#32
  let v309 : BitVec 32 := Scalar.muli v308 c2_i32_262
  let c0_i32_579 : BitVec 32 := 0#32
  let v788 : BitVec 32 := Scalar.addi v309 c0_i32_579
  let v789 : BitVec 32 := Scalar.subi arg1 v788
  let c2_i32_580 : BitVec 32 := 2#32
  let v790 : BitVec 32 := Scalar.minsi v789 c2_i32_580
  let v836 : Index := Scalar.indexCast v790
  let c0_617 : Index := 0#32
  let c0_618 : Index := 0#32
  ![2, v836.toNat, 0, 0]
def k0_off73 (i : grid0.Coords) : Fin 5 → Nat :=
  let c0_624 : Index := 0#32
  let c2_625 : Index := 2#32
  let arg1 : BitVec 32 := BitVec.ofNat 32 (i 1).val
  let c1_i32_236 : BitVec 32 := 1#32
  let v244 : BitVec 32 := Scalar.addi arg1 c1_i32_236
  let c0_i32_256 : BitVec 32 := 0#32
  let v293 : BitVec 1 := Scalar.cmpi .sgt v244 c0_i32_256
  let v294 : BitVec 32 := Scalar.extui v293
  let c0_i32_257 : BitVec 32 := 0#32
  let v295 : BitVec 1 := Scalar.cmpi .slt v244 c0_i32_257
  let v296 : BitVec 32 := Scalar.extui v295
  let v297 : BitVec 32 := Scalar.subi v294 v296
  let c2_i32_255 : BitVec 32 := 2#32
  let c0_i32_258 : BitVec 32 := 0#32
  let v298 : BitVec 1 := Scalar.cmpi .sgt c2_i32_255 c0_i32_258
  let v299 : BitVec 32 := Scalar.extui v298
  let c0_i32_259 : BitVec 32 := 0#32
  let v300 : BitVec 1 := Scalar.cmpi .slt c2_i32_255 c0_i32_259
  let v301 : BitVec 32 := Scalar.extui v300
  let v302 : BitVec 32 := Scalar.subi v299 v301
  let v303 : BitVec 1 := Scalar.cmpi .ne v297 v302
  let v304 : BitVec 32 := Scalar.remsi v244 c2_i32_255
  let c0_i32_260 : BitVec 32 := 0#32
  let v305 : BitVec 1 := Scalar.cmpi .ne v304 c0_i32_260
  let v306 : BitVec 1 := Scalar.andi v303 v305
  let v292 : BitVec 32 := Scalar.divsi v244 c2_i32_255
  let c1_i32_261 : BitVec 32 := 1#32
  let v307 : BitVec 32 := Scalar.subi v292 c1_i32_261
  let v308 : BitVec 32 := Scalar.select v306 v307 v292
  let c2_i32_262 : BitVec 32 := 2#32
  let v309 : BitVec 32 := Scalar.muli v308 c2_i32_262
  let c0_i32_579 : BitVec 32 := 0#32
  let v788 : BitVec 32 := Scalar.addi v309 c0_i32_579
  let v847 : Index := Scalar.indexCast v788
  let c0_626 : Index := 0#32
  let c0_627 : Index := 0#32
  ![0, 2, v847.toNat, 0, 0]
def k0_off74 (i : grid0.Coords) : Fin 4 → Nat :=
  let c0_629 : Index := 0#32
  let arg1 : BitVec 32 := BitVec.ofNat 32 (i 1).val
  let c1_i32_236 : BitVec 32 := 1#32
  let v244 : BitVec 32 := Scalar.addi arg1 c1_i32_236
  let c0_i32_256 : BitVec 32 := 0#32
  let v293 : BitVec 1 := Scalar.cmpi .sgt v244 c0_i32_256
  let v294 : BitVec 32 := Scalar.extui v293
  let c0_i32_257 : BitVec 32 := 0#32
  let v295 : BitVec 1 := Scalar.cmpi .slt v244 c0_i32_257
  let v296 : BitVec 32 := Scalar.extui v295
  let v297 : BitVec 32 := Scalar.subi v294 v296
  let c2_i32_255 : BitVec 32 := 2#32
  let c0_i32_258 : BitVec 32 := 0#32
  let v298 : BitVec 1 := Scalar.cmpi .sgt c2_i32_255 c0_i32_258
  let v299 : BitVec 32 := Scalar.extui v298
  let c0_i32_259 : BitVec 32 := 0#32
  let v300 : BitVec 1 := Scalar.cmpi .slt c2_i32_255 c0_i32_259
  let v301 : BitVec 32 := Scalar.extui v300
  let v302 : BitVec 32 := Scalar.subi v299 v301
  let v303 : BitVec 1 := Scalar.cmpi .ne v297 v302
  let v304 : BitVec 32 := Scalar.remsi v244 c2_i32_255
  let c0_i32_260 : BitVec 32 := 0#32
  let v305 : BitVec 1 := Scalar.cmpi .ne v304 c0_i32_260
  let v306 : BitVec 1 := Scalar.andi v303 v305
  let v292 : BitVec 32 := Scalar.divsi v244 c2_i32_255
  let c1_i32_261 : BitVec 32 := 1#32
  let v307 : BitVec 32 := Scalar.subi v292 c1_i32_261
  let v308 : BitVec 32 := Scalar.select v306 v307 v292
  let c2_i32_262 : BitVec 32 := 2#32
  let v309 : BitVec 32 := Scalar.muli v308 c2_i32_262
  let c0_i32_579 : BitVec 32 := 0#32
  let v788 : BitVec 32 := Scalar.addi v309 c0_i32_579
  let v854 : Index := Scalar.indexCast v788
  let c0_630 : Index := 0#32
  let c384_631 : Index := 384#32
  ![0, v854.toNat, 0, 384]
def k0_off75 (i : grid0.Coords) : Fin 4 → Nat :=
  let c3_632 : Index := 3#32
  let arg1 : BitVec 32 := BitVec.ofNat 32 (i 1).val
  let c1_i32_236 : BitVec 32 := 1#32
  let v244 : BitVec 32 := Scalar.addi arg1 c1_i32_236
  let c0_i32_256 : BitVec 32 := 0#32
  let v293 : BitVec 1 := Scalar.cmpi .sgt v244 c0_i32_256
  let v294 : BitVec 32 := Scalar.extui v293
  let c0_i32_257 : BitVec 32 := 0#32
  let v295 : BitVec 1 := Scalar.cmpi .slt v244 c0_i32_257
  let v296 : BitVec 32 := Scalar.extui v295
  let v297 : BitVec 32 := Scalar.subi v294 v296
  let c2_i32_255 : BitVec 32 := 2#32
  let c0_i32_258 : BitVec 32 := 0#32
  let v298 : BitVec 1 := Scalar.cmpi .sgt c2_i32_255 c0_i32_258
  let v299 : BitVec 32 := Scalar.extui v298
  let c0_i32_259 : BitVec 32 := 0#32
  let v300 : BitVec 1 := Scalar.cmpi .slt c2_i32_255 c0_i32_259
  let v301 : BitVec 32 := Scalar.extui v300
  let v302 : BitVec 32 := Scalar.subi v299 v301
  let v303 : BitVec 1 := Scalar.cmpi .ne v297 v302
  let v304 : BitVec 32 := Scalar.remsi v244 c2_i32_255
  let c0_i32_260 : BitVec 32 := 0#32
  let v305 : BitVec 1 := Scalar.cmpi .ne v304 c0_i32_260
  let v306 : BitVec 1 := Scalar.andi v303 v305
  let v292 : BitVec 32 := Scalar.divsi v244 c2_i32_255
  let c1_i32_261 : BitVec 32 := 1#32
  let v307 : BitVec 32 := Scalar.subi v292 c1_i32_261
  let v308 : BitVec 32 := Scalar.select v306 v307 v292
  let c2_i32_262 : BitVec 32 := 2#32
  let v309 : BitVec 32 := Scalar.muli v308 c2_i32_262
  let c0_i32_579 : BitVec 32 := 0#32
  let v788 : BitVec 32 := Scalar.addi v309 c0_i32_579
  let v789 : BitVec 32 := Scalar.subi arg1 v788
  let c2_i32_580 : BitVec 32 := 2#32
  let v790 : BitVec 32 := Scalar.minsi v789 c2_i32_580
  let v857 : Index := Scalar.indexCast v790
  let c0_633 : Index := 0#32
  let c0_634 : Index := 0#32
  ![3, v857.toNat, 0, 0]
def k0_off76 (i : grid0.Coords) : Fin 5 → Nat :=
  let c0_640 : Index := 0#32
  let c3_641 : Index := 3#32
  let arg1 : BitVec 32 := BitVec.ofNat 32 (i 1).val
  let c1_i32_236 : BitVec 32 := 1#32
  let v244 : BitVec 32 := Scalar.addi arg1 c1_i32_236
  let c0_i32_256 : BitVec 32 := 0#32
  let v293 : BitVec 1 := Scalar.cmpi .sgt v244 c0_i32_256
  let v294 : BitVec 32 := Scalar.extui v293
  let c0_i32_257 : BitVec 32 := 0#32
  let v295 : BitVec 1 := Scalar.cmpi .slt v244 c0_i32_257
  let v296 : BitVec 32 := Scalar.extui v295
  let v297 : BitVec 32 := Scalar.subi v294 v296
  let c2_i32_255 : BitVec 32 := 2#32
  let c0_i32_258 : BitVec 32 := 0#32
  let v298 : BitVec 1 := Scalar.cmpi .sgt c2_i32_255 c0_i32_258
  let v299 : BitVec 32 := Scalar.extui v298
  let c0_i32_259 : BitVec 32 := 0#32
  let v300 : BitVec 1 := Scalar.cmpi .slt c2_i32_255 c0_i32_259
  let v301 : BitVec 32 := Scalar.extui v300
  let v302 : BitVec 32 := Scalar.subi v299 v301
  let v303 : BitVec 1 := Scalar.cmpi .ne v297 v302
  let v304 : BitVec 32 := Scalar.remsi v244 c2_i32_255
  let c0_i32_260 : BitVec 32 := 0#32
  let v305 : BitVec 1 := Scalar.cmpi .ne v304 c0_i32_260
  let v306 : BitVec 1 := Scalar.andi v303 v305
  let v292 : BitVec 32 := Scalar.divsi v244 c2_i32_255
  let c1_i32_261 : BitVec 32 := 1#32
  let v307 : BitVec 32 := Scalar.subi v292 c1_i32_261
  let v308 : BitVec 32 := Scalar.select v306 v307 v292
  let c2_i32_262 : BitVec 32 := 2#32
  let v309 : BitVec 32 := Scalar.muli v308 c2_i32_262
  let c0_i32_579 : BitVec 32 := 0#32
  let v788 : BitVec 32 := Scalar.addi v309 c0_i32_579
  let v868 : Index := Scalar.indexCast v788
  let c0_642 : Index := 0#32
  let c0_643 : Index := 0#32
  ![0, 3, v868.toNat, 0, 0]
def k0_off77 (i : grid0.Coords) : Fin 4 → Nat :=
  let c1_645 : Index := 1#32
  let arg1 : BitVec 32 := BitVec.ofNat 32 (i 1).val
  let c1_i32_236 : BitVec 32 := 1#32
  let v244 : BitVec 32 := Scalar.addi arg1 c1_i32_236
  let c0_i32_256 : BitVec 32 := 0#32
  let v293 : BitVec 1 := Scalar.cmpi .sgt v244 c0_i32_256
  let v294 : BitVec 32 := Scalar.extui v293
  let c0_i32_257 : BitVec 32 := 0#32
  let v295 : BitVec 1 := Scalar.cmpi .slt v244 c0_i32_257
  let v296 : BitVec 32 := Scalar.extui v295
  let v297 : BitVec 32 := Scalar.subi v294 v296
  let c2_i32_255 : BitVec 32 := 2#32
  let c0_i32_258 : BitVec 32 := 0#32
  let v298 : BitVec 1 := Scalar.cmpi .sgt c2_i32_255 c0_i32_258
  let v299 : BitVec 32 := Scalar.extui v298
  let c0_i32_259 : BitVec 32 := 0#32
  let v300 : BitVec 1 := Scalar.cmpi .slt c2_i32_255 c0_i32_259
  let v301 : BitVec 32 := Scalar.extui v300
  let v302 : BitVec 32 := Scalar.subi v299 v301
  let v303 : BitVec 1 := Scalar.cmpi .ne v297 v302
  let v304 : BitVec 32 := Scalar.remsi v244 c2_i32_255
  let c0_i32_260 : BitVec 32 := 0#32
  let v305 : BitVec 1 := Scalar.cmpi .ne v304 c0_i32_260
  let v306 : BitVec 1 := Scalar.andi v303 v305
  let v292 : BitVec 32 := Scalar.divsi v244 c2_i32_255
  let c1_i32_261 : BitVec 32 := 1#32
  let v307 : BitVec 32 := Scalar.subi v292 c1_i32_261
  let v308 : BitVec 32 := Scalar.select v306 v307 v292
  let c2_i32_262 : BitVec 32 := 2#32
  let v309 : BitVec 32 := Scalar.muli v308 c2_i32_262
  let c0_i32_579 : BitVec 32 := 0#32
  let v788 : BitVec 32 := Scalar.addi v309 c0_i32_579
  let v875 : Index := Scalar.indexCast v788
  let c0_646 : Index := 0#32
  let c0_647 : Index := 0#32
  ![1, v875.toNat, 0, 0]
def k0_off78 (i : grid0.Coords) : Fin 5 → Nat :=
  let c1_656 : Index := 1#32
  let c0_657 : Index := 0#32
  let arg1 : BitVec 32 := BitVec.ofNat 32 (i 1).val
  let c1_i32_236 : BitVec 32 := 1#32
  let v244 : BitVec 32 := Scalar.addi arg1 c1_i32_236
  let c0_i32_256 : BitVec 32 := 0#32
  let v293 : BitVec 1 := Scalar.cmpi .sgt v244 c0_i32_256
  let v294 : BitVec 32 := Scalar.extui v293
  let c0_i32_257 : BitVec 32 := 0#32
  let v295 : BitVec 1 := Scalar.cmpi .slt v244 c0_i32_257
  let v296 : BitVec 32 := Scalar.extui v295
  let v297 : BitVec 32 := Scalar.subi v294 v296
  let c2_i32_255 : BitVec 32 := 2#32
  let c0_i32_258 : BitVec 32 := 0#32
  let v298 : BitVec 1 := Scalar.cmpi .sgt c2_i32_255 c0_i32_258
  let v299 : BitVec 32 := Scalar.extui v298
  let c0_i32_259 : BitVec 32 := 0#32
  let v300 : BitVec 1 := Scalar.cmpi .slt c2_i32_255 c0_i32_259
  let v301 : BitVec 32 := Scalar.extui v300
  let v302 : BitVec 32 := Scalar.subi v299 v301
  let v303 : BitVec 1 := Scalar.cmpi .ne v297 v302
  let v304 : BitVec 32 := Scalar.remsi v244 c2_i32_255
  let c0_i32_260 : BitVec 32 := 0#32
  let v305 : BitVec 1 := Scalar.cmpi .ne v304 c0_i32_260
  let v306 : BitVec 1 := Scalar.andi v303 v305
  let v292 : BitVec 32 := Scalar.divsi v244 c2_i32_255
  let c1_i32_261 : BitVec 32 := 1#32
  let v307 : BitVec 32 := Scalar.subi v292 c1_i32_261
  let v308 : BitVec 32 := Scalar.select v306 v307 v292
  let c2_i32_262 : BitVec 32 := 2#32
  let v309 : BitVec 32 := Scalar.muli v308 c2_i32_262
  let c0_i32_579 : BitVec 32 := 0#32
  let v788 : BitVec 32 := Scalar.addi v309 c0_i32_579
  let v889 : Index := Scalar.indexCast v788
  let c0_658 : Index := 0#32
  let c0_659 : Index := 0#32
  ![1, 0, v889.toNat, 0, 0]
def k0_off79 (i : grid0.Coords) : Fin 4 → Nat :=
  let c1_661 : Index := 1#32
  let arg1 : BitVec 32 := BitVec.ofNat 32 (i 1).val
  let c1_i32_236 : BitVec 32 := 1#32
  let v244 : BitVec 32 := Scalar.addi arg1 c1_i32_236
  let c0_i32_256 : BitVec 32 := 0#32
  let v293 : BitVec 1 := Scalar.cmpi .sgt v244 c0_i32_256
  let v294 : BitVec 32 := Scalar.extui v293
  let c0_i32_257 : BitVec 32 := 0#32
  let v295 : BitVec 1 := Scalar.cmpi .slt v244 c0_i32_257
  let v296 : BitVec 32 := Scalar.extui v295
  let v297 : BitVec 32 := Scalar.subi v294 v296
  let c2_i32_255 : BitVec 32 := 2#32
  let c0_i32_258 : BitVec 32 := 0#32
  let v298 : BitVec 1 := Scalar.cmpi .sgt c2_i32_255 c0_i32_258
  let v299 : BitVec 32 := Scalar.extui v298
  let c0_i32_259 : BitVec 32 := 0#32
  let v300 : BitVec 1 := Scalar.cmpi .slt c2_i32_255 c0_i32_259
  let v301 : BitVec 32 := Scalar.extui v300
  let v302 : BitVec 32 := Scalar.subi v299 v301
  let v303 : BitVec 1 := Scalar.cmpi .ne v297 v302
  let v304 : BitVec 32 := Scalar.remsi v244 c2_i32_255
  let c0_i32_260 : BitVec 32 := 0#32
  let v305 : BitVec 1 := Scalar.cmpi .ne v304 c0_i32_260
  let v306 : BitVec 1 := Scalar.andi v303 v305
  let v292 : BitVec 32 := Scalar.divsi v244 c2_i32_255
  let c1_i32_261 : BitVec 32 := 1#32
  let v307 : BitVec 32 := Scalar.subi v292 c1_i32_261
  let v308 : BitVec 32 := Scalar.select v306 v307 v292
  let c2_i32_262 : BitVec 32 := 2#32
  let v309 : BitVec 32 := Scalar.muli v308 c2_i32_262
  let c0_i32_579 : BitVec 32 := 0#32
  let v788 : BitVec 32 := Scalar.addi v309 c0_i32_579
  let v896 : Index := Scalar.indexCast v788
  let c0_662 : Index := 0#32
  let c128_663 : Index := 128#32
  ![1, v896.toNat, 0, 128]
def k0_off80 (i : grid0.Coords) : Fin 5 → Nat :=
  let c1_672 : Index := 1#32
  let c1_673 : Index := 1#32
  let arg1 : BitVec 32 := BitVec.ofNat 32 (i 1).val
  let c1_i32_236 : BitVec 32 := 1#32
  let v244 : BitVec 32 := Scalar.addi arg1 c1_i32_236
  let c0_i32_256 : BitVec 32 := 0#32
  let v293 : BitVec 1 := Scalar.cmpi .sgt v244 c0_i32_256
  let v294 : BitVec 32 := Scalar.extui v293
  let c0_i32_257 : BitVec 32 := 0#32
  let v295 : BitVec 1 := Scalar.cmpi .slt v244 c0_i32_257
  let v296 : BitVec 32 := Scalar.extui v295
  let v297 : BitVec 32 := Scalar.subi v294 v296
  let c2_i32_255 : BitVec 32 := 2#32
  let c0_i32_258 : BitVec 32 := 0#32
  let v298 : BitVec 1 := Scalar.cmpi .sgt c2_i32_255 c0_i32_258
  let v299 : BitVec 32 := Scalar.extui v298
  let c0_i32_259 : BitVec 32 := 0#32
  let v300 : BitVec 1 := Scalar.cmpi .slt c2_i32_255 c0_i32_259
  let v301 : BitVec 32 := Scalar.extui v300
  let v302 : BitVec 32 := Scalar.subi v299 v301
  let v303 : BitVec 1 := Scalar.cmpi .ne v297 v302
  let v304 : BitVec 32 := Scalar.remsi v244 c2_i32_255
  let c0_i32_260 : BitVec 32 := 0#32
  let v305 : BitVec 1 := Scalar.cmpi .ne v304 c0_i32_260
  let v306 : BitVec 1 := Scalar.andi v303 v305
  let v292 : BitVec 32 := Scalar.divsi v244 c2_i32_255
  let c1_i32_261 : BitVec 32 := 1#32
  let v307 : BitVec 32 := Scalar.subi v292 c1_i32_261
  let v308 : BitVec 32 := Scalar.select v306 v307 v292
  let c2_i32_262 : BitVec 32 := 2#32
  let v309 : BitVec 32 := Scalar.muli v308 c2_i32_262
  let c0_i32_579 : BitVec 32 := 0#32
  let v788 : BitVec 32 := Scalar.addi v309 c0_i32_579
  let v910 : Index := Scalar.indexCast v788
  let c0_674 : Index := 0#32
  let c0_675 : Index := 0#32
  ![1, 1, v910.toNat, 0, 0]
def k0_off81 (i : grid0.Coords) : Fin 4 → Nat :=
  let c1_677 : Index := 1#32
  let arg1 : BitVec 32 := BitVec.ofNat 32 (i 1).val
  let c1_i32_236 : BitVec 32 := 1#32
  let v244 : BitVec 32 := Scalar.addi arg1 c1_i32_236
  let c0_i32_256 : BitVec 32 := 0#32
  let v293 : BitVec 1 := Scalar.cmpi .sgt v244 c0_i32_256
  let v294 : BitVec 32 := Scalar.extui v293
  let c0_i32_257 : BitVec 32 := 0#32
  let v295 : BitVec 1 := Scalar.cmpi .slt v244 c0_i32_257
  let v296 : BitVec 32 := Scalar.extui v295
  let v297 : BitVec 32 := Scalar.subi v294 v296
  let c2_i32_255 : BitVec 32 := 2#32
  let c0_i32_258 : BitVec 32 := 0#32
  let v298 : BitVec 1 := Scalar.cmpi .sgt c2_i32_255 c0_i32_258
  let v299 : BitVec 32 := Scalar.extui v298
  let c0_i32_259 : BitVec 32 := 0#32
  let v300 : BitVec 1 := Scalar.cmpi .slt c2_i32_255 c0_i32_259
  let v301 : BitVec 32 := Scalar.extui v300
  let v302 : BitVec 32 := Scalar.subi v299 v301
  let v303 : BitVec 1 := Scalar.cmpi .ne v297 v302
  let v304 : BitVec 32 := Scalar.remsi v244 c2_i32_255
  let c0_i32_260 : BitVec 32 := 0#32
  let v305 : BitVec 1 := Scalar.cmpi .ne v304 c0_i32_260
  let v306 : BitVec 1 := Scalar.andi v303 v305
  let v292 : BitVec 32 := Scalar.divsi v244 c2_i32_255
  let c1_i32_261 : BitVec 32 := 1#32
  let v307 : BitVec 32 := Scalar.subi v292 c1_i32_261
  let v308 : BitVec 32 := Scalar.select v306 v307 v292
  let c2_i32_262 : BitVec 32 := 2#32
  let v309 : BitVec 32 := Scalar.muli v308 c2_i32_262
  let c0_i32_579 : BitVec 32 := 0#32
  let v788 : BitVec 32 := Scalar.addi v309 c0_i32_579
  let v917 : Index := Scalar.indexCast v788
  let c0_678 : Index := 0#32
  let c256_679 : Index := 256#32
  ![1, v917.toNat, 0, 256]
def k0_off82 (i : grid0.Coords) : Fin 5 → Nat :=
  let c1_688 : Index := 1#32
  let c2_689 : Index := 2#32
  let arg1 : BitVec 32 := BitVec.ofNat 32 (i 1).val
  let c1_i32_236 : BitVec 32 := 1#32
  let v244 : BitVec 32 := Scalar.addi arg1 c1_i32_236
  let c0_i32_256 : BitVec 32 := 0#32
  let v293 : BitVec 1 := Scalar.cmpi .sgt v244 c0_i32_256
  let v294 : BitVec 32 := Scalar.extui v293
  let c0_i32_257 : BitVec 32 := 0#32
  let v295 : BitVec 1 := Scalar.cmpi .slt v244 c0_i32_257
  let v296 : BitVec 32 := Scalar.extui v295
  let v297 : BitVec 32 := Scalar.subi v294 v296
  let c2_i32_255 : BitVec 32 := 2#32
  let c0_i32_258 : BitVec 32 := 0#32
  let v298 : BitVec 1 := Scalar.cmpi .sgt c2_i32_255 c0_i32_258
  let v299 : BitVec 32 := Scalar.extui v298
  let c0_i32_259 : BitVec 32 := 0#32
  let v300 : BitVec 1 := Scalar.cmpi .slt c2_i32_255 c0_i32_259
  let v301 : BitVec 32 := Scalar.extui v300
  let v302 : BitVec 32 := Scalar.subi v299 v301
  let v303 : BitVec 1 := Scalar.cmpi .ne v297 v302
  let v304 : BitVec 32 := Scalar.remsi v244 c2_i32_255
  let c0_i32_260 : BitVec 32 := 0#32
  let v305 : BitVec 1 := Scalar.cmpi .ne v304 c0_i32_260
  let v306 : BitVec 1 := Scalar.andi v303 v305
  let v292 : BitVec 32 := Scalar.divsi v244 c2_i32_255
  let c1_i32_261 : BitVec 32 := 1#32
  let v307 : BitVec 32 := Scalar.subi v292 c1_i32_261
  let v308 : BitVec 32 := Scalar.select v306 v307 v292
  let c2_i32_262 : BitVec 32 := 2#32
  let v309 : BitVec 32 := Scalar.muli v308 c2_i32_262
  let c0_i32_579 : BitVec 32 := 0#32
  let v788 : BitVec 32 := Scalar.addi v309 c0_i32_579
  let v931 : Index := Scalar.indexCast v788
  let c0_690 : Index := 0#32
  let c0_691 : Index := 0#32
  ![1, 2, v931.toNat, 0, 0]
def k0_off83 (i : grid0.Coords) : Fin 4 → Nat :=
  let c1_693 : Index := 1#32
  let arg1 : BitVec 32 := BitVec.ofNat 32 (i 1).val
  let c1_i32_236 : BitVec 32 := 1#32
  let v244 : BitVec 32 := Scalar.addi arg1 c1_i32_236
  let c0_i32_256 : BitVec 32 := 0#32
  let v293 : BitVec 1 := Scalar.cmpi .sgt v244 c0_i32_256
  let v294 : BitVec 32 := Scalar.extui v293
  let c0_i32_257 : BitVec 32 := 0#32
  let v295 : BitVec 1 := Scalar.cmpi .slt v244 c0_i32_257
  let v296 : BitVec 32 := Scalar.extui v295
  let v297 : BitVec 32 := Scalar.subi v294 v296
  let c2_i32_255 : BitVec 32 := 2#32
  let c0_i32_258 : BitVec 32 := 0#32
  let v298 : BitVec 1 := Scalar.cmpi .sgt c2_i32_255 c0_i32_258
  let v299 : BitVec 32 := Scalar.extui v298
  let c0_i32_259 : BitVec 32 := 0#32
  let v300 : BitVec 1 := Scalar.cmpi .slt c2_i32_255 c0_i32_259
  let v301 : BitVec 32 := Scalar.extui v300
  let v302 : BitVec 32 := Scalar.subi v299 v301
  let v303 : BitVec 1 := Scalar.cmpi .ne v297 v302
  let v304 : BitVec 32 := Scalar.remsi v244 c2_i32_255
  let c0_i32_260 : BitVec 32 := 0#32
  let v305 : BitVec 1 := Scalar.cmpi .ne v304 c0_i32_260
  let v306 : BitVec 1 := Scalar.andi v303 v305
  let v292 : BitVec 32 := Scalar.divsi v244 c2_i32_255
  let c1_i32_261 : BitVec 32 := 1#32
  let v307 : BitVec 32 := Scalar.subi v292 c1_i32_261
  let v308 : BitVec 32 := Scalar.select v306 v307 v292
  let c2_i32_262 : BitVec 32 := 2#32
  let v309 : BitVec 32 := Scalar.muli v308 c2_i32_262
  let c0_i32_579 : BitVec 32 := 0#32
  let v788 : BitVec 32 := Scalar.addi v309 c0_i32_579
  let v938 : Index := Scalar.indexCast v788
  let c0_694 : Index := 0#32
  let c384_695 : Index := 384#32
  ![1, v938.toNat, 0, 384]
def k0_off84 (i : grid0.Coords) : Fin 5 → Nat :=
  let c1_704 : Index := 1#32
  let c3_705 : Index := 3#32
  let arg1 : BitVec 32 := BitVec.ofNat 32 (i 1).val
  let c1_i32_236 : BitVec 32 := 1#32
  let v244 : BitVec 32 := Scalar.addi arg1 c1_i32_236
  let c0_i32_256 : BitVec 32 := 0#32
  let v293 : BitVec 1 := Scalar.cmpi .sgt v244 c0_i32_256
  let v294 : BitVec 32 := Scalar.extui v293
  let c0_i32_257 : BitVec 32 := 0#32
  let v295 : BitVec 1 := Scalar.cmpi .slt v244 c0_i32_257
  let v296 : BitVec 32 := Scalar.extui v295
  let v297 : BitVec 32 := Scalar.subi v294 v296
  let c2_i32_255 : BitVec 32 := 2#32
  let c0_i32_258 : BitVec 32 := 0#32
  let v298 : BitVec 1 := Scalar.cmpi .sgt c2_i32_255 c0_i32_258
  let v299 : BitVec 32 := Scalar.extui v298
  let c0_i32_259 : BitVec 32 := 0#32
  let v300 : BitVec 1 := Scalar.cmpi .slt c2_i32_255 c0_i32_259
  let v301 : BitVec 32 := Scalar.extui v300
  let v302 : BitVec 32 := Scalar.subi v299 v301
  let v303 : BitVec 1 := Scalar.cmpi .ne v297 v302
  let v304 : BitVec 32 := Scalar.remsi v244 c2_i32_255
  let c0_i32_260 : BitVec 32 := 0#32
  let v305 : BitVec 1 := Scalar.cmpi .ne v304 c0_i32_260
  let v306 : BitVec 1 := Scalar.andi v303 v305
  let v292 : BitVec 32 := Scalar.divsi v244 c2_i32_255
  let c1_i32_261 : BitVec 32 := 1#32
  let v307 : BitVec 32 := Scalar.subi v292 c1_i32_261
  let v308 : BitVec 32 := Scalar.select v306 v307 v292
  let c2_i32_262 : BitVec 32 := 2#32
  let v309 : BitVec 32 := Scalar.muli v308 c2_i32_262
  let c0_i32_579 : BitVec 32 := 0#32
  let v788 : BitVec 32 := Scalar.addi v309 c0_i32_579
  let v952 : Index := Scalar.indexCast v788
  let c0_706 : Index := 0#32
  let c0_707 : Index := 0#32
  ![1, 3, v952.toNat, 0, 0]
@[reducible] def k0_t3_loop (i : grid0.Coords) : Scf.Loop 32 :=
  let c0_i32_366 : BitVec 32 := 0#32
  let arg1 : BitVec 32 := BitVec.ofNat 32 (i 1).val
  let c1_i32_358 : BitVec 32 := 1#32
  let v427 : BitVec 32 := Scalar.addi arg1 c1_i32_358
  let c0_i32_360 : BitVec 32 := 0#32
  let v429 : BitVec 1 := Scalar.cmpi .sgt v427 c0_i32_360
  let v430 : BitVec 32 := Scalar.extui v429
  let c0_i32_361 : BitVec 32 := 0#32
  let v431 : BitVec 1 := Scalar.cmpi .slt v427 c0_i32_361
  let v432 : BitVec 32 := Scalar.extui v431
  let v433 : BitVec 32 := Scalar.subi v430 v432
  let c4_i32_359 : BitVec 32 := 4#32
  let c0_i32_362 : BitVec 32 := 0#32
  let v434 : BitVec 1 := Scalar.cmpi .sgt c4_i32_359 c0_i32_362
  let v435 : BitVec 32 := Scalar.extui v434
  let c0_i32_363 : BitVec 32 := 0#32
  let v436 : BitVec 1 := Scalar.cmpi .slt c4_i32_359 c0_i32_363
  let v437 : BitVec 32 := Scalar.extui v436
  let v438 : BitVec 32 := Scalar.subi v435 v437
  let v439 : BitVec 1 := Scalar.cmpi .ne v433 v438
  let v440 : BitVec 32 := Scalar.remsi v427 c4_i32_359
  let c0_i32_364 : BitVec 32 := 0#32
  let v441 : BitVec 1 := Scalar.cmpi .ne v440 c0_i32_364
  let v442 : BitVec 1 := Scalar.andi v439 v441
  let v428 : BitVec 32 := Scalar.divsi v427 c4_i32_359
  let c1_i32_365 : BitVec 32 := 1#32
  let v443 : BitVec 32 := Scalar.subi v428 c1_i32_365
  let v444 : BitVec 32 := Scalar.select v442 v443 v428
  let v445 : BitVec 32 := Scalar.subi v444 c0_i32_366
  let c1_i32_368 : BitVec 32 := 1#32
  let v447 : BitVec 32 := Scalar.divsi v445 c1_i32_368
  let v448 : BitVec 32 := Scalar.muli v447 c1_i32_368
  let v449 : BitVec 32 := Scalar.addi c0_i32_366 v448
  let c1_i32_369 : BitVec 32 := 1#32
  ⟨c0_i32_366, v449, c1_i32_369⟩
def k0_off85 (i : grid0.Coords) (k0_t3 : Fin (k0_t3_loop i).trips) (c0_i32_580 : BitVec 32) : Fin 5 → Nat :=
  let c0_581 : Index := 0#32
  let c0_582 : Index := 0#32
  let c4_i32_579 : BitVec 32 := 4#32
  let c0_i32_366 : BitVec 32 := 0#32
  let c1_i32_369 : BitVec 32 := 1#32
  let arg20 : BitVec 32 := Scf.iv c0_i32_366 c1_i32_369 k0_t3
  let v788 : BitVec 32 := Scalar.muli c4_i32_579 arg20
  let v789 : BitVec 32 := Scalar.addi v788 c0_i32_580
  let v790 : Index := Scalar.indexCast v789
  let c0_583 : Index := 0#32
  let c0_584 : Index := 0#32
  ![0, 0, v790.toNat, 0, 0]
def k0_off86 (i : grid0.Coords) (k0_t3 : Fin (k0_t3_loop i).trips) (c0_i32_580 : BitVec 32) : Fin 4 → Nat :=
  let c0_589 : Index := 0#32
  let c4_i32_579 : BitVec 32 := 4#32
  let c0_i32_366 : BitVec 32 := 0#32
  let c1_i32_369 : BitVec 32 := 1#32
  let arg20 : BitVec 32 := Scf.iv c0_i32_366 c1_i32_369 k0_t3
  let v788 : BitVec 32 := Scalar.muli c4_i32_579 arg20
  let v789 : BitVec 32 := Scalar.addi v788 c0_i32_580
  let v799 : Index := Scalar.indexCast v789
  let c0_590 : Index := 0#32
  let c0_591 : Index := 0#32
  ![0, v799.toNat, 0, 0]
def k0_off87 (i : grid0.Coords) (k0_t3 : Fin (k0_t3_loop i).trips) (c0_i32_580 : BitVec 32) : Fin 5 → Nat :=
  let c0_597 : Index := 0#32
  let c1_598 : Index := 1#32
  let c4_i32_579 : BitVec 32 := 4#32
  let c0_i32_366 : BitVec 32 := 0#32
  let c1_i32_369 : BitVec 32 := 1#32
  let arg20 : BitVec 32 := Scf.iv c0_i32_366 c1_i32_369 k0_t3
  let v788 : BitVec 32 := Scalar.muli c4_i32_579 arg20
  let v789 : BitVec 32 := Scalar.addi v788 c0_i32_580
  let v807 : Index := Scalar.indexCast v789
  let c0_599 : Index := 0#32
  let c0_600 : Index := 0#32
  ![0, 1, v807.toNat, 0, 0]
def k0_off88 (i : grid0.Coords) (k0_t3 : Fin (k0_t3_loop i).trips) (c0_i32_580 : BitVec 32) : Fin 4 → Nat :=
  let c0_605 : Index := 0#32
  let c4_i32_579 : BitVec 32 := 4#32
  let c0_i32_366 : BitVec 32 := 0#32
  let c1_i32_369 : BitVec 32 := 1#32
  let arg20 : BitVec 32 := Scf.iv c0_i32_366 c1_i32_369 k0_t3
  let v788 : BitVec 32 := Scalar.muli c4_i32_579 arg20
  let v789 : BitVec 32 := Scalar.addi v788 c0_i32_580
  let v816 : Index := Scalar.indexCast v789
  let c144_606 : Index := 144#32
  let c0_607 : Index := 0#32
  ![0, v816.toNat, 144, 0]
def k0_off89 (i : grid0.Coords) (k0_t3 : Fin (k0_t3_loop i).trips) (c0_i32_580 : BitVec 32) : Fin 5 → Nat :=
  let c0_613 : Index := 0#32
  let c2_614 : Index := 2#32
  let c4_i32_579 : BitVec 32 := 4#32
  let c0_i32_366 : BitVec 32 := 0#32
  let c1_i32_369 : BitVec 32 := 1#32
  let arg20 : BitVec 32 := Scf.iv c0_i32_366 c1_i32_369 k0_t3
  let v788 : BitVec 32 := Scalar.muli c4_i32_579 arg20
  let v789 : BitVec 32 := Scalar.addi v788 c0_i32_580
  let v824 : Index := Scalar.indexCast v789
  let c0_615 : Index := 0#32
  let c0_616 : Index := 0#32
  ![0, 2, v824.toNat, 0, 0]
def k0_off90 (i : grid0.Coords) (k0_t3 : Fin (k0_t3_loop i).trips) (c0_i32_580 : BitVec 32) : Fin 4 → Nat :=
  let c0_621 : Index := 0#32
  let c4_i32_579 : BitVec 32 := 4#32
  let c0_i32_366 : BitVec 32 := 0#32
  let c1_i32_369 : BitVec 32 := 1#32
  let arg20 : BitVec 32 := Scf.iv c0_i32_366 c1_i32_369 k0_t3
  let v788 : BitVec 32 := Scalar.muli c4_i32_579 arg20
  let v789 : BitVec 32 := Scalar.addi v788 c0_i32_580
  let v833 : Index := Scalar.indexCast v789
  let c288_622 : Index := 288#32
  let c0_623 : Index := 0#32
  ![0, v833.toNat, 288, 0]
def k0_off91 (i : grid0.Coords) (k0_t3 : Fin (k0_t3_loop i).trips) (c0_i32_580 : BitVec 32) : Fin 5 → Nat :=
  let c0_629 : Index := 0#32
  let c3_630 : Index := 3#32
  let c4_i32_579 : BitVec 32 := 4#32
  let c0_i32_366 : BitVec 32 := 0#32
  let c1_i32_369 : BitVec 32 := 1#32
  let arg20 : BitVec 32 := Scf.iv c0_i32_366 c1_i32_369 k0_t3
  let v788 : BitVec 32 := Scalar.muli c4_i32_579 arg20
  let v789 : BitVec 32 := Scalar.addi v788 c0_i32_580
  let v841 : Index := Scalar.indexCast v789
  let c0_631 : Index := 0#32
  let c0_632 : Index := 0#32
  ![0, 3, v841.toNat, 0, 0]
def k0_off92 (i : grid0.Coords) (k0_t3 : Fin (k0_t3_loop i).trips) (c0_i32_580 : BitVec 32) : Fin 4 → Nat :=
  let c0_637 : Index := 0#32
  let c4_i32_579 : BitVec 32 := 4#32
  let c0_i32_366 : BitVec 32 := 0#32
  let c1_i32_369 : BitVec 32 := 1#32
  let arg20 : BitVec 32 := Scf.iv c0_i32_366 c1_i32_369 k0_t3
  let v788 : BitVec 32 := Scalar.muli c4_i32_579 arg20
  let v789 : BitVec 32 := Scalar.addi v788 c0_i32_580
  let v850 : Index := Scalar.indexCast v789
  let c432_638 : Index := 432#32
  let c0_639 : Index := 0#32
  ![0, v850.toNat, 432, 0]
def k0_off93 (i : grid0.Coords) (k0_t3 : Fin (k0_t3_loop i).trips) (c0_i32_580 : BitVec 32) : Fin 5 → Nat :=
  let c1_645 : Index := 1#32
  let c0_646 : Index := 0#32
  let c4_i32_579 : BitVec 32 := 4#32
  let c0_i32_366 : BitVec 32 := 0#32
  let c1_i32_369 : BitVec 32 := 1#32
  let arg20 : BitVec 32 := Scf.iv c0_i32_366 c1_i32_369 k0_t3
  let v788 : BitVec 32 := Scalar.muli c4_i32_579 arg20
  let v789 : BitVec 32 := Scalar.addi v788 c0_i32_580
  let v858 : Index := Scalar.indexCast v789
  let c0_647 : Index := 0#32
  let c0_648 : Index := 0#32
  ![1, 0, v858.toNat, 0, 0]
def k0_off94 (i : grid0.Coords) (k0_t3 : Fin (k0_t3_loop i).trips) (c0_i32_580 : BitVec 32) : Fin 4 → Nat :=
  let c1_653 : Index := 1#32
  let c4_i32_579 : BitVec 32 := 4#32
  let c0_i32_366 : BitVec 32 := 0#32
  let c1_i32_369 : BitVec 32 := 1#32
  let arg20 : BitVec 32 := Scf.iv c0_i32_366 c1_i32_369 k0_t3
  let v788 : BitVec 32 := Scalar.muli c4_i32_579 arg20
  let v789 : BitVec 32 := Scalar.addi v788 c0_i32_580
  let v867 : Index := Scalar.indexCast v789
  let c0_654 : Index := 0#32
  let c0_655 : Index := 0#32
  ![1, v867.toNat, 0, 0]
def k0_off95 (i : grid0.Coords) (k0_t3 : Fin (k0_t3_loop i).trips) (c0_i32_580 : BitVec 32) : Fin 5 → Nat :=
  let c1_661 : Index := 1#32
  let c1_662 : Index := 1#32
  let c4_i32_579 : BitVec 32 := 4#32
  let c0_i32_366 : BitVec 32 := 0#32
  let c1_i32_369 : BitVec 32 := 1#32
  let arg20 : BitVec 32 := Scf.iv c0_i32_366 c1_i32_369 k0_t3
  let v788 : BitVec 32 := Scalar.muli c4_i32_579 arg20
  let v789 : BitVec 32 := Scalar.addi v788 c0_i32_580
  let v875 : Index := Scalar.indexCast v789
  let c0_663 : Index := 0#32
  let c0_664 : Index := 0#32
  ![1, 1, v875.toNat, 0, 0]
def k0_off96 (i : grid0.Coords) (k0_t3 : Fin (k0_t3_loop i).trips) (c0_i32_580 : BitVec 32) : Fin 4 → Nat :=
  let c1_669 : Index := 1#32
  let c4_i32_579 : BitVec 32 := 4#32
  let c0_i32_366 : BitVec 32 := 0#32
  let c1_i32_369 : BitVec 32 := 1#32
  let arg20 : BitVec 32 := Scf.iv c0_i32_366 c1_i32_369 k0_t3
  let v788 : BitVec 32 := Scalar.muli c4_i32_579 arg20
  let v789 : BitVec 32 := Scalar.addi v788 c0_i32_580
  let v884 : Index := Scalar.indexCast v789
  let c144_670 : Index := 144#32
  let c0_671 : Index := 0#32
  ![1, v884.toNat, 144, 0]
def k0_off97 (i : grid0.Coords) (k0_t3 : Fin (k0_t3_loop i).trips) (c0_i32_580 : BitVec 32) : Fin 5 → Nat :=
  let c1_677 : Index := 1#32
  let c2_678 : Index := 2#32
  let c4_i32_579 : BitVec 32 := 4#32
  let c0_i32_366 : BitVec 32 := 0#32
  let c1_i32_369 : BitVec 32 := 1#32
  let arg20 : BitVec 32 := Scf.iv c0_i32_366 c1_i32_369 k0_t3
  let v788 : BitVec 32 := Scalar.muli c4_i32_579 arg20
  let v789 : BitVec 32 := Scalar.addi v788 c0_i32_580
  let v892 : Index := Scalar.indexCast v789
  let c0_679 : Index := 0#32
  let c0_680 : Index := 0#32
  ![1, 2, v892.toNat, 0, 0]
def k0_off98 (i : grid0.Coords) (k0_t3 : Fin (k0_t3_loop i).trips) (c0_i32_580 : BitVec 32) : Fin 4 → Nat :=
  let c1_685 : Index := 1#32
  let c4_i32_579 : BitVec 32 := 4#32
  let c0_i32_366 : BitVec 32 := 0#32
  let c1_i32_369 : BitVec 32 := 1#32
  let arg20 : BitVec 32 := Scf.iv c0_i32_366 c1_i32_369 k0_t3
  let v788 : BitVec 32 := Scalar.muli c4_i32_579 arg20
  let v789 : BitVec 32 := Scalar.addi v788 c0_i32_580
  let v901 : Index := Scalar.indexCast v789
  let c288_686 : Index := 288#32
  let c0_687 : Index := 0#32
  ![1, v901.toNat, 288, 0]
def k0_off99 (i : grid0.Coords) (k0_t3 : Fin (k0_t3_loop i).trips) (c0_i32_580 : BitVec 32) : Fin 5 → Nat :=
  let c1_693 : Index := 1#32
  let c3_694 : Index := 3#32
  let c4_i32_579 : BitVec 32 := 4#32
  let c0_i32_366 : BitVec 32 := 0#32
  let c1_i32_369 : BitVec 32 := 1#32
  let arg20 : BitVec 32 := Scf.iv c0_i32_366 c1_i32_369 k0_t3
  let v788 : BitVec 32 := Scalar.muli c4_i32_579 arg20
  let v789 : BitVec 32 := Scalar.addi v788 c0_i32_580
  let v909 : Index := Scalar.indexCast v789
  let c0_695 : Index := 0#32
  let c0_696 : Index := 0#32
  ![1, 3, v909.toNat, 0, 0]
def k0_off100 (i : grid0.Coords) (k0_t3 : Fin (k0_t3_loop i).trips) (c0_i32_580 : BitVec 32) : Fin 4 → Nat :=
  let c1_701 : Index := 1#32
  let c4_i32_579 : BitVec 32 := 4#32
  let c0_i32_366 : BitVec 32 := 0#32
  let c1_i32_369 : BitVec 32 := 1#32
  let arg20 : BitVec 32 := Scf.iv c0_i32_366 c1_i32_369 k0_t3
  let v788 : BitVec 32 := Scalar.muli c4_i32_579 arg20
  let v789 : BitVec 32 := Scalar.addi v788 c0_i32_580
  let v918 : Index := Scalar.indexCast v789
  let c432_702 : Index := 432#32
  let c0_703 : Index := 0#32
  ![1, v918.toNat, 432, 0]
@[reducible] def k0_t4_loop (i : grid0.Coords) : Scf.Loop 32 :=
  let c0_i32_366 : BitVec 32 := 0#32
  let arg1 : BitVec 32 := BitVec.ofNat 32 (i 1).val
  let c1_i32_358 : BitVec 32 := 1#32
  let v427 : BitVec 32 := Scalar.addi arg1 c1_i32_358
  let c0_i32_360 : BitVec 32 := 0#32
  let v429 : BitVec 1 := Scalar.cmpi .sgt v427 c0_i32_360
  let v430 : BitVec 32 := Scalar.extui v429
  let c0_i32_361 : BitVec 32 := 0#32
  let v431 : BitVec 1 := Scalar.cmpi .slt v427 c0_i32_361
  let v432 : BitVec 32 := Scalar.extui v431
  let v433 : BitVec 32 := Scalar.subi v430 v432
  let c4_i32_359 : BitVec 32 := 4#32
  let c0_i32_362 : BitVec 32 := 0#32
  let v434 : BitVec 1 := Scalar.cmpi .sgt c4_i32_359 c0_i32_362
  let v435 : BitVec 32 := Scalar.extui v434
  let c0_i32_363 : BitVec 32 := 0#32
  let v436 : BitVec 1 := Scalar.cmpi .slt c4_i32_359 c0_i32_363
  let v437 : BitVec 32 := Scalar.extui v436
  let v438 : BitVec 32 := Scalar.subi v435 v437
  let v439 : BitVec 1 := Scalar.cmpi .ne v433 v438
  let v440 : BitVec 32 := Scalar.remsi v427 c4_i32_359
  let c0_i32_364 : BitVec 32 := 0#32
  let v441 : BitVec 1 := Scalar.cmpi .ne v440 c0_i32_364
  let v442 : BitVec 1 := Scalar.andi v439 v441
  let v428 : BitVec 32 := Scalar.divsi v427 c4_i32_359
  let c1_i32_365 : BitVec 32 := 1#32
  let v443 : BitVec 32 := Scalar.subi v428 c1_i32_365
  let v444 : BitVec 32 := Scalar.select v442 v443 v428
  let v445 : BitVec 32 := Scalar.subi v444 c0_i32_366
  let c1_i32_368 : BitVec 32 := 1#32
  let v447 : BitVec 32 := Scalar.divsi v445 c1_i32_368
  let v448 : BitVec 32 := Scalar.muli v447 c1_i32_368
  let v449 : BitVec 32 := Scalar.addi c0_i32_366 v448
  let v446 : BitVec 32 := Scalar.addi c0_i32_366 v445
  let c1_i32_370 : BitVec 32 := 1#32
  ⟨v449, v446, c1_i32_370⟩
def k0_off101 (i : grid0.Coords) (k0_t4 : Fin (k0_t4_loop i).trips) (c0_i32_580 : BitVec 32) : Fin 5 → Nat :=
  let c0_581 : Index := 0#32
  let c0_582 : Index := 0#32
  let c4_i32_579 : BitVec 32 := 4#32
  let c0_i32_366 : BitVec 32 := 0#32
  let arg1 : BitVec 32 := BitVec.ofNat 32 (i 1).val
  let c1_i32_358 : BitVec 32 := 1#32
  let v427 : BitVec 32 := Scalar.addi arg1 c1_i32_358
  let c0_i32_360 : BitVec 32 := 0#32
  let v429 : BitVec 1 := Scalar.cmpi .sgt v427 c0_i32_360
  let v430 : BitVec 32 := Scalar.extui v429
  let c0_i32_361 : BitVec 32 := 0#32
  let v431 : BitVec 1 := Scalar.cmpi .slt v427 c0_i32_361
  let v432 : BitVec 32 := Scalar.extui v431
  let v433 : BitVec 32 := Scalar.subi v430 v432
  let c4_i32_359 : BitVec 32 := 4#32
  let c0_i32_362 : BitVec 32 := 0#32
  let v434 : BitVec 1 := Scalar.cmpi .sgt c4_i32_359 c0_i32_362
  let v435 : BitVec 32 := Scalar.extui v434
  let c0_i32_363 : BitVec 32 := 0#32
  let v436 : BitVec 1 := Scalar.cmpi .slt c4_i32_359 c0_i32_363
  let v437 : BitVec 32 := Scalar.extui v436
  let v438 : BitVec 32 := Scalar.subi v435 v437
  let v439 : BitVec 1 := Scalar.cmpi .ne v433 v438
  let v440 : BitVec 32 := Scalar.remsi v427 c4_i32_359
  let c0_i32_364 : BitVec 32 := 0#32
  let v441 : BitVec 1 := Scalar.cmpi .ne v440 c0_i32_364
  let v442 : BitVec 1 := Scalar.andi v439 v441
  let v428 : BitVec 32 := Scalar.divsi v427 c4_i32_359
  let c1_i32_365 : BitVec 32 := 1#32
  let v443 : BitVec 32 := Scalar.subi v428 c1_i32_365
  let v444 : BitVec 32 := Scalar.select v442 v443 v428
  let v445 : BitVec 32 := Scalar.subi v444 c0_i32_366
  let c1_i32_368 : BitVec 32 := 1#32
  let v447 : BitVec 32 := Scalar.divsi v445 c1_i32_368
  let v448 : BitVec 32 := Scalar.muli v447 c1_i32_368
  let v449 : BitVec 32 := Scalar.addi c0_i32_366 v448
  let c1_i32_370 : BitVec 32 := 1#32
  let arg20 : BitVec 32 := Scf.iv v449 c1_i32_370 k0_t4
  let v788 : BitVec 32 := Scalar.muli c4_i32_579 arg20
  let v789 : BitVec 32 := Scalar.addi v788 c0_i32_580
  let v790 : Index := Scalar.indexCast v789
  let c0_583 : Index := 0#32
  let c0_584 : Index := 0#32
  ![0, 0, v790.toNat, 0, 0]
def k0_off102 (i : grid0.Coords) (k0_t4 : Fin (k0_t4_loop i).trips) (c0_i32_580 : BitVec 32) : Fin 4 → Nat :=
  let c0_589 : Index := 0#32
  let c4_i32_579 : BitVec 32 := 4#32
  let c0_i32_366 : BitVec 32 := 0#32
  let arg1 : BitVec 32 := BitVec.ofNat 32 (i 1).val
  let c1_i32_358 : BitVec 32 := 1#32
  let v427 : BitVec 32 := Scalar.addi arg1 c1_i32_358
  let c0_i32_360 : BitVec 32 := 0#32
  let v429 : BitVec 1 := Scalar.cmpi .sgt v427 c0_i32_360
  let v430 : BitVec 32 := Scalar.extui v429
  let c0_i32_361 : BitVec 32 := 0#32
  let v431 : BitVec 1 := Scalar.cmpi .slt v427 c0_i32_361
  let v432 : BitVec 32 := Scalar.extui v431
  let v433 : BitVec 32 := Scalar.subi v430 v432
  let c4_i32_359 : BitVec 32 := 4#32
  let c0_i32_362 : BitVec 32 := 0#32
  let v434 : BitVec 1 := Scalar.cmpi .sgt c4_i32_359 c0_i32_362
  let v435 : BitVec 32 := Scalar.extui v434
  let c0_i32_363 : BitVec 32 := 0#32
  let v436 : BitVec 1 := Scalar.cmpi .slt c4_i32_359 c0_i32_363
  let v437 : BitVec 32 := Scalar.extui v436
  let v438 : BitVec 32 := Scalar.subi v435 v437
  let v439 : BitVec 1 := Scalar.cmpi .ne v433 v438
  let v440 : BitVec 32 := Scalar.remsi v427 c4_i32_359
  let c0_i32_364 : BitVec 32 := 0#32
  let v441 : BitVec 1 := Scalar.cmpi .ne v440 c0_i32_364
  let v442 : BitVec 1 := Scalar.andi v439 v441
  let v428 : BitVec 32 := Scalar.divsi v427 c4_i32_359
  let c1_i32_365 : BitVec 32 := 1#32
  let v443 : BitVec 32 := Scalar.subi v428 c1_i32_365
  let v444 : BitVec 32 := Scalar.select v442 v443 v428
  let v445 : BitVec 32 := Scalar.subi v444 c0_i32_366
  let c1_i32_368 : BitVec 32 := 1#32
  let v447 : BitVec 32 := Scalar.divsi v445 c1_i32_368
  let v448 : BitVec 32 := Scalar.muli v447 c1_i32_368
  let v449 : BitVec 32 := Scalar.addi c0_i32_366 v448
  let c1_i32_370 : BitVec 32 := 1#32
  let arg20 : BitVec 32 := Scf.iv v449 c1_i32_370 k0_t4
  let v788 : BitVec 32 := Scalar.muli c4_i32_579 arg20
  let v789 : BitVec 32 := Scalar.addi v788 c0_i32_580
  let v799 : Index := Scalar.indexCast v789
  let c0_590 : Index := 0#32
  let c0_591 : Index := 0#32
  ![0, v799.toNat, 0, 0]
def k0_off103 (i : grid0.Coords) (k0_t4 : Fin (k0_t4_loop i).trips) (c0_i32_580 : BitVec 32) : Fin 5 → Nat :=
  let c0_597 : Index := 0#32
  let c1_598 : Index := 1#32
  let c4_i32_579 : BitVec 32 := 4#32
  let c0_i32_366 : BitVec 32 := 0#32
  let arg1 : BitVec 32 := BitVec.ofNat 32 (i 1).val
  let c1_i32_358 : BitVec 32 := 1#32
  let v427 : BitVec 32 := Scalar.addi arg1 c1_i32_358
  let c0_i32_360 : BitVec 32 := 0#32
  let v429 : BitVec 1 := Scalar.cmpi .sgt v427 c0_i32_360
  let v430 : BitVec 32 := Scalar.extui v429
  let c0_i32_361 : BitVec 32 := 0#32
  let v431 : BitVec 1 := Scalar.cmpi .slt v427 c0_i32_361
  let v432 : BitVec 32 := Scalar.extui v431
  let v433 : BitVec 32 := Scalar.subi v430 v432
  let c4_i32_359 : BitVec 32 := 4#32
  let c0_i32_362 : BitVec 32 := 0#32
  let v434 : BitVec 1 := Scalar.cmpi .sgt c4_i32_359 c0_i32_362
  let v435 : BitVec 32 := Scalar.extui v434
  let c0_i32_363 : BitVec 32 := 0#32
  let v436 : BitVec 1 := Scalar.cmpi .slt c4_i32_359 c0_i32_363
  let v437 : BitVec 32 := Scalar.extui v436
  let v438 : BitVec 32 := Scalar.subi v435 v437
  let v439 : BitVec 1 := Scalar.cmpi .ne v433 v438
  let v440 : BitVec 32 := Scalar.remsi v427 c4_i32_359
  let c0_i32_364 : BitVec 32 := 0#32
  let v441 : BitVec 1 := Scalar.cmpi .ne v440 c0_i32_364
  let v442 : BitVec 1 := Scalar.andi v439 v441
  let v428 : BitVec 32 := Scalar.divsi v427 c4_i32_359
  let c1_i32_365 : BitVec 32 := 1#32
  let v443 : BitVec 32 := Scalar.subi v428 c1_i32_365
  let v444 : BitVec 32 := Scalar.select v442 v443 v428
  let v445 : BitVec 32 := Scalar.subi v444 c0_i32_366
  let c1_i32_368 : BitVec 32 := 1#32
  let v447 : BitVec 32 := Scalar.divsi v445 c1_i32_368
  let v448 : BitVec 32 := Scalar.muli v447 c1_i32_368
  let v449 : BitVec 32 := Scalar.addi c0_i32_366 v448
  let c1_i32_370 : BitVec 32 := 1#32
  let arg20 : BitVec 32 := Scf.iv v449 c1_i32_370 k0_t4
  let v788 : BitVec 32 := Scalar.muli c4_i32_579 arg20
  let v789 : BitVec 32 := Scalar.addi v788 c0_i32_580
  let v807 : Index := Scalar.indexCast v789
  let c0_599 : Index := 0#32
  let c0_600 : Index := 0#32
  ![0, 1, v807.toNat, 0, 0]
def k0_off104 (i : grid0.Coords) (k0_t4 : Fin (k0_t4_loop i).trips) (c0_i32_580 : BitVec 32) : Fin 4 → Nat :=
  let c0_605 : Index := 0#32
  let c4_i32_579 : BitVec 32 := 4#32
  let c0_i32_366 : BitVec 32 := 0#32
  let arg1 : BitVec 32 := BitVec.ofNat 32 (i 1).val
  let c1_i32_358 : BitVec 32 := 1#32
  let v427 : BitVec 32 := Scalar.addi arg1 c1_i32_358
  let c0_i32_360 : BitVec 32 := 0#32
  let v429 : BitVec 1 := Scalar.cmpi .sgt v427 c0_i32_360
  let v430 : BitVec 32 := Scalar.extui v429
  let c0_i32_361 : BitVec 32 := 0#32
  let v431 : BitVec 1 := Scalar.cmpi .slt v427 c0_i32_361
  let v432 : BitVec 32 := Scalar.extui v431
  let v433 : BitVec 32 := Scalar.subi v430 v432
  let c4_i32_359 : BitVec 32 := 4#32
  let c0_i32_362 : BitVec 32 := 0#32
  let v434 : BitVec 1 := Scalar.cmpi .sgt c4_i32_359 c0_i32_362
  let v435 : BitVec 32 := Scalar.extui v434
  let c0_i32_363 : BitVec 32 := 0#32
  let v436 : BitVec 1 := Scalar.cmpi .slt c4_i32_359 c0_i32_363
  let v437 : BitVec 32 := Scalar.extui v436
  let v438 : BitVec 32 := Scalar.subi v435 v437
  let v439 : BitVec 1 := Scalar.cmpi .ne v433 v438
  let v440 : BitVec 32 := Scalar.remsi v427 c4_i32_359
  let c0_i32_364 : BitVec 32 := 0#32
  let v441 : BitVec 1 := Scalar.cmpi .ne v440 c0_i32_364
  let v442 : BitVec 1 := Scalar.andi v439 v441
  let v428 : BitVec 32 := Scalar.divsi v427 c4_i32_359
  let c1_i32_365 : BitVec 32 := 1#32
  let v443 : BitVec 32 := Scalar.subi v428 c1_i32_365
  let v444 : BitVec 32 := Scalar.select v442 v443 v428
  let v445 : BitVec 32 := Scalar.subi v444 c0_i32_366
  let c1_i32_368 : BitVec 32 := 1#32
  let v447 : BitVec 32 := Scalar.divsi v445 c1_i32_368
  let v448 : BitVec 32 := Scalar.muli v447 c1_i32_368
  let v449 : BitVec 32 := Scalar.addi c0_i32_366 v448
  let c1_i32_370 : BitVec 32 := 1#32
  let arg20 : BitVec 32 := Scf.iv v449 c1_i32_370 k0_t4
  let v788 : BitVec 32 := Scalar.muli c4_i32_579 arg20
  let v789 : BitVec 32 := Scalar.addi v788 c0_i32_580
  let v816 : Index := Scalar.indexCast v789
  let c144_606 : Index := 144#32
  let c0_607 : Index := 0#32
  ![0, v816.toNat, 144, 0]
def k0_off105 (i : grid0.Coords) (k0_t4 : Fin (k0_t4_loop i).trips) (c0_i32_580 : BitVec 32) : Fin 5 → Nat :=
  let c0_613 : Index := 0#32
  let c2_614 : Index := 2#32
  let c4_i32_579 : BitVec 32 := 4#32
  let c0_i32_366 : BitVec 32 := 0#32
  let arg1 : BitVec 32 := BitVec.ofNat 32 (i 1).val
  let c1_i32_358 : BitVec 32 := 1#32
  let v427 : BitVec 32 := Scalar.addi arg1 c1_i32_358
  let c0_i32_360 : BitVec 32 := 0#32
  let v429 : BitVec 1 := Scalar.cmpi .sgt v427 c0_i32_360
  let v430 : BitVec 32 := Scalar.extui v429
  let c0_i32_361 : BitVec 32 := 0#32
  let v431 : BitVec 1 := Scalar.cmpi .slt v427 c0_i32_361
  let v432 : BitVec 32 := Scalar.extui v431
  let v433 : BitVec 32 := Scalar.subi v430 v432
  let c4_i32_359 : BitVec 32 := 4#32
  let c0_i32_362 : BitVec 32 := 0#32
  let v434 : BitVec 1 := Scalar.cmpi .sgt c4_i32_359 c0_i32_362
  let v435 : BitVec 32 := Scalar.extui v434
  let c0_i32_363 : BitVec 32 := 0#32
  let v436 : BitVec 1 := Scalar.cmpi .slt c4_i32_359 c0_i32_363
  let v437 : BitVec 32 := Scalar.extui v436
  let v438 : BitVec 32 := Scalar.subi v435 v437
  let v439 : BitVec 1 := Scalar.cmpi .ne v433 v438
  let v440 : BitVec 32 := Scalar.remsi v427 c4_i32_359
  let c0_i32_364 : BitVec 32 := 0#32
  let v441 : BitVec 1 := Scalar.cmpi .ne v440 c0_i32_364
  let v442 : BitVec 1 := Scalar.andi v439 v441
  let v428 : BitVec 32 := Scalar.divsi v427 c4_i32_359
  let c1_i32_365 : BitVec 32 := 1#32
  let v443 : BitVec 32 := Scalar.subi v428 c1_i32_365
  let v444 : BitVec 32 := Scalar.select v442 v443 v428
  let v445 : BitVec 32 := Scalar.subi v444 c0_i32_366
  let c1_i32_368 : BitVec 32 := 1#32
  let v447 : BitVec 32 := Scalar.divsi v445 c1_i32_368
  let v448 : BitVec 32 := Scalar.muli v447 c1_i32_368
  let v449 : BitVec 32 := Scalar.addi c0_i32_366 v448
  let c1_i32_370 : BitVec 32 := 1#32
  let arg20 : BitVec 32 := Scf.iv v449 c1_i32_370 k0_t4
  let v788 : BitVec 32 := Scalar.muli c4_i32_579 arg20
  let v789 : BitVec 32 := Scalar.addi v788 c0_i32_580
  let v824 : Index := Scalar.indexCast v789
  let c0_615 : Index := 0#32
  let c0_616 : Index := 0#32
  ![0, 2, v824.toNat, 0, 0]
def k0_off106 (i : grid0.Coords) (k0_t4 : Fin (k0_t4_loop i).trips) (c0_i32_580 : BitVec 32) : Fin 4 → Nat :=
  let c0_621 : Index := 0#32
  let c4_i32_579 : BitVec 32 := 4#32
  let c0_i32_366 : BitVec 32 := 0#32
  let arg1 : BitVec 32 := BitVec.ofNat 32 (i 1).val
  let c1_i32_358 : BitVec 32 := 1#32
  let v427 : BitVec 32 := Scalar.addi arg1 c1_i32_358
  let c0_i32_360 : BitVec 32 := 0#32
  let v429 : BitVec 1 := Scalar.cmpi .sgt v427 c0_i32_360
  let v430 : BitVec 32 := Scalar.extui v429
  let c0_i32_361 : BitVec 32 := 0#32
  let v431 : BitVec 1 := Scalar.cmpi .slt v427 c0_i32_361
  let v432 : BitVec 32 := Scalar.extui v431
  let v433 : BitVec 32 := Scalar.subi v430 v432
  let c4_i32_359 : BitVec 32 := 4#32
  let c0_i32_362 : BitVec 32 := 0#32
  let v434 : BitVec 1 := Scalar.cmpi .sgt c4_i32_359 c0_i32_362
  let v435 : BitVec 32 := Scalar.extui v434
  let c0_i32_363 : BitVec 32 := 0#32
  let v436 : BitVec 1 := Scalar.cmpi .slt c4_i32_359 c0_i32_363
  let v437 : BitVec 32 := Scalar.extui v436
  let v438 : BitVec 32 := Scalar.subi v435 v437
  let v439 : BitVec 1 := Scalar.cmpi .ne v433 v438
  let v440 : BitVec 32 := Scalar.remsi v427 c4_i32_359
  let c0_i32_364 : BitVec 32 := 0#32
  let v441 : BitVec 1 := Scalar.cmpi .ne v440 c0_i32_364
  let v442 : BitVec 1 := Scalar.andi v439 v441
  let v428 : BitVec 32 := Scalar.divsi v427 c4_i32_359
  let c1_i32_365 : BitVec 32 := 1#32
  let v443 : BitVec 32 := Scalar.subi v428 c1_i32_365
  let v444 : BitVec 32 := Scalar.select v442 v443 v428
  let v445 : BitVec 32 := Scalar.subi v444 c0_i32_366
  let c1_i32_368 : BitVec 32 := 1#32
  let v447 : BitVec 32 := Scalar.divsi v445 c1_i32_368
  let v448 : BitVec 32 := Scalar.muli v447 c1_i32_368
  let v449 : BitVec 32 := Scalar.addi c0_i32_366 v448
  let c1_i32_370 : BitVec 32 := 1#32
  let arg20 : BitVec 32 := Scf.iv v449 c1_i32_370 k0_t4
  let v788 : BitVec 32 := Scalar.muli c4_i32_579 arg20
  let v789 : BitVec 32 := Scalar.addi v788 c0_i32_580
  let v833 : Index := Scalar.indexCast v789
  let c288_622 : Index := 288#32
  let c0_623 : Index := 0#32
  ![0, v833.toNat, 288, 0]
def k0_off107 (i : grid0.Coords) (k0_t4 : Fin (k0_t4_loop i).trips) (c0_i32_580 : BitVec 32) : Fin 5 → Nat :=
  let c0_629 : Index := 0#32
  let c3_630 : Index := 3#32
  let c4_i32_579 : BitVec 32 := 4#32
  let c0_i32_366 : BitVec 32 := 0#32
  let arg1 : BitVec 32 := BitVec.ofNat 32 (i 1).val
  let c1_i32_358 : BitVec 32 := 1#32
  let v427 : BitVec 32 := Scalar.addi arg1 c1_i32_358
  let c0_i32_360 : BitVec 32 := 0#32
  let v429 : BitVec 1 := Scalar.cmpi .sgt v427 c0_i32_360
  let v430 : BitVec 32 := Scalar.extui v429
  let c0_i32_361 : BitVec 32 := 0#32
  let v431 : BitVec 1 := Scalar.cmpi .slt v427 c0_i32_361
  let v432 : BitVec 32 := Scalar.extui v431
  let v433 : BitVec 32 := Scalar.subi v430 v432
  let c4_i32_359 : BitVec 32 := 4#32
  let c0_i32_362 : BitVec 32 := 0#32
  let v434 : BitVec 1 := Scalar.cmpi .sgt c4_i32_359 c0_i32_362
  let v435 : BitVec 32 := Scalar.extui v434
  let c0_i32_363 : BitVec 32 := 0#32
  let v436 : BitVec 1 := Scalar.cmpi .slt c4_i32_359 c0_i32_363
  let v437 : BitVec 32 := Scalar.extui v436
  let v438 : BitVec 32 := Scalar.subi v435 v437
  let v439 : BitVec 1 := Scalar.cmpi .ne v433 v438
  let v440 : BitVec 32 := Scalar.remsi v427 c4_i32_359
  let c0_i32_364 : BitVec 32 := 0#32
  let v441 : BitVec 1 := Scalar.cmpi .ne v440 c0_i32_364
  let v442 : BitVec 1 := Scalar.andi v439 v441
  let v428 : BitVec 32 := Scalar.divsi v427 c4_i32_359
  let c1_i32_365 : BitVec 32 := 1#32
  let v443 : BitVec 32 := Scalar.subi v428 c1_i32_365
  let v444 : BitVec 32 := Scalar.select v442 v443 v428
  let v445 : BitVec 32 := Scalar.subi v444 c0_i32_366
  let c1_i32_368 : BitVec 32 := 1#32
  let v447 : BitVec 32 := Scalar.divsi v445 c1_i32_368
  let v448 : BitVec 32 := Scalar.muli v447 c1_i32_368
  let v449 : BitVec 32 := Scalar.addi c0_i32_366 v448
  let c1_i32_370 : BitVec 32 := 1#32
  let arg20 : BitVec 32 := Scf.iv v449 c1_i32_370 k0_t4
  let v788 : BitVec 32 := Scalar.muli c4_i32_579 arg20
  let v789 : BitVec 32 := Scalar.addi v788 c0_i32_580
  let v841 : Index := Scalar.indexCast v789
  let c0_631 : Index := 0#32
  let c0_632 : Index := 0#32
  ![0, 3, v841.toNat, 0, 0]
def k0_off108 (i : grid0.Coords) (k0_t4 : Fin (k0_t4_loop i).trips) (c0_i32_580 : BitVec 32) : Fin 4 → Nat :=
  let c0_637 : Index := 0#32
  let c4_i32_579 : BitVec 32 := 4#32
  let c0_i32_366 : BitVec 32 := 0#32
  let arg1 : BitVec 32 := BitVec.ofNat 32 (i 1).val
  let c1_i32_358 : BitVec 32 := 1#32
  let v427 : BitVec 32 := Scalar.addi arg1 c1_i32_358
  let c0_i32_360 : BitVec 32 := 0#32
  let v429 : BitVec 1 := Scalar.cmpi .sgt v427 c0_i32_360
  let v430 : BitVec 32 := Scalar.extui v429
  let c0_i32_361 : BitVec 32 := 0#32
  let v431 : BitVec 1 := Scalar.cmpi .slt v427 c0_i32_361
  let v432 : BitVec 32 := Scalar.extui v431
  let v433 : BitVec 32 := Scalar.subi v430 v432
  let c4_i32_359 : BitVec 32 := 4#32
  let c0_i32_362 : BitVec 32 := 0#32
  let v434 : BitVec 1 := Scalar.cmpi .sgt c4_i32_359 c0_i32_362
  let v435 : BitVec 32 := Scalar.extui v434
  let c0_i32_363 : BitVec 32 := 0#32
  let v436 : BitVec 1 := Scalar.cmpi .slt c4_i32_359 c0_i32_363
  let v437 : BitVec 32 := Scalar.extui v436
  let v438 : BitVec 32 := Scalar.subi v435 v437
  let v439 : BitVec 1 := Scalar.cmpi .ne v433 v438
  let v440 : BitVec 32 := Scalar.remsi v427 c4_i32_359
  let c0_i32_364 : BitVec 32 := 0#32
  let v441 : BitVec 1 := Scalar.cmpi .ne v440 c0_i32_364
  let v442 : BitVec 1 := Scalar.andi v439 v441
  let v428 : BitVec 32 := Scalar.divsi v427 c4_i32_359
  let c1_i32_365 : BitVec 32 := 1#32
  let v443 : BitVec 32 := Scalar.subi v428 c1_i32_365
  let v444 : BitVec 32 := Scalar.select v442 v443 v428
  let v445 : BitVec 32 := Scalar.subi v444 c0_i32_366
  let c1_i32_368 : BitVec 32 := 1#32
  let v447 : BitVec 32 := Scalar.divsi v445 c1_i32_368
  let v448 : BitVec 32 := Scalar.muli v447 c1_i32_368
  let v449 : BitVec 32 := Scalar.addi c0_i32_366 v448
  let c1_i32_370 : BitVec 32 := 1#32
  let arg20 : BitVec 32 := Scf.iv v449 c1_i32_370 k0_t4
  let v788 : BitVec 32 := Scalar.muli c4_i32_579 arg20
  let v789 : BitVec 32 := Scalar.addi v788 c0_i32_580
  let v850 : Index := Scalar.indexCast v789
  let c432_638 : Index := 432#32
  let c0_639 : Index := 0#32
  ![0, v850.toNat, 432, 0]
def k0_off109 (i : grid0.Coords) (k0_t4 : Fin (k0_t4_loop i).trips) (c0_i32_580 : BitVec 32) : Fin 5 → Nat :=
  let c1_645 : Index := 1#32
  let c0_646 : Index := 0#32
  let c4_i32_579 : BitVec 32 := 4#32
  let c0_i32_366 : BitVec 32 := 0#32
  let arg1 : BitVec 32 := BitVec.ofNat 32 (i 1).val
  let c1_i32_358 : BitVec 32 := 1#32
  let v427 : BitVec 32 := Scalar.addi arg1 c1_i32_358
  let c0_i32_360 : BitVec 32 := 0#32
  let v429 : BitVec 1 := Scalar.cmpi .sgt v427 c0_i32_360
  let v430 : BitVec 32 := Scalar.extui v429
  let c0_i32_361 : BitVec 32 := 0#32
  let v431 : BitVec 1 := Scalar.cmpi .slt v427 c0_i32_361
  let v432 : BitVec 32 := Scalar.extui v431
  let v433 : BitVec 32 := Scalar.subi v430 v432
  let c4_i32_359 : BitVec 32 := 4#32
  let c0_i32_362 : BitVec 32 := 0#32
  let v434 : BitVec 1 := Scalar.cmpi .sgt c4_i32_359 c0_i32_362
  let v435 : BitVec 32 := Scalar.extui v434
  let c0_i32_363 : BitVec 32 := 0#32
  let v436 : BitVec 1 := Scalar.cmpi .slt c4_i32_359 c0_i32_363
  let v437 : BitVec 32 := Scalar.extui v436
  let v438 : BitVec 32 := Scalar.subi v435 v437
  let v439 : BitVec 1 := Scalar.cmpi .ne v433 v438
  let v440 : BitVec 32 := Scalar.remsi v427 c4_i32_359
  let c0_i32_364 : BitVec 32 := 0#32
  let v441 : BitVec 1 := Scalar.cmpi .ne v440 c0_i32_364
  let v442 : BitVec 1 := Scalar.andi v439 v441
  let v428 : BitVec 32 := Scalar.divsi v427 c4_i32_359
  let c1_i32_365 : BitVec 32 := 1#32
  let v443 : BitVec 32 := Scalar.subi v428 c1_i32_365
  let v444 : BitVec 32 := Scalar.select v442 v443 v428
  let v445 : BitVec 32 := Scalar.subi v444 c0_i32_366
  let c1_i32_368 : BitVec 32 := 1#32
  let v447 : BitVec 32 := Scalar.divsi v445 c1_i32_368
  let v448 : BitVec 32 := Scalar.muli v447 c1_i32_368
  let v449 : BitVec 32 := Scalar.addi c0_i32_366 v448
  let c1_i32_370 : BitVec 32 := 1#32
  let arg20 : BitVec 32 := Scf.iv v449 c1_i32_370 k0_t4
  let v788 : BitVec 32 := Scalar.muli c4_i32_579 arg20
  let v789 : BitVec 32 := Scalar.addi v788 c0_i32_580
  let v858 : Index := Scalar.indexCast v789
  let c0_647 : Index := 0#32
  let c0_648 : Index := 0#32
  ![1, 0, v858.toNat, 0, 0]
def k0_off110 (i : grid0.Coords) (k0_t4 : Fin (k0_t4_loop i).trips) (c0_i32_580 : BitVec 32) : Fin 4 → Nat :=
  let c1_653 : Index := 1#32
  let c4_i32_579 : BitVec 32 := 4#32
  let c0_i32_366 : BitVec 32 := 0#32
  let arg1 : BitVec 32 := BitVec.ofNat 32 (i 1).val
  let c1_i32_358 : BitVec 32 := 1#32
  let v427 : BitVec 32 := Scalar.addi arg1 c1_i32_358
  let c0_i32_360 : BitVec 32 := 0#32
  let v429 : BitVec 1 := Scalar.cmpi .sgt v427 c0_i32_360
  let v430 : BitVec 32 := Scalar.extui v429
  let c0_i32_361 : BitVec 32 := 0#32
  let v431 : BitVec 1 := Scalar.cmpi .slt v427 c0_i32_361
  let v432 : BitVec 32 := Scalar.extui v431
  let v433 : BitVec 32 := Scalar.subi v430 v432
  let c4_i32_359 : BitVec 32 := 4#32
  let c0_i32_362 : BitVec 32 := 0#32
  let v434 : BitVec 1 := Scalar.cmpi .sgt c4_i32_359 c0_i32_362
  let v435 : BitVec 32 := Scalar.extui v434
  let c0_i32_363 : BitVec 32 := 0#32
  let v436 : BitVec 1 := Scalar.cmpi .slt c4_i32_359 c0_i32_363
  let v437 : BitVec 32 := Scalar.extui v436
  let v438 : BitVec 32 := Scalar.subi v435 v437
  let v439 : BitVec 1 := Scalar.cmpi .ne v433 v438
  let v440 : BitVec 32 := Scalar.remsi v427 c4_i32_359
  let c0_i32_364 : BitVec 32 := 0#32
  let v441 : BitVec 1 := Scalar.cmpi .ne v440 c0_i32_364
  let v442 : BitVec 1 := Scalar.andi v439 v441
  let v428 : BitVec 32 := Scalar.divsi v427 c4_i32_359
  let c1_i32_365 : BitVec 32 := 1#32
  let v443 : BitVec 32 := Scalar.subi v428 c1_i32_365
  let v444 : BitVec 32 := Scalar.select v442 v443 v428
  let v445 : BitVec 32 := Scalar.subi v444 c0_i32_366
  let c1_i32_368 : BitVec 32 := 1#32
  let v447 : BitVec 32 := Scalar.divsi v445 c1_i32_368
  let v448 : BitVec 32 := Scalar.muli v447 c1_i32_368
  let v449 : BitVec 32 := Scalar.addi c0_i32_366 v448
  let c1_i32_370 : BitVec 32 := 1#32
  let arg20 : BitVec 32 := Scf.iv v449 c1_i32_370 k0_t4
  let v788 : BitVec 32 := Scalar.muli c4_i32_579 arg20
  let v789 : BitVec 32 := Scalar.addi v788 c0_i32_580
  let v867 : Index := Scalar.indexCast v789
  let c0_654 : Index := 0#32
  let c0_655 : Index := 0#32
  ![1, v867.toNat, 0, 0]
def k0_off111 (i : grid0.Coords) (k0_t4 : Fin (k0_t4_loop i).trips) (c0_i32_580 : BitVec 32) : Fin 5 → Nat :=
  let c1_661 : Index := 1#32
  let c1_662 : Index := 1#32
  let c4_i32_579 : BitVec 32 := 4#32
  let c0_i32_366 : BitVec 32 := 0#32
  let arg1 : BitVec 32 := BitVec.ofNat 32 (i 1).val
  let c1_i32_358 : BitVec 32 := 1#32
  let v427 : BitVec 32 := Scalar.addi arg1 c1_i32_358
  let c0_i32_360 : BitVec 32 := 0#32
  let v429 : BitVec 1 := Scalar.cmpi .sgt v427 c0_i32_360
  let v430 : BitVec 32 := Scalar.extui v429
  let c0_i32_361 : BitVec 32 := 0#32
  let v431 : BitVec 1 := Scalar.cmpi .slt v427 c0_i32_361
  let v432 : BitVec 32 := Scalar.extui v431
  let v433 : BitVec 32 := Scalar.subi v430 v432
  let c4_i32_359 : BitVec 32 := 4#32
  let c0_i32_362 : BitVec 32 := 0#32
  let v434 : BitVec 1 := Scalar.cmpi .sgt c4_i32_359 c0_i32_362
  let v435 : BitVec 32 := Scalar.extui v434
  let c0_i32_363 : BitVec 32 := 0#32
  let v436 : BitVec 1 := Scalar.cmpi .slt c4_i32_359 c0_i32_363
  let v437 : BitVec 32 := Scalar.extui v436
  let v438 : BitVec 32 := Scalar.subi v435 v437
  let v439 : BitVec 1 := Scalar.cmpi .ne v433 v438
  let v440 : BitVec 32 := Scalar.remsi v427 c4_i32_359
  let c0_i32_364 : BitVec 32 := 0#32
  let v441 : BitVec 1 := Scalar.cmpi .ne v440 c0_i32_364
  let v442 : BitVec 1 := Scalar.andi v439 v441
  let v428 : BitVec 32 := Scalar.divsi v427 c4_i32_359
  let c1_i32_365 : BitVec 32 := 1#32
  let v443 : BitVec 32 := Scalar.subi v428 c1_i32_365
  let v444 : BitVec 32 := Scalar.select v442 v443 v428
  let v445 : BitVec 32 := Scalar.subi v444 c0_i32_366
  let c1_i32_368 : BitVec 32 := 1#32
  let v447 : BitVec 32 := Scalar.divsi v445 c1_i32_368
  let v448 : BitVec 32 := Scalar.muli v447 c1_i32_368
  let v449 : BitVec 32 := Scalar.addi c0_i32_366 v448
  let c1_i32_370 : BitVec 32 := 1#32
  let arg20 : BitVec 32 := Scf.iv v449 c1_i32_370 k0_t4
  let v788 : BitVec 32 := Scalar.muli c4_i32_579 arg20
  let v789 : BitVec 32 := Scalar.addi v788 c0_i32_580
  let v875 : Index := Scalar.indexCast v789
  let c0_663 : Index := 0#32
  let c0_664 : Index := 0#32
  ![1, 1, v875.toNat, 0, 0]
def k0_off112 (i : grid0.Coords) (k0_t4 : Fin (k0_t4_loop i).trips) (c0_i32_580 : BitVec 32) : Fin 4 → Nat :=
  let c1_669 : Index := 1#32
  let c4_i32_579 : BitVec 32 := 4#32
  let c0_i32_366 : BitVec 32 := 0#32
  let arg1 : BitVec 32 := BitVec.ofNat 32 (i 1).val
  let c1_i32_358 : BitVec 32 := 1#32
  let v427 : BitVec 32 := Scalar.addi arg1 c1_i32_358
  let c0_i32_360 : BitVec 32 := 0#32
  let v429 : BitVec 1 := Scalar.cmpi .sgt v427 c0_i32_360
  let v430 : BitVec 32 := Scalar.extui v429
  let c0_i32_361 : BitVec 32 := 0#32
  let v431 : BitVec 1 := Scalar.cmpi .slt v427 c0_i32_361
  let v432 : BitVec 32 := Scalar.extui v431
  let v433 : BitVec 32 := Scalar.subi v430 v432
  let c4_i32_359 : BitVec 32 := 4#32
  let c0_i32_362 : BitVec 32 := 0#32
  let v434 : BitVec 1 := Scalar.cmpi .sgt c4_i32_359 c0_i32_362
  let v435 : BitVec 32 := Scalar.extui v434
  let c0_i32_363 : BitVec 32 := 0#32
  let v436 : BitVec 1 := Scalar.cmpi .slt c4_i32_359 c0_i32_363
  let v437 : BitVec 32 := Scalar.extui v436
  let v438 : BitVec 32 := Scalar.subi v435 v437
  let v439 : BitVec 1 := Scalar.cmpi .ne v433 v438
  let v440 : BitVec 32 := Scalar.remsi v427 c4_i32_359
  let c0_i32_364 : BitVec 32 := 0#32
  let v441 : BitVec 1 := Scalar.cmpi .ne v440 c0_i32_364
  let v442 : BitVec 1 := Scalar.andi v439 v441
  let v428 : BitVec 32 := Scalar.divsi v427 c4_i32_359
  let c1_i32_365 : BitVec 32 := 1#32
  let v443 : BitVec 32 := Scalar.subi v428 c1_i32_365
  let v444 : BitVec 32 := Scalar.select v442 v443 v428
  let v445 : BitVec 32 := Scalar.subi v444 c0_i32_366
  let c1_i32_368 : BitVec 32 := 1#32
  let v447 : BitVec 32 := Scalar.divsi v445 c1_i32_368
  let v448 : BitVec 32 := Scalar.muli v447 c1_i32_368
  let v449 : BitVec 32 := Scalar.addi c0_i32_366 v448
  let c1_i32_370 : BitVec 32 := 1#32
  let arg20 : BitVec 32 := Scf.iv v449 c1_i32_370 k0_t4
  let v788 : BitVec 32 := Scalar.muli c4_i32_579 arg20
  let v789 : BitVec 32 := Scalar.addi v788 c0_i32_580
  let v884 : Index := Scalar.indexCast v789
  let c144_670 : Index := 144#32
  let c0_671 : Index := 0#32
  ![1, v884.toNat, 144, 0]
def k0_off113 (i : grid0.Coords) (k0_t4 : Fin (k0_t4_loop i).trips) (c0_i32_580 : BitVec 32) : Fin 5 → Nat :=
  let c1_677 : Index := 1#32
  let c2_678 : Index := 2#32
  let c4_i32_579 : BitVec 32 := 4#32
  let c0_i32_366 : BitVec 32 := 0#32
  let arg1 : BitVec 32 := BitVec.ofNat 32 (i 1).val
  let c1_i32_358 : BitVec 32 := 1#32
  let v427 : BitVec 32 := Scalar.addi arg1 c1_i32_358
  let c0_i32_360 : BitVec 32 := 0#32
  let v429 : BitVec 1 := Scalar.cmpi .sgt v427 c0_i32_360
  let v430 : BitVec 32 := Scalar.extui v429
  let c0_i32_361 : BitVec 32 := 0#32
  let v431 : BitVec 1 := Scalar.cmpi .slt v427 c0_i32_361
  let v432 : BitVec 32 := Scalar.extui v431
  let v433 : BitVec 32 := Scalar.subi v430 v432
  let c4_i32_359 : BitVec 32 := 4#32
  let c0_i32_362 : BitVec 32 := 0#32
  let v434 : BitVec 1 := Scalar.cmpi .sgt c4_i32_359 c0_i32_362
  let v435 : BitVec 32 := Scalar.extui v434
  let c0_i32_363 : BitVec 32 := 0#32
  let v436 : BitVec 1 := Scalar.cmpi .slt c4_i32_359 c0_i32_363
  let v437 : BitVec 32 := Scalar.extui v436
  let v438 : BitVec 32 := Scalar.subi v435 v437
  let v439 : BitVec 1 := Scalar.cmpi .ne v433 v438
  let v440 : BitVec 32 := Scalar.remsi v427 c4_i32_359
  let c0_i32_364 : BitVec 32 := 0#32
  let v441 : BitVec 1 := Scalar.cmpi .ne v440 c0_i32_364
  let v442 : BitVec 1 := Scalar.andi v439 v441
  let v428 : BitVec 32 := Scalar.divsi v427 c4_i32_359
  let c1_i32_365 : BitVec 32 := 1#32
  let v443 : BitVec 32 := Scalar.subi v428 c1_i32_365
  let v444 : BitVec 32 := Scalar.select v442 v443 v428
  let v445 : BitVec 32 := Scalar.subi v444 c0_i32_366
  let c1_i32_368 : BitVec 32 := 1#32
  let v447 : BitVec 32 := Scalar.divsi v445 c1_i32_368
  let v448 : BitVec 32 := Scalar.muli v447 c1_i32_368
  let v449 : BitVec 32 := Scalar.addi c0_i32_366 v448
  let c1_i32_370 : BitVec 32 := 1#32
  let arg20 : BitVec 32 := Scf.iv v449 c1_i32_370 k0_t4
  let v788 : BitVec 32 := Scalar.muli c4_i32_579 arg20
  let v789 : BitVec 32 := Scalar.addi v788 c0_i32_580
  let v892 : Index := Scalar.indexCast v789
  let c0_679 : Index := 0#32
  let c0_680 : Index := 0#32
  ![1, 2, v892.toNat, 0, 0]
def k0_off114 (i : grid0.Coords) (k0_t4 : Fin (k0_t4_loop i).trips) (c0_i32_580 : BitVec 32) : Fin 4 → Nat :=
  let c1_685 : Index := 1#32
  let c4_i32_579 : BitVec 32 := 4#32
  let c0_i32_366 : BitVec 32 := 0#32
  let arg1 : BitVec 32 := BitVec.ofNat 32 (i 1).val
  let c1_i32_358 : BitVec 32 := 1#32
  let v427 : BitVec 32 := Scalar.addi arg1 c1_i32_358
  let c0_i32_360 : BitVec 32 := 0#32
  let v429 : BitVec 1 := Scalar.cmpi .sgt v427 c0_i32_360
  let v430 : BitVec 32 := Scalar.extui v429
  let c0_i32_361 : BitVec 32 := 0#32
  let v431 : BitVec 1 := Scalar.cmpi .slt v427 c0_i32_361
  let v432 : BitVec 32 := Scalar.extui v431
  let v433 : BitVec 32 := Scalar.subi v430 v432
  let c4_i32_359 : BitVec 32 := 4#32
  let c0_i32_362 : BitVec 32 := 0#32
  let v434 : BitVec 1 := Scalar.cmpi .sgt c4_i32_359 c0_i32_362
  let v435 : BitVec 32 := Scalar.extui v434
  let c0_i32_363 : BitVec 32 := 0#32
  let v436 : BitVec 1 := Scalar.cmpi .slt c4_i32_359 c0_i32_363
  let v437 : BitVec 32 := Scalar.extui v436
  let v438 : BitVec 32 := Scalar.subi v435 v437
  let v439 : BitVec 1 := Scalar.cmpi .ne v433 v438
  let v440 : BitVec 32 := Scalar.remsi v427 c4_i32_359
  let c0_i32_364 : BitVec 32 := 0#32
  let v441 : BitVec 1 := Scalar.cmpi .ne v440 c0_i32_364
  let v442 : BitVec 1 := Scalar.andi v439 v441
  let v428 : BitVec 32 := Scalar.divsi v427 c4_i32_359
  let c1_i32_365 : BitVec 32 := 1#32
  let v443 : BitVec 32 := Scalar.subi v428 c1_i32_365
  let v444 : BitVec 32 := Scalar.select v442 v443 v428
  let v445 : BitVec 32 := Scalar.subi v444 c0_i32_366
  let c1_i32_368 : BitVec 32 := 1#32
  let v447 : BitVec 32 := Scalar.divsi v445 c1_i32_368
  let v448 : BitVec 32 := Scalar.muli v447 c1_i32_368
  let v449 : BitVec 32 := Scalar.addi c0_i32_366 v448
  let c1_i32_370 : BitVec 32 := 1#32
  let arg20 : BitVec 32 := Scf.iv v449 c1_i32_370 k0_t4
  let v788 : BitVec 32 := Scalar.muli c4_i32_579 arg20
  let v789 : BitVec 32 := Scalar.addi v788 c0_i32_580
  let v901 : Index := Scalar.indexCast v789
  let c288_686 : Index := 288#32
  let c0_687 : Index := 0#32
  ![1, v901.toNat, 288, 0]
def k0_off115 (i : grid0.Coords) (k0_t4 : Fin (k0_t4_loop i).trips) (c0_i32_580 : BitVec 32) : Fin 5 → Nat :=
  let c1_693 : Index := 1#32
  let c3_694 : Index := 3#32
  let c4_i32_579 : BitVec 32 := 4#32
  let c0_i32_366 : BitVec 32 := 0#32
  let arg1 : BitVec 32 := BitVec.ofNat 32 (i 1).val
  let c1_i32_358 : BitVec 32 := 1#32
  let v427 : BitVec 32 := Scalar.addi arg1 c1_i32_358
  let c0_i32_360 : BitVec 32 := 0#32
  let v429 : BitVec 1 := Scalar.cmpi .sgt v427 c0_i32_360
  let v430 : BitVec 32 := Scalar.extui v429
  let c0_i32_361 : BitVec 32 := 0#32
  let v431 : BitVec 1 := Scalar.cmpi .slt v427 c0_i32_361
  let v432 : BitVec 32 := Scalar.extui v431
  let v433 : BitVec 32 := Scalar.subi v430 v432
  let c4_i32_359 : BitVec 32 := 4#32
  let c0_i32_362 : BitVec 32 := 0#32
  let v434 : BitVec 1 := Scalar.cmpi .sgt c4_i32_359 c0_i32_362
  let v435 : BitVec 32 := Scalar.extui v434
  let c0_i32_363 : BitVec 32 := 0#32
  let v436 : BitVec 1 := Scalar.cmpi .slt c4_i32_359 c0_i32_363
  let v437 : BitVec 32 := Scalar.extui v436
  let v438 : BitVec 32 := Scalar.subi v435 v437
  let v439 : BitVec 1 := Scalar.cmpi .ne v433 v438
  let v440 : BitVec 32 := Scalar.remsi v427 c4_i32_359
  let c0_i32_364 : BitVec 32 := 0#32
  let v441 : BitVec 1 := Scalar.cmpi .ne v440 c0_i32_364
  let v442 : BitVec 1 := Scalar.andi v439 v441
  let v428 : BitVec 32 := Scalar.divsi v427 c4_i32_359
  let c1_i32_365 : BitVec 32 := 1#32
  let v443 : BitVec 32 := Scalar.subi v428 c1_i32_365
  let v444 : BitVec 32 := Scalar.select v442 v443 v428
  let v445 : BitVec 32 := Scalar.subi v444 c0_i32_366
  let c1_i32_368 : BitVec 32 := 1#32
  let v447 : BitVec 32 := Scalar.divsi v445 c1_i32_368
  let v448 : BitVec 32 := Scalar.muli v447 c1_i32_368
  let v449 : BitVec 32 := Scalar.addi c0_i32_366 v448
  let c1_i32_370 : BitVec 32 := 1#32
  let arg20 : BitVec 32 := Scf.iv v449 c1_i32_370 k0_t4
  let v788 : BitVec 32 := Scalar.muli c4_i32_579 arg20
  let v789 : BitVec 32 := Scalar.addi v788 c0_i32_580
  let v909 : Index := Scalar.indexCast v789
  let c0_695 : Index := 0#32
  let c0_696 : Index := 0#32
  ![1, 3, v909.toNat, 0, 0]
def k0_off116 (i : grid0.Coords) (k0_t4 : Fin (k0_t4_loop i).trips) (c0_i32_580 : BitVec 32) : Fin 4 → Nat :=
  let c1_701 : Index := 1#32
  let c4_i32_579 : BitVec 32 := 4#32
  let c0_i32_366 : BitVec 32 := 0#32
  let arg1 : BitVec 32 := BitVec.ofNat 32 (i 1).val
  let c1_i32_358 : BitVec 32 := 1#32
  let v427 : BitVec 32 := Scalar.addi arg1 c1_i32_358
  let c0_i32_360 : BitVec 32 := 0#32
  let v429 : BitVec 1 := Scalar.cmpi .sgt v427 c0_i32_360
  let v430 : BitVec 32 := Scalar.extui v429
  let c0_i32_361 : BitVec 32 := 0#32
  let v431 : BitVec 1 := Scalar.cmpi .slt v427 c0_i32_361
  let v432 : BitVec 32 := Scalar.extui v431
  let v433 : BitVec 32 := Scalar.subi v430 v432
  let c4_i32_359 : BitVec 32 := 4#32
  let c0_i32_362 : BitVec 32 := 0#32
  let v434 : BitVec 1 := Scalar.cmpi .sgt c4_i32_359 c0_i32_362
  let v435 : BitVec 32 := Scalar.extui v434
  let c0_i32_363 : BitVec 32 := 0#32
  let v436 : BitVec 1 := Scalar.cmpi .slt c4_i32_359 c0_i32_363
  let v437 : BitVec 32 := Scalar.extui v436
  let v438 : BitVec 32 := Scalar.subi v435 v437
  let v439 : BitVec 1 := Scalar.cmpi .ne v433 v438
  let v440 : BitVec 32 := Scalar.remsi v427 c4_i32_359
  let c0_i32_364 : BitVec 32 := 0#32
  let v441 : BitVec 1 := Scalar.cmpi .ne v440 c0_i32_364
  let v442 : BitVec 1 := Scalar.andi v439 v441
  let v428 : BitVec 32 := Scalar.divsi v427 c4_i32_359
  let c1_i32_365 : BitVec 32 := 1#32
  let v443 : BitVec 32 := Scalar.subi v428 c1_i32_365
  let v444 : BitVec 32 := Scalar.select v442 v443 v428
  let v445 : BitVec 32 := Scalar.subi v444 c0_i32_366
  let c1_i32_368 : BitVec 32 := 1#32
  let v447 : BitVec 32 := Scalar.divsi v445 c1_i32_368
  let v448 : BitVec 32 := Scalar.muli v447 c1_i32_368
  let v449 : BitVec 32 := Scalar.addi c0_i32_366 v448
  let c1_i32_370 : BitVec 32 := 1#32
  let arg20 : BitVec 32 := Scf.iv v449 c1_i32_370 k0_t4
  let v788 : BitVec 32 := Scalar.muli c4_i32_579 arg20
  let v789 : BitVec 32 := Scalar.addi v788 c0_i32_580
  let v918 : Index := Scalar.indexCast v789
  let c432_702 : Index := 432#32
  let c0_703 : Index := 0#32
  ![1, v918.toNat, 432, 0]
def k0_cond3 (i : grid0.Coords) : BitVec 1 :=
  let arg1 : BitVec 32 := BitVec.ofNat 32 (i 1).val
  let c1_i32_358 : BitVec 32 := 1#32
  let v427 : BitVec 32 := Scalar.addi arg1 c1_i32_358
  let c0_i32_372 : BitVec 32 := 0#32
  let v453 : BitVec 1 := Scalar.cmpi .sgt v427 c0_i32_372
  let v454 : BitVec 32 := Scalar.extui v453
  let c0_i32_373 : BitVec 32 := 0#32
  let v455 : BitVec 1 := Scalar.cmpi .slt v427 c0_i32_373
  let v456 : BitVec 32 := Scalar.extui v455
  let v457 : BitVec 32 := Scalar.subi v454 v456
  let c4_i32_371 : BitVec 32 := 4#32
  let c0_i32_374 : BitVec 32 := 0#32
  let v458 : BitVec 1 := Scalar.cmpi .sgt c4_i32_371 c0_i32_374
  let v459 : BitVec 32 := Scalar.extui v458
  let c0_i32_375 : BitVec 32 := 0#32
  let v460 : BitVec 1 := Scalar.cmpi .slt c4_i32_371 c0_i32_375
  let v461 : BitVec 32 := Scalar.extui v460
  let v462 : BitVec 32 := Scalar.subi v459 v461
  let v463 : BitVec 1 := Scalar.cmpi .ne v457 v462
  let v464 : BitVec 32 := Scalar.remsi v427 c4_i32_371
  let c0_i32_376 : BitVec 32 := 0#32
  let v465 : BitVec 1 := Scalar.cmpi .ne v464 c0_i32_376
  let v466 : BitVec 1 := Scalar.andi v463 v465
  let v452 : BitVec 32 := Scalar.divsi v427 c4_i32_371
  let c1_i32_377 : BitVec 32 := 1#32
  let v467 : BitVec 32 := Scalar.subi v452 c1_i32_377
  let v468 : BitVec 32 := Scalar.select v466 v467 v452
  let c4_i32_378 : BitVec 32 := 4#32
  let v469 : BitVec 32 := Scalar.muli v468 c4_i32_378
  let v470 : BitVec 32 := Scalar.subi v427 v469
  let c2_i32_379 : BitVec 32 := 2#32
  let v471 : BitVec 1 := Scalar.cmpi .sge v470 c2_i32_379
  let v472 : BitVec 32 := Scalar.extui v471
  let c0_i32_380 : BitVec 32 := 0#32
  let v473 : BitVec 1 := Scalar.cmpi .ne v472 c0_i32_380
  v473

def k0_off117 (i : grid0.Coords) (c0_i32_579 : BitVec 32) : Fin 5 → Nat :=
  let c0_580 : Index := 0#32
  let c0_581 : Index := 0#32
  let arg1 : BitVec 32 := BitVec.ofNat 32 (i 1).val
  let c1_i32_358 : BitVec 32 := 1#32
  let v427 : BitVec 32 := Scalar.addi arg1 c1_i32_358
  let c0_i32_372 : BitVec 32 := 0#32
  let v453 : BitVec 1 := Scalar.cmpi .sgt v427 c0_i32_372
  let v454 : BitVec 32 := Scalar.extui v453
  let c0_i32_373 : BitVec 32 := 0#32
  let v455 : BitVec 1 := Scalar.cmpi .slt v427 c0_i32_373
  let v456 : BitVec 32 := Scalar.extui v455
  let v457 : BitVec 32 := Scalar.subi v454 v456
  let c4_i32_371 : BitVec 32 := 4#32
  let c0_i32_374 : BitVec 32 := 0#32
  let v458 : BitVec 1 := Scalar.cmpi .sgt c4_i32_371 c0_i32_374
  let v459 : BitVec 32 := Scalar.extui v458
  let c0_i32_375 : BitVec 32 := 0#32
  let v460 : BitVec 1 := Scalar.cmpi .slt c4_i32_371 c0_i32_375
  let v461 : BitVec 32 := Scalar.extui v460
  let v462 : BitVec 32 := Scalar.subi v459 v461
  let v463 : BitVec 1 := Scalar.cmpi .ne v457 v462
  let v464 : BitVec 32 := Scalar.remsi v427 c4_i32_371
  let c0_i32_376 : BitVec 32 := 0#32
  let v465 : BitVec 1 := Scalar.cmpi .ne v464 c0_i32_376
  let v466 : BitVec 1 := Scalar.andi v463 v465
  let v452 : BitVec 32 := Scalar.divsi v427 c4_i32_371
  let c1_i32_377 : BitVec 32 := 1#32
  let v467 : BitVec 32 := Scalar.subi v452 c1_i32_377
  let v468 : BitVec 32 := Scalar.select v466 v467 v452
  let c4_i32_378 : BitVec 32 := 4#32
  let v469 : BitVec 32 := Scalar.muli v468 c4_i32_378
  let v788 : BitVec 32 := Scalar.addi v469 c0_i32_579
  let v789 : Index := Scalar.indexCast v788
  let c0_582 : Index := 0#32
  let c0_583 : Index := 0#32
  ![0, 0, v789.toNat, 0, 0]
def k0_off118 (i : grid0.Coords) (c0_i32_579 : BitVec 32) : Fin 4 → Nat :=
  let c0_588 : Index := 0#32
  let arg1 : BitVec 32 := BitVec.ofNat 32 (i 1).val
  let c1_i32_358 : BitVec 32 := 1#32
  let v427 : BitVec 32 := Scalar.addi arg1 c1_i32_358
  let c0_i32_372 : BitVec 32 := 0#32
  let v453 : BitVec 1 := Scalar.cmpi .sgt v427 c0_i32_372
  let v454 : BitVec 32 := Scalar.extui v453
  let c0_i32_373 : BitVec 32 := 0#32
  let v455 : BitVec 1 := Scalar.cmpi .slt v427 c0_i32_373
  let v456 : BitVec 32 := Scalar.extui v455
  let v457 : BitVec 32 := Scalar.subi v454 v456
  let c4_i32_371 : BitVec 32 := 4#32
  let c0_i32_374 : BitVec 32 := 0#32
  let v458 : BitVec 1 := Scalar.cmpi .sgt c4_i32_371 c0_i32_374
  let v459 : BitVec 32 := Scalar.extui v458
  let c0_i32_375 : BitVec 32 := 0#32
  let v460 : BitVec 1 := Scalar.cmpi .slt c4_i32_371 c0_i32_375
  let v461 : BitVec 32 := Scalar.extui v460
  let v462 : BitVec 32 := Scalar.subi v459 v461
  let v463 : BitVec 1 := Scalar.cmpi .ne v457 v462
  let v464 : BitVec 32 := Scalar.remsi v427 c4_i32_371
  let c0_i32_376 : BitVec 32 := 0#32
  let v465 : BitVec 1 := Scalar.cmpi .ne v464 c0_i32_376
  let v466 : BitVec 1 := Scalar.andi v463 v465
  let v452 : BitVec 32 := Scalar.divsi v427 c4_i32_371
  let c1_i32_377 : BitVec 32 := 1#32
  let v467 : BitVec 32 := Scalar.subi v452 c1_i32_377
  let v468 : BitVec 32 := Scalar.select v466 v467 v452
  let c4_i32_378 : BitVec 32 := 4#32
  let v469 : BitVec 32 := Scalar.muli v468 c4_i32_378
  let v788 : BitVec 32 := Scalar.addi v469 c0_i32_579
  let v798 : Index := Scalar.indexCast v788
  let c0_589 : Index := 0#32
  let c0_590 : Index := 0#32
  ![0, v798.toNat, 0, 0]
def k0_off119 (i : grid0.Coords) (c0_i32_579 : BitVec 32) : Fin 5 → Nat :=
  let c0_596 : Index := 0#32
  let c1_597 : Index := 1#32
  let arg1 : BitVec 32 := BitVec.ofNat 32 (i 1).val
  let c1_i32_358 : BitVec 32 := 1#32
  let v427 : BitVec 32 := Scalar.addi arg1 c1_i32_358
  let c0_i32_372 : BitVec 32 := 0#32
  let v453 : BitVec 1 := Scalar.cmpi .sgt v427 c0_i32_372
  let v454 : BitVec 32 := Scalar.extui v453
  let c0_i32_373 : BitVec 32 := 0#32
  let v455 : BitVec 1 := Scalar.cmpi .slt v427 c0_i32_373
  let v456 : BitVec 32 := Scalar.extui v455
  let v457 : BitVec 32 := Scalar.subi v454 v456
  let c4_i32_371 : BitVec 32 := 4#32
  let c0_i32_374 : BitVec 32 := 0#32
  let v458 : BitVec 1 := Scalar.cmpi .sgt c4_i32_371 c0_i32_374
  let v459 : BitVec 32 := Scalar.extui v458
  let c0_i32_375 : BitVec 32 := 0#32
  let v460 : BitVec 1 := Scalar.cmpi .slt c4_i32_371 c0_i32_375
  let v461 : BitVec 32 := Scalar.extui v460
  let v462 : BitVec 32 := Scalar.subi v459 v461
  let v463 : BitVec 1 := Scalar.cmpi .ne v457 v462
  let v464 : BitVec 32 := Scalar.remsi v427 c4_i32_371
  let c0_i32_376 : BitVec 32 := 0#32
  let v465 : BitVec 1 := Scalar.cmpi .ne v464 c0_i32_376
  let v466 : BitVec 1 := Scalar.andi v463 v465
  let v452 : BitVec 32 := Scalar.divsi v427 c4_i32_371
  let c1_i32_377 : BitVec 32 := 1#32
  let v467 : BitVec 32 := Scalar.subi v452 c1_i32_377
  let v468 : BitVec 32 := Scalar.select v466 v467 v452
  let c4_i32_378 : BitVec 32 := 4#32
  let v469 : BitVec 32 := Scalar.muli v468 c4_i32_378
  let v788 : BitVec 32 := Scalar.addi v469 c0_i32_579
  let v806 : Index := Scalar.indexCast v788
  let c0_598 : Index := 0#32
  let c0_599 : Index := 0#32
  ![0, 1, v806.toNat, 0, 0]
def k0_off120 (i : grid0.Coords) (c0_i32_579 : BitVec 32) : Fin 4 → Nat :=
  let c0_604 : Index := 0#32
  let arg1 : BitVec 32 := BitVec.ofNat 32 (i 1).val
  let c1_i32_358 : BitVec 32 := 1#32
  let v427 : BitVec 32 := Scalar.addi arg1 c1_i32_358
  let c0_i32_372 : BitVec 32 := 0#32
  let v453 : BitVec 1 := Scalar.cmpi .sgt v427 c0_i32_372
  let v454 : BitVec 32 := Scalar.extui v453
  let c0_i32_373 : BitVec 32 := 0#32
  let v455 : BitVec 1 := Scalar.cmpi .slt v427 c0_i32_373
  let v456 : BitVec 32 := Scalar.extui v455
  let v457 : BitVec 32 := Scalar.subi v454 v456
  let c4_i32_371 : BitVec 32 := 4#32
  let c0_i32_374 : BitVec 32 := 0#32
  let v458 : BitVec 1 := Scalar.cmpi .sgt c4_i32_371 c0_i32_374
  let v459 : BitVec 32 := Scalar.extui v458
  let c0_i32_375 : BitVec 32 := 0#32
  let v460 : BitVec 1 := Scalar.cmpi .slt c4_i32_371 c0_i32_375
  let v461 : BitVec 32 := Scalar.extui v460
  let v462 : BitVec 32 := Scalar.subi v459 v461
  let v463 : BitVec 1 := Scalar.cmpi .ne v457 v462
  let v464 : BitVec 32 := Scalar.remsi v427 c4_i32_371
  let c0_i32_376 : BitVec 32 := 0#32
  let v465 : BitVec 1 := Scalar.cmpi .ne v464 c0_i32_376
  let v466 : BitVec 1 := Scalar.andi v463 v465
  let v452 : BitVec 32 := Scalar.divsi v427 c4_i32_371
  let c1_i32_377 : BitVec 32 := 1#32
  let v467 : BitVec 32 := Scalar.subi v452 c1_i32_377
  let v468 : BitVec 32 := Scalar.select v466 v467 v452
  let c4_i32_378 : BitVec 32 := 4#32
  let v469 : BitVec 32 := Scalar.muli v468 c4_i32_378
  let v788 : BitVec 32 := Scalar.addi v469 c0_i32_579
  let v815 : Index := Scalar.indexCast v788
  let c144_605 : Index := 144#32
  let c0_606 : Index := 0#32
  ![0, v815.toNat, 144, 0]
def k0_off121 (i : grid0.Coords) (c0_i32_579 : BitVec 32) : Fin 5 → Nat :=
  let c0_612 : Index := 0#32
  let c2_613 : Index := 2#32
  let arg1 : BitVec 32 := BitVec.ofNat 32 (i 1).val
  let c1_i32_358 : BitVec 32 := 1#32
  let v427 : BitVec 32 := Scalar.addi arg1 c1_i32_358
  let c0_i32_372 : BitVec 32 := 0#32
  let v453 : BitVec 1 := Scalar.cmpi .sgt v427 c0_i32_372
  let v454 : BitVec 32 := Scalar.extui v453
  let c0_i32_373 : BitVec 32 := 0#32
  let v455 : BitVec 1 := Scalar.cmpi .slt v427 c0_i32_373
  let v456 : BitVec 32 := Scalar.extui v455
  let v457 : BitVec 32 := Scalar.subi v454 v456
  let c4_i32_371 : BitVec 32 := 4#32
  let c0_i32_374 : BitVec 32 := 0#32
  let v458 : BitVec 1 := Scalar.cmpi .sgt c4_i32_371 c0_i32_374
  let v459 : BitVec 32 := Scalar.extui v458
  let c0_i32_375 : BitVec 32 := 0#32
  let v460 : BitVec 1 := Scalar.cmpi .slt c4_i32_371 c0_i32_375
  let v461 : BitVec 32 := Scalar.extui v460
  let v462 : BitVec 32 := Scalar.subi v459 v461
  let v463 : BitVec 1 := Scalar.cmpi .ne v457 v462
  let v464 : BitVec 32 := Scalar.remsi v427 c4_i32_371
  let c0_i32_376 : BitVec 32 := 0#32
  let v465 : BitVec 1 := Scalar.cmpi .ne v464 c0_i32_376
  let v466 : BitVec 1 := Scalar.andi v463 v465
  let v452 : BitVec 32 := Scalar.divsi v427 c4_i32_371
  let c1_i32_377 : BitVec 32 := 1#32
  let v467 : BitVec 32 := Scalar.subi v452 c1_i32_377
  let v468 : BitVec 32 := Scalar.select v466 v467 v452
  let c4_i32_378 : BitVec 32 := 4#32
  let v469 : BitVec 32 := Scalar.muli v468 c4_i32_378
  let v788 : BitVec 32 := Scalar.addi v469 c0_i32_579
  let v823 : Index := Scalar.indexCast v788
  let c0_614 : Index := 0#32
  let c0_615 : Index := 0#32
  ![0, 2, v823.toNat, 0, 0]
def k0_off122 (i : grid0.Coords) (c0_i32_579 : BitVec 32) : Fin 4 → Nat :=
  let c0_620 : Index := 0#32
  let arg1 : BitVec 32 := BitVec.ofNat 32 (i 1).val
  let c1_i32_358 : BitVec 32 := 1#32
  let v427 : BitVec 32 := Scalar.addi arg1 c1_i32_358
  let c0_i32_372 : BitVec 32 := 0#32
  let v453 : BitVec 1 := Scalar.cmpi .sgt v427 c0_i32_372
  let v454 : BitVec 32 := Scalar.extui v453
  let c0_i32_373 : BitVec 32 := 0#32
  let v455 : BitVec 1 := Scalar.cmpi .slt v427 c0_i32_373
  let v456 : BitVec 32 := Scalar.extui v455
  let v457 : BitVec 32 := Scalar.subi v454 v456
  let c4_i32_371 : BitVec 32 := 4#32
  let c0_i32_374 : BitVec 32 := 0#32
  let v458 : BitVec 1 := Scalar.cmpi .sgt c4_i32_371 c0_i32_374
  let v459 : BitVec 32 := Scalar.extui v458
  let c0_i32_375 : BitVec 32 := 0#32
  let v460 : BitVec 1 := Scalar.cmpi .slt c4_i32_371 c0_i32_375
  let v461 : BitVec 32 := Scalar.extui v460
  let v462 : BitVec 32 := Scalar.subi v459 v461
  let v463 : BitVec 1 := Scalar.cmpi .ne v457 v462
  let v464 : BitVec 32 := Scalar.remsi v427 c4_i32_371
  let c0_i32_376 : BitVec 32 := 0#32
  let v465 : BitVec 1 := Scalar.cmpi .ne v464 c0_i32_376
  let v466 : BitVec 1 := Scalar.andi v463 v465
  let v452 : BitVec 32 := Scalar.divsi v427 c4_i32_371
  let c1_i32_377 : BitVec 32 := 1#32
  let v467 : BitVec 32 := Scalar.subi v452 c1_i32_377
  let v468 : BitVec 32 := Scalar.select v466 v467 v452
  let c4_i32_378 : BitVec 32 := 4#32
  let v469 : BitVec 32 := Scalar.muli v468 c4_i32_378
  let v788 : BitVec 32 := Scalar.addi v469 c0_i32_579
  let v832 : Index := Scalar.indexCast v788
  let c288_621 : Index := 288#32
  let c0_622 : Index := 0#32
  ![0, v832.toNat, 288, 0]
def k0_off123 (i : grid0.Coords) (c0_i32_579 : BitVec 32) : Fin 5 → Nat :=
  let c0_628 : Index := 0#32
  let c3_629 : Index := 3#32
  let arg1 : BitVec 32 := BitVec.ofNat 32 (i 1).val
  let c1_i32_358 : BitVec 32 := 1#32
  let v427 : BitVec 32 := Scalar.addi arg1 c1_i32_358
  let c0_i32_372 : BitVec 32 := 0#32
  let v453 : BitVec 1 := Scalar.cmpi .sgt v427 c0_i32_372
  let v454 : BitVec 32 := Scalar.extui v453
  let c0_i32_373 : BitVec 32 := 0#32
  let v455 : BitVec 1 := Scalar.cmpi .slt v427 c0_i32_373
  let v456 : BitVec 32 := Scalar.extui v455
  let v457 : BitVec 32 := Scalar.subi v454 v456
  let c4_i32_371 : BitVec 32 := 4#32
  let c0_i32_374 : BitVec 32 := 0#32
  let v458 : BitVec 1 := Scalar.cmpi .sgt c4_i32_371 c0_i32_374
  let v459 : BitVec 32 := Scalar.extui v458
  let c0_i32_375 : BitVec 32 := 0#32
  let v460 : BitVec 1 := Scalar.cmpi .slt c4_i32_371 c0_i32_375
  let v461 : BitVec 32 := Scalar.extui v460
  let v462 : BitVec 32 := Scalar.subi v459 v461
  let v463 : BitVec 1 := Scalar.cmpi .ne v457 v462
  let v464 : BitVec 32 := Scalar.remsi v427 c4_i32_371
  let c0_i32_376 : BitVec 32 := 0#32
  let v465 : BitVec 1 := Scalar.cmpi .ne v464 c0_i32_376
  let v466 : BitVec 1 := Scalar.andi v463 v465
  let v452 : BitVec 32 := Scalar.divsi v427 c4_i32_371
  let c1_i32_377 : BitVec 32 := 1#32
  let v467 : BitVec 32 := Scalar.subi v452 c1_i32_377
  let v468 : BitVec 32 := Scalar.select v466 v467 v452
  let c4_i32_378 : BitVec 32 := 4#32
  let v469 : BitVec 32 := Scalar.muli v468 c4_i32_378
  let v788 : BitVec 32 := Scalar.addi v469 c0_i32_579
  let v840 : Index := Scalar.indexCast v788
  let c0_630 : Index := 0#32
  let c0_631 : Index := 0#32
  ![0, 3, v840.toNat, 0, 0]
def k0_off124 (i : grid0.Coords) (c0_i32_579 : BitVec 32) : Fin 4 → Nat :=
  let c0_636 : Index := 0#32
  let arg1 : BitVec 32 := BitVec.ofNat 32 (i 1).val
  let c1_i32_358 : BitVec 32 := 1#32
  let v427 : BitVec 32 := Scalar.addi arg1 c1_i32_358
  let c0_i32_372 : BitVec 32 := 0#32
  let v453 : BitVec 1 := Scalar.cmpi .sgt v427 c0_i32_372
  let v454 : BitVec 32 := Scalar.extui v453
  let c0_i32_373 : BitVec 32 := 0#32
  let v455 : BitVec 1 := Scalar.cmpi .slt v427 c0_i32_373
  let v456 : BitVec 32 := Scalar.extui v455
  let v457 : BitVec 32 := Scalar.subi v454 v456
  let c4_i32_371 : BitVec 32 := 4#32
  let c0_i32_374 : BitVec 32 := 0#32
  let v458 : BitVec 1 := Scalar.cmpi .sgt c4_i32_371 c0_i32_374
  let v459 : BitVec 32 := Scalar.extui v458
  let c0_i32_375 : BitVec 32 := 0#32
  let v460 : BitVec 1 := Scalar.cmpi .slt c4_i32_371 c0_i32_375
  let v461 : BitVec 32 := Scalar.extui v460
  let v462 : BitVec 32 := Scalar.subi v459 v461
  let v463 : BitVec 1 := Scalar.cmpi .ne v457 v462
  let v464 : BitVec 32 := Scalar.remsi v427 c4_i32_371
  let c0_i32_376 : BitVec 32 := 0#32
  let v465 : BitVec 1 := Scalar.cmpi .ne v464 c0_i32_376
  let v466 : BitVec 1 := Scalar.andi v463 v465
  let v452 : BitVec 32 := Scalar.divsi v427 c4_i32_371
  let c1_i32_377 : BitVec 32 := 1#32
  let v467 : BitVec 32 := Scalar.subi v452 c1_i32_377
  let v468 : BitVec 32 := Scalar.select v466 v467 v452
  let c4_i32_378 : BitVec 32 := 4#32
  let v469 : BitVec 32 := Scalar.muli v468 c4_i32_378
  let v788 : BitVec 32 := Scalar.addi v469 c0_i32_579
  let v849 : Index := Scalar.indexCast v788
  let c432_637 : Index := 432#32
  let c0_638 : Index := 0#32
  ![0, v849.toNat, 432, 0]
def k0_off125 (i : grid0.Coords) (c0_i32_579 : BitVec 32) : Fin 5 → Nat :=
  let c1_644 : Index := 1#32
  let c0_645 : Index := 0#32
  let arg1 : BitVec 32 := BitVec.ofNat 32 (i 1).val
  let c1_i32_358 : BitVec 32 := 1#32
  let v427 : BitVec 32 := Scalar.addi arg1 c1_i32_358
  let c0_i32_372 : BitVec 32 := 0#32
  let v453 : BitVec 1 := Scalar.cmpi .sgt v427 c0_i32_372
  let v454 : BitVec 32 := Scalar.extui v453
  let c0_i32_373 : BitVec 32 := 0#32
  let v455 : BitVec 1 := Scalar.cmpi .slt v427 c0_i32_373
  let v456 : BitVec 32 := Scalar.extui v455
  let v457 : BitVec 32 := Scalar.subi v454 v456
  let c4_i32_371 : BitVec 32 := 4#32
  let c0_i32_374 : BitVec 32 := 0#32
  let v458 : BitVec 1 := Scalar.cmpi .sgt c4_i32_371 c0_i32_374
  let v459 : BitVec 32 := Scalar.extui v458
  let c0_i32_375 : BitVec 32 := 0#32
  let v460 : BitVec 1 := Scalar.cmpi .slt c4_i32_371 c0_i32_375
  let v461 : BitVec 32 := Scalar.extui v460
  let v462 : BitVec 32 := Scalar.subi v459 v461
  let v463 : BitVec 1 := Scalar.cmpi .ne v457 v462
  let v464 : BitVec 32 := Scalar.remsi v427 c4_i32_371
  let c0_i32_376 : BitVec 32 := 0#32
  let v465 : BitVec 1 := Scalar.cmpi .ne v464 c0_i32_376
  let v466 : BitVec 1 := Scalar.andi v463 v465
  let v452 : BitVec 32 := Scalar.divsi v427 c4_i32_371
  let c1_i32_377 : BitVec 32 := 1#32
  let v467 : BitVec 32 := Scalar.subi v452 c1_i32_377
  let v468 : BitVec 32 := Scalar.select v466 v467 v452
  let c4_i32_378 : BitVec 32 := 4#32
  let v469 : BitVec 32 := Scalar.muli v468 c4_i32_378
  let v788 : BitVec 32 := Scalar.addi v469 c0_i32_579
  let v857 : Index := Scalar.indexCast v788
  let c0_646 : Index := 0#32
  let c0_647 : Index := 0#32
  ![1, 0, v857.toNat, 0, 0]
def k0_off126 (i : grid0.Coords) (c0_i32_579 : BitVec 32) : Fin 4 → Nat :=
  let c1_652 : Index := 1#32
  let arg1 : BitVec 32 := BitVec.ofNat 32 (i 1).val
  let c1_i32_358 : BitVec 32 := 1#32
  let v427 : BitVec 32 := Scalar.addi arg1 c1_i32_358
  let c0_i32_372 : BitVec 32 := 0#32
  let v453 : BitVec 1 := Scalar.cmpi .sgt v427 c0_i32_372
  let v454 : BitVec 32 := Scalar.extui v453
  let c0_i32_373 : BitVec 32 := 0#32
  let v455 : BitVec 1 := Scalar.cmpi .slt v427 c0_i32_373
  let v456 : BitVec 32 := Scalar.extui v455
  let v457 : BitVec 32 := Scalar.subi v454 v456
  let c4_i32_371 : BitVec 32 := 4#32
  let c0_i32_374 : BitVec 32 := 0#32
  let v458 : BitVec 1 := Scalar.cmpi .sgt c4_i32_371 c0_i32_374
  let v459 : BitVec 32 := Scalar.extui v458
  let c0_i32_375 : BitVec 32 := 0#32
  let v460 : BitVec 1 := Scalar.cmpi .slt c4_i32_371 c0_i32_375
  let v461 : BitVec 32 := Scalar.extui v460
  let v462 : BitVec 32 := Scalar.subi v459 v461
  let v463 : BitVec 1 := Scalar.cmpi .ne v457 v462
  let v464 : BitVec 32 := Scalar.remsi v427 c4_i32_371
  let c0_i32_376 : BitVec 32 := 0#32
  let v465 : BitVec 1 := Scalar.cmpi .ne v464 c0_i32_376
  let v466 : BitVec 1 := Scalar.andi v463 v465
  let v452 : BitVec 32 := Scalar.divsi v427 c4_i32_371
  let c1_i32_377 : BitVec 32 := 1#32
  let v467 : BitVec 32 := Scalar.subi v452 c1_i32_377
  let v468 : BitVec 32 := Scalar.select v466 v467 v452
  let c4_i32_378 : BitVec 32 := 4#32
  let v469 : BitVec 32 := Scalar.muli v468 c4_i32_378
  let v788 : BitVec 32 := Scalar.addi v469 c0_i32_579
  let v866 : Index := Scalar.indexCast v788
  let c0_653 : Index := 0#32
  let c0_654 : Index := 0#32
  ![1, v866.toNat, 0, 0]
def k0_off127 (i : grid0.Coords) (c0_i32_579 : BitVec 32) : Fin 5 → Nat :=
  let c1_660 : Index := 1#32
  let c1_661 : Index := 1#32
  let arg1 : BitVec 32 := BitVec.ofNat 32 (i 1).val
  let c1_i32_358 : BitVec 32 := 1#32
  let v427 : BitVec 32 := Scalar.addi arg1 c1_i32_358
  let c0_i32_372 : BitVec 32 := 0#32
  let v453 : BitVec 1 := Scalar.cmpi .sgt v427 c0_i32_372
  let v454 : BitVec 32 := Scalar.extui v453
  let c0_i32_373 : BitVec 32 := 0#32
  let v455 : BitVec 1 := Scalar.cmpi .slt v427 c0_i32_373
  let v456 : BitVec 32 := Scalar.extui v455
  let v457 : BitVec 32 := Scalar.subi v454 v456
  let c4_i32_371 : BitVec 32 := 4#32
  let c0_i32_374 : BitVec 32 := 0#32
  let v458 : BitVec 1 := Scalar.cmpi .sgt c4_i32_371 c0_i32_374
  let v459 : BitVec 32 := Scalar.extui v458
  let c0_i32_375 : BitVec 32 := 0#32
  let v460 : BitVec 1 := Scalar.cmpi .slt c4_i32_371 c0_i32_375
  let v461 : BitVec 32 := Scalar.extui v460
  let v462 : BitVec 32 := Scalar.subi v459 v461
  let v463 : BitVec 1 := Scalar.cmpi .ne v457 v462
  let v464 : BitVec 32 := Scalar.remsi v427 c4_i32_371
  let c0_i32_376 : BitVec 32 := 0#32
  let v465 : BitVec 1 := Scalar.cmpi .ne v464 c0_i32_376
  let v466 : BitVec 1 := Scalar.andi v463 v465
  let v452 : BitVec 32 := Scalar.divsi v427 c4_i32_371
  let c1_i32_377 : BitVec 32 := 1#32
  let v467 : BitVec 32 := Scalar.subi v452 c1_i32_377
  let v468 : BitVec 32 := Scalar.select v466 v467 v452
  let c4_i32_378 : BitVec 32 := 4#32
  let v469 : BitVec 32 := Scalar.muli v468 c4_i32_378
  let v788 : BitVec 32 := Scalar.addi v469 c0_i32_579
  let v874 : Index := Scalar.indexCast v788
  let c0_662 : Index := 0#32
  let c0_663 : Index := 0#32
  ![1, 1, v874.toNat, 0, 0]
def k0_off128 (i : grid0.Coords) (c0_i32_579 : BitVec 32) : Fin 4 → Nat :=
  let c1_668 : Index := 1#32
  let arg1 : BitVec 32 := BitVec.ofNat 32 (i 1).val
  let c1_i32_358 : BitVec 32 := 1#32
  let v427 : BitVec 32 := Scalar.addi arg1 c1_i32_358
  let c0_i32_372 : BitVec 32 := 0#32
  let v453 : BitVec 1 := Scalar.cmpi .sgt v427 c0_i32_372
  let v454 : BitVec 32 := Scalar.extui v453
  let c0_i32_373 : BitVec 32 := 0#32
  let v455 : BitVec 1 := Scalar.cmpi .slt v427 c0_i32_373
  let v456 : BitVec 32 := Scalar.extui v455
  let v457 : BitVec 32 := Scalar.subi v454 v456
  let c4_i32_371 : BitVec 32 := 4#32
  let c0_i32_374 : BitVec 32 := 0#32
  let v458 : BitVec 1 := Scalar.cmpi .sgt c4_i32_371 c0_i32_374
  let v459 : BitVec 32 := Scalar.extui v458
  let c0_i32_375 : BitVec 32 := 0#32
  let v460 : BitVec 1 := Scalar.cmpi .slt c4_i32_371 c0_i32_375
  let v461 : BitVec 32 := Scalar.extui v460
  let v462 : BitVec 32 := Scalar.subi v459 v461
  let v463 : BitVec 1 := Scalar.cmpi .ne v457 v462
  let v464 : BitVec 32 := Scalar.remsi v427 c4_i32_371
  let c0_i32_376 : BitVec 32 := 0#32
  let v465 : BitVec 1 := Scalar.cmpi .ne v464 c0_i32_376
  let v466 : BitVec 1 := Scalar.andi v463 v465
  let v452 : BitVec 32 := Scalar.divsi v427 c4_i32_371
  let c1_i32_377 : BitVec 32 := 1#32
  let v467 : BitVec 32 := Scalar.subi v452 c1_i32_377
  let v468 : BitVec 32 := Scalar.select v466 v467 v452
  let c4_i32_378 : BitVec 32 := 4#32
  let v469 : BitVec 32 := Scalar.muli v468 c4_i32_378
  let v788 : BitVec 32 := Scalar.addi v469 c0_i32_579
  let v883 : Index := Scalar.indexCast v788
  let c144_669 : Index := 144#32
  let c0_670 : Index := 0#32
  ![1, v883.toNat, 144, 0]
def k0_off129 (i : grid0.Coords) (c0_i32_579 : BitVec 32) : Fin 5 → Nat :=
  let c1_676 : Index := 1#32
  let c2_677 : Index := 2#32
  let arg1 : BitVec 32 := BitVec.ofNat 32 (i 1).val
  let c1_i32_358 : BitVec 32 := 1#32
  let v427 : BitVec 32 := Scalar.addi arg1 c1_i32_358
  let c0_i32_372 : BitVec 32 := 0#32
  let v453 : BitVec 1 := Scalar.cmpi .sgt v427 c0_i32_372
  let v454 : BitVec 32 := Scalar.extui v453
  let c0_i32_373 : BitVec 32 := 0#32
  let v455 : BitVec 1 := Scalar.cmpi .slt v427 c0_i32_373
  let v456 : BitVec 32 := Scalar.extui v455
  let v457 : BitVec 32 := Scalar.subi v454 v456
  let c4_i32_371 : BitVec 32 := 4#32
  let c0_i32_374 : BitVec 32 := 0#32
  let v458 : BitVec 1 := Scalar.cmpi .sgt c4_i32_371 c0_i32_374
  let v459 : BitVec 32 := Scalar.extui v458
  let c0_i32_375 : BitVec 32 := 0#32
  let v460 : BitVec 1 := Scalar.cmpi .slt c4_i32_371 c0_i32_375
  let v461 : BitVec 32 := Scalar.extui v460
  let v462 : BitVec 32 := Scalar.subi v459 v461
  let v463 : BitVec 1 := Scalar.cmpi .ne v457 v462
  let v464 : BitVec 32 := Scalar.remsi v427 c4_i32_371
  let c0_i32_376 : BitVec 32 := 0#32
  let v465 : BitVec 1 := Scalar.cmpi .ne v464 c0_i32_376
  let v466 : BitVec 1 := Scalar.andi v463 v465
  let v452 : BitVec 32 := Scalar.divsi v427 c4_i32_371
  let c1_i32_377 : BitVec 32 := 1#32
  let v467 : BitVec 32 := Scalar.subi v452 c1_i32_377
  let v468 : BitVec 32 := Scalar.select v466 v467 v452
  let c4_i32_378 : BitVec 32 := 4#32
  let v469 : BitVec 32 := Scalar.muli v468 c4_i32_378
  let v788 : BitVec 32 := Scalar.addi v469 c0_i32_579
  let v891 : Index := Scalar.indexCast v788
  let c0_678 : Index := 0#32
  let c0_679 : Index := 0#32
  ![1, 2, v891.toNat, 0, 0]
def k0_off130 (i : grid0.Coords) (c0_i32_579 : BitVec 32) : Fin 4 → Nat :=
  let c1_684 : Index := 1#32
  let arg1 : BitVec 32 := BitVec.ofNat 32 (i 1).val
  let c1_i32_358 : BitVec 32 := 1#32
  let v427 : BitVec 32 := Scalar.addi arg1 c1_i32_358
  let c0_i32_372 : BitVec 32 := 0#32
  let v453 : BitVec 1 := Scalar.cmpi .sgt v427 c0_i32_372
  let v454 : BitVec 32 := Scalar.extui v453
  let c0_i32_373 : BitVec 32 := 0#32
  let v455 : BitVec 1 := Scalar.cmpi .slt v427 c0_i32_373
  let v456 : BitVec 32 := Scalar.extui v455
  let v457 : BitVec 32 := Scalar.subi v454 v456
  let c4_i32_371 : BitVec 32 := 4#32
  let c0_i32_374 : BitVec 32 := 0#32
  let v458 : BitVec 1 := Scalar.cmpi .sgt c4_i32_371 c0_i32_374
  let v459 : BitVec 32 := Scalar.extui v458
  let c0_i32_375 : BitVec 32 := 0#32
  let v460 : BitVec 1 := Scalar.cmpi .slt c4_i32_371 c0_i32_375
  let v461 : BitVec 32 := Scalar.extui v460
  let v462 : BitVec 32 := Scalar.subi v459 v461
  let v463 : BitVec 1 := Scalar.cmpi .ne v457 v462
  let v464 : BitVec 32 := Scalar.remsi v427 c4_i32_371
  let c0_i32_376 : BitVec 32 := 0#32
  let v465 : BitVec 1 := Scalar.cmpi .ne v464 c0_i32_376
  let v466 : BitVec 1 := Scalar.andi v463 v465
  let v452 : BitVec 32 := Scalar.divsi v427 c4_i32_371
  let c1_i32_377 : BitVec 32 := 1#32
  let v467 : BitVec 32 := Scalar.subi v452 c1_i32_377
  let v468 : BitVec 32 := Scalar.select v466 v467 v452
  let c4_i32_378 : BitVec 32 := 4#32
  let v469 : BitVec 32 := Scalar.muli v468 c4_i32_378
  let v788 : BitVec 32 := Scalar.addi v469 c0_i32_579
  let v900 : Index := Scalar.indexCast v788
  let c288_685 : Index := 288#32
  let c0_686 : Index := 0#32
  ![1, v900.toNat, 288, 0]
def k0_off131 (i : grid0.Coords) (c0_i32_579 : BitVec 32) : Fin 5 → Nat :=
  let c1_692 : Index := 1#32
  let c3_693 : Index := 3#32
  let arg1 : BitVec 32 := BitVec.ofNat 32 (i 1).val
  let c1_i32_358 : BitVec 32 := 1#32
  let v427 : BitVec 32 := Scalar.addi arg1 c1_i32_358
  let c0_i32_372 : BitVec 32 := 0#32
  let v453 : BitVec 1 := Scalar.cmpi .sgt v427 c0_i32_372
  let v454 : BitVec 32 := Scalar.extui v453
  let c0_i32_373 : BitVec 32 := 0#32
  let v455 : BitVec 1 := Scalar.cmpi .slt v427 c0_i32_373
  let v456 : BitVec 32 := Scalar.extui v455
  let v457 : BitVec 32 := Scalar.subi v454 v456
  let c4_i32_371 : BitVec 32 := 4#32
  let c0_i32_374 : BitVec 32 := 0#32
  let v458 : BitVec 1 := Scalar.cmpi .sgt c4_i32_371 c0_i32_374
  let v459 : BitVec 32 := Scalar.extui v458
  let c0_i32_375 : BitVec 32 := 0#32
  let v460 : BitVec 1 := Scalar.cmpi .slt c4_i32_371 c0_i32_375
  let v461 : BitVec 32 := Scalar.extui v460
  let v462 : BitVec 32 := Scalar.subi v459 v461
  let v463 : BitVec 1 := Scalar.cmpi .ne v457 v462
  let v464 : BitVec 32 := Scalar.remsi v427 c4_i32_371
  let c0_i32_376 : BitVec 32 := 0#32
  let v465 : BitVec 1 := Scalar.cmpi .ne v464 c0_i32_376
  let v466 : BitVec 1 := Scalar.andi v463 v465
  let v452 : BitVec 32 := Scalar.divsi v427 c4_i32_371
  let c1_i32_377 : BitVec 32 := 1#32
  let v467 : BitVec 32 := Scalar.subi v452 c1_i32_377
  let v468 : BitVec 32 := Scalar.select v466 v467 v452
  let c4_i32_378 : BitVec 32 := 4#32
  let v469 : BitVec 32 := Scalar.muli v468 c4_i32_378
  let v788 : BitVec 32 := Scalar.addi v469 c0_i32_579
  let v908 : Index := Scalar.indexCast v788
  let c0_694 : Index := 0#32
  let c0_695 : Index := 0#32
  ![1, 3, v908.toNat, 0, 0]
def k0_off132 (i : grid0.Coords) (c0_i32_579 : BitVec 32) : Fin 4 → Nat :=
  let c1_700 : Index := 1#32
  let arg1 : BitVec 32 := BitVec.ofNat 32 (i 1).val
  let c1_i32_358 : BitVec 32 := 1#32
  let v427 : BitVec 32 := Scalar.addi arg1 c1_i32_358
  let c0_i32_372 : BitVec 32 := 0#32
  let v453 : BitVec 1 := Scalar.cmpi .sgt v427 c0_i32_372
  let v454 : BitVec 32 := Scalar.extui v453
  let c0_i32_373 : BitVec 32 := 0#32
  let v455 : BitVec 1 := Scalar.cmpi .slt v427 c0_i32_373
  let v456 : BitVec 32 := Scalar.extui v455
  let v457 : BitVec 32 := Scalar.subi v454 v456
  let c4_i32_371 : BitVec 32 := 4#32
  let c0_i32_374 : BitVec 32 := 0#32
  let v458 : BitVec 1 := Scalar.cmpi .sgt c4_i32_371 c0_i32_374
  let v459 : BitVec 32 := Scalar.extui v458
  let c0_i32_375 : BitVec 32 := 0#32
  let v460 : BitVec 1 := Scalar.cmpi .slt c4_i32_371 c0_i32_375
  let v461 : BitVec 32 := Scalar.extui v460
  let v462 : BitVec 32 := Scalar.subi v459 v461
  let v463 : BitVec 1 := Scalar.cmpi .ne v457 v462
  let v464 : BitVec 32 := Scalar.remsi v427 c4_i32_371
  let c0_i32_376 : BitVec 32 := 0#32
  let v465 : BitVec 1 := Scalar.cmpi .ne v464 c0_i32_376
  let v466 : BitVec 1 := Scalar.andi v463 v465
  let v452 : BitVec 32 := Scalar.divsi v427 c4_i32_371
  let c1_i32_377 : BitVec 32 := 1#32
  let v467 : BitVec 32 := Scalar.subi v452 c1_i32_377
  let v468 : BitVec 32 := Scalar.select v466 v467 v452
  let c4_i32_378 : BitVec 32 := 4#32
  let v469 : BitVec 32 := Scalar.muli v468 c4_i32_378
  let v788 : BitVec 32 := Scalar.addi v469 c0_i32_579
  let v917 : Index := Scalar.indexCast v788
  let c432_701 : Index := 432#32
  let c0_702 : Index := 0#32
  ![1, v917.toNat, 432, 0]
def k0_cond4 (i : grid0.Coords) : BitVec 1 :=
  let arg1 : BitVec 32 := BitVec.ofNat 32 (i 1).val
  let c1_i32_358 : BitVec 32 := 1#32
  let v427 : BitVec 32 := Scalar.addi arg1 c1_i32_358
  let c0_i32_382 : BitVec 32 := 0#32
  let v475 : BitVec 1 := Scalar.cmpi .sgt v427 c0_i32_382
  let v476 : BitVec 32 := Scalar.extui v475
  let c0_i32_383 : BitVec 32 := 0#32
  let v477 : BitVec 1 := Scalar.cmpi .slt v427 c0_i32_383
  let v478 : BitVec 32 := Scalar.extui v477
  let v479 : BitVec 32 := Scalar.subi v476 v478
  let c2_i32_381 : BitVec 32 := 2#32
  let c0_i32_384 : BitVec 32 := 0#32
  let v480 : BitVec 1 := Scalar.cmpi .sgt c2_i32_381 c0_i32_384
  let v481 : BitVec 32 := Scalar.extui v480
  let c0_i32_385 : BitVec 32 := 0#32
  let v482 : BitVec 1 := Scalar.cmpi .slt c2_i32_381 c0_i32_385
  let v483 : BitVec 32 := Scalar.extui v482
  let v484 : BitVec 32 := Scalar.subi v481 v483
  let v485 : BitVec 1 := Scalar.cmpi .ne v479 v484
  let v486 : BitVec 32 := Scalar.remsi v427 c2_i32_381
  let c0_i32_386 : BitVec 32 := 0#32
  let v487 : BitVec 1 := Scalar.cmpi .ne v486 c0_i32_386
  let v488 : BitVec 1 := Scalar.andi v485 v487
  let v474 : BitVec 32 := Scalar.divsi v427 c2_i32_381
  let c1_i32_387 : BitVec 32 := 1#32
  let v489 : BitVec 32 := Scalar.subi v474 c1_i32_387
  let v490 : BitVec 32 := Scalar.select v488 v489 v474
  let c2_i32_388 : BitVec 32 := 2#32
  let v491 : BitVec 32 := Scalar.muli v490 c2_i32_388
  let v492 : BitVec 32 := Scalar.subi v427 v491
  let c1_i32_389 : BitVec 32 := 1#32
  let v493 : BitVec 1 := Scalar.cmpi .eq v492 c1_i32_389
  let v494 : BitVec 32 := Scalar.extui v493
  let c0_i32_390 : BitVec 32 := 0#32
  let v495 : BitVec 1 := Scalar.cmpi .ne v494 c0_i32_390
  v495

def k0_off133 (i : grid0.Coords) : Fin 5 → Nat :=
  let c0_580 : Index := 0#32
  let c0_581 : Index := 0#32
  let arg1 : BitVec 32 := BitVec.ofNat 32 (i 1).val
  let c1_i32_358 : BitVec 32 := 1#32
  let v427 : BitVec 32 := Scalar.addi arg1 c1_i32_358
  let c0_i32_382 : BitVec 32 := 0#32
  let v475 : BitVec 1 := Scalar.cmpi .sgt v427 c0_i32_382
  let v476 : BitVec 32 := Scalar.extui v475
  let c0_i32_383 : BitVec 32 := 0#32
  let v477 : BitVec 1 := Scalar.cmpi .slt v427 c0_i32_383
  let v478 : BitVec 32 := Scalar.extui v477
  let v479 : BitVec 32 := Scalar.subi v476 v478
  let c2_i32_381 : BitVec 32 := 2#32
  let c0_i32_384 : BitVec 32 := 0#32
  let v480 : BitVec 1 := Scalar.cmpi .sgt c2_i32_381 c0_i32_384
  let v481 : BitVec 32 := Scalar.extui v480
  let c0_i32_385 : BitVec 32 := 0#32
  let v482 : BitVec 1 := Scalar.cmpi .slt c2_i32_381 c0_i32_385
  let v483 : BitVec 32 := Scalar.extui v482
  let v484 : BitVec 32 := Scalar.subi v481 v483
  let v485 : BitVec 1 := Scalar.cmpi .ne v479 v484
  let v486 : BitVec 32 := Scalar.remsi v427 c2_i32_381
  let c0_i32_386 : BitVec 32 := 0#32
  let v487 : BitVec 1 := Scalar.cmpi .ne v486 c0_i32_386
  let v488 : BitVec 1 := Scalar.andi v485 v487
  let v474 : BitVec 32 := Scalar.divsi v427 c2_i32_381
  let c1_i32_387 : BitVec 32 := 1#32
  let v489 : BitVec 32 := Scalar.subi v474 c1_i32_387
  let v490 : BitVec 32 := Scalar.select v488 v489 v474
  let c2_i32_388 : BitVec 32 := 2#32
  let v491 : BitVec 32 := Scalar.muli v490 c2_i32_388
  let c0_i32_579 : BitVec 32 := 0#32
  let v788 : BitVec 32 := Scalar.addi v491 c0_i32_579
  let v789 : Index := Scalar.indexCast v788
  let c0_582 : Index := 0#32
  let c0_583 : Index := 0#32
  ![0, 0, v789.toNat, 0, 0]
def k0_off134 (i : grid0.Coords) : Fin 4 → Nat :=
  let c0_588 : Index := 0#32
  let arg1 : BitVec 32 := BitVec.ofNat 32 (i 1).val
  let c1_i32_358 : BitVec 32 := 1#32
  let v427 : BitVec 32 := Scalar.addi arg1 c1_i32_358
  let c0_i32_382 : BitVec 32 := 0#32
  let v475 : BitVec 1 := Scalar.cmpi .sgt v427 c0_i32_382
  let v476 : BitVec 32 := Scalar.extui v475
  let c0_i32_383 : BitVec 32 := 0#32
  let v477 : BitVec 1 := Scalar.cmpi .slt v427 c0_i32_383
  let v478 : BitVec 32 := Scalar.extui v477
  let v479 : BitVec 32 := Scalar.subi v476 v478
  let c2_i32_381 : BitVec 32 := 2#32
  let c0_i32_384 : BitVec 32 := 0#32
  let v480 : BitVec 1 := Scalar.cmpi .sgt c2_i32_381 c0_i32_384
  let v481 : BitVec 32 := Scalar.extui v480
  let c0_i32_385 : BitVec 32 := 0#32
  let v482 : BitVec 1 := Scalar.cmpi .slt c2_i32_381 c0_i32_385
  let v483 : BitVec 32 := Scalar.extui v482
  let v484 : BitVec 32 := Scalar.subi v481 v483
  let v485 : BitVec 1 := Scalar.cmpi .ne v479 v484
  let v486 : BitVec 32 := Scalar.remsi v427 c2_i32_381
  let c0_i32_386 : BitVec 32 := 0#32
  let v487 : BitVec 1 := Scalar.cmpi .ne v486 c0_i32_386
  let v488 : BitVec 1 := Scalar.andi v485 v487
  let v474 : BitVec 32 := Scalar.divsi v427 c2_i32_381
  let c1_i32_387 : BitVec 32 := 1#32
  let v489 : BitVec 32 := Scalar.subi v474 c1_i32_387
  let v490 : BitVec 32 := Scalar.select v488 v489 v474
  let c2_i32_388 : BitVec 32 := 2#32
  let v491 : BitVec 32 := Scalar.muli v490 c2_i32_388
  let c0_i32_579 : BitVec 32 := 0#32
  let v788 : BitVec 32 := Scalar.addi v491 c0_i32_579
  let v798 : Index := Scalar.indexCast v788
  let c0_589 : Index := 0#32
  let c0_590 : Index := 0#32
  ![0, v798.toNat, 0, 0]
def k0_off135 (i : grid0.Coords) : Fin 5 → Nat :=
  let c0_596 : Index := 0#32
  let c1_597 : Index := 1#32
  let arg1 : BitVec 32 := BitVec.ofNat 32 (i 1).val
  let c1_i32_358 : BitVec 32 := 1#32
  let v427 : BitVec 32 := Scalar.addi arg1 c1_i32_358
  let c0_i32_382 : BitVec 32 := 0#32
  let v475 : BitVec 1 := Scalar.cmpi .sgt v427 c0_i32_382
  let v476 : BitVec 32 := Scalar.extui v475
  let c0_i32_383 : BitVec 32 := 0#32
  let v477 : BitVec 1 := Scalar.cmpi .slt v427 c0_i32_383
  let v478 : BitVec 32 := Scalar.extui v477
  let v479 : BitVec 32 := Scalar.subi v476 v478
  let c2_i32_381 : BitVec 32 := 2#32
  let c0_i32_384 : BitVec 32 := 0#32
  let v480 : BitVec 1 := Scalar.cmpi .sgt c2_i32_381 c0_i32_384
  let v481 : BitVec 32 := Scalar.extui v480
  let c0_i32_385 : BitVec 32 := 0#32
  let v482 : BitVec 1 := Scalar.cmpi .slt c2_i32_381 c0_i32_385
  let v483 : BitVec 32 := Scalar.extui v482
  let v484 : BitVec 32 := Scalar.subi v481 v483
  let v485 : BitVec 1 := Scalar.cmpi .ne v479 v484
  let v486 : BitVec 32 := Scalar.remsi v427 c2_i32_381
  let c0_i32_386 : BitVec 32 := 0#32
  let v487 : BitVec 1 := Scalar.cmpi .ne v486 c0_i32_386
  let v488 : BitVec 1 := Scalar.andi v485 v487
  let v474 : BitVec 32 := Scalar.divsi v427 c2_i32_381
  let c1_i32_387 : BitVec 32 := 1#32
  let v489 : BitVec 32 := Scalar.subi v474 c1_i32_387
  let v490 : BitVec 32 := Scalar.select v488 v489 v474
  let c2_i32_388 : BitVec 32 := 2#32
  let v491 : BitVec 32 := Scalar.muli v490 c2_i32_388
  let c0_i32_579 : BitVec 32 := 0#32
  let v788 : BitVec 32 := Scalar.addi v491 c0_i32_579
  let v806 : Index := Scalar.indexCast v788
  let c0_598 : Index := 0#32
  let c0_599 : Index := 0#32
  ![0, 1, v806.toNat, 0, 0]
def k0_off136 (i : grid0.Coords) : Fin 4 → Nat :=
  let c0_604 : Index := 0#32
  let arg1 : BitVec 32 := BitVec.ofNat 32 (i 1).val
  let c1_i32_358 : BitVec 32 := 1#32
  let v427 : BitVec 32 := Scalar.addi arg1 c1_i32_358
  let c0_i32_382 : BitVec 32 := 0#32
  let v475 : BitVec 1 := Scalar.cmpi .sgt v427 c0_i32_382
  let v476 : BitVec 32 := Scalar.extui v475
  let c0_i32_383 : BitVec 32 := 0#32
  let v477 : BitVec 1 := Scalar.cmpi .slt v427 c0_i32_383
  let v478 : BitVec 32 := Scalar.extui v477
  let v479 : BitVec 32 := Scalar.subi v476 v478
  let c2_i32_381 : BitVec 32 := 2#32
  let c0_i32_384 : BitVec 32 := 0#32
  let v480 : BitVec 1 := Scalar.cmpi .sgt c2_i32_381 c0_i32_384
  let v481 : BitVec 32 := Scalar.extui v480
  let c0_i32_385 : BitVec 32 := 0#32
  let v482 : BitVec 1 := Scalar.cmpi .slt c2_i32_381 c0_i32_385
  let v483 : BitVec 32 := Scalar.extui v482
  let v484 : BitVec 32 := Scalar.subi v481 v483
  let v485 : BitVec 1 := Scalar.cmpi .ne v479 v484
  let v486 : BitVec 32 := Scalar.remsi v427 c2_i32_381
  let c0_i32_386 : BitVec 32 := 0#32
  let v487 : BitVec 1 := Scalar.cmpi .ne v486 c0_i32_386
  let v488 : BitVec 1 := Scalar.andi v485 v487
  let v474 : BitVec 32 := Scalar.divsi v427 c2_i32_381
  let c1_i32_387 : BitVec 32 := 1#32
  let v489 : BitVec 32 := Scalar.subi v474 c1_i32_387
  let v490 : BitVec 32 := Scalar.select v488 v489 v474
  let c2_i32_388 : BitVec 32 := 2#32
  let v491 : BitVec 32 := Scalar.muli v490 c2_i32_388
  let c0_i32_579 : BitVec 32 := 0#32
  let v788 : BitVec 32 := Scalar.addi v491 c0_i32_579
  let v815 : Index := Scalar.indexCast v788
  let c144_605 : Index := 144#32
  let c0_606 : Index := 0#32
  ![0, v815.toNat, 144, 0]
def k0_off137 (i : grid0.Coords) : Fin 5 → Nat :=
  let c0_612 : Index := 0#32
  let c2_613 : Index := 2#32
  let arg1 : BitVec 32 := BitVec.ofNat 32 (i 1).val
  let c1_i32_358 : BitVec 32 := 1#32
  let v427 : BitVec 32 := Scalar.addi arg1 c1_i32_358
  let c0_i32_382 : BitVec 32 := 0#32
  let v475 : BitVec 1 := Scalar.cmpi .sgt v427 c0_i32_382
  let v476 : BitVec 32 := Scalar.extui v475
  let c0_i32_383 : BitVec 32 := 0#32
  let v477 : BitVec 1 := Scalar.cmpi .slt v427 c0_i32_383
  let v478 : BitVec 32 := Scalar.extui v477
  let v479 : BitVec 32 := Scalar.subi v476 v478
  let c2_i32_381 : BitVec 32 := 2#32
  let c0_i32_384 : BitVec 32 := 0#32
  let v480 : BitVec 1 := Scalar.cmpi .sgt c2_i32_381 c0_i32_384
  let v481 : BitVec 32 := Scalar.extui v480
  let c0_i32_385 : BitVec 32 := 0#32
  let v482 : BitVec 1 := Scalar.cmpi .slt c2_i32_381 c0_i32_385
  let v483 : BitVec 32 := Scalar.extui v482
  let v484 : BitVec 32 := Scalar.subi v481 v483
  let v485 : BitVec 1 := Scalar.cmpi .ne v479 v484
  let v486 : BitVec 32 := Scalar.remsi v427 c2_i32_381
  let c0_i32_386 : BitVec 32 := 0#32
  let v487 : BitVec 1 := Scalar.cmpi .ne v486 c0_i32_386
  let v488 : BitVec 1 := Scalar.andi v485 v487
  let v474 : BitVec 32 := Scalar.divsi v427 c2_i32_381
  let c1_i32_387 : BitVec 32 := 1#32
  let v489 : BitVec 32 := Scalar.subi v474 c1_i32_387
  let v490 : BitVec 32 := Scalar.select v488 v489 v474
  let c2_i32_388 : BitVec 32 := 2#32
  let v491 : BitVec 32 := Scalar.muli v490 c2_i32_388
  let c0_i32_579 : BitVec 32 := 0#32
  let v788 : BitVec 32 := Scalar.addi v491 c0_i32_579
  let v823 : Index := Scalar.indexCast v788
  let c0_614 : Index := 0#32
  let c0_615 : Index := 0#32
  ![0, 2, v823.toNat, 0, 0]
def k0_off138 (i : grid0.Coords) : Fin 4 → Nat :=
  let c0_620 : Index := 0#32
  let arg1 : BitVec 32 := BitVec.ofNat 32 (i 1).val
  let c1_i32_358 : BitVec 32 := 1#32
  let v427 : BitVec 32 := Scalar.addi arg1 c1_i32_358
  let c0_i32_382 : BitVec 32 := 0#32
  let v475 : BitVec 1 := Scalar.cmpi .sgt v427 c0_i32_382
  let v476 : BitVec 32 := Scalar.extui v475
  let c0_i32_383 : BitVec 32 := 0#32
  let v477 : BitVec 1 := Scalar.cmpi .slt v427 c0_i32_383
  let v478 : BitVec 32 := Scalar.extui v477
  let v479 : BitVec 32 := Scalar.subi v476 v478
  let c2_i32_381 : BitVec 32 := 2#32
  let c0_i32_384 : BitVec 32 := 0#32
  let v480 : BitVec 1 := Scalar.cmpi .sgt c2_i32_381 c0_i32_384
  let v481 : BitVec 32 := Scalar.extui v480
  let c0_i32_385 : BitVec 32 := 0#32
  let v482 : BitVec 1 := Scalar.cmpi .slt c2_i32_381 c0_i32_385
  let v483 : BitVec 32 := Scalar.extui v482
  let v484 : BitVec 32 := Scalar.subi v481 v483
  let v485 : BitVec 1 := Scalar.cmpi .ne v479 v484
  let v486 : BitVec 32 := Scalar.remsi v427 c2_i32_381
  let c0_i32_386 : BitVec 32 := 0#32
  let v487 : BitVec 1 := Scalar.cmpi .ne v486 c0_i32_386
  let v488 : BitVec 1 := Scalar.andi v485 v487
  let v474 : BitVec 32 := Scalar.divsi v427 c2_i32_381
  let c1_i32_387 : BitVec 32 := 1#32
  let v489 : BitVec 32 := Scalar.subi v474 c1_i32_387
  let v490 : BitVec 32 := Scalar.select v488 v489 v474
  let c2_i32_388 : BitVec 32 := 2#32
  let v491 : BitVec 32 := Scalar.muli v490 c2_i32_388
  let c0_i32_579 : BitVec 32 := 0#32
  let v788 : BitVec 32 := Scalar.addi v491 c0_i32_579
  let v832 : Index := Scalar.indexCast v788
  let c288_621 : Index := 288#32
  let c0_622 : Index := 0#32
  ![0, v832.toNat, 288, 0]
def k0_off139 (i : grid0.Coords) : Fin 5 → Nat :=
  let c0_628 : Index := 0#32
  let c3_629 : Index := 3#32
  let arg1 : BitVec 32 := BitVec.ofNat 32 (i 1).val
  let c1_i32_358 : BitVec 32 := 1#32
  let v427 : BitVec 32 := Scalar.addi arg1 c1_i32_358
  let c0_i32_382 : BitVec 32 := 0#32
  let v475 : BitVec 1 := Scalar.cmpi .sgt v427 c0_i32_382
  let v476 : BitVec 32 := Scalar.extui v475
  let c0_i32_383 : BitVec 32 := 0#32
  let v477 : BitVec 1 := Scalar.cmpi .slt v427 c0_i32_383
  let v478 : BitVec 32 := Scalar.extui v477
  let v479 : BitVec 32 := Scalar.subi v476 v478
  let c2_i32_381 : BitVec 32 := 2#32
  let c0_i32_384 : BitVec 32 := 0#32
  let v480 : BitVec 1 := Scalar.cmpi .sgt c2_i32_381 c0_i32_384
  let v481 : BitVec 32 := Scalar.extui v480
  let c0_i32_385 : BitVec 32 := 0#32
  let v482 : BitVec 1 := Scalar.cmpi .slt c2_i32_381 c0_i32_385
  let v483 : BitVec 32 := Scalar.extui v482
  let v484 : BitVec 32 := Scalar.subi v481 v483
  let v485 : BitVec 1 := Scalar.cmpi .ne v479 v484
  let v486 : BitVec 32 := Scalar.remsi v427 c2_i32_381
  let c0_i32_386 : BitVec 32 := 0#32
  let v487 : BitVec 1 := Scalar.cmpi .ne v486 c0_i32_386
  let v488 : BitVec 1 := Scalar.andi v485 v487
  let v474 : BitVec 32 := Scalar.divsi v427 c2_i32_381
  let c1_i32_387 : BitVec 32 := 1#32
  let v489 : BitVec 32 := Scalar.subi v474 c1_i32_387
  let v490 : BitVec 32 := Scalar.select v488 v489 v474
  let c2_i32_388 : BitVec 32 := 2#32
  let v491 : BitVec 32 := Scalar.muli v490 c2_i32_388
  let c0_i32_579 : BitVec 32 := 0#32
  let v788 : BitVec 32 := Scalar.addi v491 c0_i32_579
  let v840 : Index := Scalar.indexCast v788
  let c0_630 : Index := 0#32
  let c0_631 : Index := 0#32
  ![0, 3, v840.toNat, 0, 0]
def k0_off140 (i : grid0.Coords) : Fin 4 → Nat :=
  let c0_636 : Index := 0#32
  let arg1 : BitVec 32 := BitVec.ofNat 32 (i 1).val
  let c1_i32_358 : BitVec 32 := 1#32
  let v427 : BitVec 32 := Scalar.addi arg1 c1_i32_358
  let c0_i32_382 : BitVec 32 := 0#32
  let v475 : BitVec 1 := Scalar.cmpi .sgt v427 c0_i32_382
  let v476 : BitVec 32 := Scalar.extui v475
  let c0_i32_383 : BitVec 32 := 0#32
  let v477 : BitVec 1 := Scalar.cmpi .slt v427 c0_i32_383
  let v478 : BitVec 32 := Scalar.extui v477
  let v479 : BitVec 32 := Scalar.subi v476 v478
  let c2_i32_381 : BitVec 32 := 2#32
  let c0_i32_384 : BitVec 32 := 0#32
  let v480 : BitVec 1 := Scalar.cmpi .sgt c2_i32_381 c0_i32_384
  let v481 : BitVec 32 := Scalar.extui v480
  let c0_i32_385 : BitVec 32 := 0#32
  let v482 : BitVec 1 := Scalar.cmpi .slt c2_i32_381 c0_i32_385
  let v483 : BitVec 32 := Scalar.extui v482
  let v484 : BitVec 32 := Scalar.subi v481 v483
  let v485 : BitVec 1 := Scalar.cmpi .ne v479 v484
  let v486 : BitVec 32 := Scalar.remsi v427 c2_i32_381
  let c0_i32_386 : BitVec 32 := 0#32
  let v487 : BitVec 1 := Scalar.cmpi .ne v486 c0_i32_386
  let v488 : BitVec 1 := Scalar.andi v485 v487
  let v474 : BitVec 32 := Scalar.divsi v427 c2_i32_381
  let c1_i32_387 : BitVec 32 := 1#32
  let v489 : BitVec 32 := Scalar.subi v474 c1_i32_387
  let v490 : BitVec 32 := Scalar.select v488 v489 v474
  let c2_i32_388 : BitVec 32 := 2#32
  let v491 : BitVec 32 := Scalar.muli v490 c2_i32_388
  let c0_i32_579 : BitVec 32 := 0#32
  let v788 : BitVec 32 := Scalar.addi v491 c0_i32_579
  let v849 : Index := Scalar.indexCast v788
  let c432_637 : Index := 432#32
  let c0_638 : Index := 0#32
  ![0, v849.toNat, 432, 0]
def k0_off141 (i : grid0.Coords) : Fin 5 → Nat :=
  let c1_644 : Index := 1#32
  let c0_645 : Index := 0#32
  let arg1 : BitVec 32 := BitVec.ofNat 32 (i 1).val
  let c1_i32_358 : BitVec 32 := 1#32
  let v427 : BitVec 32 := Scalar.addi arg1 c1_i32_358
  let c0_i32_382 : BitVec 32 := 0#32
  let v475 : BitVec 1 := Scalar.cmpi .sgt v427 c0_i32_382
  let v476 : BitVec 32 := Scalar.extui v475
  let c0_i32_383 : BitVec 32 := 0#32
  let v477 : BitVec 1 := Scalar.cmpi .slt v427 c0_i32_383
  let v478 : BitVec 32 := Scalar.extui v477
  let v479 : BitVec 32 := Scalar.subi v476 v478
  let c2_i32_381 : BitVec 32 := 2#32
  let c0_i32_384 : BitVec 32 := 0#32
  let v480 : BitVec 1 := Scalar.cmpi .sgt c2_i32_381 c0_i32_384
  let v481 : BitVec 32 := Scalar.extui v480
  let c0_i32_385 : BitVec 32 := 0#32
  let v482 : BitVec 1 := Scalar.cmpi .slt c2_i32_381 c0_i32_385
  let v483 : BitVec 32 := Scalar.extui v482
  let v484 : BitVec 32 := Scalar.subi v481 v483
  let v485 : BitVec 1 := Scalar.cmpi .ne v479 v484
  let v486 : BitVec 32 := Scalar.remsi v427 c2_i32_381
  let c0_i32_386 : BitVec 32 := 0#32
  let v487 : BitVec 1 := Scalar.cmpi .ne v486 c0_i32_386
  let v488 : BitVec 1 := Scalar.andi v485 v487
  let v474 : BitVec 32 := Scalar.divsi v427 c2_i32_381
  let c1_i32_387 : BitVec 32 := 1#32
  let v489 : BitVec 32 := Scalar.subi v474 c1_i32_387
  let v490 : BitVec 32 := Scalar.select v488 v489 v474
  let c2_i32_388 : BitVec 32 := 2#32
  let v491 : BitVec 32 := Scalar.muli v490 c2_i32_388
  let c0_i32_579 : BitVec 32 := 0#32
  let v788 : BitVec 32 := Scalar.addi v491 c0_i32_579
  let v857 : Index := Scalar.indexCast v788
  let c0_646 : Index := 0#32
  let c0_647 : Index := 0#32
  ![1, 0, v857.toNat, 0, 0]
def k0_off142 (i : grid0.Coords) : Fin 4 → Nat :=
  let c1_652 : Index := 1#32
  let arg1 : BitVec 32 := BitVec.ofNat 32 (i 1).val
  let c1_i32_358 : BitVec 32 := 1#32
  let v427 : BitVec 32 := Scalar.addi arg1 c1_i32_358
  let c0_i32_382 : BitVec 32 := 0#32
  let v475 : BitVec 1 := Scalar.cmpi .sgt v427 c0_i32_382
  let v476 : BitVec 32 := Scalar.extui v475
  let c0_i32_383 : BitVec 32 := 0#32
  let v477 : BitVec 1 := Scalar.cmpi .slt v427 c0_i32_383
  let v478 : BitVec 32 := Scalar.extui v477
  let v479 : BitVec 32 := Scalar.subi v476 v478
  let c2_i32_381 : BitVec 32 := 2#32
  let c0_i32_384 : BitVec 32 := 0#32
  let v480 : BitVec 1 := Scalar.cmpi .sgt c2_i32_381 c0_i32_384
  let v481 : BitVec 32 := Scalar.extui v480
  let c0_i32_385 : BitVec 32 := 0#32
  let v482 : BitVec 1 := Scalar.cmpi .slt c2_i32_381 c0_i32_385
  let v483 : BitVec 32 := Scalar.extui v482
  let v484 : BitVec 32 := Scalar.subi v481 v483
  let v485 : BitVec 1 := Scalar.cmpi .ne v479 v484
  let v486 : BitVec 32 := Scalar.remsi v427 c2_i32_381
  let c0_i32_386 : BitVec 32 := 0#32
  let v487 : BitVec 1 := Scalar.cmpi .ne v486 c0_i32_386
  let v488 : BitVec 1 := Scalar.andi v485 v487
  let v474 : BitVec 32 := Scalar.divsi v427 c2_i32_381
  let c1_i32_387 : BitVec 32 := 1#32
  let v489 : BitVec 32 := Scalar.subi v474 c1_i32_387
  let v490 : BitVec 32 := Scalar.select v488 v489 v474
  let c2_i32_388 : BitVec 32 := 2#32
  let v491 : BitVec 32 := Scalar.muli v490 c2_i32_388
  let c0_i32_579 : BitVec 32 := 0#32
  let v788 : BitVec 32 := Scalar.addi v491 c0_i32_579
  let v866 : Index := Scalar.indexCast v788
  let c0_653 : Index := 0#32
  let c0_654 : Index := 0#32
  ![1, v866.toNat, 0, 0]
def k0_off143 (i : grid0.Coords) : Fin 5 → Nat :=
  let c1_660 : Index := 1#32
  let c1_661 : Index := 1#32
  let arg1 : BitVec 32 := BitVec.ofNat 32 (i 1).val
  let c1_i32_358 : BitVec 32 := 1#32
  let v427 : BitVec 32 := Scalar.addi arg1 c1_i32_358
  let c0_i32_382 : BitVec 32 := 0#32
  let v475 : BitVec 1 := Scalar.cmpi .sgt v427 c0_i32_382
  let v476 : BitVec 32 := Scalar.extui v475
  let c0_i32_383 : BitVec 32 := 0#32
  let v477 : BitVec 1 := Scalar.cmpi .slt v427 c0_i32_383
  let v478 : BitVec 32 := Scalar.extui v477
  let v479 : BitVec 32 := Scalar.subi v476 v478
  let c2_i32_381 : BitVec 32 := 2#32
  let c0_i32_384 : BitVec 32 := 0#32
  let v480 : BitVec 1 := Scalar.cmpi .sgt c2_i32_381 c0_i32_384
  let v481 : BitVec 32 := Scalar.extui v480
  let c0_i32_385 : BitVec 32 := 0#32
  let v482 : BitVec 1 := Scalar.cmpi .slt c2_i32_381 c0_i32_385
  let v483 : BitVec 32 := Scalar.extui v482
  let v484 : BitVec 32 := Scalar.subi v481 v483
  let v485 : BitVec 1 := Scalar.cmpi .ne v479 v484
  let v486 : BitVec 32 := Scalar.remsi v427 c2_i32_381
  let c0_i32_386 : BitVec 32 := 0#32
  let v487 : BitVec 1 := Scalar.cmpi .ne v486 c0_i32_386
  let v488 : BitVec 1 := Scalar.andi v485 v487
  let v474 : BitVec 32 := Scalar.divsi v427 c2_i32_381
  let c1_i32_387 : BitVec 32 := 1#32
  let v489 : BitVec 32 := Scalar.subi v474 c1_i32_387
  let v490 : BitVec 32 := Scalar.select v488 v489 v474
  let c2_i32_388 : BitVec 32 := 2#32
  let v491 : BitVec 32 := Scalar.muli v490 c2_i32_388
  let c0_i32_579 : BitVec 32 := 0#32
  let v788 : BitVec 32 := Scalar.addi v491 c0_i32_579
  let v874 : Index := Scalar.indexCast v788
  let c0_662 : Index := 0#32
  let c0_663 : Index := 0#32
  ![1, 1, v874.toNat, 0, 0]
def k0_off144 (i : grid0.Coords) : Fin 4 → Nat :=
  let c1_668 : Index := 1#32
  let arg1 : BitVec 32 := BitVec.ofNat 32 (i 1).val
  let c1_i32_358 : BitVec 32 := 1#32
  let v427 : BitVec 32 := Scalar.addi arg1 c1_i32_358
  let c0_i32_382 : BitVec 32 := 0#32
  let v475 : BitVec 1 := Scalar.cmpi .sgt v427 c0_i32_382
  let v476 : BitVec 32 := Scalar.extui v475
  let c0_i32_383 : BitVec 32 := 0#32
  let v477 : BitVec 1 := Scalar.cmpi .slt v427 c0_i32_383
  let v478 : BitVec 32 := Scalar.extui v477
  let v479 : BitVec 32 := Scalar.subi v476 v478
  let c2_i32_381 : BitVec 32 := 2#32
  let c0_i32_384 : BitVec 32 := 0#32
  let v480 : BitVec 1 := Scalar.cmpi .sgt c2_i32_381 c0_i32_384
  let v481 : BitVec 32 := Scalar.extui v480
  let c0_i32_385 : BitVec 32 := 0#32
  let v482 : BitVec 1 := Scalar.cmpi .slt c2_i32_381 c0_i32_385
  let v483 : BitVec 32 := Scalar.extui v482
  let v484 : BitVec 32 := Scalar.subi v481 v483
  let v485 : BitVec 1 := Scalar.cmpi .ne v479 v484
  let v486 : BitVec 32 := Scalar.remsi v427 c2_i32_381
  let c0_i32_386 : BitVec 32 := 0#32
  let v487 : BitVec 1 := Scalar.cmpi .ne v486 c0_i32_386
  let v488 : BitVec 1 := Scalar.andi v485 v487
  let v474 : BitVec 32 := Scalar.divsi v427 c2_i32_381
  let c1_i32_387 : BitVec 32 := 1#32
  let v489 : BitVec 32 := Scalar.subi v474 c1_i32_387
  let v490 : BitVec 32 := Scalar.select v488 v489 v474
  let c2_i32_388 : BitVec 32 := 2#32
  let v491 : BitVec 32 := Scalar.muli v490 c2_i32_388
  let c0_i32_579 : BitVec 32 := 0#32
  let v788 : BitVec 32 := Scalar.addi v491 c0_i32_579
  let v883 : Index := Scalar.indexCast v788
  let c144_669 : Index := 144#32
  let c0_670 : Index := 0#32
  ![1, v883.toNat, 144, 0]
def k0_off145 (i : grid0.Coords) : Fin 5 → Nat :=
  let c1_676 : Index := 1#32
  let c2_677 : Index := 2#32
  let arg1 : BitVec 32 := BitVec.ofNat 32 (i 1).val
  let c1_i32_358 : BitVec 32 := 1#32
  let v427 : BitVec 32 := Scalar.addi arg1 c1_i32_358
  let c0_i32_382 : BitVec 32 := 0#32
  let v475 : BitVec 1 := Scalar.cmpi .sgt v427 c0_i32_382
  let v476 : BitVec 32 := Scalar.extui v475
  let c0_i32_383 : BitVec 32 := 0#32
  let v477 : BitVec 1 := Scalar.cmpi .slt v427 c0_i32_383
  let v478 : BitVec 32 := Scalar.extui v477
  let v479 : BitVec 32 := Scalar.subi v476 v478
  let c2_i32_381 : BitVec 32 := 2#32
  let c0_i32_384 : BitVec 32 := 0#32
  let v480 : BitVec 1 := Scalar.cmpi .sgt c2_i32_381 c0_i32_384
  let v481 : BitVec 32 := Scalar.extui v480
  let c0_i32_385 : BitVec 32 := 0#32
  let v482 : BitVec 1 := Scalar.cmpi .slt c2_i32_381 c0_i32_385
  let v483 : BitVec 32 := Scalar.extui v482
  let v484 : BitVec 32 := Scalar.subi v481 v483
  let v485 : BitVec 1 := Scalar.cmpi .ne v479 v484
  let v486 : BitVec 32 := Scalar.remsi v427 c2_i32_381
  let c0_i32_386 : BitVec 32 := 0#32
  let v487 : BitVec 1 := Scalar.cmpi .ne v486 c0_i32_386
  let v488 : BitVec 1 := Scalar.andi v485 v487
  let v474 : BitVec 32 := Scalar.divsi v427 c2_i32_381
  let c1_i32_387 : BitVec 32 := 1#32
  let v489 : BitVec 32 := Scalar.subi v474 c1_i32_387
  let v490 : BitVec 32 := Scalar.select v488 v489 v474
  let c2_i32_388 : BitVec 32 := 2#32
  let v491 : BitVec 32 := Scalar.muli v490 c2_i32_388
  let c0_i32_579 : BitVec 32 := 0#32
  let v788 : BitVec 32 := Scalar.addi v491 c0_i32_579
  let v891 : Index := Scalar.indexCast v788
  let c0_678 : Index := 0#32
  let c0_679 : Index := 0#32
  ![1, 2, v891.toNat, 0, 0]
def k0_off146 (i : grid0.Coords) : Fin 4 → Nat :=
  let c1_684 : Index := 1#32
  let arg1 : BitVec 32 := BitVec.ofNat 32 (i 1).val
  let c1_i32_358 : BitVec 32 := 1#32
  let v427 : BitVec 32 := Scalar.addi arg1 c1_i32_358
  let c0_i32_382 : BitVec 32 := 0#32
  let v475 : BitVec 1 := Scalar.cmpi .sgt v427 c0_i32_382
  let v476 : BitVec 32 := Scalar.extui v475
  let c0_i32_383 : BitVec 32 := 0#32
  let v477 : BitVec 1 := Scalar.cmpi .slt v427 c0_i32_383
  let v478 : BitVec 32 := Scalar.extui v477
  let v479 : BitVec 32 := Scalar.subi v476 v478
  let c2_i32_381 : BitVec 32 := 2#32
  let c0_i32_384 : BitVec 32 := 0#32
  let v480 : BitVec 1 := Scalar.cmpi .sgt c2_i32_381 c0_i32_384
  let v481 : BitVec 32 := Scalar.extui v480
  let c0_i32_385 : BitVec 32 := 0#32
  let v482 : BitVec 1 := Scalar.cmpi .slt c2_i32_381 c0_i32_385
  let v483 : BitVec 32 := Scalar.extui v482
  let v484 : BitVec 32 := Scalar.subi v481 v483
  let v485 : BitVec 1 := Scalar.cmpi .ne v479 v484
  let v486 : BitVec 32 := Scalar.remsi v427 c2_i32_381
  let c0_i32_386 : BitVec 32 := 0#32
  let v487 : BitVec 1 := Scalar.cmpi .ne v486 c0_i32_386
  let v488 : BitVec 1 := Scalar.andi v485 v487
  let v474 : BitVec 32 := Scalar.divsi v427 c2_i32_381
  let c1_i32_387 : BitVec 32 := 1#32
  let v489 : BitVec 32 := Scalar.subi v474 c1_i32_387
  let v490 : BitVec 32 := Scalar.select v488 v489 v474
  let c2_i32_388 : BitVec 32 := 2#32
  let v491 : BitVec 32 := Scalar.muli v490 c2_i32_388
  let c0_i32_579 : BitVec 32 := 0#32
  let v788 : BitVec 32 := Scalar.addi v491 c0_i32_579
  let v900 : Index := Scalar.indexCast v788
  let c288_685 : Index := 288#32
  let c0_686 : Index := 0#32
  ![1, v900.toNat, 288, 0]
def k0_off147 (i : grid0.Coords) : Fin 5 → Nat :=
  let c1_692 : Index := 1#32
  let c3_693 : Index := 3#32
  let arg1 : BitVec 32 := BitVec.ofNat 32 (i 1).val
  let c1_i32_358 : BitVec 32 := 1#32
  let v427 : BitVec 32 := Scalar.addi arg1 c1_i32_358
  let c0_i32_382 : BitVec 32 := 0#32
  let v475 : BitVec 1 := Scalar.cmpi .sgt v427 c0_i32_382
  let v476 : BitVec 32 := Scalar.extui v475
  let c0_i32_383 : BitVec 32 := 0#32
  let v477 : BitVec 1 := Scalar.cmpi .slt v427 c0_i32_383
  let v478 : BitVec 32 := Scalar.extui v477
  let v479 : BitVec 32 := Scalar.subi v476 v478
  let c2_i32_381 : BitVec 32 := 2#32
  let c0_i32_384 : BitVec 32 := 0#32
  let v480 : BitVec 1 := Scalar.cmpi .sgt c2_i32_381 c0_i32_384
  let v481 : BitVec 32 := Scalar.extui v480
  let c0_i32_385 : BitVec 32 := 0#32
  let v482 : BitVec 1 := Scalar.cmpi .slt c2_i32_381 c0_i32_385
  let v483 : BitVec 32 := Scalar.extui v482
  let v484 : BitVec 32 := Scalar.subi v481 v483
  let v485 : BitVec 1 := Scalar.cmpi .ne v479 v484
  let v486 : BitVec 32 := Scalar.remsi v427 c2_i32_381
  let c0_i32_386 : BitVec 32 := 0#32
  let v487 : BitVec 1 := Scalar.cmpi .ne v486 c0_i32_386
  let v488 : BitVec 1 := Scalar.andi v485 v487
  let v474 : BitVec 32 := Scalar.divsi v427 c2_i32_381
  let c1_i32_387 : BitVec 32 := 1#32
  let v489 : BitVec 32 := Scalar.subi v474 c1_i32_387
  let v490 : BitVec 32 := Scalar.select v488 v489 v474
  let c2_i32_388 : BitVec 32 := 2#32
  let v491 : BitVec 32 := Scalar.muli v490 c2_i32_388
  let c0_i32_579 : BitVec 32 := 0#32
  let v788 : BitVec 32 := Scalar.addi v491 c0_i32_579
  let v908 : Index := Scalar.indexCast v788
  let c0_694 : Index := 0#32
  let c0_695 : Index := 0#32
  ![1, 3, v908.toNat, 0, 0]
def k0_off148 (i : grid0.Coords) : Fin 4 → Nat :=
  let c1_700 : Index := 1#32
  let arg1 : BitVec 32 := BitVec.ofNat 32 (i 1).val
  let c1_i32_358 : BitVec 32 := 1#32
  let v427 : BitVec 32 := Scalar.addi arg1 c1_i32_358
  let c0_i32_382 : BitVec 32 := 0#32
  let v475 : BitVec 1 := Scalar.cmpi .sgt v427 c0_i32_382
  let v476 : BitVec 32 := Scalar.extui v475
  let c0_i32_383 : BitVec 32 := 0#32
  let v477 : BitVec 1 := Scalar.cmpi .slt v427 c0_i32_383
  let v478 : BitVec 32 := Scalar.extui v477
  let v479 : BitVec 32 := Scalar.subi v476 v478
  let c2_i32_381 : BitVec 32 := 2#32
  let c0_i32_384 : BitVec 32 := 0#32
  let v480 : BitVec 1 := Scalar.cmpi .sgt c2_i32_381 c0_i32_384
  let v481 : BitVec 32 := Scalar.extui v480
  let c0_i32_385 : BitVec 32 := 0#32
  let v482 : BitVec 1 := Scalar.cmpi .slt c2_i32_381 c0_i32_385
  let v483 : BitVec 32 := Scalar.extui v482
  let v484 : BitVec 32 := Scalar.subi v481 v483
  let v485 : BitVec 1 := Scalar.cmpi .ne v479 v484
  let v486 : BitVec 32 := Scalar.remsi v427 c2_i32_381
  let c0_i32_386 : BitVec 32 := 0#32
  let v487 : BitVec 1 := Scalar.cmpi .ne v486 c0_i32_386
  let v488 : BitVec 1 := Scalar.andi v485 v487
  let v474 : BitVec 32 := Scalar.divsi v427 c2_i32_381
  let c1_i32_387 : BitVec 32 := 1#32
  let v489 : BitVec 32 := Scalar.subi v474 c1_i32_387
  let v490 : BitVec 32 := Scalar.select v488 v489 v474
  let c2_i32_388 : BitVec 32 := 2#32
  let v491 : BitVec 32 := Scalar.muli v490 c2_i32_388
  let c0_i32_579 : BitVec 32 := 0#32
  let v788 : BitVec 32 := Scalar.addi v491 c0_i32_579
  let v917 : Index := Scalar.indexCast v788
  let c432_701 : Index := 432#32
  let c0_702 : Index := 0#32
  ![1, v917.toNat, 432, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x8x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S2x8x576x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S16x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S576x16 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x3x256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x2x16x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S2x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Kernel2.lean ====
abbrev S16x2048x1024 : Shape := ⟨3, ![16, 2048, 1024]⟩
abbrev S16x2048x512 : Shape := ⟨3, ![16, 2048, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S16x512x2048 : Shape := ⟨3, ![16, 512, 2048]⟩
abbrev S32768x1024 : Shape := ⟨2, ![32768, 1024]⟩
abbrev S1024x1024 : Shape := ⟨2, ![1024, 1024]⟩
abbrev S1024x2816 : Shape := ⟨2, ![1024, 2816]⟩
abbrev S2816x1024 : Shape := ⟨2, ![2816, 1024]⟩
abbrev S1x512x1024 : Shape := ⟨3, ![1, 512, 1024]⟩
abbrev S512x1024 : Shape := ⟨2, ![512, 1024]⟩
abbrev S1x512x512 : Shape := ⟨3, ![1, 512, 512]⟩
abbrev S512x512 : Shape := ⟨2, ![512, 512]⟩
abbrev S512 : Shape := ⟨1, ![512]⟩
abbrev S512x1 : Shape := ⟨2, ![512, 1]⟩
abbrev S1024x1280 : Shape := ⟨2, ![1024, 1280]⟩
abbrev S512x1280 : Shape := ⟨2, ![512, 1280]⟩
abbrev S1280x1024 : Shape := ⟨2, ![1280, 1024]⟩
abbrev S1024x1536 : Shape := ⟨2, ![1024, 1536]⟩
abbrev S512x1536 : Shape := ⟨2, ![512, 1536]⟩
abbrev S1536x1024 : Shape := ⟨2, ![1536, 1024]⟩

abbrev nBuf : Space → Nat
  | .hbm => 22
  | .vmem => 13
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S16x512x2048, .f32⟩
  | .hbm, ⟨9, _⟩ => ⟨S16x512x2048, .bf16⟩
  | .hbm, ⟨10, _⟩ => ⟨S16x512x2048, .f32⟩
  | .hbm, ⟨11, _⟩ => ⟨S16x512x2048, .bf16⟩
  | .hbm, ⟨12, _⟩ => ⟨S32768x1024, .f32⟩
  | .hbm, ⟨13, _⟩ => ⟨S1024x1024, .f32⟩
  | .hbm, ⟨14, _⟩ => ⟨S1024x1024, .bf16⟩
  | .hbm, ⟨15, _⟩ => ⟨S1024x2816, .f32⟩
  | .hbm, ⟨16, _⟩ => ⟨S1024x2816, .bf16⟩
  | .hbm, ⟨17, _⟩ => ⟨S1024x2816, .f32⟩
  | .hbm, ⟨18, _⟩ => ⟨S1024x2816, .bf16⟩
  | .hbm, ⟨19, _⟩ => ⟨S2816x1024, .f32⟩
  | .hbm, ⟨20, _⟩ => ⟨S2816x1024, .bf16⟩
  | .hbm, ⟨21, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S1024x1024, .f32⟩
  | .local _ .vmem, ⟨12, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S16x2048x1024 : Shape := ⟨3, ![16, 2048, 1024]⟩
abbrev S16x2048x512 : Shape := ⟨3, ![16, 2048, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x2816 : Shape := ⟨2, ![1024, 2816]⟩
abbrev S2816x1024 : Shape := ⟨2, ![2816, 1024]⟩
abbrev S16x2048x2816 : Shape := ⟨3, ![16, 2048, 2816]⟩
abbrev S32768x1024 : Shape := ⟨2, ![32768, 1024]⟩

abbrev nBuf : Space → Nat
  | .hbm => 50
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S16x2048x1024, .f32⟩
  | .hbm, ⟨9, _⟩ => ⟨S1024x1024, .f32⟩
  | .hbm, ⟨10, _⟩ => ⟨S16x2048x1024, .f32⟩
  | .hbm, ⟨11, _⟩ => ⟨S16x2048x1024, .f32⟩
  | .hbm, ⟨12, _⟩ => ⟨S1024, .f32⟩
  | .hbm, ⟨13, _⟩ => ⟨S16x2048x1024, .f32⟩
  | .hbm, ⟨14, _⟩ => ⟨S_, .f32⟩
  | .hbm, ⟨15, _⟩ => ⟨S16x2048, .f32⟩
  | .hbm, ⟨16, _⟩ => ⟨S16x2048x1, .f32⟩
  | .hbm, ⟨17, _⟩ => ⟨S_, .f32⟩
  | .hbm, ⟨18, _⟩ => ⟨S16x2048x1, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S16x2048x1, .f32⟩
  | .hbm, ⟨24, _⟩ => ⟨S16x2048x1024, .f32⟩
  | .hbm, ⟨25, _⟩ => ⟨S16x2048x1024, .f32⟩
  | .hbm, ⟨26, _⟩ => ⟨S1x1x1024, .f32⟩
  | .hbm, ⟨27, _⟩ => ⟨S16x2048x1024, .f32⟩
  | .hbm, ⟨28, _⟩ => ⟨S16x2048x1024, .f32⟩
  | .hbm, ⟨29, _⟩ => ⟨S1024x2816, .f32⟩
  | .hbm, ⟨30, _⟩ => ⟨S1024x2816, .f32⟩
  | .hbm, ⟨31, _⟩ => ⟨S2816x1024, .f32⟩
  | .hbm, ⟨32, _⟩ => ⟨S16x2048x2816, .f32⟩
  | .hbm, ⟨33, _⟩ => ⟨S16x2048x2816, .f32⟩
  | .hbm, ⟨34, _⟩ => ⟨S16x2048x2816, .f32⟩
  | .hbm, ⟨35, _⟩ => ⟨S_, .f32⟩
  | .hbm, ⟨36, _⟩ => ⟨S16x2048x2816, .f32⟩
  | .hbm, ⟨37, _⟩ => ⟨S16x2048x2816, .f32⟩
  | .hbm, ⟨38, _⟩ => ⟨S_, .f32⟩
  | .hbm, ⟨39, _⟩ => ⟨S16x2048x2816, .f32⟩
  | .hbm, ⟨40, _⟩ => ⟨S16x2048x2816, .f32⟩
  | .hbm, ⟨41, _⟩ => ⟨S16x2048x2816, .f32⟩
  | .hbm, ⟨42, _⟩ => ⟨S16x2048x2816, .f32⟩
  | .hbm, ⟨43, _⟩ => ⟨S16x2048x2816, .f32⟩
  | .hbm, ⟨44, _⟩ => ⟨S16x2048x1024, .f32⟩
  | .hbm, ⟨45, _⟩ => ⟨S_, .f32⟩
  | .hbm, ⟨46, _⟩ => ⟨S16x2048x1024, .f32⟩
  | .hbm, ⟨47, _⟩ => ⟨S16x2048x1024, .f32⟩
  | .hbm, ⟨48, _⟩ => ⟨S16x2048x1024, .f32⟩
  | .hbm, ⟨49, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_2 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]
-- ==== Kernel3.lean ====
abbrev S16x2048x1024 : Shape := ⟨3, ![16, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S32768x1024 : Shape := ⟨2, ![32768, 1024]⟩
abbrev S1024x2816 : Shape := ⟨2, ![1024, 2816]⟩
abbrev S2816x1024 : Shape := ⟨2, ![2816, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S1024x1280 : Shape := ⟨2, ![1024, 1280]⟩
abbrev S256x1280 : Shape := ⟨2, ![256, 1280]⟩
abbrev S1280x1024 : Shape := ⟨2, ![1280, 1024]⟩
abbrev S1024x1536 : Shape := ⟨2, ![1024, 1536]⟩
abbrev S256x1536 : Shape := ⟨2, ![256, 1536]⟩
abbrev S1536x1024 : Shape := ⟨2, ![1536, 1024]⟩

abbrev nBuf : Space → Nat
  | .hbm => 13
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S32768x1024, .f32⟩
  | .hbm, ⟨6, _⟩ => ⟨S1024x2816, .f32⟩
  | .hbm, ⟨7, _⟩ => ⟨S1024x2816, .bf16⟩
  | .hbm, ⟨8, _⟩ => ⟨S1024x2816, .f32⟩
  | .hbm, ⟨9, _⟩ => ⟨S1024x2816, .bf16⟩
  | .hbm, ⟨10, _⟩ => ⟨S2816x1024, .f32⟩
  | .hbm, ⟨11, _⟩ => ⟨S2816x1024, .bf16⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1024x1024, .f32⟩
  | .local _ .vmem, ⟨7, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S16x2048x1024 : Shape := ⟨3, ![16, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x2816 : Shape := ⟨2, ![1024, 2816]⟩
abbrev S2816x1024 : Shape := ⟨2, ![2816, 1024]⟩
abbrev S16x2048x2816 : Shape := ⟨3, ![16, 2048, 2816]⟩
abbrev S32768x1024 : Shape := ⟨2, ![32768, 1024]⟩

abbrev nBuf : Space → Nat
  | .hbm => 43
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S16x2048x1024, .f32⟩
  | .hbm, ⟨7, _⟩ => ⟨S_, .f32⟩
  | .hbm, ⟨8, _⟩ => ⟨S16x2048, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S16x2048x1, .f32⟩
  | .hbm, ⟨17, _⟩ => ⟨S16x2048x1024, .f32⟩
  | .hbm, ⟨18, _⟩ => ⟨S16x2048x1024, .f32⟩
  | .hbm, ⟨19, _⟩ => ⟨S1x1x1024, .f32⟩
  | .hbm, ⟨20, _⟩ => ⟨S16x2048x1024, .f32⟩
  | .hbm, ⟨21, _⟩ => ⟨S16x2048x1024, .f32⟩
  | .hbm, ⟨22, _⟩ => ⟨S1024x2816, .f32⟩
  | .hbm, ⟨23, _⟩ => ⟨S1024x2816, .f32⟩
  | .hbm, ⟨24, _⟩ => ⟨S2816x1024, .f32⟩
  | .hbm, ⟨25, _⟩ => ⟨S16x2048x2816, .f32⟩
  | .hbm, ⟨26, _⟩ => ⟨S16x2048x2816, .f32⟩
  | .hbm, ⟨27, _⟩ => ⟨S16x2048x2816, .f32⟩
  | .hbm, ⟨28, _⟩ => ⟨S_, .f32⟩
  | .hbm, ⟨29, _⟩ => ⟨S16x2048x2816, .f32⟩
  | .hbm, ⟨30, _⟩ => ⟨S16x2048x2816, .f32⟩
  | .hbm, ⟨31, _⟩ => ⟨S_, .f32⟩
  | .hbm, ⟨32, _⟩ => ⟨S16x2048x2816, .f32⟩
  | .hbm, ⟨33, _⟩ => ⟨S16x2048x2816, .f32⟩
  | .hbm, ⟨34, _⟩ => ⟨S16x2048x2816, .f32⟩
  | .hbm, ⟨35, _⟩ => ⟨S16x2048x2816, .f32⟩
  | .hbm, ⟨36, _⟩ => ⟨S16x2048x2816, .f32⟩
  | .hbm, ⟨37, _⟩ => ⟨S16x2048x1024, .f32⟩
  | .hbm, ⟨38, _⟩ => ⟨S_, .f32⟩
  | .hbm, ⟨39, _⟩ => ⟨S16x2048x1024, .f32⟩
  | .hbm, ⟨40, _⟩ => ⟨S16x2048x1024, .f32⟩
  | .hbm, ⟨41, _⟩ => ⟨S16x2048x1024, .f32⟩
  | .hbm, ⟨42, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== Kernel4.lean ====
abbrev S16x2048x1024 : Shape := ⟨3, ![16, 2048, 1024]⟩
abbrev S1x1024 : Shape := ⟨2, ![1, 1024]⟩
abbrev S1x1024x2888 : Shape := ⟨3, ![1, 1024, 2888]⟩
abbrev S1x64 : Shape := ⟨2, ![1, 64]⟩
abbrev S1x4x128x256 : Shape := ⟨4, ![1, 4, 128, 256]⟩
abbrev S1x256 : Shape := ⟨2, ![1, 256]⟩
abbrev S1024x2888 : Shape := ⟨2, ![1024, 2888]⟩
abbrev S1024x64 : Shape := ⟨2, ![1024, 64]⟩
abbrev S_ : Shape := ⟨0, ![]⟩
abbrev S1024x2896 : Shape := ⟨2, ![1024, 2896]⟩
abbrev S2896x1024 : Shape := ⟨2, ![2896, 1024]⟩
abbrev S4x128x256 : Shape := ⟨3, ![4, 128, 256]⟩
abbrev S4x256x128 : Shape := ⟨3, ![4, 256, 128]⟩
abbrev S64 : Shape := ⟨1, ![64]⟩
abbrev S256 : Shape := ⟨1, ![256]⟩
abbrev S64x1 : Shape := ⟨2, ![64, 1]⟩
abbrev S64x256 : Shape := ⟨2, ![64, 256]⟩
abbrev S256x1 : Shape := ⟨2, ![256, 1]⟩
abbrev S256x256 : Shape := ⟨2, ![256, 256]⟩
abbrev S16x512x2048 : Shape := ⟨3, ![16, 512, 2048]⟩
abbrev S16x8x256x512 : Shape := ⟨4, ![16, 8, 256, 512]⟩
abbrev S16x8x576x256 : Shape := ⟨4, ![16, 8, 576, 256]⟩
abbrev S16x1024x2048 : Shape := ⟨3, ![16, 1024, 2048]⟩
abbrev S16x8x256x256 : Shape := ⟨4, ![16, 8, 256, 256]⟩
abbrev S16x8x272x256 : Shape := ⟨4, ![16, 8, 272, 256]⟩
abbrev S16x8x2048 : Shape := ⟨3, ![16, 8, 2048]⟩
abbrev S16x8x256x64 : Shape := ⟨4, ![16, 8, 256, 64]⟩
abbrev S1x1024x1024 : Shape := ⟨3, ![1, 1024, 1024]⟩
abbrev S1x512x1024 : Shape := ⟨3, ![1, 512, 1024]⟩
abbrev S1x4x256x512 : Shape := ⟨4, ![1, 4, 256, 512]⟩
abbrev S1x4x576x256 : Shape := ⟨4, ![1, 4, 576, 256]⟩
abbrev S1x4x256x256 : Shape := ⟨4, ![1, 4, 256, 256]⟩
abbrev S1x4x272x256 : Shape := ⟨4, ![1, 4, 272, 256]⟩
abbrev S1x8x1024 : Shape := ⟨3, ![1, 8, 1024]⟩
abbrev S1x4x256x64 : Shape := ⟨4, ![1, 4, 256, 64]⟩
abbrev S1x256x1024 : Shape := ⟨3, ![1, 256, 1024]⟩
abbrev S256x1024 : Shape := ⟨2, ![256, 1024]⟩
abbrev S512x1024 : Shape := ⟨2, ![512, 1024]⟩
abbrev S512x256 : Shape := ⟨2, ![512, 256]⟩
abbrev S8x64x256 : Shape := ⟨3, ![8, 64, 256]⟩
abbrev S8x256 : Shape := ⟨2, ![8, 256]⟩
abbrev S8x1x256 : Shape := ⟨3, ![8, 1, 256]⟩
abbrev S1x64x256 : Shape := ⟨3, ![1, 64, 256]⟩
abbrev S1x512x256 : Shape := ⟨3, ![1, 512, 256]⟩
abbrev S256x512 : Shape := ⟨2, ![256, 512]⟩
abbrev S1x1x256x512 : Shape := ⟨4, ![1, 1, 256, 512]⟩
abbrev S16x256 : Shape := ⟨2, ![16, 256]⟩
abbrev S128x256 : Shape := ⟨2, ![128, 256]⟩
abbrev S1x1x128x256 : Shape := ⟨4, ![1, 1, 128, 256]⟩
abbrev S1x1x16x256 : Shape := ⟨4, ![1, 1, 16, 256]⟩
abbrev S1x256x128 : Shape := ⟨3, ![1, 256, 128]⟩
abbrev S256x128 : Shape := ⟨2, ![256, 128]⟩
abbrev S1x256x256 : Shape := ⟨3, ![1, 256, 256]⟩
abbrev S1x1x256x256 : Shape := ⟨4, ![1, 1, 256, 256]⟩
abbrev S16x1024 : Shape := ⟨2, ![16, 1024]⟩
abbrev S1x8x256 : Shape := ⟨3, ![1, 8, 256]⟩
abbrev S256x64 : Shape := ⟨2, ![256, 64]⟩
abbrev S1x1x256x64 : Shape := ⟨4, ![1, 1, 256, 64]⟩

abbrev nBuf : Space → Nat
  | .hbm => 40
  | .vmem => 28
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x2888, .f32⟩
  | .hbm, ⟨3, _⟩ => ⟨S1x64, .f32⟩
  | .hbm, ⟨4, _⟩ => ⟨S1x64, .f32⟩
  | .hbm, ⟨5, _⟩ => ⟨S1x4x128x256, .f32⟩
  | .hbm, ⟨6, _⟩ => ⟨S1x256, .f32⟩
  | .hbm, ⟨7, _⟩ => ⟨S1x256, .f32⟩
  | .hbm, ⟨8, _⟩ => ⟨S1024x2888, .f32⟩
  | .hbm, ⟨9, _⟩ => ⟨S1024x64, .f32⟩
  | .hbm, ⟨10, _⟩ => ⟨S1024x64, .bf16⟩
  | .hbm, ⟨11, _⟩ => ⟨S1024x2888, .bf16⟩
  | .hbm, ⟨12, _⟩ => ⟨S_, .i32⟩
  | .hbm, ⟨13, _⟩ => ⟨S_, .bf16⟩
  | .hbm, ⟨14, _⟩ => ⟨S1024x2896, .bf16⟩
  | .hbm, ⟨15, _⟩ => ⟨S2896x1024, .bf16⟩
  | .hbm, ⟨16, _⟩ => ⟨S4x128x256, .f32⟩
  | .hbm, ⟨17, _⟩ => ⟨S4x256x128, .f32⟩
  | .hbm, ⟨18, _⟩ => ⟨S4x256x128, .bf16⟩
  | .hbm, ⟨19, _⟩ => ⟨S64, .f32⟩
  | .hbm, ⟨20, _⟩ => ⟨S64, .f32⟩
  | .hbm, ⟨21, _⟩ => ⟨S256, .f32⟩
  | .hbm, ⟨22, _⟩ => ⟨S256, .f32⟩
  | .hbm, ⟨23, _⟩ => ⟨S64x1, .f32⟩
  | .hbm, ⟨24, _⟩ => ⟨S64x256, .f32⟩
  | .hbm, ⟨25, _⟩ => ⟨S64x1, .f32⟩
  | .hbm, ⟨26, _⟩ => ⟨S64x256, .f32⟩
  | .hbm, ⟨27, _⟩ => ⟨S256x1, .f32⟩
  | .hbm, ⟨28, _⟩ => ⟨S256x256, .f32⟩
  | .hbm, ⟨29, _⟩ => ⟨S256x1, .f32⟩
  | .hbm, ⟨30, _⟩ => ⟨S256x256, .f32⟩
  | .hbm, ⟨31, _⟩ => ⟨S16x512x2048, .bf16⟩
  | .hbm, ⟨32, _⟩ => ⟨S16x8x256x512, .bf16⟩
  | .hbm, ⟨33, _⟩ => ⟨S16x8x576x256, .bf16⟩
  | .hbm, ⟨34, _⟩ => ⟨S16x1024x2048, .bf16⟩
  | .hbm, ⟨35, _⟩ => ⟨S16x8x256x256, .bf16⟩
  | .hbm, ⟨36, _⟩ => ⟨S16x8x272x256, .bf16⟩
  | .hbm, ⟨37, _⟩ => ⟨S16x512x2048, .bf16⟩
  | .hbm, ⟨38, _⟩ => ⟨S16x8x2048, .f32⟩
  | .hbm, ⟨39, _⟩ => ⟨S16x8x256x64, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S2896x1024, .bf16⟩
  | .local _ .vmem, ⟨4, _⟩ => ⟨S1024x64, .bf16⟩
  | .local _ .vmem, ⟨5, _⟩ => ⟨S64x256, .f32⟩
  | .local _ .vmem, ⟨6, _⟩ => ⟨S64x256, .f32⟩
  | .local _ .vmem, ⟨7, _⟩ => ⟨S4x256x128, .bf16⟩
  | .local _ .vmem, ⟨8, _⟩ => ⟨S256x256, .f32⟩
  | .local _ .vmem, ⟨9, _⟩ => ⟨S256x256, .f32⟩
  | .local _ .vmem, ⟨10, _⟩ => ⟨S1x512x1024, .bf16⟩
  | .local _ .vmem, ⟨11, _⟩ => ⟨S1x512x1024, .bf16⟩
  | .local _ .vmem, ⟨12, _⟩ => ⟨S1x4x256x512, .bf16⟩
  | .local _ .vmem, ⟨13, _⟩ => ⟨S1x4x256x512, .bf16⟩
  | .local _ .vmem, ⟨14, _⟩ => ⟨S1x4x576x256, .bf16⟩
  | .local _ .vmem, ⟨15, _⟩ => ⟨S1x4x576x256, .bf16⟩
  | .local _ .vmem, ⟨16, _⟩ => ⟨S1x1024x1024, .bf16⟩
  | .local _ .vmem, ⟨17, _⟩ => ⟨S1x1024x1024, .bf16⟩
  | .local _ .vmem, ⟨18, _⟩ => ⟨S1x4x256x256, .bf16⟩
  | .local _ .vmem, ⟨19, _⟩ => ⟨S1x4x256x256, .bf16⟩
  | .local _ .vmem, ⟨20, _⟩ => ⟨S1x4x272x256, .bf16⟩
  | .local _ .vmem, ⟨21, _⟩ => ⟨S1x4x272x256, .bf16⟩
  | .local _ .vmem, ⟨22, _⟩ => ⟨S1x512x1024, .bf16⟩
  | .local _ .vmem, ⟨23, _⟩ => ⟨S1x512x1024, .bf16⟩
  | .local _ .vmem, ⟨24, _⟩ => ⟨S1x8x1024, .f32⟩
  | .local _ .vmem, ⟨25, _⟩ => ⟨S1x8x1024, .f32⟩
  | .local _ .vmem, ⟨26, _⟩ => ⟨S1x4x256x64, .bf16⟩
  | .local _ .vmem, ⟨27, _⟩ => ⟨S1x4x256x64, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev main_v21_2 : Ref sig .tc := ⟨.hbm, 33, rfl⟩
abbrev main_v21_3 : Ref sig .tc := ⟨.hbm, 34, rfl⟩
abbrev main_v21_4 : Ref sig .tc := ⟨.hbm, 35, rfl⟩
abbrev main_v21_5 : Ref sig .tc := ⟨.hbm, 36, rfl⟩
abbrev main_v21_6 : Ref sig .tc := ⟨.hbm, 37, rfl⟩
abbrev main_v21_7 : Ref sig .tc := ⟨.hbm, 38, rfl⟩
abbrev main_v21_8 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2896x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x576x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x272x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x4x256x64 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference4Ideal.lean ====
abbrev S16x2048x1024 : Shape := ⟨3, ![16, 2048, 1024]⟩
abbrev S1x1024 : Shape := ⟨2, ![1, 1024]⟩
abbrev S1x1024x2888 : Shape := ⟨3, ![1, 1024, 2888]⟩
abbrev S1x64 : Shape := ⟨2, ![1, 64]⟩
abbrev S1x4x128x256 : Shape := ⟨4, ![1, 4, 128, 256]⟩
abbrev S1x256 : Shape := ⟨2, ![1, 256]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x2888 : Shape := ⟨2, ![1024, 2888]⟩
abbrev S16x2048x2888 : Shape := ⟨3, ![16, 2048, 2888]⟩
abbrev S16x2048x512 : Shape := ⟨3, ![16, 2048, 512]⟩
abbrev S16x2048x256 : Shape := ⟨3, ![16, 2048, 256]⟩
abbrev S16x2048x64 : Shape := ⟨3, ![16, 2048, 64]⟩
abbrev S16x2048x8 : Shape := ⟨3, ![16, 2048, 8]⟩
abbrev S16x2048x4x2x64 : Shape := ⟨5, ![16, 2048, 4, 2, 64]⟩
abbrev S64 : Shape := ⟨1, ![64]⟩
abbrev S16x2048x4x2 : Shape := ⟨4, ![16, 2048, 4, 2]⟩
abbrev S16x2048x4x2x1 : Shape := ⟨5, ![16, 2048, 4, 2, 1]⟩
abbrev S1x1x1x1x64 : Shape := ⟨5, ![1, 1, 1, 1, 64]⟩
abbrev S16x2048x4x128 : Shape := ⟨4, ![16, 2048, 4, 128]⟩
abbrev S4x128x256 : Shape := ⟨3, ![4, 128, 256]⟩
abbrev S4x256x16x2048 : Shape := ⟨4, ![4, 256, 16, 2048]⟩
abbrev S16x2048x4x256 : Shape := ⟨4, ![16, 2048, 4, 256]⟩
abbrev S256 : Shape := ⟨1, ![256]⟩
abbrev S16x2048x4 : Shape := ⟨3, ![16, 2048, 4]⟩
abbrev S16x2048x4x1 : Shape := ⟨4, ![16, 2048, 4, 1]⟩
abbrev S1x1x1x256 : Shape := ⟨4, ![1, 1, 1, 256]⟩
abbrev S1x1x256 : Shape := ⟨3, ![1, 1, 256]⟩
abbrev S16x2048x4x16 : Shape := ⟨4, ![16, 2048, 4, 16]⟩
abbrev S16x2048x4x144 : Shape := ⟨4, ![16, 2048, 4, 144]⟩
abbrev S16x2048x16 : Shape := ⟨3, ![16, 2048, 16]⟩
abbrev S16x2048x272 : Shape := ⟨3, ![16, 2048, 272]⟩
abbrev S16x512x2048 : Shape := ⟨3, ![16, 512, 2048]⟩
abbrev S16x8x256x512 : Shape := ⟨4, ![16, 8, 256, 512]⟩
abbrev S16x8x256x576 : Shape := ⟨4, ![16, 8, 256, 576]⟩
abbrev S16x8x576x256 : Shape := ⟨4, ![16, 8, 576, 256]⟩
abbrev S16x1024x2048 : Shape := ⟨3, ![16, 1024, 2048]⟩
abbrev S16x8x256x256 : Shape := ⟨4, ![16, 8, 256, 256]⟩
abbrev S16x8x256x272 : Shape := ⟨4, ![16, 8, 256, 272]⟩
abbrev S16x8x272x256 : Shape := ⟨4, ![16, 8, 272, 256]⟩
abbrev S16x8x2048 : Shape := ⟨3, ![16, 8, 2048]⟩
abbrev S16x8x256x64 : Shape := ⟨4, ![16, 8, 256, 64]⟩

abbrev nBuf : Space → Nat
  | .hbm => 146
  | .vmem => 0
  | .smem => 0
  | _ => 0

abbrev hbmTy0_0 (i : Nat) : BufTy := match i % 128 with
  | 0 => ⟨S16x2048x1024, .f32⟩
  | 1 => ⟨S1x1024, .f32⟩
  | 2 => ⟨S1x1024x2888, .f32⟩
  | 3 => ⟨S1x64, .f32⟩
  | 4 => ⟨S1x64, .f32⟩
  | 5 => ⟨S1x4x128x256, .f32⟩
  | 6 => ⟨S1x256, .f32⟩
  | 7 => ⟨S1x256, .f32⟩
  | 8 => ⟨S1024, .f32⟩
  | 9 => ⟨S16x2048x1024, .f32⟩
  | 10 => ⟨S_, .f32⟩
  | 11 => ⟨S16x2048, .f32⟩
  | 12 => ⟨S16x2048x1, .f32⟩
  | 13 => ⟨S_, .f32⟩
  | 14 => ⟨S16x2048x1, .f32⟩
  | 15 => ⟨S16x2048x1, .f32⟩
  | 16 => ⟨S_, .f32⟩
  | 17 => ⟨S16x2048x1, .f32⟩
  | 18 => ⟨S16x2048x1, .f32⟩
  | 19 => ⟨S16x2048x1, .f32⟩
  | 20 => ⟨S16x2048x1024, .f32⟩
  | 21 => ⟨S16x2048x1024, .f32⟩
  | 22 => ⟨S1x1x1024, .f32⟩
  | 23 => ⟨S16x2048x1024, .f32⟩
  | 24 => ⟨S16x2048x1024, .f32⟩
  | 25 => ⟨S1024x2888, .f32⟩
  | 26 => ⟨S16x2048x2888, .f32⟩
  | 27 => ⟨S16x2048x512, .f32⟩
  | 28 => ⟨S16x2048x512, .f32⟩
  | 29 => ⟨S16x2048x512, .f32⟩
  | 30 => ⟨S16x2048x512, .f32⟩
  | 31 => ⟨S16x2048x256, .f32⟩
  | 32 => ⟨S16x2048x512, .f32⟩
  | 33 => ⟨S16x2048x64, .f32⟩
  | 34 => ⟨S16x2048x8, .f32⟩
  | 35 => ⟨S16x2048x4x2x64, .f32⟩
  | 36 => ⟨S64, .f32⟩
  | 37 => ⟨S16x2048x4x2x64, .f32⟩
  | 38 => ⟨S_, .f32⟩
  | 39 => ⟨S16x2048x4x2, .f32⟩
  | 40 => ⟨S16x2048x4x2x1, .f32⟩
  | 41 => ⟨S_, .f32⟩
  | 42 => ⟨S16x2048x4x2x1, .f32⟩
  | 43 => ⟨S16x2048x4x2x1, .f32⟩
  | 44 => ⟨S_, .f32⟩
  | 45 => ⟨S16x2048x4x2x1, .f32⟩
  | 46 => ⟨S16x2048x4x2x1, .f32⟩
  | 47 => ⟨S16x2048x4x2x1, .f32⟩
  | 48 => ⟨S16x2048x4x2x64, .f32⟩
  | 49 => ⟨S16x2048x4x2x64, .f32⟩
  | 50 => ⟨S1x1x1x1x64, .f32⟩
  | 51 => ⟨S16x2048x4x2x64, .f32⟩
  | 52 => ⟨S16x2048x4x2x64, .f32⟩
  | 53 => ⟨S_, .f32⟩
  | 54 => ⟨S16x2048x4x2x64, .f32⟩
  | 55 => ⟨S16x2048x4x2x64, .f32⟩
  | 56 => ⟨S16x2048x4x2x64, .f32⟩
  | 57 => ⟨S64, .f32⟩
  | 58 => ⟨S16x2048x4x2x64, .f32⟩
  | 59 => ⟨S_, .f32⟩
  | 60 => ⟨S16x2048x4x2, .f32⟩
  | 61 => ⟨S16x2048x4x2x1, .f32⟩
  | 62 => ⟨S_, .f32⟩
  | 63 => ⟨S16x2048x4x2x1, .f32⟩
  | 64 => ⟨S16x2048x4x2x1, .f32⟩
  | 65 => ⟨S_, .f32⟩
  | 66 => ⟨S16x2048x4x2x1, .f32⟩
  | 67 => ⟨S16x2048x4x2x1, .f32⟩
  | 68 => ⟨S16x2048x4x2x1, .f32⟩
  | 69 => ⟨S16x2048x4x2x64, .f32⟩
  | 70 => ⟨S16x2048x4x2x64, .f32⟩
  | 71 => ⟨S1x1x1x1x64, .f32⟩
  | 72 => ⟨S16x2048x4x2x64, .f32⟩
  | 73 => ⟨S16x2048x4x2x64, .f32⟩
  | 74 => ⟨S16x2048x4x128, .f32⟩
  | 75 => ⟨S16x2048x4x128, .f32⟩
  | 76 => ⟨S4x128x256, .f32⟩
  | 77 => ⟨S4x256x16x2048, .f32⟩
  | 78 => ⟨S16x2048x4x256, .f32⟩
  | 79 => ⟨S256, .f32⟩
  | 80 => ⟨S16x2048x4x256, .f32⟩
  | 81 => ⟨S_, .f32⟩
  | 82 => ⟨S16x2048x4, .f32⟩
  | 83 => ⟨S16x2048x4x1, .f32⟩
  | 84 => ⟨S_, .f32⟩
  | 85 => ⟨S16x2048x4x1, .f32⟩
  | 86 => ⟨S16x2048x4x1, .f32⟩
  | 87 => ⟨S_, .f32⟩
  | 88 => ⟨S16x2048x4x1, .f32⟩
  | 89 => ⟨S16x2048x4x1, .f32⟩
  | 90 => ⟨S16x2048x4x1, .f32⟩
  | 91 => ⟨S16x2048x4x256, .f32⟩
  | 92 => ⟨S16x2048x4x256, .f32⟩
  | 93 => ⟨S1x1x1x256, .f32⟩
  | 94 => ⟨S16x2048x4x256, .f32⟩
  | 95 => ⟨S16x2048x4x256, .f32⟩
  | 96 => ⟨S_, .f32⟩
  | 97 => ⟨S16x2048x4x256, .f32⟩
  | 98 => ⟨S16x2048x4x256, .f32⟩
  | 99 => ⟨S256, .f32⟩
  | 100 => ⟨S16x2048x256, .f32⟩
  | 101 => ⟨S_, .f32⟩
  | 102 => ⟨S16x2048, .f32⟩
  | 103 => ⟨S16x2048x1, .f32⟩
  | 104 => ⟨S_, .f32⟩
  | 105 => ⟨S16x2048x1, .f32⟩
  | 106 => ⟨S16x2048x1, .f32⟩
  | 107 => ⟨S_, .f32⟩
  | 108 => ⟨S16x2048x1, .f32⟩
  | 109 => ⟨S16x2048x1, .f32⟩
  | 110 => ⟨S16x2048x1, .f32⟩
  | 111 => ⟨S16x2048x256, .f32⟩
  | 112 => ⟨S16x2048x256, .f32⟩
  | 113 => ⟨S1x1x256, .f32⟩
  | 114 => ⟨S16x2048x256, .f32⟩
  | 115 => ⟨S16x2048x256, .f32⟩
  | 116 => ⟨S_, .f32⟩
  | 117 => ⟨S16x2048x4x16, .f32⟩
  | 118 => ⟨S16x2048x4x144, .f32⟩
  | 119 => ⟨S_, .f32⟩
  | 120 => ⟨S16x2048x16, .f32⟩
  | 121 => ⟨S16x2048x272, .f32⟩
  | 122 => ⟨S_, .f32⟩
  | 123 => ⟨S16x2048x8, .f32⟩
  | 124 => ⟨S16x2048x8, .f32⟩
  | 125 => ⟨S16x2048x512, .f32⟩
  | 126 => ⟨S16x512x2048, .f32⟩
  | 127 => ⟨S16x512x2048, .bf16⟩
  | _ => ⟨S16x2048x1024, .f32⟩

abbrev hbmTy0_1 (i : Nat) : BufTy := match i % 128 with
  | 0 => ⟨S16x8x256x512, .f32⟩
  | 1 => ⟨S16x8x256x512, .bf16⟩
  | 2 => ⟨S16x8x256x576, .f32⟩
  | 3 => ⟨S16x8x576x256, .f32⟩
  | 4 => ⟨S16x8x576x256, .bf16⟩
  | 5 => ⟨S16x2048x1024, .f32⟩
  | 6 => ⟨S16x1024x2048, .f32⟩
  | 7 => ⟨S16x1024x2048, .bf16⟩
  | 8 => ⟨S16x8x256x256, .f32⟩
  | 9 => ⟨S16x8x256x256, .bf16⟩
  | 10 => ⟨S16x8x256x272, .f32⟩
  | 11 => ⟨S16x8x272x256, .f32⟩
  | 12 => ⟨S16x8x272x256, .bf16⟩
  | 13 => ⟨S16x512x2048, .f32⟩
  | 14 => ⟨S16x512x2048, .bf16⟩
  | 15 => ⟨S16x8x2048, .f32⟩
  | 16 => ⟨S16x8x256x64, .f32⟩
  | 17 => ⟨S16x8x256x64, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_9 : Ref sig .tc := ⟨.hbm, 81, rfl⟩
abbrev main_v63 : Ref sig .tc := ⟨.hbm, 82, rfl⟩
abbrev main_v64 : Ref sig .tc := ⟨.hbm, 83, rfl⟩
abbrev main_cst_10 : Ref sig .tc := ⟨.hbm, 84, rfl⟩
abbrev main_v65 : Ref sig .tc := ⟨.hbm, 85, rfl⟩
abbrev main_v66 : Ref sig .tc := ⟨.hbm, 86, rfl⟩
abbrev main_cst_11 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_12 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_13 : Ref sig .tc := ⟨.hbm, 101, rfl⟩
abbrev main_v79 : Ref sig .tc := ⟨.hbm, 102, rfl⟩
abbrev main_v80 : Ref sig .tc := ⟨.hbm, 103, rfl⟩
abbrev main_cst_14 : Ref sig .tc := ⟨.hbm, 104, rfl⟩
abbrev main_v81 : Ref sig .tc := ⟨.hbm, 105, rfl⟩
abbrev main_v82 : Ref sig .tc := ⟨.hbm, 106, rfl⟩
abbrev main_cst_15 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_16 : Ref sig .tc := ⟨.hbm, 116, rfl⟩
abbrev main_v91 : Ref sig .tc := ⟨.hbm, 117, rfl⟩
abbrev main_v92 : Ref sig .tc := ⟨.hbm, 118, rfl⟩
abbrev main_cst_17 : Ref sig .tc := ⟨.hbm, 119, rfl⟩
abbrev main_v93 : Ref sig .tc := ⟨.hbm, 120, rfl⟩
abbrev main_v94 : Ref sig .tc := ⟨.hbm, 121, rfl⟩
abbrev main_cst_18 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩

abbrev nD : Nat := 1
abbrev τ : Topo := Topo.v7x

variable {F : FTy → Type} [FloatOps F]
-- ==== Proof.Row3.lean ====
/- The first feed-forward half step: what the kernel leaves in its result array is the reference's term. -/
module

public import proofs.«01_k».proof.Proof.Gen.Kernel3Ideal.Frame
public import proofs.«01_k».proof.Proof.Gen.Reference3Ideal.Run
public import proofs.«01_k».proof.Proof.Gen.Reference3Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.Half

open Cert.Kernel3Ideal Cert.Kernel3Ideal.Gen Cert.Reference3Ideal.Read

/-- One row after the root-mean-square norm with its gain. -/
abbrev normed (x g : Fin 1024 → EReal) (k : Fin 1024) : EReal :=
  x k * Ideal.rsqrt (Ideal.div (∑ k, x k * x k) (Ideal.ofBits FTy.f32 1149239296#32)
    + Ideal.ofBits FTy.f32 897988541#32) * g k

/-- The gated hidden value at place `f` of one row. -/
abbrev hidden (x g : Fin 1024 → EReal) (wg wu : Fin 1024 → Fin 2816 → EReal) (f : Fin 2816) : EReal :=
  (∑ k, normed x g k * wg k f) * Ideal.logistic (∑ k, normed x g k * wg k f) * ∑ k, normed x g k * wu k f

/-- One row plus half its feed-forward block. -/
def ffn (x g : Fin 1024 → EReal) (wg wu : Fin 1024 → Fin 2816 → EReal) (wd : Fin 2816 → Fin 1024 → EReal)
    (j : Fin 1024) : EReal :=
  x j + Ideal.ofBits FTy.f32 1056964608#32 * ∑ f, hidden x g wg wu f * wd f j

/-- A sum over the hidden width is the sum over its first 1280 places and the sum over the other 1536. -/
theorem sum_split (f : Fin 2816 → EReal) :
    ∑ k, f k = ∑ k : Fin 1280, f ⟨k.val, by omega⟩ + ∑ k : Fin 1536, f ⟨1280 + k.val, by omega⟩ :=
  Fin.sum_univ_add (a := 1280) (b := 1536) f

/-- The block with its hidden width in the two parts that the kernel takes one after the other. -/
theorem ffn_split (x g : Fin 1024 → EReal) (wg wu : Fin 1024 → Fin 2816 → EReal) (wd : Fin 2816 → Fin 1024 → EReal)
    (j : Fin 1024) : ffn x g wg wu wd j = x j + Ideal.ofBits FTy.f32 1056964608#32 *
      (∑ k : Fin 1280, hidden x g wg wu ⟨k.val, by omega⟩ * wd ⟨k.val, by omega⟩ j
        + ∑ k : Fin 1536, hidden x g wg wu ⟨1280 + k.val, by omega⟩ * wd ⟨1280 + k.val, by omega⟩ j) := by
  rw [ffn, sum_split]

set_option maxHeartbeats 1600000 in
/-- The block that the body stores, one row at a time. -/
theorem out_row (X : Vec Ideal S1024x1024 .f32) (G : Vec Ideal S1x1024 .f32) (Wg Wu : Vec Ideal S1024x2816 .bf16)
    (Wd : Vec Ideal S2816x1024 .bf16) (y : S1024x1024.Idx) :
    out0_5 X G Wg Wu Wd y = ffn (fun k => X (ix2 (y 0) k)) (fun k => G (ix2 0 k)) (fun k f => Wg (ix2 k f))
      (fun k f => Wu (ix2 k f)) (fun f j => Wd (ix2 f j)) (y 1) := by
  refine Eq.trans ?_ (ffn_split _ _ _ _ _ _).symm
  canon_tiles x h
  all_goals
    generalize y 0 = a at *
    generalize y 1 = b at *
    obtain ⟨a, ha⟩ := a
    obtain ⟨b, hb⟩ := b
    dsimp only at h0 h1
    subst h0 h1
    open_payloads
    pointwise

set_option maxHeartbeats 1600000 in
/-- The reference, one row at a time. -/
theorem ref_row (X : FVec Ideal Cert.Reference3Ideal.S16x2048x1024 .f32) (G : FVec Ideal Cert.Reference3Ideal.S1x1024 .f32)
    (Wg Wu : FVec Ideal Cert.Reference3Ideal.S1x1024x2816 .f32) (Wd : FVec Ideal Cert.Reference3Ideal.S1x2816x1024 .f32)
    (i : Cert.Reference3Ideal.S32768x1024.Idx) :
    val_main_v25 (F := Ideal) X G Wg Wu Wd i
      = ffn (fun k => X (ix3 ⟨(i 0).val / 2048, by have := (i 0).isLt; change _ < 32768 at this; omega⟩ ⟨(i 0).val % 2048, by omega⟩ k))
          (fun k => G (ix2 0 k)) (fun k f => Wg (ix3 0 k f)) (fun k f => Wu (ix3 0 k f)) (fun f j => Wd (ix3 0 f j)) (i 1) := by
  unfold ffn
  pointwise [val_main_v0, val_main_v1, val_main_cst, val_main_v2, val_main_v3, val_main_cst_0, val_main_v4, val_main_v5,
    val_main_cst_1, val_main_v6, val_main_v7, val_main_v8, val_main_v9, val_main_v10, val_main_v11, val_main_v12,
    val_main_v13, val_main_v14, val_main_v15, val_main_v16, val_main_v17, val_main_call0_v0, val_main_call0_v1,
    val_main_call0_cst, val_main_call0_v2, val_main_call0_v3, val_main_call0_cst_0, val_main_call0_v4, val_main_call0_v5,
    val_main_v18, val_main_v19, val_main_v20, val_main_v21, val_main_cst_2, val_main_v22, val_main_v23, val_main_v24,
    val_main_v25]
  rfl

end Cert.Kernel3Ideal.Half

end
-- ==== Proof.Row2.lean ====
/- The output projection and the last feed-forward half step, one row at a time: the kernel's block and the reference. -/
module

public import proofs.«01_k».proof.Proof.Row3
public import proofs.«01_k».proof.Proof.Gen.Kernel2Ideal.Frame
public import proofs.«01_k».proof.Proof.Gen.Reference2Ideal.Run
public import proofs.«01_k».proof.Proof.Gen.Reference2Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Half

open Cert.Kernel2Ideal Cert.Kernel2Ideal.Gen Cert.Reference2Ideal.Read
open Cert.Kernel3Ideal.Half (normed hidden ffn ffn_split)

/-- One row plus the projection of the two attentions' outputs. -/
def mixed (h : Fin 1024 → EReal) (oa ob : Fin 512 → EReal) (wo : Fin 1024 → Fin 1024 → EReal) (k : Fin 1024) : EReal :=
  h k + ∑ j, oa j * wo ⟨j.val, by omega⟩ k + ∑ j, ob j * wo ⟨512 + j.val, by omega⟩ k

/-- A sum over the joined outputs is the sum over the first attention's and the sum over the other's. -/
theorem sum_halves (f : Fin 1024 → EReal) :
    ∑ k, f k = ∑ k : Fin 512, f ⟨k.val, by omega⟩ + ∑ k : Fin 512, f ⟨512 + k.val, by omega⟩ :=
  Fin.sum_univ_add (a := 512) (b := 512) f

set_option maxHeartbeats 1600000 in
/-- The reference's row after the projection. -/
theorem ref_mixed (H : FVec Ideal Cert.Reference2Ideal.S16x2048x1024 .f32) (A B : FVec Ideal Cert.Reference2Ideal.S16x2048x512 .f32)
    (W : FVec Ideal Cert.Reference2Ideal.S1x1024x1024 .f32) (b : Fin 16) (r : Fin 2048) (k : Fin 1024) :
    val_main_v3 (F := Ideal) H A B W (ix3 b r k)
      = mixed (fun k => H (ix3 b r k)) (fun j => A (ix3 b r j)) (fun j => B (ix3 b r j)) (fun j k => W (ix3 0 j k)) k := by
  have e : val_main_v3 (F := Ideal) H A B W (ix3 b r k)
      = H (ix3 b r k) + ∑ j : Fin 1024, val_main_v0 (F := Ideal) A B (ix3 b r j) * W (ix3 0 j k) := by
    pointwise [val_main_v1, val_main_v2, val_main_v3]
  have ea (j : Fin 512) : val_main_v0 (F := Ideal) A B (ix3 b r ⟨j.val, by omega⟩) = A (ix3 b r j) := by
    pointwise [val_main_v0]
  have eb (j : Fin 512) : val_main_v0 (F := Ideal) A B (ix3 b r ⟨512 + j.val, by omega⟩) = B (ix3 b r j) := by
    pointwise [val_main_v0]
  rw [e, sum_halves, mixed, add_assoc]
  simp only [ea, eb]

set_option maxHeartbeats 3200000 in
/-- The reference, one row at a time. -/
theorem ref_row (H : FVec Ideal Cert.Reference2Ideal.S16x2048x1024 .f32) (A B : FVec Ideal Cert.Reference2Ideal.S16x2048x512 .f32)
    (W : FVec Ideal Cert.Reference2Ideal.S1x1024x1024 .f32) (G : FVec Ideal Cert.Reference2Ideal.S1x1024 .f32)
    (Wg Wu : FVec Ideal Cert.Reference2Ideal.S1x1024x2816 .f32) (Wd : FVec Ideal Cert.Reference2Ideal.S1x2816x1024 .f32)
    (i : Cert.Reference2Ideal.S32768x1024.Idx) :
    val_main_v29 (F := Ideal) H A B W G Wg Wu Wd i
      = ffn (fun k => val_main_v3 (F := Ideal) H A B W (ix3 ⟨(i 0).val / 2048, by have := (i 0).isLt; change _ < 32768 at this; omega⟩ ⟨(i 0).val % 2048, by omega⟩ k))
          (fun k => G (ix2 0 k)) (fun k f => Wg (ix3 0 k f)) (fun k f => Wu (ix3 0 k f)) (fun f j => Wd (ix3 0 f j)) (i 1) := by
  unfold ffn
  pointwise [val_main_v4, val_main_v5, val_main_cst, val_main_v6, val_main_v7, val_main_cst_0, val_main_v8, val_main_v9,
    val_main_cst_1, val_main_v10, val_main_v11, val_main_v12, val_main_v13, val_main_v14, val_main_v15, val_main_v16,
    val_main_v17, val_main_v18, val_main_v19, val_main_v20, val_main_v21, val_main_call0_v0, val_main_call0_v1,
    val_main_call0_cst, val_main_call0_v2, val_main_call0_v3, val_main_call0_cst_0, val_main_call0_v4, val_main_call0_v5,
    val_main_v22, val_main_v23, val_main_v24, val_main_v25, val_main_cst_2, val_main_v26, val_main_v27, val_main_v28,
    val_main_v29]
  rfl

set_option maxHeartbeats 3200000 in
/-- The block that the body stores, one row at a time. -/
theorem out_row (X : Vec Ideal S1024x1024 .f32) (A B : Vec Ideal S1x512x1024 .bf16) (W : Vec Ideal S1024x1024 .bf16)
    (G : Vec Ideal S1x1024 .f32) (Wg Wu : Vec Ideal S1024x2816 .bf16)
    (Wd : Vec Ideal S2816x1024 .bf16) (y : S1024x1024.Idx) :
    out0_8 X A B W G Wg Wu Wd y = ffn (mixed (fun k => X (ix2 (y 0) k)) (fun j => A (ix3 0 j (y 0))) (fun j => B (ix3 0 j (y 0)))
        (fun j k => W (ix2 j k))) (fun k => G (ix2 0 k)) (fun k f => Wg (ix2 k f))
      (fun k f => Wu (ix2 k f)) (fun f j => Wd (ix2 f j)) (y 1) := by
  refine Eq.trans ?_ (ffn_split _ _ _ _ _ _).symm
  canon_tiles x h
  all_goals
    generalize y 0 = a at *
    generalize y 1 = b at *
    obtain ⟨a, ha⟩ := a
    obtain ⟨b, hb⟩ := b
    dsimp only at h0 h1
    subst h0 h1
    unfold mixed
    open_payloads
    pointwise

end Cert.Kernel2Ideal.Half

end
-- ==== Proof.Value2.lean ====
/- The output projection and the last feed-forward half step: what the kernel leaves in its result array is the reference's term. -/
module

public import proofs.«01_k».proof.Proof.Row2
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Half

open Cert.Kernel2Ideal Cert.Kernel2Ideal.Gen Cert.Reference2Ideal.Read

variable (m : (ℓ : Loc nD τ sig) → Buf (Elt Ideal) ℓ)

/-- The block of every window at every grid point. -/
theorem idx : ∀ t : Fin cfg0.N, win0_0.index t = ![t.val, 0]
    ∧ win0_1.index t = ![t.val / 2, 0, t.val % 2]
    ∧ win0_2.index t = ![t.val / 2, 0, t.val % 2]
    ∧ win0_3.index t = ![0, 0]
    ∧ win0_4.index t = ![0, 0]
    ∧ win0_5.index t = ![0, 0]
    ∧ win0_6.index t = ![0, 0]
    ∧ win0_7.index t = ![0, 0]
    ∧ win0_8.index t = ![t.val, 0] :=
  (by decide +kernel : ∀ t : Fin grid0.N, _)

/-- The first attention's outputs as the region finds them. -/
theorem v1 (c : Dev nD) : @Eq (FVec Ideal S16x512x2048 .bf16) (V m c main_v1) (truncf .bf16 (transpose S16x512x2048 [0, 2, 1] (m ((c : Thread nD τ).loc main_arg1) : FVec Ideal S16x2048x512 .f32) transposes_S16x2048x512_S16x512x2048_0_2_1) bitsLt_bf16_f32) := by
  entry_read
  rfl

/-- The other attention's outputs as the region finds them. -/
theorem v3 (c : Dev nD) : @Eq (FVec Ideal S16x512x2048 .bf16) (V m c main_v3) (truncf .bf16 (transpose S16x512x2048 [0, 2, 1] (m ((c : Thread nD τ).loc main_arg2) : FVec Ideal S16x2048x512 .f32) transposes_S16x2048x512_S16x512x2048_0_2_1) bitsLt_bf16_f32) := by
  entry_read
  rfl

/-- The rows as the region finds them. -/
theorem v4 (c : Dev nD) : @Eq (FVec Ideal S32768x1024 .f32) (V m c main_v4) (shapeCast _ (m ((c : Thread nD τ).loc main_arg0) : FVec Ideal S16x2048x1024 .f32) shapeCasts_S16x2048x1024_S32768x1024) := by
  entry_read
  rfl

/-- The projection weights as the region finds them. -/
theorem v6 (c : Dev nD) : @Eq (FVec Ideal S1024x1024 .bf16) (V m c main_v6) (truncf .bf16 (shapeCast _ (m ((c : Thread nD τ).loc main_arg3) : FVec Ideal S1x1024x1024 .f32) shapeCasts_S1x1024x1024_S1024x1024) bitsLt_bf16_f32) := by
  entry_read
  rfl

/-- The gate weights as the region finds them. -/
theorem v8 (c : Dev nD) : @Eq (FVec Ideal S1024x2816 .bf16) (V m c main_v8) (truncf .bf16 (shapeCast _ (m ((c : Thread nD τ).loc main_arg5) : FVec Ideal S1x1024x2816 .f32) shapeCasts_S1x1024x2816_S1024x2816) bitsLt_bf16_f32) := by
  entry_read
  rfl

/-- The other input weights as the region finds them. -/
theorem v10 (c : Dev nD) : @Eq (FVec Ideal S1024x2816 .bf16) (V m c main_v10) (truncf .bf16 (shapeCast _ (m ((c : Thread nD τ).loc main_arg6) : FVec Ideal S1x1024x2816 .f32) shapeCasts_S1x1024x2816_S1024x2816) bitsLt_bf16_f32) := by
  entry_read
  rfl

/-- The output weights as the region finds them. -/
theorem v12 (c : Dev nD) : @Eq (FVec Ideal S2816x1024 .bf16) (V m c main_v12) (truncf .bf16 (shapeCast _ (m ((c : Thread nD τ).loc main_arg7) : FVec Ideal S1x2816x1024 .f32) shapeCasts_S1x2816x1024_S2816x1024) bitsLt_bf16_f32) := by
  entry_read
  rfl

/-- Row `r` of the flattened rows is row `r % 2048` of matrix `r / 2048`. -/
theorem flat (X : FVec Ideal S16x2048x1024 .f32) (r : Fin 32768) (k : Fin 1024) :
    shapeCast S32768x1024 X shapeCasts_S16x2048x1024_S32768x1024 (ix2 r k) = X (ix3 ⟨r.val / 2048, by omega⟩ ⟨r.val % 2048, by omega⟩ k) := by
  pointwise

/-- An attention's outputs after the host has turned them and cast them. -/
theorem turned (X : FVec Ideal S16x2048x512 .f32) (b : Fin 16) (j : Fin 512) (r : Fin 2048) :
    (truncf .bf16 (transpose S16x512x2048 [0, 2, 1] X transposes_S16x2048x512_S16x512x2048_0_2_1) bitsLt_bf16_f32 : FVec Ideal S16x512x2048 .bf16) (ix3 b j r) = X (ix3 b r j) := by
  pointwise

/-- The projection weights after the host has dropped their unit axis and cast them. -/
theorem square (W : FVec Ideal S1x1024x1024 .f32) (a : Fin 1024) (k : Fin 1024) :
    (truncf .bf16 (shapeCast _ W shapeCasts_S1x1024x1024_S1024x1024) bitsLt_bf16_f32 : FVec Ideal S1024x1024 .bf16) (ix2 a k) = W (ix3 0 a k) := by
  pointwise

/-- The input weights after the host has dropped their unit axis and cast them. -/
theorem wide (W : FVec Ideal S1x1024x2816 .f32) (a : Fin 1024) (k : Fin 2816) :
    (truncf .bf16 (shapeCast _ W shapeCasts_S1x1024x2816_S1024x2816) bitsLt_bf16_f32 : FVec Ideal S1024x2816 .bf16) (ix2 a k) = W (ix3 0 a k) := by
  pointwise

/-- The output weights after the host has dropped their unit axis and cast them. -/
theorem tall (W : FVec Ideal S1x2816x1024 .f32) (a : Fin 2816) (k : Fin 1024) :
    (truncf .bf16 (shapeCast _ W shapeCasts_S1x2816x1024_S2816x1024) bitsLt_bf16_f32 : FVec Ideal S2816x1024 .bf16) (ix2 a k) = W (ix3 0 a k) := by
  pointwise

/-- A row of the block at a point is a row of the argument. -/
theorem x0 (c : Dev nD) (t : Fin cfg0.N) (a k : Fin 1024) (h : (t.val * 1024 + a.val) / 2048 < 16) :
    (iblk m c 0 t : FVec Ideal S1024x1024 .f32) (ix2 a k)
      = (m ((c : Thread nD τ).loc main_arg0) : FVec Ideal S16x2048x1024 .f32) (ix3 ⟨(t.val * 1024 + a.val) / 2048, h⟩ ⟨(t.val * 1024 + a.val) % 2048, by omega⟩ k) := by
  have e : (iblk m c 0 t : FVec Ideal S1024x1024 .f32) (ix2 a k) = (V m c main_v4 : FVec Ideal S32768x1024 .f32) (ix2 ⟨t.val * 1024 + a.val, by omega⟩ k) := by
    blk_ext [iblk, idx t]
  rw [e, v4]
  exact flat _ _ _

/-- A column of the block of the first attention's outputs is a row of the argument. -/
theorem x1 (c : Dev nD) (t : Fin cfg0.N) (j : Fin 512) (a : Fin 1024) (h : (t.val * 1024 + a.val) / 2048 < 16) :
    (iblk m c 1 t : FVec Ideal S1x512x1024 .bf16) (ix3 0 j a)
      = (m ((c : Thread nD τ).loc main_arg1) : FVec Ideal S16x2048x512 .f32) (ix3 ⟨(t.val * 1024 + a.val) / 2048, h⟩ ⟨(t.val * 1024 + a.val) % 2048, by omega⟩ j) := by
  have h0 : (t.val * 1024 + a.val) / 2048 = t.val / 2 := by omega
  have h1 : (t.val * 1024 + a.val) % 2048 = t.val % 2 * 1024 + a.val := by omega
  have e : (iblk m c 1 t : FVec Ideal S1x512x1024 .bf16) (ix3 0 j a) = (V m c main_v1 : FVec Ideal S16x512x2048 .bf16) (ix3 ⟨t.val / 2, by omega⟩ j ⟨t.val % 2 * 1024 + a.val, by omega⟩) := by
    blk_ext [iblk, idx t]
  rw [e, v1]
  simp only [h0, h1]
  exact turned _ _ _ _

/-- A column of the block of the other attention's outputs is a row of the argument. -/
theorem x2 (c : Dev nD) (t : Fin cfg0.N) (j : Fin 512) (a : Fin 1024) (h : (t.val * 1024 + a.val) / 2048 < 16) :
    (iblk m c 2 t : FVec Ideal S1x512x1024 .bf16) (ix3 0 j a)
      = (m ((c : Thread nD τ).loc main_arg2) : FVec Ideal S16x2048x512 .f32) (ix3 ⟨(t.val * 1024 + a.val) / 2048, h⟩ ⟨(t.val * 1024 + a.val) % 2048, by omega⟩ j) := by
  have h0 : (t.val * 1024 + a.val) / 2048 = t.val / 2 := by omega
  have h1 : (t.val * 1024 + a.val) % 2048 = t.val % 2 * 1024 + a.val := by omega
  have e : (iblk m c 2 t : FVec Ideal S1x512x1024 .bf16) (ix3 0 j a) = (V m c main_v3 : FVec Ideal S16x512x2048 .bf16) (ix3 ⟨t.val / 2, by omega⟩ j ⟨t.val % 2 * 1024 + a.val, by omega⟩) := by
    blk_ext [iblk, idx t]
  rw [e, v3]
  simp only [h0, h1]
  exact turned _ _ _ _

/-- The gain block is the argument. -/
theorem x4 (c : Dev nD) (t : Fin cfg0.N) (k : Fin 1024) : (iblk m c 4 t : FVec Ideal S1x1024 .f32) (ix2 0 k)
    = (m ((c : Thread nD τ).loc main_arg4) : FVec Ideal S1x1024 .f32) (ix2 0 k) := by
  blk_ext [iblk, V, idx t]

/-- The projection weights of the block are the argument's. -/
theorem x3 (c : Dev nD) (t : Fin cfg0.N) (a : Fin 1024) (k : Fin 1024) : (iblk m c 3 t : FVec Ideal S1024x1024 .bf16) (ix2 a k)
    = (m ((c : Thread nD τ).loc main_arg3) : FVec Ideal S1x1024x1024 .f32) (ix3 0 a k) := by
  have e : (iblk m c 3 t : FVec Ideal S1024x1024 .bf16) (ix2 a k) = (V m c main_v6 : FVec Ideal S1024x1024 .bf16) (ix2 a k) := by
    blk_ext [iblk, idx t]
  rw [e, v6]
  exact square _ _ _

/-- The gate weights of the block are the argument's. -/
theorem x5 (c : Dev nD) (t : Fin cfg0.N) (a : Fin 1024) (k : Fin 2816) : (iblk m c 5 t : FVec Ideal S1024x2816 .bf16) (ix2 a k)
    = (m ((c : Thread nD τ).loc main_arg5) : FVec Ideal S1x1024x2816 .f32) (ix3 0 a k) := by
  have e : (iblk m c 5 t : FVec Ideal S1024x2816 .bf16) (ix2 a k) = (V m c main_v8 : FVec Ideal S1024x2816 .bf16) (ix2 a k) := by
    blk_ext [iblk, idx t]
  rw [e, v8]
  exact wide _ _ _

/-- The other input weights of the block are the argument's. -/
theorem x6 (c : Dev nD) (t : Fin cfg0.N) (a : Fin 1024) (k : Fin 2816) : (iblk m c 6 t : FVec Ideal S1024x2816 .bf16) (ix2 a k)
    = (m ((c : Thread nD τ).loc main_arg6) : FVec Ideal S1x1024x2816 .f32) (ix3 0 a k) := by
  have e : (iblk m c 6 t : FVec Ideal S1024x2816 .bf16) (ix2 a k) = (V m c main_v10 : FVec Ideal S1024x2816 .bf16) (ix2 a k) := by
    blk_ext [iblk, idx t]
  rw [e, v10]
  exact wide _ _ _

/-- The output weights of the block are the argument's. -/
theorem x7 (c : Dev nD) (t : Fin cfg0.N) (a : Fin 2816) (k : Fin 1024) : (iblk m c 7 t : FVec Ideal S2816x1024 .bf16) (ix2 a k)
    = (m ((c : Thread nD τ).loc main_arg7) : FVec Ideal S1x2816x1024 .f32) (ix3 0 a k) := by
  have e : (iblk m c 7 t : FVec Ideal S2816x1024 .bf16) (ix2 a k) = (V m c main_v12 : FVec Ideal S2816x1024 .bf16) (ix2 a k) := by
    blk_ext [iblk, idx t]
  rw [e, v12]
  exact tall _ _ _

/-- What the body stores at a place of a block is the reference at the place of the array. -/
theorem point (c : Dev nD) (t : Fin cfg0.N) (y : S1024x1024.Idx) :
    out0_8 (iblk m c 0 t) (iblk m c 1 t) (iblk m c 2 t) (iblk m c 3 t) (iblk m c 4 t) (iblk m c 5 t) (iblk m c 6 t) (iblk m c 7 t) y
      = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 8).blk t).view.emb y) := by
  have hb : (((cfg0.win 8).blk t).view.emb y : S32768x1024.Idx) = ix2 ⟨t.val * 1024 + (y 0).val, by
      have h0 : (y 0).val < 1024 := (y 0).isLt
      have h1 : t.val < 32 := t.isLt
      omega⟩ (y 1) := by
    blk_ext [idx t]
  rw [hb]
  refine (out_row _ _ _ _ _ _ _ _ _).trans (Eq.trans ?_ (ref_row _ _ _ _ _ _ _ _ _).symm)
  congr 1
  · refine funext fun k => Eq.trans ?_ (ref_mixed _ _ _ _ _ _ _).symm
    congr 1
    · exact funext fun k => x0 m c t (y 0) k _
    · exact funext fun j => x1 m c t j (y 0) _
    · exact funext fun j => x2 m c t j (y 0) _
    · exact funext fun j => funext fun k => x3 m c t j k
  · exact funext fun k => x4 m c t k
  · exact funext fun k => funext fun f => x5 m c t k f
  · exact funext fun k => funext fun f => x6 m c t k f
  · exact funext fun k => funext fun f => x7 m c t k f

/-- The result array after the run is the reference's. -/
theorem final (c : Dev nD) : (dats m 0 c).arrAt 8 (cfgs 0).N = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp; rw [after0_8]
  exact point m c t y

end Cert.Kernel2Ideal.Half

end
-- ==== Proof.Value3.lean ====
/- The first feed-forward half step: what the kernel leaves in its result array is the reference's term. -/
module

public import proofs.«01_k».proof.Proof.Row3
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.Half

open Cert.Kernel3Ideal Cert.Kernel3Ideal.Gen Cert.Reference3Ideal.Read

variable (m : (ℓ : Loc nD τ sig) → Buf (Elt Ideal) ℓ)

/-- The block of every window at every grid point. -/
theorem idx : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![t.val, 0] :=
  (by decide +kernel : ∀ t : Fin grid0.N, _)

/-- The rows as the region finds them. -/
theorem v0 (c : Dev nD) : @Eq (FVec Ideal S32768x1024 .f32) (V m c main_v0) (shapeCast _ (m ((c : Thread nD τ).loc main_arg0) : FVec Ideal S16x2048x1024 .f32) shapeCasts_S16x2048x1024_S32768x1024) := by
  entry_read
  rfl

/-- The gate weights as the region finds them. -/
theorem v2 (c : Dev nD) : @Eq (FVec Ideal S1024x2816 .bf16) (V m c main_v2) (truncf .bf16 (shapeCast _ (m ((c : Thread nD τ).loc main_arg2) : FVec Ideal S1x1024x2816 .f32) shapeCasts_S1x1024x2816_S1024x2816) bitsLt_bf16_f32) := by
  entry_read
  rfl

/-- The other input weights as the region finds them. -/
theorem v4 (c : Dev nD) : @Eq (FVec Ideal S1024x2816 .bf16) (V m c main_v4) (truncf .bf16 (shapeCast _ (m ((c : Thread nD τ).loc main_arg3) : FVec Ideal S1x1024x2816 .f32) shapeCasts_S1x1024x2816_S1024x2816) bitsLt_bf16_f32) := by
  entry_read
  rfl

/-- The output weights as the region finds them. -/
theorem v6 (c : Dev nD) : @Eq (FVec Ideal S2816x1024 .bf16) (V m c main_v6) (truncf .bf16 (shapeCast _ (m ((c : Thread nD τ).loc main_arg4) : FVec Ideal S1x2816x1024 .f32) shapeCasts_S1x2816x1024_S2816x1024) bitsLt_bf16_f32) := by
  entry_read
  rfl

/-- Row `r` of the flattened rows is row `r % 2048` of matrix `r / 2048`. -/
theorem flat (X : FVec Ideal S16x2048x1024 .f32) (r : Fin 32768) (k : Fin 1024) :
    shapeCast S32768x1024 X shapeCasts_S16x2048x1024_S32768x1024 (ix2 r k) = X (ix3 ⟨r.val / 2048, by omega⟩ ⟨r.val % 2048, by omega⟩ k) := by
  pointwise

/-- The input weights after the host has dropped their unit axis and cast them. -/
theorem wide (W : FVec Ideal S1x1024x2816 .f32) (a : Fin 1024) (k : Fin 2816) :
    (truncf .bf16 (shapeCast _ W shapeCasts_S1x1024x2816_S1024x2816) bitsLt_bf16_f32 : FVec Ideal S1024x2816 .bf16) (ix2 a k) = W (ix3 0 a k) := by
  pointwise

/-- The output weights after the host has dropped their unit axis and cast them. -/
theorem tall (W : FVec Ideal S1x2816x1024 .f32) (a : Fin 2816) (k : Fin 1024) :
    (truncf .bf16 (shapeCast _ W shapeCasts_S1x2816x1024_S2816x1024) bitsLt_bf16_f32 : FVec Ideal S2816x1024 .bf16) (ix2 a k) = W (ix3 0 a k) := by
  pointwise

/-- A row of the block at a point is a row of the argument. -/
theorem x0 (c : Dev nD) (t : Fin cfg0.N) (a k : Fin 1024) (h : (t.val * 1024 + a.val) / 2048 < 16) :
    (iblk m c 0 t : FVec Ideal S1024x1024 .f32) (ix2 a k)
      = (m ((c : Thread nD τ).loc main_arg0) : FVec Ideal S16x2048x1024 .f32) (ix3 ⟨(t.val * 1024 + a.val) / 2048, h⟩ ⟨(t.val * 1024 + a.val) % 2048, by omega⟩ k) := by
  have e : (iblk m c 0 t : FVec Ideal S1024x1024 .f32) (ix2 a k) = (V m c main_v0 : FVec Ideal S32768x1024 .f32) (ix2 ⟨t.val * 1024 + a.val, by omega⟩ k) := by
    blk_ext [iblk, idx t]
  rw [e, v0]
  exact flat _ _ _

/-- The gain block is the argument. -/
theorem x1 (c : Dev nD) (t : Fin cfg0.N) (k : Fin 1024) : (iblk m c 1 t : FVec Ideal S1x1024 .f32) (ix2 0 k)
    = (m ((c : Thread nD τ).loc main_arg1) : FVec Ideal S1x1024 .f32) (ix2 0 k) := by
  blk_ext [iblk, V, idx t]

/-- The gate weights of the block are the argument's. -/
theorem x2 (c : Dev nD) (t : Fin cfg0.N) (a : Fin 1024) (k : Fin 2816) : (iblk m c 2 t : FVec Ideal S1024x2816 .bf16) (ix2 a k)
    = (m ((c : Thread nD τ).loc main_arg2) : FVec Ideal S1x1024x2816 .f32) (ix3 0 a k) := by
  have e : (iblk m c 2 t : FVec Ideal S1024x2816 .bf16) (ix2 a k) = (V m c main_v2 : FVec Ideal S1024x2816 .bf16) (ix2 a k) := by
    blk_ext [iblk, idx t]
  rw [e, v2]
  exact wide _ _ _

/-- The other input weights of the block are the argument's. -/
theorem x3 (c : Dev nD) (t : Fin cfg0.N) (a : Fin 1024) (k : Fin 2816) : (iblk m c 3 t : FVec Ideal S1024x2816 .bf16) (ix2 a k)
    = (m ((c : Thread nD τ).loc main_arg3) : FVec Ideal S1x1024x2816 .f32) (ix3 0 a k) := by
  have e : (iblk m c 3 t : FVec Ideal S1024x2816 .bf16) (ix2 a k) = (V m c main_v4 : FVec Ideal S1024x2816 .bf16) (ix2 a k) := by
    blk_ext [iblk, idx t]
  rw [e, v4]
  exact wide _ _ _

/-- The output weights of the block are the argument's. -/
theorem x4 (c : Dev nD) (t : Fin cfg0.N) (a : Fin 2816) (k : Fin 1024) : (iblk m c 4 t : FVec Ideal S2816x1024 .bf16) (ix2 a k)
    = (m ((c : Thread nD τ).loc main_arg4) : FVec Ideal S1x2816x1024 .f32) (ix3 0 a k) := by
  have e : (iblk m c 4 t : FVec Ideal S2816x1024 .bf16) (ix2 a k) = (V m c main_v6 : FVec Ideal S2816x1024 .bf16) (ix2 a k) := by
    blk_ext [iblk, idx t]
  rw [e, v6]
  exact tall _ _ _

/-- What the body stores at a place of a block is the reference at the place of the array. -/
theorem point (c : Dev nD) (t : Fin cfg0.N) (y : S1024x1024.Idx) :
    out0_5 (iblk m c 0 t) (iblk m c 1 t) (iblk m c 2 t) (iblk m c 3 t) (iblk m c 4 t) y
      = val_main_v25 (F := Ideal) (m ((c : Thread nD τ).loc main_arg0)) (m ((c : Thread nD τ).loc main_arg1)) (m ((c : Thread nD τ).loc
        main_arg2)) (m ((c : Thread nD τ).loc main_arg3)) (m ((c : Thread nD τ).loc main_arg4)) (((cfg0.win 5).blk
        t).view.emb y) := by
  have hb : (((cfg0.win 5).blk t).view.emb y : S32768x1024.Idx) = ix2 ⟨t.val * 1024 + (y 0).val, by
      have h0 : (y 0).val < 1024 := (y 0).isLt
      have h1 : t.val < 32 := t.isLt
      omega⟩ (y 1) := by
    blk_ext [idx t]
  rw [hb]
  refine (out_row _ _ _ _ _ _).trans (Eq.trans ?_ (ref_row _ _ _ _ _ _).symm)
  congr 1
  · exact funext fun k => x0 m c t (y 0) k _
  · exact funext fun k => x1 m c t k
  · exact funext fun k => funext fun f => x2 m c t k f
  · exact funext fun k => funext fun f => x3 m c t k f
  · exact funext fun k => funext fun f => x4 m c t k f

/-- The result array after the run is the reference's. -/
theorem final (c : Dev nD) : (dats m 0 c).arrAt 5 (cfgs 0).N = val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp; rw [after0_5]
  exact point m c t y

end Cert.Kernel3Ideal.Half

end
-- ==== Proof.Halves.lean ====
/- The claims of the two feed-forward kernels: the first half step, and the output projection with the last half step. -/
module

public import proofs.«01_k».proof.Defs
public import proofs.«01_k».proof.Proof.Gen.Kernel2.Frame
public import proofs.«01_k».proof.Proof.Gen.Kernel3.Frame
public import proofs.«01_k».proof.Proof.Value2
public import proofs.«01_k».proof.Proof.Value3
public import Idealize.ShloMosaic.Adequacy
public import Idealize.ShloMosaic.Init

@[expose] public section

set_option maxRecDepth 16384

noncomputable section

namespace Cert.Proof

open Idealize.ShloMosaic Idealize.SL.Sem Idealize.ShloMosaic.Tactic

/-- The projection and half step's kernel runs and leaves its arguments unchanged. -/
theorem frame2 : Cert.quiescent_Kernel2 := fun m ρ _ => Cert.Kernel2.Gen.frame m ρ

/-- So does its idealization. -/
theorem frame2_ideal : Cert.quiescent_Kernel2Ideal := fun m ρ _ => Cert.Kernel2Ideal.Gen.frame m ρ

/-- So does its reference. -/
theorem frame2_ref : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- The first half step's kernel runs and leaves its arguments unchanged. -/
theorem frame3 : Cert.quiescent_Kernel3 := fun m ρ _ => Cert.Kernel3.Gen.frame m ρ

/-- So does its idealization. -/
theorem frame3_ideal : Cert.quiescent_Kernel3Ideal := fun m ρ _ => Cert.Kernel3Ideal.Gen.frame m ρ

/-- So does its reference. -/
theorem frame3_ref : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

/-- The projection and half step's kernel computes its reference. -/
theorem value2 : Cert.algebraic_Kernel2Ideal_Reference2Ideal := by
  pair_intro
  · run_from Cert.Kernel2Ideal.Gen.run_main m g
  · run_from Cert.Reference2Ideal.Value.run m' g'
    obtain ⟨a0, a1, a2, a3, a4, a5, a6, a7⟩ := hagree c
    refine (Cert.Reference2Ideal.Read.val_main_v29_eq m' c).trans ?_
    rw [a0, a1, a2, a3, a4, a5, a6, a7]
    exact (Cert.Kernel2Ideal.Half.final m c).symm

/-- The first half step's kernel computes its reference. -/
theorem value3 : Cert.algebraic_Kernel3Ideal_Reference3Ideal := by
  pair_intro
  · run_from Cert.Kernel3Ideal.Gen.run_main m g
  · hlo_run
    exact (Cert.Kernel3Ideal.Half.final m c).symm

end Cert.Proof

end
-- ==== Proof.Safe.lean ====
/-
  Safe programs: programs that keep a fixed resource, whatever they read and write.

  A frame asks that a body ends, takes no step outside its buffers and gives its inputs back. For a body that only
  loads and stores whole staging buffers, one resource does for the whole run: each buffer that is only read is held at
  fixed contents, each buffer that is written is held at some contents. Every load and every store keeps that resource,
  so every sequence, branch and counted loop of them does.
-/
module

public import Idealize.ShloMosaic.Lib.Scf
public import Idealize.ShloMosaic.Lib.Tactic
public import Idealize.ShloMosaic.Lib.Pipeline.FrameBody

@[expose] public section

noncomputable section

namespace Cert.Proof.Safe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {Λ : Labels}
local notation "𝕄" => MT nD τ sig Unit Val ℕ (URounds (GSem nD τ sig) Unit) ℕ
variable {defs : Defs nD τ sig Val Λ} {𝒱 : Variants} {c : Thread nD τ} {bd : Option 𝒱.V} {E : Set ℕ}
variable {R : sProp (MT nD τ sig Unit Val ℕ (URounds (GSem nD τ sig) Unit) ℕ)}

/-- A program that keeps the resource `R`: from `R` it runs to its return, and `R` holds again. -/
def Safe (defs : Defs nD τ sig Val Λ) (𝒱 : Variants) (c : Thread nD τ) (bd : Option 𝒱.V) (E : Set ℕ) (R : sProp 𝕄)
    {α : Type} (p : Prog (TpuEff nD τ sig Val Λ c.2) α) : Prop :=
  R ⊢ wp frame (wpE defs 𝒱 c bd) E p (fun _ => R)

/-- `R` lends memref `m` for reading: it holds its buffer at some contents, and is whole again when that is returned. -/
def Reads (c : Thread nD τ) (R : sProp 𝕄) {sp : Space} {s : Shape} {e : EltTy} (m : Memref sig c.2.kind sp s e) : Prop :=
  R ⊢ iprop(∃ f : Buf Val (m.view.loc c), (m.view.loc c ↦{fullShare} f) ∗ ((m.view.loc c ↦{fullShare} f) -∗ R))

/-- `R` lends memref `m` for writing: it is whole again whatever its buffer then holds. -/
def Writes (c : Thread nD τ) (R : sProp 𝕄) {sp : Space} {s : Shape} {e : EltTy} (m : Memref sig c.2.kind sp s e) : Prop :=
  R ⊢ iprop(∃ f : Buf Val (m.view.loc c), (m.view.loc c ↦{fullShare} f) ∗ (∀ g : Buf Val (m.view.loc c), (m.view.loc c ↦{fullShare} g) -∗ R))

/-- What is lent for writing is lent for reading. -/
theorem Writes.reads {sp : Space} {s : Shape} {e : EltTy} {m : Memref sig c.2.kind sp s e} (h : Writes c R m) : Reads c R m := by
  unfold Writes at h; unfold Reads
  refine h.trans ?_
  iintro ⟨%f, H, HR⟩
  iexists f
  isplitl [H]
  · iexact H
  · iapply HR

/-- A returned value keeps everything. -/
theorem safe_ret {α : Type} (a : α) : Safe defs 𝒱 c bd E R (pure a) := by
  show R ⊢ wp frame (wpE defs 𝒱 c bd) E (.ret a) (fun _ => R)
  rw [wp_ret]
  exact fupd_intro

/-- One safe program after another is safe. -/
theorem safe_bind {α β : Type} {p : Prog (TpuEff nD τ sig Val Λ c.2) α} {k : α → Prog (TpuEff nD τ sig Val Λ c.2) β}
    (hp : Safe defs 𝒱 c bd E R p) (hk : ∀ a, Safe defs 𝒱 c bd E R (k a)) : Safe defs 𝒱 c bd E R (p >>= k) := by
  unfold Safe
  rw [wp_bind]
  exact hp.trans (wp_mono _ _ _ hk)

/-- A load of a lent memref is safe. -/
theorem safe_load {cs : CoreSpace} {s : Shape} {e : EltTy} {m : Memref sig c.2.kind cs s e} {r : LoadRect s} {hl : m.view.LoadsAt r}
    (h : Reads c R m) : Safe defs 𝒱 c bd E R (Prog.lift (.load m r hl)) := by
  unfold Safe
  unfold Reads at h
  refine h.trans ?_
  show _ ⊢ wp frame (wpE defs 𝒱 c bd) E (.op (.load m r hl) fun x => .ret x) (fun _ => R)
  iintro ⟨%f, H, HR⟩
  iapply (wp_load 𝒱 c bd E (S := Finset.univ) (Finset.subset_univ _)) $$ H
  iintro H
  rw [wp_ret]
  imodintro
  iapply HR
  iexact H

/-- A store to a memref lent for writing is safe. -/
theorem safe_store {cs : CoreSpace} {s : Shape} {e : EltTy} {m : Memref sig c.2.kind cs s e} {r : Rect s} {w : r.shape.Idx → Val e}
    {Mk : Finset r.shape.Idx} {hx : (m.access r).Stores Mk} {hm : Mk = Finset.univ ∨ ∀ a, r.stride a = 1}
    (h : Writes c R m) : Safe defs 𝒱 c bd E R (Prog.lift (.store m r w Mk hx hm)) := by
  unfold Safe
  unfold Writes at h
  refine h.trans ?_
  show _ ⊢ wp frame (wpE defs 𝒱 c bd) E (.op (.store m r w Mk hx hm) fun x => .ret x) (fun _ => R)
  iintro ⟨%f, H, HR⟩
  ihave H := (wp_store (f := f) (m := m) (r := r) (w := w) (Mk := Mk) (hx := hx) (hm := hm) (defs := defs) (Γ := ∅)
    (k := fun x => .ret x) (Q := fun _ => R) 𝒱 c bd E (S := Finset.univ) (Finset.subset_univ _)) $$ H
  iapply H
  iintro H
  rw [wp_ret]
  imodintro
  iapply HR
  iexact H

/-- A branch between safe programs is safe. -/
theorem safe_dite {α : Type} {P : Prop} [Decidable P] {p : P → Prog (TpuEff nD τ sig Val Λ c.2) α} {q : ¬ P → Prog (TpuEff nD τ sig Val Λ c.2) α}
    (hp : ∀ h, Safe defs 𝒱 c bd E R (p h)) (hq : ∀ h, Safe defs 𝒱 c bd E R (q h)) :
    Safe defs 𝒱 c bd E R (if h : P then p h else q h) := by
  by_cases h : P
  · rw [dif_pos h]; exact hp h
  · rw [dif_neg h]; exact hq h

/-- A counted loop of safe trips is safe. -/
theorem safe_for {w : Nat} {σ : Type} {l : Scf.Loop w} {hok : l.OK} {init : σ} {body : Fin l.trips → σ → Prog (TpuEff nD τ sig Val Λ c.2) σ}
    (h : ∀ k a, Safe defs 𝒱 c bd E R (body k a)) : Safe defs 𝒱 c bd E R (Scf.Loop.for l hok init body) := by
  unfold Safe
  refine BIBase.Entails.trans ?_ (Scf.wp_for frame (wpE defs 𝒱 c bd) E l.lb l.ub l.st hok init body (fun _ _ => R) (fun k a => h k a))
  iintro H
  isplitl [H]
  · iexact H
  · iintro %a H
    iexact H

end Cert.Proof.Safe

end
-- ==== Proof.SafeOwn.lean ====
/-
  What lends a memref: the parts of a resource, and the pieces a pipeline hands its body.

  A memref owned whole is lent for reading; one owned whole at some contents is lent for writing; and what a part of a
  resource lends, the whole resource lends.
-/
module

public import proofs.«01_k».proof.Proof.Safe

@[expose] public section

noncomputable section

namespace Cert.Proof.Safe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}
variable {c : Thread nD τ} {sp : Space} {s : Shape} {e : EltTy} {m : Memref sig c.2.kind sp s e}
variable {A B : sProp (MT nD τ sig Unit Val ℕ (URounds (GSem nD τ sig) Unit) ℕ)}

/-- What the left part lends for reading, the whole lends. -/
theorem Reads.left (h : Reads c A m) : Reads c iprop(A ∗ B) m := by
  unfold Reads at *
  refine (sep_mono_left h).trans ?_
  iintro ⟨⟨%f, H, HR⟩, HB⟩
  iexists f
  isplitl [H]
  · iexact H
  iintro H
  isplitl [HR H]
  · iapply HR; iexact H
  · iexact HB

/-- What the right part lends for reading, the whole lends. -/
theorem Reads.right (h : Reads c B m) : Reads c iprop(A ∗ B) m := by
  unfold Reads at *
  refine (sep_mono_right h).trans ?_
  iintro ⟨HA, ⟨%f, H, HR⟩⟩
  iexists f
  isplitl [H]
  · iexact H
  iintro H
  isplitl [HA]
  · iexact HA
  · iapply HR; iexact H

/-- What the left part lends for writing, the whole lends. -/
theorem Writes.left (h : Writes c A m) : Writes c iprop(A ∗ B) m := by
  unfold Writes at *
  refine (sep_mono_left h).trans ?_
  iintro ⟨⟨%f, H, HR⟩, HB⟩
  iexists f
  isplitl [H]
  · iexact H
  iintro %g H
  isplitl [HR H]
  · iapply HR; iexact H
  · iexact HB

/-- What the right part lends for writing, the whole lends. -/
theorem Writes.right (h : Writes c B m) : Writes c iprop(A ∗ B) m := by
  unfold Writes at *
  refine (sep_mono_right h).trans ?_
  iintro ⟨HA, ⟨%f, H, HR⟩⟩
  iexists f
  isplitl [H]
  · iexact H
  iintro %g H
  isplitl [HA]
  · iexact HA
  · iapply HR; iexact H

/-- A whole memref owned at contents `X` is lent for reading. -/
theorem reads_owns (hm : m.IsWhole) (X : s.Idx → Val e) : Reads c (owns c m fullShare X) m := by
  unfold Reads owns
  rw [hm.set_eq_univ]
  iintro ⟨%f, %hf, H⟩
  iexists f
  isplitl [H]
  · iexact H
  iintro H
  iexists f
  isplitr
  · ipureintro; exact hf
  · iexact H

/-- A whole memref owned at some contents is lent for writing. -/
theorem writes_owns (hm : m.IsWhole) : Writes c iprop(∃ X : s.Idx → Val e, owns c m fullShare X) m := by
  unfold Writes owns
  rw [hm.set_eq_univ]
  iintro ⟨%X, %f, %hf, H⟩
  iexists f
  isplitl [H]
  · iexact H
  iintro %g H
  iexists m.view.read Val g
  iexists g
  isplitr
  · ipureintro; rfl
  · iexact H

/-- A memref whose buffer is held at some contents is lent for writing. -/
theorem writes_some : Writes c iprop(∃ f : Buf Val (m.view.loc c), m.view.loc c ↦{fullShare} f) m := by
  unfold Writes
  iintro ⟨%f, H⟩
  iexists f
  isplitl [H]
  · iexact H
  iintro %g H
  iexists g
  iexact H

end Cert.Proof.Safe

end
-- ==== Proof.SafeKernelIdealA.lean ====
/-
  The attention body keeps its resource (the idealized program): the first half of its parts. Each
  part is a line of loads, stores, branches, counted loops and inner parts, so each is safe by the rules of `Safe`.
-/
module

public import proofs.«01_k».proof.Proof.Safe
public import proofs.«01_k».proof.Proof.Gen.KernelIdeal.Frame
public import proofs.«01_k».proof.Proof.Gen.KernelIdeal.Skeleton

@[expose] public section

set_option maxRecDepth 65536

noncomputable section

namespace Cert.Proof.SafeKernelIdeal

open Cert.KernelIdeal Cert.KernelIdeal.Gen Cert.Proof.Safe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {c : Dev nD} {𝒱 : Variants} {bd : Option 𝒱.V} {E : Set ℕ}
variable {R : sProp (MT nD τ sig Unit (Elt F) ℕ (URounds (GSem nD τ sig) Unit) ℕ)}
variable {i : grid0.Coords}
variable {arg2 : Memref sig .tc .vmem S1x64 .f32} {harg2 : arg2.IsWhole}
variable {arg3 : Memref sig .tc .vmem S1x64 .f32} {harg3 : arg3.IsWhole}
variable {arg4 : Memref sig .tc .vmem S1x64 .f32} {harg4 : arg4.IsWhole}
variable {arg5 : Memref sig .tc .vmem S1x64 .f32} {harg5 : arg5.IsWhole}
variable {arg6 : Memref sig .tc .vmem S2x512x256 .bf16} {harg6 : arg6.IsWhole}
variable {arg7 : Memref sig .tc .vmem S2x8x256x512 .bf16} {harg7 : arg7.IsWhole}
variable {arg8 : Memref sig .tc .vmem S2x8x576x256 .bf16} {harg8 : arg8.IsWhole}
variable {arg9 : Memref sig .tc .vmem S16x512 .bf16} {harg9 : arg9.IsWhole}
variable {arg10 : Memref sig .tc .vmem S576x16 .bf16} {harg10 : arg10.IsWhole}
variable {arg11 : Memref sig .tc .vmem S4x3x256x256 .f32} {harg11 : arg11.IsWhole}
variable {arg12 : Memref sig .tc .vmem S4x2x16x256 .f32} {harg12 : arg12.IsWhole}
variable {arg13 : Memref sig .tc .vmem S128x256 .f32} {harg13 : arg13.IsWhole}
variable {arg14 : Memref sig .tc .vmem S2x512x256 .bf16} {harg14 : arg14.IsWhole}
variable {arg15 : Memref sig .tc .vmem S2x4x128x512 .bf16} {harg15 : arg15.IsWhole}
variable {arg16 : Memref sig .tc .vmem S2x4x8x256x512 .f32} {harg16 : arg16.IsWhole}
variable {arg17 : Memref sig .tc .vmem S2x4x16x512 .f32} {harg17 : arg17.IsWhole}
variable {arg18 : Memref sig .tc .vmem S2x4x144x512 .f32} {harg18 : arg18.IsWhole}
variable {arg19 : Memref sig .tc .vmem S2x512x256 .f32} {harg19 : arg19.IsWhole}

/-- The resource lends the body its eighteen memrefs: the twelve inputs for reading, the output and the five scratch
    buffers for writing. -/
structure Lends (c : Dev nD) (R : sProp (MT nD τ sig Unit (Elt F) ℕ (URounds (GSem nD τ sig) Unit) ℕ))
    (arg2 : Memref sig .tc .vmem S1x64 .f32)
    (arg3 : Memref sig .tc .vmem S1x64 .f32)
    (arg4 : Memref sig .tc .vmem S1x64 .f32)
    (arg5 : Memref sig .tc .vmem S1x64 .f32)
    (arg6 : Memref sig .tc .vmem S2x512x256 .bf16)
    (arg7 : Memref sig .tc .vmem S2x8x256x512 .bf16)
    (arg8 : Memref sig .tc .vmem S2x8x576x256 .bf16)
    (arg9 : Memref sig .tc .vmem S16x512 .bf16)
    (arg10 : Memref sig .tc .vmem S576x16 .bf16)
    (arg11 : Memref sig .tc .vmem S4x3x256x256 .f32)
    (arg12 : Memref sig .tc .vmem S4x2x16x256 .f32)
    (arg13 : Memref sig .tc .vmem S128x256 .f32)
    (arg14 : Memref sig .tc .vmem S2x512x256 .bf16)
    (arg15 : Memref sig .tc .vmem S2x4x128x512 .bf16)
    (arg16 : Memref sig .tc .vmem S2x4x8x256x512 .f32)
    (arg17 : Memref sig .tc .vmem S2x4x16x512 .f32)
    (arg18 : Memref sig .tc .vmem S2x4x144x512 .f32)
    (arg19 : Memref sig .tc .vmem S2x512x256 .f32)
    : Prop where
  r2 : Reads (Val := Elt F) (c : Thread nD τ) R arg2
  r3 : Reads (Val := Elt F) (c : Thread nD τ) R arg3
  r4 : Reads (Val := Elt F) (c : Thread nD τ) R arg4
  r5 : Reads (Val := Elt F) (c : Thread nD τ) R arg5
  r6 : Reads (Val := Elt F) (c : Thread nD τ) R arg6
  r7 : Reads (Val := Elt F) (c : Thread nD τ) R arg7
  r8 : Reads (Val := Elt F) (c : Thread nD τ) R arg8
  r9 : Reads (Val := Elt F) (c : Thread nD τ) R arg9
  r10 : Reads (Val := Elt F) (c : Thread nD τ) R arg10
  r11 : Reads (Val := Elt F) (c : Thread nD τ) R arg11
  r12 : Reads (Val := Elt F) (c : Thread nD τ) R arg12
  r13 : Reads (Val := Elt F) (c : Thread nD τ) R arg13
  w14 : Writes (Val := Elt F) (c : Thread nD τ) R arg14
  w15 : Writes (Val := Elt F) (c : Thread nD τ) R arg15
  w16 : Writes (Val := Elt F) (c : Thread nD τ) R arg16
  w17 : Writes (Val := Elt F) (c : Thread nD τ) R arg17
  w18 : Writes (Val := Elt F) (c : Thread nD τ) R arg18
  w19 : Writes (Val := Elt F) (c : Thread nD τ) R arg19

/-- An output or scratch memref lent for writing is lent for reading. -/
theorem Lends.r14 (H : Lends c R arg2 arg3 arg4 arg5 arg6 arg7 arg8 arg9 arg10 arg11 arg12 arg13 arg14 arg15 arg16 arg17 arg18 arg19) : Reads (Val := Elt F) (c : Thread nD τ) R arg14 := H.w14.reads
/-- An output or scratch memref lent for writing is lent for reading. -/
theorem Lends.r15 (H : Lends c R arg2 arg3 arg4 arg5 arg6 arg7 arg8 arg9 arg10 arg11 arg12 arg13 arg14 arg15 arg16 arg17 arg18 arg19) : Reads (Val := Elt F) (c : Thread nD τ) R arg15 := H.w15.reads
/-- An output or scratch memref lent for writing is lent for reading. -/
theorem Lends.r16 (H : Lends c R arg2 arg3 arg4 arg5 arg6 arg7 arg8 arg9 arg10 arg11 arg12 arg13 arg14 arg15 arg16 arg17 arg18 arg19) : Reads (Val := Elt F) (c : Thread nD τ) R arg16 := H.w16.reads
/-- An output or scratch memref lent for writing is lent for reading. -/
theorem Lends.r17 (H : Lends c R arg2 arg3 arg4 arg5 arg6 arg7 arg8 arg9 arg10 arg11 arg12 arg13 arg14 arg15 arg16 arg17 arg18 arg19) : Reads (Val := Elt F) (c : Thread nD τ) R arg17 := H.w17.reads
/-- An output or scratch memref lent for writing is lent for reading. -/
theorem Lends.r18 (H : Lends c R arg2 arg3 arg4 arg5 arg6 arg7 arg8 arg9 arg10 arg11 arg12 arg13 arg14 arg15 arg16 arg17 arg18 arg19) : Reads (Val := Elt F) (c : Thread nD τ) R arg18 := H.w18.reads
/-- An output or scratch memref lent for writing is lent for reading. -/
theorem Lends.r19 (H : Lends c R arg2 arg3 arg4 arg5 arg6 arg7 arg8 arg9 arg10 arg11 arg12 arg13 arg14 arg15 arg16 arg17 arg18 arg19) : Reads (Val := Elt F) (c : Thread nD τ) R arg19 := H.w19.reads

/-- Part 105 of the body keeps the resource. -/
theorem safe_part105 (H : Lends c R arg2 arg3 arg4 arg5 arg6 arg7 arg8 arg9 arg10 arg11 arg12 arg13 arg14 arg15 arg16 arg17 arg18 arg19)  :
    Safe defs₀ 𝒱 c bd E R (k0_part105 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ) := by
  rw [k0_part105_eq_skeleton]; unfold k0_part105_skel
  refine safe_bind (safe_load H.r2) fun _ => ?_
  refine safe_bind (safe_load H.r3) fun _ => ?_
  refine safe_bind (safe_load H.r4) fun _ => ?_
  refine safe_bind (safe_load H.r5) fun _ => ?_
  refine safe_bind (safe_load H.r15) fun _ => ?_
  refine safe_bind (safe_store H.w15) fun _ => ?_
  refine safe_bind (safe_load H.r6) fun _ => ?_
  refine safe_bind (safe_load H.r15) fun _ => ?_
  refine safe_bind (safe_store H.w15) fun _ => ?_
  refine safe_bind (safe_load H.r6) fun _ => ?_
  exact safe_ret _

/-- Part 106 of the body keeps the resource. -/
theorem safe_part106 (H : Lends c R arg2 arg3 arg4 arg5 arg6 arg7 arg8 arg9 arg10 arg11 arg12 arg13 arg14 arg15 arg16 arg17 arg18 arg19) {v26 : FVec F S64x256 .bf16} :
    Safe defs₀ 𝒱 c bd E R (k0_part106 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v26) := by
  rw [k0_part106_eq_skeleton]; unfold k0_part106_skel
  refine safe_bind (safe_load H.r15) fun _ => ?_
  refine safe_bind (safe_store H.w15) fun _ => ?_
  refine safe_bind (safe_load H.r6) fun _ => ?_
  refine safe_bind (safe_load H.r15) fun _ => ?_
  refine safe_bind (safe_store H.w15) fun _ => ?_
  refine safe_bind (safe_load H.r6) fun _ => ?_
  refine safe_bind (safe_load H.r15) fun _ => ?_
  refine safe_bind (safe_store H.w15) fun _ => ?_
  refine safe_bind (safe_load H.r6) fun _ => ?_
  refine safe_bind (safe_load H.r15) fun _ => ?_
  refine safe_bind (safe_store H.w15) fun _ => ?_
  refine safe_bind (safe_load H.r6) fun _ => ?_
  refine safe_bind (safe_load H.r15) fun _ => ?_
  refine safe_bind (safe_store H.w15) fun _ => ?_
  exact safe_ret _

/-- Part 107 of the body keeps the resource. -/
theorem safe_part107 (H : Lends c R arg2 arg3 arg4 arg5 arg6 arg7 arg8 arg9 arg10 arg11 arg12 arg13 arg14 arg15 arg16 arg17 arg18 arg19)  :
    Safe defs₀ 𝒱 c bd E R (k0_part107 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ) := by
  rw [k0_part107_eq_skeleton]; unfold k0_part107_skel
  refine safe_bind (safe_load H.r6) fun _ => ?_
  refine safe_bind (safe_load H.r15) fun _ => ?_
  refine safe_bind (safe_store H.w15) fun _ => ?_
  refine safe_bind (safe_load H.r6) fun _ => ?_
  refine safe_bind (safe_load H.r15) fun _ => ?_
  refine safe_bind (safe_store H.w15) fun _ => ?_
  refine safe_bind (safe_load H.r6) fun _ => ?_
  refine safe_bind (safe_load H.r15) fun _ => ?_
  refine safe_bind (safe_store H.w15) fun _ => ?_
  refine safe_bind (safe_load H.r6) fun _ => ?_
  refine safe_bind (safe_load H.r15) fun _ => ?_
  refine safe_bind (safe_store H.w15) fun _ => ?_
  refine safe_bind (safe_load H.r6) fun _ => ?_
  refine safe_bind (safe_load H.r15) fun _ => ?_
  exact safe_ret _

/-- Part 108 of the body keeps the resource. -/
theorem safe_part108 (H : Lends c R arg2 arg3 arg4 arg5 arg6 arg7 arg8 arg9 arg10 arg11 arg12 arg13 arg14 arg15 arg16 arg17 arg18 arg19) {v71 : FVec F S64x256 .bf16} {v72 : Vec F S1x1x64x256 .bf16} :
    Safe defs₀ 𝒱 c bd E R (k0_part108 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v71 v72) := by
  rw [k0_part108_eq_skeleton]; unfold k0_part108_skel
  refine safe_bind (safe_store H.w15) fun _ => ?_
  refine safe_bind (safe_load H.r6) fun _ => ?_
  refine safe_bind (safe_load H.r15) fun _ => ?_
  refine safe_bind (safe_store H.w15) fun _ => ?_
  refine safe_bind (safe_load H.r6) fun _ => ?_
  refine safe_bind (safe_load H.r15) fun _ => ?_
  refine safe_bind (safe_store H.w15) fun _ => ?_
  refine safe_bind (safe_load H.r6) fun _ => ?_
  refine safe_bind (safe_load H.r15) fun _ => ?_
  refine safe_bind (safe_store H.w15) fun _ => ?_
  refine safe_bind (safe_load H.r6) fun _ => ?_
  refine safe_bind (safe_load H.r15) fun _ => ?_
  refine safe_bind (safe_store H.w15) fun _ => ?_
  refine safe_bind (safe_load H.r6) fun _ => ?_
  exact safe_ret _

/-- Part 109 of the body keeps the resource. -/
theorem safe_part109 (H : Lends c R arg2 arg3 arg4 arg5 arg6 arg7 arg8 arg9 arg10 arg11 arg12 arg13 arg14 arg15 arg16 arg17 arg18 arg19) {v15 : BitVec 32} {v96 : FVec F S64x256 .bf16} :
    Safe defs₀ 𝒱 c bd E R (k0_part109 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v15 v96) := by
  rw [k0_part109_eq_skeleton]; unfold k0_part109_skel
  refine safe_bind (safe_load H.r15) fun _ => ?_
  refine safe_bind (safe_store H.w15) fun _ => ?_
  refine safe_bind (safe_load H.r9) fun _ => ?_
  refine safe_bind (safe_load H.r12) fun _ => ?_
  refine safe_bind (safe_load H.r15) fun _ => ?_
  refine safe_bind (safe_load H.r17) fun _ => ?_
  refine safe_bind (safe_store H.w17) fun _ => ?_
  refine safe_bind (safe_load H.r9) fun _ => ?_
  refine safe_bind (safe_load H.r12) fun _ => ?_
  refine safe_bind (safe_load H.r15) fun _ => ?_
  exact safe_ret _

/-- Part 110 of the body keeps the resource. -/
theorem safe_part110 (H : Lends c R arg2 arg3 arg4 arg5 arg6 arg7 arg8 arg9 arg10 arg11 arg12 arg13 arg14 arg15 arg16 arg17 arg18 arg19) {v15 : BitVec 32} {v122 : FVec F S16x256 .f32} {v125 : FVec F S16x512 .f32} :
    Safe defs₀ 𝒱 c bd E R (k0_part110 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v15 v122 v125) := by
  rw [k0_part110_eq_skeleton]; unfold k0_part110_skel
  refine safe_bind (safe_load H.r17) fun _ => ?_
  refine safe_bind (safe_store H.w17) fun _ => ?_
  refine safe_bind (safe_load H.r9) fun _ => ?_
  refine safe_bind (safe_load H.r12) fun _ => ?_
  refine safe_bind (safe_load H.r15) fun _ => ?_
  refine safe_bind (safe_load H.r17) fun _ => ?_
  refine safe_bind (safe_store H.w17) fun _ => ?_
  refine safe_bind (safe_load H.r9) fun _ => ?_
  refine safe_bind (safe_load H.r12) fun _ => ?_
  exact safe_ret _

/-- Part 111 of the body keeps the resource. -/
theorem safe_part111 (H : Lends c R arg2 arg3 arg4 arg5 arg6 arg7 arg8 arg9 arg10 arg11 arg12 arg13 arg14 arg15 arg16 arg17 arg18 arg19) {v15 : BitVec 32} {v155 : FVec F S16x128 .bf16} {v158 : FVec F S16x256 .f32} :
    Safe defs₀ 𝒱 c bd E R (k0_part111 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v15 v155 v158) := by
  rw [k0_part111_eq_skeleton]; unfold k0_part111_skel
  refine safe_bind (safe_load H.r15) fun _ => ?_
  refine safe_bind (safe_load H.r17) fun _ => ?_
  refine safe_bind (safe_store H.w17) fun _ => ?_
  refine safe_bind (safe_load H.r9) fun _ => ?_
  refine safe_bind (safe_load H.r12) fun _ => ?_
  refine safe_bind (safe_load H.r15) fun _ => ?_
  refine safe_bind (safe_load H.r17) fun _ => ?_
  refine safe_bind (safe_store H.w17) fun _ => ?_
  exact safe_ret _

/-- Part 112 of the body keeps the resource. -/
theorem safe_part112 (H : Lends c R arg2 arg3 arg4 arg5 arg6 arg7 arg8 arg9 arg10 arg11 arg12 arg13 arg14 arg15 arg16 arg17 arg18 arg19) {v15 : BitVec 32} :
    Safe defs₀ 𝒱 c bd E R (k0_part112 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v15) := by
  rw [k0_part112_eq_skeleton]; unfold k0_part112_skel
  refine safe_bind (safe_load H.r9) fun _ => ?_
  refine safe_bind (safe_load H.r12) fun _ => ?_
  refine safe_bind (safe_load H.r15) fun _ => ?_
  refine safe_bind (safe_load H.r17) fun _ => ?_
  refine safe_bind (safe_store H.w17) fun _ => ?_
  refine safe_bind (safe_load H.r9) fun _ => ?_
  refine safe_bind (safe_load H.r12) fun _ => ?_
  refine safe_bind (safe_load H.r15) fun _ => ?_
  refine safe_bind (safe_load H.r17) fun _ => ?_
  exact safe_ret _

/-- Part 113 of the body keeps the resource. -/
theorem safe_part113 (H : Lends c R arg2 arg3 arg4 arg5 arg6 arg7 arg8 arg9 arg10 arg11 arg12 arg13 arg14 arg15 arg16 arg17 arg18 arg19) {arg1 : BitVec 32} {v15 : BitVec 32} {v220 : FVec F S16x512 .f32} {v221 : Vec F S1x1x16x512 .f32} :
    Safe defs₀ 𝒱 c bd E R (k0_part113 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v15 v220 v221) := by
  rw [k0_part113_eq_skeleton]; unfold k0_part113_skel
  refine safe_bind (safe_store H.w17) fun _ => ?_
  refine safe_bind (safe_load H.r9) fun _ => ?_
  refine safe_bind (safe_load H.r12) fun _ => ?_
  refine safe_bind (safe_load H.r15) fun _ => ?_
  refine safe_bind (safe_load H.r17) fun _ => ?_
  refine safe_bind (safe_store H.w17) fun _ => ?_
  exact safe_ret _

/-- Part 41 of the body keeps the resource. -/
theorem safe_part41 (H : Lends c R arg2 arg3 arg4 arg5 arg6 arg7 arg8 arg9 arg10 arg11 arg12 arg13 arg14 arg15 arg16 arg17 arg18 arg19) {arg1 : BitVec 32} {v268_0 : FVec F S8x512 .f32} {v286 : BitVec 32} {k0_h1 : k0_cond1 i = 1#1} :
    Safe defs₀ 𝒱 c bd E R (k0_part41 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v268_0 v286 k0_h1) := by
  rw [k0_part41_eq_skeleton]; unfold k0_part41_skel
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  exact safe_ret _

/-- Part 42 of the body keeps the resource. -/
theorem safe_part42 (H : Lends c R arg2 arg3 arg4 arg5 arg6 arg7 arg8 arg9 arg10 arg11 arg12 arg13 arg14 arg15 arg16 arg17 arg18 arg19) {v268_1 : FVec F S8x512 .f32} {v268_2 : FVec F S8x512 .f32} {k0_h1 : k0_cond1 i = 1#1} {v788 : BitVec 32} {v790 : BitVec 32} {v814 : FVec F S256x128 .bf16} {v817 : FVec F S256x256 .f32} {v818 : Vec F S1x1x128x512 .bf16} :
    Safe defs₀ 𝒱 c bd E R (k0_part42 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v268_1 v268_2 k0_h1 v788 v790 v814 v817 v818) := by
  rw [k0_part42_eq_skeleton]; unfold k0_part42_skel
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  exact safe_ret _

/-- Part 43 of the body keeps the resource. -/
theorem safe_part43 (H : Lends c R arg2 arg3 arg4 arg5 arg6 arg7 arg8 arg9 arg10 arg11 arg12 arg13 arg14 arg15 arg16 arg17 arg18 arg19) {v268_3 : FVec F S8x512 .f32} {k0_h1 : k0_cond1 i = 1#1} {v788 : BitVec 32} {v790 : BitVec 32} :
    Safe defs₀ 𝒱 c bd E R (k0_part43 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v268_3 k0_h1 v788 v790) := by
  rw [k0_part43_eq_skeleton]; unfold k0_part43_skel
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  exact safe_ret _

/-- Part 44 of the body keeps the resource. -/
theorem safe_part44 (H : Lends c R arg2 arg3 arg4 arg5 arg6 arg7 arg8 arg9 arg10 arg11 arg12 arg13 arg14 arg15 arg16 arg17 arg18 arg19) {v268_4 : FVec F S8x512 .f32} {v268_5 : FVec F S8x512 .f32} {k0_h1 : k0_cond1 i = 1#1} {v788 : BitVec 32} {v790 : BitVec 32} {v880 : FVec F S256x256 .f32} {v885 : FVec F S256x256 .f32} {v886 : FVec F S256x256 .f32} :
    Safe defs₀ 𝒱 c bd E R (k0_part44 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v268_4 v268_5 k0_h1 v788 v790 v880 v885 v886) := by
  rw [k0_part44_eq_skeleton]; unfold k0_part44_skel
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  refine safe_bind (safe_load H.r7) fun _ => ?_
  exact safe_ret _

/-- Part 45 of the body keeps the resource. -/
theorem safe_part45 (H : Lends c R arg2 arg3 arg4 arg5 arg6 arg7 arg8 arg9 arg10 arg11 arg12 arg13 arg14 arg15 arg16 arg17 arg18 arg19) {v268_6 : FVec F S8x512 .f32} {k0_h1 : k0_cond1 i = 1#1} {v788 : BitVec 32} {v790 : BitVec 32} {v919 : FVec F S256x128 .bf16} :
    Safe defs₀ 𝒱 c bd E R (k0_part45 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v268_6 k0_h1 v788 v790 v919) := by
  rw [k0_part45_eq_skeleton]; unfold k0_part45_skel
  refine safe_bind (safe_load H.r11) fun _ => ?_
  refine safe_bind (safe_load H.r15) fun _ => ?_
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  exact safe_ret _

/-- Part 46 of the body keeps the resource. -/
theorem safe_part46 (H : Lends c R arg2 arg3 arg4 arg5 arg6 arg7 arg8 arg9 arg10 arg11 arg12 arg13 arg14 arg15 arg16 arg17 arg18 arg19) {arg1 : BitVec 32} {v268_7 : FVec F S8x512 .f32} {v286 : BitVec 32} {k0_h1 : k0_cond1 i = 1#1} {v811 : FVec F S8x512 .f32} {v951 : FVec F S256x512 .f32} :
    Safe defs₀ 𝒱 c bd E R (k0_part46 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v268_7 v286 k0_h1 v811 v951) := by
  rw [k0_part46_eq_skeleton]; unfold k0_part46_skel
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  refine safe_bind (safe_load H.r7) fun _ => ?_
  exact safe_ret _

/-- Part 47 of the body keeps the resource. -/
theorem safe_part47 (H : Lends c R arg2 arg3 arg4 arg5 arg6 arg7 arg8 arg9 arg10 arg11 arg12 arg13 arg14 arg15 arg16 arg17 arg18 arg19) {k0_h1 : k0_cond1 i = 1#1} {v832 : FVec F S8x512 .f32} {v959 : BitVec 32} {v961 : BitVec 32} {v985 : FVec F S256x128 .bf16} :
    Safe defs₀ 𝒱 c bd E R (k0_part47 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v832 v959 v961 v985) := by
  rw [k0_part47_eq_skeleton]; unfold k0_part47_skel
  refine safe_bind (safe_load H.r11) fun _ => ?_
  refine safe_bind (safe_load H.r15) fun _ => ?_
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  exact safe_ret _

/-- Part 48 of the body keeps the resource. -/
theorem safe_part48 (H : Lends c R arg2 arg3 arg4 arg5 arg6 arg7 arg8 arg9 arg10 arg11 arg12 arg13 arg14 arg15 arg16 arg17 arg18 arg19) {k0_h1 : k0_cond1 i = 1#1} {v853 : FVec F S8x512 .f32} {v874 : FVec F S8x512 .f32} {v959 : BitVec 32} {v961 : BitVec 32} {v1017 : FVec F S256x512 .f32} :
    Safe defs₀ 𝒱 c bd E R (k0_part48 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v853 v874 v959 v961 v1017) := by
  rw [k0_part48_eq_skeleton]; unfold k0_part48_skel
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  refine safe_bind (safe_load H.r7) fun _ => ?_
  refine safe_bind (safe_load H.r11) fun _ => ?_
  exact safe_ret _

/-- Part 49 of the body keeps the resource. -/
theorem safe_part49 (H : Lends c R arg2 arg3 arg4 arg5 arg6 arg7 arg8 arg9 arg10 arg11 arg12 arg13 arg14 arg15 arg16 arg17 arg18 arg19) {k0_h1 : k0_cond1 i = 1#1} {v895 : FVec F S8x512 .f32} {v959 : BitVec 32} {v961 : BitVec 32} {v1048 : FVec F S256x128 .bf16} {v1051 : FVec F S256x256 .f32} :
    Safe defs₀ 𝒱 c bd E R (k0_part49 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v895 v959 v961 v1048 v1051) := by
  rw [k0_part49_eq_skeleton]; unfold k0_part49_skel
  refine safe_bind (safe_load H.r15) fun _ => ?_
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  exact safe_ret _

/-- Part 50 of the body keeps the resource. -/
theorem safe_part50 (H : Lends c R arg2 arg3 arg4 arg5 arg6 arg7 arg8 arg9 arg10 arg11 arg12 arg13 arg14 arg15 arg16 arg17 arg18 arg19) {k0_h1 : k0_cond1 i = 1#1} {v916 : FVec F S8x512 .f32} {v937 : FVec F S8x512 .f32} {v959 : BitVec 32} {v961 : BitVec 32} {v1085 : FVec F S32x8x512 .f32} :
    Safe defs₀ 𝒱 c bd E R (k0_part50 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v916 v937 v959 v961 v1085) := by
  rw [k0_part50_eq_skeleton]; unfold k0_part50_skel
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  exact safe_ret _

/-- Part 1 of the body keeps the resource. -/
theorem safe_part1 (H : Lends c R arg2 arg3 arg4 arg5 arg6 arg7 arg8 arg9 arg10 arg11 arg12 arg13 arg14 arg15 arg16 arg17 arg18 arg19) {arg1 : BitVec 32} {c0_i32_242 : BitVec 32} {c1_i32_244 : BitVec 32} {k0_t1 : Fin (k0_t1_loop i).trips} {arg21 : FVec F S8x512 .f32} :
    Safe defs₀ 𝒱 c bd E R (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 c0_i32_242 c1_i32_244 k0_t1 arg21) := by
  rw [k0_part1_eq_skeleton]; unfold k0_part1_skel
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  refine safe_bind (safe_load H.r7) fun _ => ?_
  refine safe_bind (safe_load H.r11) fun _ => ?_
  exact safe_ret _

/-- Part 2 of the body keeps the resource. -/
theorem safe_part2 (H : Lends c R arg2 arg3 arg4 arg5 arg6 arg7 arg8 arg9 arg10 arg11 arg12 arg13 arg14 arg15 arg16 arg17 arg18 arg19) {k0_t1 : Fin (k0_t1_loop i).trips} {arg22 : FVec F S8x512 .f32} {v789 : BitVec 32} {v791 : BitVec 32} {v815 : FVec F S256x128 .bf16} {v818 : FVec F S256x256 .f32} :
    Safe defs₀ 𝒱 c bd E R (k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t1 arg22 v789 v791 v815 v818) := by
  rw [k0_part2_eq_skeleton]; unfold k0_part2_skel
  refine safe_bind (safe_load H.r15) fun _ => ?_
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  exact safe_ret _

/-- Part 3 of the body keeps the resource. -/
theorem safe_part3 (H : Lends c R arg2 arg3 arg4 arg5 arg6 arg7 arg8 arg9 arg10 arg11 arg12 arg13 arg14 arg15 arg16 arg17 arg18 arg19) {k0_t1 : Fin (k0_t1_loop i).trips} {arg23 : FVec F S8x512 .f32} {arg24 : FVec F S8x512 .f32} {v789 : BitVec 32} {v791 : BitVec 32} {v852 : FVec F S32x8x512 .f32} :
    Safe defs₀ 𝒱 c bd E R (k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t1 arg23 arg24 v789 v791 v852) := by
  rw [k0_part3_eq_skeleton]; unfold k0_part3_skel
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  exact safe_ret _

/-- Part 4 of the body keeps the resource. -/
theorem safe_part4 (H : Lends c R arg2 arg3 arg4 arg5 arg6 arg7 arg8 arg9 arg10 arg11 arg12 arg13 arg14 arg15 arg16 arg17 arg18 arg19) {k0_t1 : Fin (k0_t1_loop i).trips} {arg25 : FVec F S8x512 .f32} {arg26 : FVec F S8x512 .f32} {v789 : BitVec 32} {v791 : BitVec 32} {v881 : FVec F S256x256 .f32} {v884 : FVec F S256x512 .f32} :
    Safe defs₀ 𝒱 c bd E R (k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t1 arg25 arg26 v789 v791 v881 v884) := by
  rw [k0_part4_eq_skeleton]; unfold k0_part4_skel
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  exact safe_ret _

/-- Part 5 of the body keeps the resource. -/
theorem safe_part5 (H : Lends c R arg2 arg3 arg4 arg5 arg6 arg7 arg8 arg9 arg10 arg11 arg12 arg13 arg14 arg15 arg16 arg17 arg18 arg19) {k0_t1 : Fin (k0_t1_loop i).trips} {arg27 : FVec F S8x512 .f32} {v789 : BitVec 32} {v791 : BitVec 32} :
    Safe defs₀ 𝒱 c bd E R (k0_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t1 arg27 v789 v791) := by
  rw [k0_part5_eq_skeleton]; unfold k0_part5_skel
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  exact safe_ret _

/-- Part 6 of the body keeps the resource. -/
theorem safe_part6 (H : Lends c R arg2 arg3 arg4 arg5 arg6 arg7 arg8 arg9 arg10 arg11 arg12 arg13 arg14 arg15 arg16 arg17 arg18 arg19) {arg1 : BitVec 32} {k0_t1 : Fin (k0_t1_loop i).trips} {arg28 : FVec F S8x512 .f32} {v788 : BitVec 32} {v789 : BitVec 32} {v812 : FVec F S8x512 .f32} {v952 : FVec F S256x512 .f32} :
    Safe defs₀ 𝒱 c bd E R (k0_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 k0_t1 arg28 v788 v789 v812 v952) := by
  rw [k0_part6_eq_skeleton]; unfold k0_part6_skel
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  refine safe_bind (safe_load H.r7) fun _ => ?_
  exact safe_ret _

/-- Part 7 of the body keeps the resource. -/
theorem safe_part7 (H : Lends c R arg2 arg3 arg4 arg5 arg6 arg7 arg8 arg9 arg10 arg11 arg12 arg13 arg14 arg15 arg16 arg17 arg18 arg19) {k0_t1 : Fin (k0_t1_loop i).trips} {v833 : FVec F S8x512 .f32} {v960 : BitVec 32} {v962 : BitVec 32} {v985 : Vec F S1x1x256x128 .bf16} :
    Safe defs₀ 𝒱 c bd E R (k0_part7 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t1 v833 v960 v962 v985) := by
  rw [k0_part7_eq_skeleton]; unfold k0_part7_skel
  refine safe_bind (safe_load H.r11) fun _ => ?_
  refine safe_bind (safe_load H.r15) fun _ => ?_
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  exact safe_ret _

/-- Part 8 of the body keeps the resource. -/
theorem safe_part8 (H : Lends c R arg2 arg3 arg4 arg5 arg6 arg7 arg8 arg9 arg10 arg11 arg12 arg13 arg14 arg15 arg16 arg17 arg18 arg19) {k0_t1 : Fin (k0_t1_loop i).trips} {v854 : FVec F S8x512 .f32} {v875 : FVec F S8x512 .f32} {v960 : BitVec 32} {v962 : BitVec 32} {v1018 : FVec F S256x512 .f32} :
    Safe defs₀ 𝒱 c bd E R (k0_part8 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t1 v854 v875 v960 v962 v1018) := by
  rw [k0_part8_eq_skeleton]; unfold k0_part8_skel
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  refine safe_bind (safe_load H.r7) fun _ => ?_
  refine safe_bind (safe_load H.r11) fun _ => ?_
  exact safe_ret _

/-- Part 9 of the body keeps the resource. -/
theorem safe_part9 (H : Lends c R arg2 arg3 arg4 arg5 arg6 arg7 arg8 arg9 arg10 arg11 arg12 arg13 arg14 arg15 arg16 arg17 arg18 arg19) {k0_t1 : Fin (k0_t1_loop i).trips} {v896 : FVec F S8x512 .f32} {v960 : BitVec 32} {v962 : BitVec 32} {v1049 : FVec F S256x128 .bf16} {v1051 : Vec F S1x1x256x256 .f32} :
    Safe defs₀ 𝒱 c bd E R (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t1 v896 v960 v962 v1049 v1051) := by
  rw [k0_part9_eq_skeleton]; unfold k0_part9_skel
  refine safe_bind (safe_load H.r15) fun _ => ?_
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  refine safe_bind (safe_load H.r16) fun _ => ?_
  exact safe_ret _

/-- Part 10 of the body keeps the resource. -/
theorem safe_part10 (H : Lends c R arg2 arg3 arg4 arg5 arg6 arg7 arg8 arg9 arg10 arg11 arg12 arg13 arg14 arg15 arg16 arg17 arg18 arg19) {k0_t1 : Fin (k0_t1_loop i).trips} {v917 : FVec F S8x512 .f32} {v938 : FVec F S8x512 .f32} {v960 : BitVec 32} {v962 : BitVec 32} {v1081 : FVec F S256x512 .f32} {v1085 : FVec F S1x1x1x256x512 .f32} :
    Safe defs₀ 𝒱 c bd E R (k0_part10 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t1 v917 v938 v960 v962 v1081 v1085) := by
  rw [k0_part10_eq_skeleton]; unfold k0_part10_skel
  refine safe_bind (safe_store H.w16) fun _ => ?_
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  exact safe_ret _

/-- Part 11 of the body keeps the resource. -/
theorem safe_part11 (H : Lends c R arg2 arg3 arg4 arg5 arg6 arg7 arg8 arg9 arg10 arg11 arg12 arg13 arg14 arg15 arg16 arg17 arg18 arg19) {arg1 : BitVec 32} {k0_t1 : Fin (k0_t1_loop i).trips} {v788 : BitVec 32} {v959 : FVec F S8x512 .f32} {v960 : BitVec 32} {v1112 : FVec F S256x128 .bf16} {v1115 : FVec F S256x256 .f32} {v1116 : Vec F S1x1x128x512 .bf16} :
    Safe defs₀ 𝒱 c bd E R (k0_part11 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 k0_t1 v788 v959 v960 v1112 v1115 v1116) := by
  rw [k0_part11_eq_skeleton]; unfold k0_part11_skel
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  exact safe_ret _

/-- Part 12 of the body keeps the resource. -/
theorem safe_part12 (H : Lends c R arg2 arg3 arg4 arg5 arg6 arg7 arg8 arg9 arg10 arg11 arg12 arg13 arg14 arg15 arg16 arg17 arg18 arg19) {k0_t1 : Fin (k0_t1_loop i).trips} {v983 : FVec F S8x512 .f32} {v1004 : FVec F S8x512 .f32} {v1131 : BitVec 32} {v1133 : BitVec 32} {v1147 : FVec F S256x512 .f32} :
    Safe defs₀ 𝒱 c bd E R (k0_part12 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t1 v983 v1004 v1131 v1133 v1147) := by
  rw [k0_part12_eq_skeleton]; unfold k0_part12_skel
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  exact safe_ret _

/-- Part 13 of the body keeps the resource. -/
theorem safe_part13 (H : Lends c R arg2 arg3 arg4 arg5 arg6 arg7 arg8 arg9 arg10 arg11 arg12 arg13 arg14 arg15 arg16 arg17 arg18 arg19) {k0_t1 : Fin (k0_t1_loop i).trips} {v1025 : FVec F S8x512 .f32} {v1046 : FVec F S8x512 .f32} {v1131 : BitVec 32} {v1133 : BitVec 32} {v1178 : FVec F S256x128 .bf16} {v1181 : FVec F S256x256 .f32} {v1183 : FVec F S128x512 .bf16} :
    Safe defs₀ 𝒱 c bd E R (k0_part13 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t1 v1025 v1046 v1131 v1133 v1178 v1181 v1183) := by
  rw [k0_part13_eq_skeleton]; unfold k0_part13_skel
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  exact safe_ret _

/-- Part 14 of the body keeps the resource. -/
theorem safe_part14 (H : Lends c R arg2 arg3 arg4 arg5 arg6 arg7 arg8 arg9 arg10 arg11 arg12 arg13 arg14 arg15 arg16 arg17 arg18 arg19) {k0_t1 : Fin (k0_t1_loop i).trips} {v1067 : FVec F S8x512 .f32} {v1131 : BitVec 32} {v1133 : BitVec 32} :
    Safe defs₀ 𝒱 c bd E R (k0_part14 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t1 v1067 v1131 v1133) := by
  rw [k0_part14_eq_skeleton]; unfold k0_part14_skel
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  exact safe_ret _

/-- Part 15 of the body keeps the resource. -/
theorem safe_part15 (H : Lends c R arg2 arg3 arg4 arg5 arg6 arg7 arg8 arg9 arg10 arg11 arg12 arg13 arg14 arg15 arg16 arg17 arg18 arg19) {k0_t1 : Fin (k0_t1_loop i).trips} {v1088 : FVec F S8x512 .f32} {v1109 : FVec F S8x512 .f32} {v1131 : BitVec 32} {v1133 : BitVec 32} {v1249 : FVec F S256x256 .f32} {v1251 : FVec F S256x256 .f32} :
    Safe defs₀ 𝒱 c bd E R (k0_part15 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t1 v1088 v1109 v1131 v1133 v1249 v1251) := by
  rw [k0_part15_eq_skeleton]; unfold k0_part15_skel
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  refine safe_bind (safe_load H.r7) fun _ => ?_
  exact safe_ret _

/-- Part 16 of the body keeps the resource. -/
theorem safe_part16 (H : Lends c R arg2 arg3 arg4 arg5 arg6 arg7 arg8 arg9 arg10 arg11 arg12 arg13 arg14 arg15 arg16 arg17 arg18 arg19) {arg1 : BitVec 32} {k0_t1 : Fin (k0_t1_loop i).trips} {v788 : BitVec 32} {v1130 : FVec F S8x512 .f32} {v1131 : BitVec 32} {v1283 : FVec F S256x128 .bf16} :
    Safe defs₀ 𝒱 c bd E R (k0_part16 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 k0_t1 v788 v1130 v1131 v1283) := by
  rw [k0_part16_eq_skeleton]; unfold k0_part16_skel
  refine safe_bind (safe_load H.r11) fun _ => ?_
  refine safe_bind (safe_load H.r15) fun _ => ?_
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  exact safe_ret _

/-- Part 17 of the body keeps the resource. -/
theorem safe_part17 (H : Lends c R arg2 arg3 arg4 arg5 arg6 arg7 arg8 arg9 arg10 arg11 arg12 arg13 arg14 arg15 arg16 arg17 arg18 arg19) {k0_t1 : Fin (k0_t1_loop i).trips} {v1154 : FVec F S8x512 .f32} {v1175 : FVec F S8x512 .f32} {v1302 : BitVec 32} {v1304 : BitVec 32} {v1318 : FVec F S256x512 .f32} :
    Safe defs₀ 𝒱 c bd E R (k0_part17 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t1 v1154 v1175 v1302 v1304 v1318) := by
  rw [k0_part17_eq_skeleton]; unfold k0_part17_skel
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  refine safe_bind (safe_load H.r7) fun _ => ?_
  exact safe_ret _

/-- Part 18 of the body keeps the resource. -/
theorem safe_part18 (H : Lends c R arg2 arg3 arg4 arg5 arg6 arg7 arg8 arg9 arg10 arg11 arg12 arg13 arg14 arg15 arg16 arg17 arg18 arg19) {k0_t1 : Fin (k0_t1_loop i).trips} {v1196 : FVec F S8x512 .f32} {v1302 : BitVec 32} {v1304 : BitVec 32} {v1349 : FVec F S256x128 .bf16} :
    Safe defs₀ 𝒱 c bd E R (k0_part18 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t1 v1196 v1302 v1304 v1349) := by
  rw [k0_part18_eq_skeleton]; unfold k0_part18_skel
  refine safe_bind (safe_load H.r11) fun _ => ?_
  refine safe_bind (safe_load H.r15) fun _ => ?_
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  refine safe_bind (safe_load H.r16) fun _ => ?_
  exact safe_ret _

/-- Part 19 of the body keeps the resource. -/
theorem safe_part19 (H : Lends c R arg2 arg3 arg4 arg5 arg6 arg7 arg8 arg9 arg10 arg11 arg12 arg13 arg14 arg15 arg16 arg17 arg18 arg19) {k0_t1 : Fin (k0_t1_loop i).trips} {v1217 : FVec F S8x512 .f32} {v1238 : FVec F S8x512 .f32} {v1302 : BitVec 32} {v1304 : BitVec 32} {v1381 : FVec F S256x512 .f32} {v1383 : Vec F S1x1x1x256x512 .f32} :
    Safe defs₀ 𝒱 c bd E R (k0_part19 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t1 v1217 v1238 v1302 v1304 v1381 v1383) := by
  rw [k0_part19_eq_skeleton]; unfold k0_part19_skel
  refine safe_bind (safe_store H.w16) fun _ => ?_
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  refine safe_bind (safe_load H.r7) fun _ => ?_
  refine safe_bind (safe_load H.r11) fun _ => ?_
  exact safe_ret _

/-- Part 20 of the body keeps the resource. -/
theorem safe_part20 (H : Lends c R arg2 arg3 arg4 arg5 arg6 arg7 arg8 arg9 arg10 arg11 arg12 arg13 arg14 arg15 arg16 arg17 arg18 arg19) {k0_t1 : Fin (k0_t1_loop i).trips} {v1259 : FVec F S8x512 .f32} {v1302 : BitVec 32} {v1304 : BitVec 32} {v1412 : FVec F S256x128 .bf16} {v1415 : FVec F S256x256 .f32} :
    Safe defs₀ 𝒱 c bd E R (k0_part20 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t1 v1259 v1302 v1304 v1412 v1415) := by
  rw [k0_part20_eq_skeleton]; unfold k0_part20_skel
  refine safe_bind (safe_load H.r15) fun _ => ?_
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  exact safe_ret _

/-- A trip of the body's counted loop 1 keeps the resource. -/
theorem safe_k0_t1 (H : Lends c R arg2 arg3 arg4 arg5 arg6 arg7 arg8 arg9 arg10 arg11 arg12 arg13 arg14 arg15 arg16 arg17 arg18 arg19) {arg1 : BitVec 32} {v117 : FVec F S8x512 .f32} {v135 : FVec F S8x512 .f32} {v153 : FVec F S8x512 .f32} {v171 : FVec F S8x512 .f32} {v189 : FVec F S8x512 .f32} {v207 : FVec F S8x512 .f32} {v225 : FVec F S8x512 .f32} {v243 : FVec F S8x512 .f32} {v244 : BitVec 32} {v245 : BitVec 32} {v256 : BitVec 1} {v257 : BitVec 32} (k : Fin (k0_t1_loop i).trips) (a) :
    Safe defs₀ 𝒱 c bd E R (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v117 v135 v153 v171 v189 v207 v225 v243 v244 v245 v256 v257 k a) := by
  unfold k0_t1_body
  obtain ⟨_, _, _, _, _, _, _, _⟩ := a
  refine safe_bind (safe_part1 H) ?_
  rintro ⟨_, _, _, _, _, _⟩
  refine safe_bind (safe_part2 H) ?_
  rintro ⟨_, _⟩
  refine safe_bind (safe_part3 H) ?_
  rintro ⟨_, _, _, _⟩
  refine safe_bind (safe_part4 H) ?_
  rintro ⟨_, _⟩
  refine safe_bind (safe_part5 H) ?_
  rintro ⟨_, _⟩
  refine safe_bind (safe_part6 H) ?_
  rintro ⟨_, _, _, _, _⟩
  refine safe_bind (safe_part7 H) ?_
  rintro ⟨_, _⟩
  refine safe_bind (safe_part8 H) ?_
  rintro ⟨_, _, _, _⟩
  refine safe_bind (safe_part9 H) ?_
  rintro ⟨_, _, _⟩
  refine safe_bind (safe_part10 H) ?_
  rintro ⟨_, _, _, _, _⟩
  refine safe_bind (safe_part11 H) ?_
  rintro ⟨_, _, _, _⟩
  refine safe_bind (safe_part12 H) ?_
  rintro ⟨_, _, _, _, _⟩
  refine safe_bind (safe_part13 H) ?_
  rintro ⟨_, _⟩
  refine safe_bind (safe_part14 H) ?_
  rintro ⟨_, _, _⟩
  refine safe_bind (safe_part15 H) ?_
  rintro ⟨_, _, _⟩
  refine safe_bind (safe_part16 H) ?_
  rintro ⟨_, _, _, _⟩
  refine safe_bind (safe_part17 H) ?_
  rintro ⟨_, _, _⟩
  refine safe_bind (safe_part18 H) ?_
  rintro ⟨_, _, _⟩
  refine safe_bind (safe_part19 H) ?_
  rintro ⟨_, _, _, _⟩
  refine safe_bind (safe_part20 H) ?_
  rintro ⟨_, _⟩
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  exact safe_ret _

/-- Part 21 of the body keeps the resource. -/
theorem safe_part21 (H : Lends c R arg2 arg3 arg4 arg5 arg6 arg7 arg8 arg9 arg10 arg11 arg12 arg13 arg14 arg15 arg16 arg17 arg18 arg19) {arg1 : BitVec 32} {v266 : BitVec 32} {c1_i32_245 : BitVec 32} {k0_t2 : Fin (k0_t2_loop i).trips} {arg21 : FVec F S8x512 .f32} :
    Safe defs₀ 𝒱 c bd E R (k0_part21 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v266 c1_i32_245 k0_t2 arg21) := by
  rw [k0_part21_eq_skeleton]; unfold k0_part21_skel
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  refine safe_bind (safe_load H.r7) fun _ => ?_
  refine safe_bind (safe_load H.r11) fun _ => ?_
  exact safe_ret _

/-- Part 22 of the body keeps the resource. -/
theorem safe_part22 (H : Lends c R arg2 arg3 arg4 arg5 arg6 arg7 arg8 arg9 arg10 arg11 arg12 arg13 arg14 arg15 arg16 arg17 arg18 arg19) {k0_t2 : Fin (k0_t2_loop i).trips} {arg22 : FVec F S8x512 .f32} {v789 : BitVec 32} {v791 : BitVec 32} {v815 : FVec F S256x128 .bf16} {v818 : FVec F S256x256 .f32} :
    Safe defs₀ 𝒱 c bd E R (k0_part22 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 arg22 v789 v791 v815 v818) := by
  rw [k0_part22_eq_skeleton]; unfold k0_part22_skel
  refine safe_bind (safe_load H.r15) fun _ => ?_
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  exact safe_ret _

/-- Part 23 of the body keeps the resource. -/
theorem safe_part23 (H : Lends c R arg2 arg3 arg4 arg5 arg6 arg7 arg8 arg9 arg10 arg11 arg12 arg13 arg14 arg15 arg16 arg17 arg18 arg19) {k0_t2 : Fin (k0_t2_loop i).trips} {arg23 : FVec F S8x512 .f32} {arg24 : FVec F S8x512 .f32} {v789 : BitVec 32} {v791 : BitVec 32} {v852 : FVec F S32x8x512 .f32} :
    Safe defs₀ 𝒱 c bd E R (k0_part23 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 arg23 arg24 v789 v791 v852) := by
  rw [k0_part23_eq_skeleton]; unfold k0_part23_skel
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  exact safe_ret _

/-- Part 24 of the body keeps the resource. -/
theorem safe_part24 (H : Lends c R arg2 arg3 arg4 arg5 arg6 arg7 arg8 arg9 arg10 arg11 arg12 arg13 arg14 arg15 arg16 arg17 arg18 arg19) {k0_t2 : Fin (k0_t2_loop i).trips} {arg25 : FVec F S8x512 .f32} {arg26 : FVec F S8x512 .f32} {v789 : BitVec 32} {v791 : BitVec 32} {v881 : FVec F S256x256 .f32} {v884 : FVec F S256x512 .f32} :
    Safe defs₀ 𝒱 c bd E R (k0_part24 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 arg25 arg26 v789 v791 v881 v884) := by
  rw [k0_part24_eq_skeleton]; unfold k0_part24_skel
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  exact safe_ret _

/-- Part 25 of the body keeps the resource. -/
theorem safe_part25 (H : Lends c R arg2 arg3 arg4 arg5 arg6 arg7 arg8 arg9 arg10 arg11 arg12 arg13 arg14 arg15 arg16 arg17 arg18 arg19) {k0_t2 : Fin (k0_t2_loop i).trips} {arg27 : FVec F S8x512 .f32} {v789 : BitVec 32} {v791 : BitVec 32} :
    Safe defs₀ 𝒱 c bd E R (k0_part25 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 arg27 v789 v791) := by
  rw [k0_part25_eq_skeleton]; unfold k0_part25_skel
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  exact safe_ret _

/-- Part 26 of the body keeps the resource. -/
theorem safe_part26 (H : Lends c R arg2 arg3 arg4 arg5 arg6 arg7 arg8 arg9 arg10 arg11 arg12 arg13 arg14 arg15 arg16 arg17 arg18 arg19) {arg1 : BitVec 32} {k0_t2 : Fin (k0_t2_loop i).trips} {arg28 : FVec F S8x512 .f32} {v788 : BitVec 32} {v789 : BitVec 32} {v812 : FVec F S8x512 .f32} {v952 : FVec F S256x512 .f32} :
    Safe defs₀ 𝒱 c bd E R (k0_part26 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 k0_t2 arg28 v788 v789 v812 v952) := by
  rw [k0_part26_eq_skeleton]; unfold k0_part26_skel
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  refine safe_bind (safe_load H.r7) fun _ => ?_
  exact safe_ret _

/-- Part 27 of the body keeps the resource. -/
theorem safe_part27 (H : Lends c R arg2 arg3 arg4 arg5 arg6 arg7 arg8 arg9 arg10 arg11 arg12 arg13 arg14 arg15 arg16 arg17 arg18 arg19) {k0_t2 : Fin (k0_t2_loop i).trips} {v833 : FVec F S8x512 .f32} {v960 : BitVec 32} {v962 : BitVec 32} {v985 : Vec F S1x1x256x128 .bf16} :
    Safe defs₀ 𝒱 c bd E R (k0_part27 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v833 v960 v962 v985) := by
  rw [k0_part27_eq_skeleton]; unfold k0_part27_skel
  refine safe_bind (safe_load H.r11) fun _ => ?_
  refine safe_bind (safe_load H.r15) fun _ => ?_
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  exact safe_ret _

/-- Part 28 of the body keeps the resource. -/
theorem safe_part28 (H : Lends c R arg2 arg3 arg4 arg5 arg6 arg7 arg8 arg9 arg10 arg11 arg12 arg13 arg14 arg15 arg16 arg17 arg18 arg19) {k0_t2 : Fin (k0_t2_loop i).trips} {v854 : FVec F S8x512 .f32} {v875 : FVec F S8x512 .f32} {v960 : BitVec 32} {v962 : BitVec 32} {v1018 : FVec F S256x512 .f32} :
    Safe defs₀ 𝒱 c bd E R (k0_part28 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v854 v875 v960 v962 v1018) := by
  rw [k0_part28_eq_skeleton]; unfold k0_part28_skel
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  refine safe_bind (safe_load H.r7) fun _ => ?_
  refine safe_bind (safe_load H.r11) fun _ => ?_
  exact safe_ret _

/-- Part 29 of the body keeps the resource. -/
theorem safe_part29 (H : Lends c R arg2 arg3 arg4 arg5 arg6 arg7 arg8 arg9 arg10 arg11 arg12 arg13 arg14 arg15 arg16 arg17 arg18 arg19) {k0_t2 : Fin (k0_t2_loop i).trips} {v896 : FVec F S8x512 .f32} {v960 : BitVec 32} {v962 : BitVec 32} {v1049 : FVec F S256x128 .bf16} {v1051 : Vec F S1x1x256x256 .f32} :
    Safe defs₀ 𝒱 c bd E R (k0_part29 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v896 v960 v962 v1049 v1051) := by
  rw [k0_part29_eq_skeleton]; unfold k0_part29_skel
  refine safe_bind (safe_load H.r15) fun _ => ?_
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  refine safe_bind (safe_load H.r16) fun _ => ?_
  exact safe_ret _

/-- Part 30 of the body keeps the resource. -/
theorem safe_part30 (H : Lends c R arg2 arg3 arg4 arg5 arg6 arg7 arg8 arg9 arg10 arg11 arg12 arg13 arg14 arg15 arg16 arg17 arg18 arg19) {k0_t2 : Fin (k0_t2_loop i).trips} {v917 : FVec F S8x512 .f32} {v938 : FVec F S8x512 .f32} {v960 : BitVec 32} {v962 : BitVec 32} {v1081 : FVec F S256x512 .f32} {v1085 : FVec F S1x1x1x256x512 .f32} :
    Safe defs₀ 𝒱 c bd E R (k0_part30 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v917 v938 v960 v962 v1081 v1085) := by
  rw [k0_part30_eq_skeleton]; unfold k0_part30_skel
  refine safe_bind (safe_store H.w16) fun _ => ?_
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  exact safe_ret _

/-- Part 31 of the body keeps the resource. -/
theorem safe_part31 (H : Lends c R arg2 arg3 arg4 arg5 arg6 arg7 arg8 arg9 arg10 arg11 arg12 arg13 arg14 arg15 arg16 arg17 arg18 arg19) {arg1 : BitVec 32} {k0_t2 : Fin (k0_t2_loop i).trips} {v788 : BitVec 32} {v959 : FVec F S8x512 .f32} {v960 : BitVec 32} {v1112 : FVec F S256x128 .bf16} {v1115 : FVec F S256x256 .f32} {v1116 : Vec F S1x1x128x512 .bf16} :
    Safe defs₀ 𝒱 c bd E R (k0_part31 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 k0_t2 v788 v959 v960 v1112 v1115 v1116) := by
  rw [k0_part31_eq_skeleton]; unfold k0_part31_skel
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  exact safe_ret _

/-- Part 32 of the body keeps the resource. -/
theorem safe_part32 (H : Lends c R arg2 arg3 arg4 arg5 arg6 arg7 arg8 arg9 arg10 arg11 arg12 arg13 arg14 arg15 arg16 arg17 arg18 arg19) {k0_t2 : Fin (k0_t2_loop i).trips} {v983 : FVec F S8x512 .f32} {v1004 : FVec F S8x512 .f32} {v1131 : BitVec 32} {v1133 : BitVec 32} {v1147 : FVec F S256x512 .f32} :
    Safe defs₀ 𝒱 c bd E R (k0_part32 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v983 v1004 v1131 v1133 v1147) := by
  rw [k0_part32_eq_skeleton]; unfold k0_part32_skel
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  exact safe_ret _

/-- Part 33 of the body keeps the resource. -/
theorem safe_part33 (H : Lends c R arg2 arg3 arg4 arg5 arg6 arg7 arg8 arg9 arg10 arg11 arg12 arg13 arg14 arg15 arg16 arg17 arg18 arg19) {k0_t2 : Fin (k0_t2_loop i).trips} {v1025 : FVec F S8x512 .f32} {v1046 : FVec F S8x512 .f32} {v1131 : BitVec 32} {v1133 : BitVec 32} {v1178 : FVec F S256x128 .bf16} {v1181 : FVec F S256x256 .f32} {v1183 : FVec F S128x512 .bf16} :
    Safe defs₀ 𝒱 c bd E R (k0_part33 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v1025 v1046 v1131 v1133 v1178 v1181 v1183) := by
  rw [k0_part33_eq_skeleton]; unfold k0_part33_skel
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  exact safe_ret _

/-- Part 34 of the body keeps the resource. -/
theorem safe_part34 (H : Lends c R arg2 arg3 arg4 arg5 arg6 arg7 arg8 arg9 arg10 arg11 arg12 arg13 arg14 arg15 arg16 arg17 arg18 arg19) {k0_t2 : Fin (k0_t2_loop i).trips} {v1067 : FVec F S8x512 .f32} {v1131 : BitVec 32} {v1133 : BitVec 32} :
    Safe defs₀ 𝒱 c bd E R (k0_part34 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v1067 v1131 v1133) := by
  rw [k0_part34_eq_skeleton]; unfold k0_part34_skel
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  exact safe_ret _

/-- Part 35 of the body keeps the resource. -/
theorem safe_part35 (H : Lends c R arg2 arg3 arg4 arg5 arg6 arg7 arg8 arg9 arg10 arg11 arg12 arg13 arg14 arg15 arg16 arg17 arg18 arg19) {k0_t2 : Fin (k0_t2_loop i).trips} {v1088 : FVec F S8x512 .f32} {v1109 : FVec F S8x512 .f32} {v1131 : BitVec 32} {v1133 : BitVec 32} {v1249 : FVec F S256x256 .f32} {v1251 : FVec F S256x256 .f32} :
    Safe defs₀ 𝒱 c bd E R (k0_part35 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v1088 v1109 v1131 v1133 v1249 v1251) := by
  rw [k0_part35_eq_skeleton]; unfold k0_part35_skel
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  refine safe_bind (safe_load H.r7) fun _ => ?_
  exact safe_ret _

/-- Part 36 of the body keeps the resource. -/
theorem safe_part36 (H : Lends c R arg2 arg3 arg4 arg5 arg6 arg7 arg8 arg9 arg10 arg11 arg12 arg13 arg14 arg15 arg16 arg17 arg18 arg19) {arg1 : BitVec 32} {k0_t2 : Fin (k0_t2_loop i).trips} {v788 : BitVec 32} {v1130 : FVec F S8x512 .f32} {v1131 : BitVec 32} {v1283 : FVec F S256x128 .bf16} :
    Safe defs₀ 𝒱 c bd E R (k0_part36 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 k0_t2 v788 v1130 v1131 v1283) := by
  rw [k0_part36_eq_skeleton]; unfold k0_part36_skel
  refine safe_bind (safe_load H.r11) fun _ => ?_
  refine safe_bind (safe_load H.r15) fun _ => ?_
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  exact safe_ret _

/-- Part 37 of the body keeps the resource. -/
theorem safe_part37 (H : Lends c R arg2 arg3 arg4 arg5 arg6 arg7 arg8 arg9 arg10 arg11 arg12 arg13 arg14 arg15 arg16 arg17 arg18 arg19) {k0_t2 : Fin (k0_t2_loop i).trips} {v1154 : FVec F S8x512 .f32} {v1175 : FVec F S8x512 .f32} {v1302 : BitVec 32} {v1304 : BitVec 32} {v1318 : FVec F S256x512 .f32} :
    Safe defs₀ 𝒱 c bd E R (k0_part37 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v1154 v1175 v1302 v1304 v1318) := by
  rw [k0_part37_eq_skeleton]; unfold k0_part37_skel
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  refine safe_bind (safe_load H.r7) fun _ => ?_
  exact safe_ret _

/-- Part 38 of the body keeps the resource. -/
theorem safe_part38 (H : Lends c R arg2 arg3 arg4 arg5 arg6 arg7 arg8 arg9 arg10 arg11 arg12 arg13 arg14 arg15 arg16 arg17 arg18 arg19) {k0_t2 : Fin (k0_t2_loop i).trips} {v1196 : FVec F S8x512 .f32} {v1302 : BitVec 32} {v1304 : BitVec 32} {v1349 : FVec F S256x128 .bf16} :
    Safe defs₀ 𝒱 c bd E R (k0_part38 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v1196 v1302 v1304 v1349) := by
  rw [k0_part38_eq_skeleton]; unfold k0_part38_skel
  refine safe_bind (safe_load H.r11) fun _ => ?_
  refine safe_bind (safe_load H.r15) fun _ => ?_
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  refine safe_bind (safe_load H.r16) fun _ => ?_
  exact safe_ret _

/-- Part 39 of the body keeps the resource. -/
theorem safe_part39 (H : Lends c R arg2 arg3 arg4 arg5 arg6 arg7 arg8 arg9 arg10 arg11 arg12 arg13 arg14 arg15 arg16 arg17 arg18 arg19) {k0_t2 : Fin (k0_t2_loop i).trips} {v1217 : FVec F S8x512 .f32} {v1238 : FVec F S8x512 .f32} {v1302 : BitVec 32} {v1304 : BitVec 32} {v1381 : FVec F S256x512 .f32} {v1383 : Vec F S1x1x1x256x512 .f32} :
    Safe defs₀ 𝒱 c bd E R (k0_part39 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v1217 v1238 v1302 v1304 v1381 v1383) := by
  rw [k0_part39_eq_skeleton]; unfold k0_part39_skel
  refine safe_bind (safe_store H.w16) fun _ => ?_
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  refine safe_bind (safe_load H.r7) fun _ => ?_
  refine safe_bind (safe_load H.r11) fun _ => ?_
  exact safe_ret _

/-- Part 40 of the body keeps the resource. -/
theorem safe_part40 (H : Lends c R arg2 arg3 arg4 arg5 arg6 arg7 arg8 arg9 arg10 arg11 arg12 arg13 arg14 arg15 arg16 arg17 arg18 arg19) {k0_t2 : Fin (k0_t2_loop i).trips} {v1259 : FVec F S8x512 .f32} {v1302 : BitVec 32} {v1304 : BitVec 32} {v1412 : FVec F S256x128 .bf16} {v1415 : FVec F S256x256 .f32} :
    Safe defs₀ 𝒱 c bd E R (k0_part40 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v1259 v1302 v1304 v1412 v1415) := by
  rw [k0_part40_eq_skeleton]; unfold k0_part40_skel
  refine safe_bind (safe_load H.r15) fun _ => ?_
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  exact safe_ret _

/-- A trip of the body's counted loop 2 keeps the resource. -/
theorem safe_k0_t2 (H : Lends c R arg2 arg3 arg4 arg5 arg6 arg7 arg8 arg9 arg10 arg11 arg12 arg13 arg14 arg15 arg16 arg17 arg18 arg19) {arg1 : BitVec 32} {v117 : FVec F S8x512 .f32} {v135 : FVec F S8x512 .f32} {v153 : FVec F S8x512 .f32} {v171 : FVec F S8x512 .f32} {v189 : FVec F S8x512 .f32} {v207 : FVec F S8x512 .f32} {v225 : FVec F S8x512 .f32} {v243 : FVec F S8x512 .f32} {v244 : BitVec 32} {v245 : BitVec 32} {v256 : BitVec 1} {v257 : BitVec 32} {v266 : BitVec 32} (k : Fin (k0_t2_loop i).trips) (a) :
    Safe defs₀ 𝒱 c bd E R (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v117 v135 v153 v171 v189 v207 v225 v243 v244 v245 v256 v257 v266 k a) := by
  unfold k0_t2_body
  obtain ⟨_, _, _, _, _, _, _, _⟩ := a
  refine safe_bind (safe_part21 H) ?_
  rintro ⟨_, _, _, _, _, _⟩
  refine safe_bind (safe_part22 H) ?_
  rintro ⟨_, _⟩
  refine safe_bind (safe_part23 H) ?_
  rintro ⟨_, _, _, _⟩
  refine safe_bind (safe_part24 H) ?_
  rintro ⟨_, _⟩
  refine safe_bind (safe_part25 H) ?_
  rintro ⟨_, _⟩
  refine safe_bind (safe_part26 H) ?_
  rintro ⟨_, _, _, _, _⟩
  refine safe_bind (safe_part27 H) ?_
  rintro ⟨_, _⟩
  refine safe_bind (safe_part28 H) ?_
  rintro ⟨_, _, _, _⟩
  refine safe_bind (safe_part29 H) ?_
  rintro ⟨_, _, _⟩
  refine safe_bind (safe_part30 H) ?_
  rintro ⟨_, _, _, _, _⟩
  refine safe_bind (safe_part31 H) ?_
  rintro ⟨_, _, _, _⟩
  refine safe_bind (safe_part32 H) ?_
  rintro ⟨_, _, _, _, _⟩
  refine safe_bind (safe_part33 H) ?_
  rintro ⟨_, _⟩
  refine safe_bind (safe_part34 H) ?_
  rintro ⟨_, _, _⟩
  refine safe_bind (safe_part35 H) ?_
  rintro ⟨_, _, _⟩
  refine safe_bind (safe_part36 H) ?_
  rintro ⟨_, _, _, _⟩
  refine safe_bind (safe_part37 H) ?_
  rintro ⟨_, _, _⟩
  refine safe_bind (safe_part38 H) ?_
  rintro ⟨_, _, _⟩
  refine safe_bind (safe_part39 H) ?_
  rintro ⟨_, _, _, _⟩
  refine safe_bind (safe_part40 H) ?_
  rintro ⟨_, _⟩
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  exact safe_ret _

/-- Part 114 of the body keeps the resource. -/
theorem safe_part114 (H : Lends c R arg2 arg3 arg4 arg5 arg6 arg7 arg8 arg9 arg10 arg11 arg12 arg13 arg14 arg15 arg16 arg17 arg18 arg19) {arg1 : BitVec 32} {v117 : FVec F S8x512 .f32} {v135 : FVec F S8x512 .f32} {v153 : FVec F S8x512 .f32} {v171 : FVec F S8x512 .f32} {v189 : FVec F S8x512 .f32} {v207 : FVec F S8x512 .f32} {v225 : FVec F S8x512 .f32} {v243 : FVec F S8x512 .f32} {v244 : BitVec 32} {v245 : BitVec 32} {v256 : BitVec 1} {v257 : BitVec 32} :
    Safe defs₀ 𝒱 c bd E R (k0_part114 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v117 v135 v153 v171 v189 v207 v225 v243 v244 v245 v256 v257) := by
  rw [k0_part114_eq_skeleton]; unfold k0_part114_skel
  refine safe_bind (safe_for (fun k a => safe_k0_t1 H k a)) ?_
  rintro ⟨_, _, _, _, _, _, _, _⟩
  refine safe_bind (safe_for (fun k a => safe_k0_t2 H k a)) ?_
  rintro ⟨_, _, _, _, _, _, _, _⟩
  refine safe_dite (fun _ => ?_) (fun _ => ?_)
  · refine safe_bind (safe_part41 H) ?_
    rintro ⟨_, _, _, _, _, _⟩
    refine safe_bind (safe_part42 H) ?_
    rintro ⟨_, _⟩
    refine safe_bind (safe_part43 H) ?_
    rintro ⟨_, _, _, _⟩
    refine safe_bind (safe_part44 H) ?_
    rintro ⟨_, _, _⟩
    refine safe_bind (safe_part45 H) ?_
    rintro ⟨_, _⟩
    refine safe_bind (safe_part46 H) ?_
    rintro ⟨_, _, _, _, _⟩
    refine safe_bind (safe_part47 H) ?_
    rintro ⟨_, _⟩
    refine safe_bind (safe_part48 H) ?_
    rintro ⟨_, _, _, _⟩
    refine safe_bind (safe_part49 H) ?_
    rintro ⟨_, _⟩
    refine safe_bind (safe_part50 H) ?_
    rintro ⟨_, _, _, _⟩
    refine safe_bind (safe_load H.r16) fun _ => ?_
    refine safe_bind (safe_store H.w16) fun _ => ?_
    refine safe_bind (safe_ret _) ?_
    rintro ⟨_, _, _, _, _, _, _, _⟩
    exact safe_ret _
  · refine safe_bind (safe_ret _) ?_
    rintro ⟨_, _, _, _, _, _, _, _⟩
    exact safe_ret _

/-- Part 51 of the body keeps the resource. -/
theorem safe_part51 (H : Lends c R arg2 arg3 arg4 arg5 arg6 arg7 arg8 arg9 arg10 arg11 arg12 arg13 arg14 arg15 arg16 arg17 arg18 arg19) {arg1 : BitVec 32} {v291_0 : FVec F S8x512 .f32} {v309 : BitVec 32} {k0_h2 : k0_cond2 i = 1#1} :
    Safe defs₀ 𝒱 c bd E R (k0_part51 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v291_0 v309 k0_h2) := by
  rw [k0_part51_eq_skeleton]; unfold k0_part51_skel
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  exact safe_ret _

/-- Part 52 of the body keeps the resource. -/
theorem safe_part52 (H : Lends c R arg2 arg3 arg4 arg5 arg6 arg7 arg8 arg9 arg10 arg11 arg12 arg13 arg14 arg15 arg16 arg17 arg18 arg19) {v291_1 : FVec F S8x512 .f32} {v291_2 : FVec F S8x512 .f32} {k0_h2 : k0_cond2 i = 1#1} {v788 : BitVec 32} {v790 : BitVec 32} {v814 : FVec F S256x128 .bf16} {v817 : FVec F S256x256 .f32} {v818 : Vec F S1x1x128x512 .bf16} :
    Safe defs₀ 𝒱 c bd E R (k0_part52 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v291_1 v291_2 k0_h2 v788 v790 v814 v817 v818) := by
  rw [k0_part52_eq_skeleton]; unfold k0_part52_skel
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  exact safe_ret _

/-- Part 53 of the body keeps the resource. -/
theorem safe_part53 (H : Lends c R arg2 arg3 arg4 arg5 arg6 arg7 arg8 arg9 arg10 arg11 arg12 arg13 arg14 arg15 arg16 arg17 arg18 arg19) {v291_3 : FVec F S8x512 .f32} {k0_h2 : k0_cond2 i = 1#1} {v788 : BitVec 32} {v790 : BitVec 32} :
    Safe defs₀ 𝒱 c bd E R (k0_part53 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v291_3 k0_h2 v788 v790) := by
  rw [k0_part53_eq_skeleton]; unfold k0_part53_skel
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  exact safe_ret _

/-- Part 54 of the body keeps the resource. -/
theorem safe_part54 (H : Lends c R arg2 arg3 arg4 arg5 arg6 arg7 arg8 arg9 arg10 arg11 arg12 arg13 arg14 arg15 arg16 arg17 arg18 arg19) {v291_4 : FVec F S8x512 .f32} {v291_5 : FVec F S8x512 .f32} {k0_h2 : k0_cond2 i = 1#1} {v788 : BitVec 32} {v790 : BitVec 32} {v880 : FVec F S256x256 .f32} {v885 : FVec F S256x256 .f32} {v886 : FVec F S256x256 .f32} :
    Safe defs₀ 𝒱 c bd E R (k0_part54 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v291_4 v291_5 k0_h2 v788 v790 v880 v885 v886) := by
  rw [k0_part54_eq_skeleton]; unfold k0_part54_skel
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  refine safe_bind (safe_load H.r16) fun _ => ?_
  refine safe_bind (safe_store H.w16) fun _ => ?_
  refine safe_bind (safe_load H.r7) fun _ => ?_
  exact safe_ret _

end Cert.Proof.SafeKernelIdeal

end
-- ==== Proof.SafeKernelIdealB.lean ====
/-
  The attention body keeps its resource (the idealized program): the rest of its parts, then whole. Each
  part is a line of loads, stores, branches, counted loops and inner parts, so each is safe by the rules of `Safe`.
-/
module

public import proofs.«01_k».proof.Proof.Safe
public import proofs.«01_k».proof.Proof.SafeKernelIdealA

@[expose] public section

set_option maxRecDepth 65536

noncomputable section

namespace Cert.Proof.SafeKernelIdeal

open Cert.KernelIdeal Cert.KernelIdeal.Gen Cert.Proof.Safe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {c : Dev nD} {𝒱 : Variants} {bd : Option 𝒱.V} {E : Set ℕ}
variable {R : sProp (MT nD τ sig Unit (Elt F) ℕ (URounds (GSem nD τ sig) Unit) ℕ)}
variable {i : grid0.Coords}
variable {arg2 : Memref sig .tc .vmem S1x64 .f32} {harg2 : arg2.IsWhole}
variable {arg3 : Memref sig .tc .vmem S1x64 .f32} {harg3 : arg3.IsWhole}
variable {arg4 : Memref sig .tc .vmem S1x64 .f32} {harg4 : arg4.IsWhole}
variable {arg5 : Memref sig .tc .vmem S1x64 .f32} {harg5 : arg5.IsWhole}
variable {arg6 : Memref sig .tc .vmem S2x512x256 .bf16} {harg6 : arg6.IsWhole}
variable {arg7 : Memref sig .tc .vmem S2x8x256x512 .bf16} {harg7 : arg7.IsWhole}
variable {arg8 : Memref sig .tc .vmem S2x8x576x256 .bf16} {harg8 : arg8.IsWhole}
variable {arg9 : Memref sig .tc .vmem S16x512 .bf16} {harg9 : arg9.IsWhole}
variable {arg10 : Memref sig .tc .vmem S576x16 .bf16} {harg10 : arg10.IsWhole}
variable {arg11 : Memref sig .tc .vmem S4x3x256x256 .f32} {harg11 : arg11.IsWhole}
variable {arg12 : Memref sig .tc .vmem S4x2x16x256 .f32} {harg12 : arg12.IsWhole}
variable {arg13 : Memref sig .tc .vmem S128x256 .f32} {harg13 : arg13.IsWhole}
variable {arg14 : Memref sig .tc .vmem S2x512x256 .bf16} {harg14 : arg14.IsWhole}
variable {arg15 : Memref sig .tc .vmem S2x4x128x512 .bf16} {harg15 : arg15.IsWhole}
variable {arg16 : Memref sig .tc .vmem S2x4x8x256x512 .f32} {harg16 : arg16.IsWhole}
variable {arg17 : Memref sig .tc .vmem S2x4x16x512 .f32} {harg17 : arg17.IsWhole}
variable {arg18 : Memref sig .tc .vmem S2x4x144x512 .f32} {harg18 : arg18.IsWhole}
variable {arg19 : Memref sig .tc .vmem S2x512x256 .f32} {harg19 : arg19.IsWhole}

/-- Part 55 of the body keeps the resource. -/
theorem safe_part55 (H : Lends c R arg2 arg3 arg4 arg5 arg6 arg7 arg8 arg9 arg10 arg11 arg12 arg13 arg14 arg15 arg16 arg17 arg18 arg19) {v291_6 : FVec F S8x512 .f32} {k0_h2 : k0_cond2 i = 1#1} {v788 : BitVec 32} {v790 : BitVec 32} {v919 : FVec F S256x128 .bf16} :
    Safe defs₀ 𝒱 c bd E R (k0_part55 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v291_6 k0_h2 v788 v790 v919) := by
  rw [k0_part55_eq_skeleton]; unfold k0_part55_skel
  refine safe_bind (safe_load H.r11) fun _ => ?_
  refine safe_bind (safe_load H.r15) fun _ => ?_
  refine safe_bind (safe_load H.r16) fun _ => ?_
  refine safe_bind (safe_store H.w16) fun _ => ?_
  refine safe_bind (safe_load H.r7) fun _ => ?_
  refine safe_bind (safe_load H.r11) fun _ => ?_
  refine safe_bind (safe_load H.r15) fun _ => ?_
  exact safe_ret _

/-- Part 115 of the body keeps the resource. -/
theorem safe_part115 (H : Lends c R arg2 arg3 arg4 arg5 arg6 arg7 arg8 arg9 arg10 arg11 arg12 arg13 arg14 arg15 arg16 arg17 arg18 arg19) {arg1 : BitVec 32} {v244 : BitVec 32} {v291_0 : FVec F S8x512 .f32} {v291_1 : FVec F S8x512 .f32} {v291_2 : FVec F S8x512 .f32} {v291_3 : FVec F S8x512 .f32} {v291_4 : FVec F S8x512 .f32} {v291_5 : FVec F S8x512 .f32} {v291_6 : FVec F S8x512 .f32} {v291_7 : FVec F S8x512 .f32} {c2_i32_255 : BitVec 32} {v292 : BitVec 32} {v297 : BitVec 32} {c0_i32_258 : BitVec 32} :
    Safe defs₀ 𝒱 c bd E R (k0_part115 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v244 v291_0 v291_1 v291_2 v291_3 v291_4 v291_5 v291_6 v291_7 c2_i32_255 v292 v297 c0_i32_258) := by
  rw [k0_part115_eq_skeleton]; unfold k0_part115_skel
  refine safe_dite (fun _ => ?_) (fun _ => ?_)
  · refine safe_bind (safe_part51 H) ?_
    rintro ⟨_, _, _, _, _, _⟩
    refine safe_bind (safe_part52 H) ?_
    rintro ⟨_, _⟩
    refine safe_bind (safe_part53 H) ?_
    rintro ⟨_, _, _, _⟩
    refine safe_bind (safe_part54 H) ?_
    rintro ⟨_, _, _⟩
    refine safe_bind (safe_part55 H) ?_
    rintro ⟨_, _⟩
    refine safe_bind (safe_load H.r16) fun _ => ?_
    refine safe_bind (safe_store H.w16) fun _ => ?_
    refine safe_bind (safe_ret _) ?_
    rintro ⟨_, _, _, _, _, _, _, _⟩
    refine safe_bind (safe_load H.r17) fun _ => ?_
    refine safe_bind (safe_load H.r10) fun _ => ?_
    exact safe_ret _
  · refine safe_bind (safe_ret _) ?_
    rintro ⟨_, _, _, _, _, _, _, _⟩
    refine safe_bind (safe_load H.r17) fun _ => ?_
    refine safe_bind (safe_load H.r10) fun _ => ?_
    exact safe_ret _

/-- Part 116 of the body keeps the resource. -/
theorem safe_part116 (H : Lends c R arg2 arg3 arg4 arg5 arg6 arg7 arg8 arg9 arg10 arg11 arg12 arg13 arg14 arg15 arg16 arg17 arg18 arg19) {v318 : FVec F S1x512 .f32} {v320 : FVec F S1x512 .f32} {v336 : FVec F S16x512 .bf16} {v337 : Vec F S144x16 .bf16} :
    Safe defs₀ 𝒱 c bd E R (k0_part116 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v318 v320 v336 v337) := by
  rw [k0_part116_eq_skeleton]; unfold k0_part116_skel
  refine safe_bind (safe_load H.r18) fun _ => ?_
  refine safe_bind (safe_store H.w18) fun _ => ?_
  refine safe_bind (safe_load H.r17) fun _ => ?_
  refine safe_bind (safe_load H.r10) fun _ => ?_
  refine safe_bind (safe_load H.r18) fun _ => ?_
  refine safe_bind (safe_store H.w18) fun _ => ?_
  refine safe_bind (safe_load H.r17) fun _ => ?_
  refine safe_bind (safe_load H.r10) fun _ => ?_
  refine safe_bind (safe_load H.r18) fun _ => ?_
  refine safe_bind (safe_store H.w18) fun _ => ?_
  exact safe_ret _

/-- Part 117 of the body keeps the resource. -/
theorem safe_part117 (H : Lends c R arg2 arg3 arg4 arg5 arg6 arg7 arg8 arg9 arg10 arg11 arg12 arg13 arg14 arg15 arg16 arg17 arg18 arg19) {v322 : FVec F S1x512 .f32} {v324 : FVec F S1x512 .f32} {v326 : FVec F S1x512 .f32} :
    Safe defs₀ 𝒱 c bd E R (k0_part117 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v322 v324 v326) := by
  rw [k0_part117_eq_skeleton]; unfold k0_part117_skel
  refine safe_bind (safe_load H.r17) fun _ => ?_
  refine safe_bind (safe_load H.r10) fun _ => ?_
  refine safe_bind (safe_load H.r18) fun _ => ?_
  refine safe_bind (safe_store H.w18) fun _ => ?_
  refine safe_bind (safe_load H.r17) fun _ => ?_
  refine safe_bind (safe_load H.r10) fun _ => ?_
  refine safe_bind (safe_load H.r18) fun _ => ?_
  refine safe_bind (safe_store H.w18) fun _ => ?_
  refine safe_bind (safe_load H.r17) fun _ => ?_
  refine safe_bind (safe_load H.r10) fun _ => ?_
  exact safe_ret _

/-- Part 118 of the body keeps the resource. -/
theorem safe_part118 (H : Lends c R arg2 arg3 arg4 arg5 arg6 arg7 arg8 arg9 arg10 arg11 arg12 arg13 arg14 arg15 arg16 arg17 arg18 arg19) {v328 : FVec F S1x512 .f32} {v330 : FVec F S1x512 .f32} {v396 : FVec F S16x512 .bf16} {v397 : Vec F S144x16 .bf16} :
    Safe defs₀ 𝒱 c bd E R (k0_part118 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v328 v330 v396 v397) := by
  rw [k0_part118_eq_skeleton]; unfold k0_part118_skel
  refine safe_bind (safe_load H.r18) fun _ => ?_
  refine safe_bind (safe_store H.w18) fun _ => ?_
  refine safe_bind (safe_load H.r17) fun _ => ?_
  refine safe_bind (safe_load H.r10) fun _ => ?_
  refine safe_bind (safe_load H.r18) fun _ => ?_
  refine safe_bind (safe_store H.w18) fun _ => ?_
  refine safe_bind (safe_load H.r17) fun _ => ?_
  refine safe_bind (safe_load H.r10) fun _ => ?_
  refine safe_bind (safe_load H.r18) fun _ => ?_
  refine safe_bind (safe_store H.w18) fun _ => ?_
  exact safe_ret _

/-- Part 56 of the body keeps the resource. -/
theorem safe_part56 (H : Lends c R arg2 arg3 arg4 arg5 arg6 arg7 arg8 arg9 arg10 arg11 arg12 arg13 arg14 arg15 arg16 arg17 arg18 arg19) {v316 : FVec F S1x512 .f32} {v318 : FVec F S1x512 .f32} {c0_i32_366 : BitVec 32} {c1_i32_369 : BitVec 32} {k0_t3 : Fin (k0_t3_loop i).trips} :
    Safe defs₀ 𝒱 c bd E R (k0_part56 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v316 v318 c0_i32_366 c1_i32_369 k0_t3) := by
  rw [k0_part56_eq_skeleton]; unfold k0_part56_skel
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  exact safe_ret _

/-- Part 57 of the body keeps the resource. -/
theorem safe_part57 (H : Lends c R arg2 arg3 arg4 arg5 arg6 arg7 arg8 arg9 arg10 arg11 arg12 arg13 arg14 arg15 arg16 arg17 arg18 arg19) {v320 : FVec F S1x512 .f32} {v322 : FVec F S1x512 .f32} {k0_t3 : Fin (k0_t3_loop i).trips} {v789 : BitVec 32} {v813 : FVec F S256x512 .bf16} {v815 : FVec F S144x512 .f32} :
    Safe defs₀ 𝒱 c bd E R (k0_part57 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v320 v322 k0_t3 v789 v813 v815) := by
  rw [k0_part57_eq_skeleton]; unfold k0_part57_skel
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  exact safe_ret _

/-- Part 58 of the body keeps the resource. -/
theorem safe_part58 (H : Lends c R arg2 arg3 arg4 arg5 arg6 arg7 arg8 arg9 arg10 arg11 arg12 arg13 arg14 arg15 arg16 arg17 arg18 arg19) {v324 : FVec F S1x512 .f32} {k0_t3 : Fin (k0_t3_loop i).trips} {v789 : BitVec 32} {v847 : FVec F S256x512 .bf16} :
    Safe defs₀ 𝒱 c bd E R (k0_part58 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v324 k0_t3 v789 v847) := by
  rw [k0_part58_eq_skeleton]; unfold k0_part58_skel
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  exact safe_ret _

/-- Part 59 of the body keeps the resource. -/
theorem safe_part59 (H : Lends c R arg2 arg3 arg4 arg5 arg6 arg7 arg8 arg9 arg10 arg11 arg12 arg13 arg14 arg15 arg16 arg17 arg18 arg19) {v326 : FVec F S1x512 .f32} {v328 : FVec F S1x512 .f32} {k0_t3 : Fin (k0_t3_loop i).trips} {v789 : BitVec 32} :
    Safe defs₀ 𝒱 c bd E R (k0_part59 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v326 v328 k0_t3 v789) := by
  rw [k0_part59_eq_skeleton]; unfold k0_part59_skel
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  exact safe_ret _

/-- Part 60 of the body keeps the resource. -/
theorem safe_part60 (H : Lends c R arg2 arg3 arg4 arg5 arg6 arg7 arg8 arg9 arg10 arg11 arg12 arg13 arg14 arg15 arg16 arg17 arg18 arg19) {v316 : FVec F S1x512 .f32} {v330 : FVec F S1x512 .f32} {k0_t3 : Fin (k0_t3_loop i).trips} {v788 : BitVec 32} {v789 : BitVec 32} {v905 : FVec F S144x512 .f32} {v906 : Vec F S1x1x144x512 .f32} :
    Safe defs₀ 𝒱 c bd E R (k0_part60 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v316 v330 k0_t3 v788 v789 v905 v906) := by
  rw [k0_part60_eq_skeleton]; unfold k0_part60_skel
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  exact safe_ret _

/-- Part 61 of the body keeps the resource. -/
theorem safe_part61 (H : Lends c R arg2 arg3 arg4 arg5 arg6 arg7 arg8 arg9 arg10 arg11 arg12 arg13 arg14 arg15 arg16 arg17 arg18 arg19) {v318 : FVec F S1x512 .f32} {v320 : FVec F S1x512 .f32} {k0_t3 : Fin (k0_t3_loop i).trips} {v926 : BitVec 32} {v933 : FVec F S256x512 .bf16} {v935 : FVec F S144x512 .f32} :
    Safe defs₀ 𝒱 c bd E R (k0_part61 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v318 v320 k0_t3 v926 v933 v935) := by
  rw [k0_part61_eq_skeleton]; unfold k0_part61_skel
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  exact safe_ret _

/-- Part 62 of the body keeps the resource. -/
theorem safe_part62 (H : Lends c R arg2 arg3 arg4 arg5 arg6 arg7 arg8 arg9 arg10 arg11 arg12 arg13 arg14 arg15 arg16 arg17 arg18 arg19) {v322 : FVec F S1x512 .f32} {k0_t3 : Fin (k0_t3_loop i).trips} {v926 : BitVec 32} {v967 : FVec F S256x512 .bf16} :
    Safe defs₀ 𝒱 c bd E R (k0_part62 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v322 k0_t3 v926 v967) := by
  rw [k0_part62_eq_skeleton]; unfold k0_part62_skel
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  exact safe_ret _

/-- Part 63 of the body keeps the resource. -/
theorem safe_part63 (H : Lends c R arg2 arg3 arg4 arg5 arg6 arg7 arg8 arg9 arg10 arg11 arg12 arg13 arg14 arg15 arg16 arg17 arg18 arg19) {v324 : FVec F S1x512 .f32} {v326 : FVec F S1x512 .f32} {k0_t3 : Fin (k0_t3_loop i).trips} {v926 : BitVec 32} :
    Safe defs₀ 𝒱 c bd E R (k0_part63 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v324 v326 k0_t3 v926) := by
  rw [k0_part63_eq_skeleton]; unfold k0_part63_skel
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  exact safe_ret _

/-- Part 64 of the body keeps the resource. -/
theorem safe_part64 (H : Lends c R arg2 arg3 arg4 arg5 arg6 arg7 arg8 arg9 arg10 arg11 arg12 arg13 arg14 arg15 arg16 arg17 arg18 arg19) {v328 : FVec F S1x512 .f32} {v330 : FVec F S1x512 .f32} {k0_t3 : Fin (k0_t3_loop i).trips} {v926 : BitVec 32} {v1025 : FVec F S144x512 .f32} {v1026 : Vec F S1x1x144x512 .f32} :
    Safe defs₀ 𝒱 c bd E R (k0_part64 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v328 v330 k0_t3 v926 v1025 v1026) := by
  rw [k0_part64_eq_skeleton]; unfold k0_part64_skel
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  exact safe_ret _

/-- Part 65 of the body keeps the resource. -/
theorem safe_part65 (H : Lends c R arg2 arg3 arg4 arg5 arg6 arg7 arg8 arg9 arg10 arg11 arg12 arg13 arg14 arg15 arg16 arg17 arg18 arg19) {v316 : FVec F S1x512 .f32} {v318 : FVec F S1x512 .f32} {k0_t3 : Fin (k0_t3_loop i).trips} {v788 : BitVec 32} {v1052 : FVec F S256x512 .bf16} {v1054 : FVec F S144x512 .f32} {v1057 : FVec F S144x256 .bf16} :
    Safe defs₀ 𝒱 c bd E R (k0_part65 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v316 v318 k0_t3 v788 v1052 v1054 v1057) := by
  rw [k0_part65_eq_skeleton]; unfold k0_part65_skel
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  exact safe_ret _

/-- Part 66 of the body keeps the resource. -/
theorem safe_part66 (H : Lends c R arg2 arg3 arg4 arg5 arg6 arg7 arg8 arg9 arg10 arg11 arg12 arg13 arg14 arg15 arg16 arg17 arg18 arg19) {v320 : FVec F S1x512 .f32} {k0_t3 : Fin (k0_t3_loop i).trips} {v1063 : BitVec 32} {v1087 : FVec F S256x512 .bf16} :
    Safe defs₀ 𝒱 c bd E R (k0_part66 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v320 k0_t3 v1063 v1087) := by
  rw [k0_part66_eq_skeleton]; unfold k0_part66_skel
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  exact safe_ret _

/-- Part 67 of the body keeps the resource. -/
theorem safe_part67 (H : Lends c R arg2 arg3 arg4 arg5 arg6 arg7 arg8 arg9 arg10 arg11 arg12 arg13 arg14 arg15 arg16 arg17 arg18 arg19) {v322 : FVec F S1x512 .f32} {v324 : FVec F S1x512 .f32} {k0_t3 : Fin (k0_t3_loop i).trips} {v1063 : BitVec 32} :
    Safe defs₀ 𝒱 c bd E R (k0_part67 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v322 v324 k0_t3 v1063) := by
  rw [k0_part67_eq_skeleton]; unfold k0_part67_skel
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  exact safe_ret _

/-- Part 68 of the body keeps the resource. -/
theorem safe_part68 (H : Lends c R arg2 arg3 arg4 arg5 arg6 arg7 arg8 arg9 arg10 arg11 arg12 arg13 arg14 arg15 arg16 arg17 arg18 arg19) {v326 : FVec F S1x512 .f32} {v328 : FVec F S1x512 .f32} {k0_t3 : Fin (k0_t3_loop i).trips} {v1063 : BitVec 32} {v1145 : FVec F S144x512 .f32} {v1146 : Vec F S1x1x144x512 .f32} :
    Safe defs₀ 𝒱 c bd E R (k0_part68 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v326 v328 k0_t3 v1063 v1145 v1146) := by
  rw [k0_part68_eq_skeleton]; unfold k0_part68_skel
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  exact safe_ret _

/-- Part 69 of the body keeps the resource. -/
theorem safe_part69 (H : Lends c R arg2 arg3 arg4 arg5 arg6 arg7 arg8 arg9 arg10 arg11 arg12 arg13 arg14 arg15 arg16 arg17 arg18 arg19) {v316 : FVec F S1x512 .f32} {v330 : FVec F S1x512 .f32} {k0_t3 : Fin (k0_t3_loop i).trips} {v788 : BitVec 32} {v1063 : BitVec 32} {v1172 : FVec F S256x512 .bf16} {v1174 : FVec F S144x512 .f32} {v1177 : FVec F S144x256 .bf16} :
    Safe defs₀ 𝒱 c bd E R (k0_part69 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v316 v330 k0_t3 v788 v1063 v1172 v1174 v1177) := by
  rw [k0_part69_eq_skeleton]; unfold k0_part69_skel
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  exact safe_ret _

/-- Part 70 of the body keeps the resource. -/
theorem safe_part70 (H : Lends c R arg2 arg3 arg4 arg5 arg6 arg7 arg8 arg9 arg10 arg11 arg12 arg13 arg14 arg15 arg16 arg17 arg18 arg19) {v318 : FVec F S1x512 .f32} {k0_t3 : Fin (k0_t3_loop i).trips} {v1200 : BitVec 32} {v1207 : FVec F S256x512 .bf16} :
    Safe defs₀ 𝒱 c bd E R (k0_part70 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v318 k0_t3 v1200 v1207) := by
  rw [k0_part70_eq_skeleton]; unfold k0_part70_skel
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  exact safe_ret _

/-- Part 71 of the body keeps the resource. -/
theorem safe_part71 (H : Lends c R arg2 arg3 arg4 arg5 arg6 arg7 arg8 arg9 arg10 arg11 arg12 arg13 arg14 arg15 arg16 arg17 arg18 arg19) {v320 : FVec F S1x512 .f32} {v322 : FVec F S1x512 .f32} {k0_t3 : Fin (k0_t3_loop i).trips} {v1200 : BitVec 32} :
    Safe defs₀ 𝒱 c bd E R (k0_part71 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v320 v322 k0_t3 v1200) := by
  rw [k0_part71_eq_skeleton]; unfold k0_part71_skel
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  exact safe_ret _

/-- Part 72 of the body keeps the resource. -/
theorem safe_part72 (H : Lends c R arg2 arg3 arg4 arg5 arg6 arg7 arg8 arg9 arg10 arg11 arg12 arg13 arg14 arg15 arg16 arg17 arg18 arg19) {v324 : FVec F S1x512 .f32} {v326 : FVec F S1x512 .f32} {k0_t3 : Fin (k0_t3_loop i).trips} {v1200 : BitVec 32} {v1265 : FVec F S144x512 .f32} {v1266 : Vec F S1x1x144x512 .f32} :
    Safe defs₀ 𝒱 c bd E R (k0_part72 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v324 v326 k0_t3 v1200 v1265 v1266) := by
  rw [k0_part72_eq_skeleton]; unfold k0_part72_skel
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  exact safe_ret _

/-- Part 73 of the body keeps the resource. -/
theorem safe_part73 (H : Lends c R arg2 arg3 arg4 arg5 arg6 arg7 arg8 arg9 arg10 arg11 arg12 arg13 arg14 arg15 arg16 arg17 arg18 arg19) {v328 : FVec F S1x512 .f32} {v330 : FVec F S1x512 .f32} {k0_t3 : Fin (k0_t3_loop i).trips} {v1200 : BitVec 32} {v1292 : FVec F S256x512 .bf16} {v1294 : FVec F S144x512 .f32} {v1297 : FVec F S144x256 .bf16} :
    Safe defs₀ 𝒱 c bd E R (k0_part73 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v328 v330 k0_t3 v1200 v1292 v1294 v1297) := by
  rw [k0_part73_eq_skeleton]; unfold k0_part73_skel
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  exact safe_ret _

/-- A trip of the body's counted loop 3 keeps the resource. -/
theorem safe_k0_t3 (H : Lends c R arg2 arg3 arg4 arg5 arg6 arg7 arg8 arg9 arg10 arg11 arg12 arg13 arg14 arg15 arg16 arg17 arg18 arg19) {arg1 : BitVec 32} {v316 : FVec F S1x512 .f32} {v318 : FVec F S1x512 .f32} {v320 : FVec F S1x512 .f32} {v322 : FVec F S1x512 .f32} {v324 : FVec F S1x512 .f32} {v326 : FVec F S1x512 .f32} {v328 : FVec F S1x512 .f32} {v330 : FVec F S1x512 .f32} {c1_i32_358 : BitVec 32} (k : Fin (k0_t3_loop i).trips) (a) :
    Safe defs₀ 𝒱 c bd E R (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v316 v318 v320 v322 v324 v326 v328 v330 c1_i32_358 k a) := by
  unfold k0_t3_body
  refine safe_bind (safe_part56 H) ?_
  rintro ⟨_, _, _, _⟩
  refine safe_bind (safe_part57 H) fun _ => ?_
  refine safe_bind (safe_part58 H) fun _ => ?_
  refine safe_bind (safe_part59 H) ?_
  rintro ⟨_, _⟩
  refine safe_bind (safe_part60 H) ?_
  rintro ⟨_, _, _⟩
  refine safe_bind (safe_part61 H) fun _ => ?_
  refine safe_bind (safe_part62 H) fun _ => ?_
  refine safe_bind (safe_part63 H) ?_
  rintro ⟨_, _⟩
  refine safe_bind (safe_part64 H) ?_
  rintro ⟨_, _, _⟩
  refine safe_bind (safe_part65 H) ?_
  rintro ⟨_, _⟩
  refine safe_bind (safe_part66 H) fun _ => ?_
  refine safe_bind (safe_part67 H) ?_
  rintro ⟨_, _⟩
  refine safe_bind (safe_part68 H) ?_
  rintro ⟨_, _, _⟩
  refine safe_bind (safe_part69 H) ?_
  rintro ⟨_, _⟩
  refine safe_bind (safe_part70 H) fun _ => ?_
  refine safe_bind (safe_part71 H) ?_
  rintro ⟨_, _⟩
  refine safe_bind (safe_part72 H) ?_
  rintro ⟨_, _, _⟩
  refine safe_bind (safe_part73 H) fun _ => ?_
  refine safe_bind (safe_load H.r18) fun _ => ?_
  refine safe_bind (safe_load H.r8) fun _ => ?_
  refine safe_bind (safe_load H.r18) fun _ => ?_
  refine safe_bind (safe_store H.w18) fun _ => ?_
  exact safe_ret _

/-- Part 74 of the body keeps the resource. -/
theorem safe_part74 (H : Lends c R arg2 arg3 arg4 arg5 arg6 arg7 arg8 arg9 arg10 arg11 arg12 arg13 arg14 arg15 arg16 arg17 arg18 arg19) {v316 : FVec F S1x512 .f32} {v318 : FVec F S1x512 .f32} {v449 : BitVec 32} {c1_i32_370 : BitVec 32} {k0_t4 : Fin (k0_t4_loop i).trips} :
    Safe defs₀ 𝒱 c bd E R (k0_part74 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v316 v318 v449 c1_i32_370 k0_t4) := by
  rw [k0_part74_eq_skeleton]; unfold k0_part74_skel
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  exact safe_ret _

/-- Part 75 of the body keeps the resource. -/
theorem safe_part75 (H : Lends c R arg2 arg3 arg4 arg5 arg6 arg7 arg8 arg9 arg10 arg11 arg12 arg13 arg14 arg15 arg16 arg17 arg18 arg19) {v320 : FVec F S1x512 .f32} {v322 : FVec F S1x512 .f32} {k0_t4 : Fin (k0_t4_loop i).trips} {v789 : BitVec 32} {v813 : FVec F S256x512 .bf16} {v815 : FVec F S144x512 .f32} :
    Safe defs₀ 𝒱 c bd E R (k0_part75 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v320 v322 k0_t4 v789 v813 v815) := by
  rw [k0_part75_eq_skeleton]; unfold k0_part75_skel
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  exact safe_ret _

/-- Part 76 of the body keeps the resource. -/
theorem safe_part76 (H : Lends c R arg2 arg3 arg4 arg5 arg6 arg7 arg8 arg9 arg10 arg11 arg12 arg13 arg14 arg15 arg16 arg17 arg18 arg19) {v324 : FVec F S1x512 .f32} {k0_t4 : Fin (k0_t4_loop i).trips} {v789 : BitVec 32} {v847 : FVec F S256x512 .bf16} :
    Safe defs₀ 𝒱 c bd E R (k0_part76 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v324 k0_t4 v789 v847) := by
  rw [k0_part76_eq_skeleton]; unfold k0_part76_skel
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  exact safe_ret _

/-- Part 77 of the body keeps the resource. -/
theorem safe_part77 (H : Lends c R arg2 arg3 arg4 arg5 arg6 arg7 arg8 arg9 arg10 arg11 arg12 arg13 arg14 arg15 arg16 arg17 arg18 arg19) {v326 : FVec F S1x512 .f32} {v328 : FVec F S1x512 .f32} {k0_t4 : Fin (k0_t4_loop i).trips} {v789 : BitVec 32} :
    Safe defs₀ 𝒱 c bd E R (k0_part77 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v326 v328 k0_t4 v789) := by
  rw [k0_part77_eq_skeleton]; unfold k0_part77_skel
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  exact safe_ret _

/-- Part 78 of the body keeps the resource. -/
theorem safe_part78 (H : Lends c R arg2 arg3 arg4 arg5 arg6 arg7 arg8 arg9 arg10 arg11 arg12 arg13 arg14 arg15 arg16 arg17 arg18 arg19) {v316 : FVec F S1x512 .f32} {v330 : FVec F S1x512 .f32} {k0_t4 : Fin (k0_t4_loop i).trips} {v788 : BitVec 32} {v789 : BitVec 32} {v905 : FVec F S144x512 .f32} {v906 : Vec F S1x1x144x512 .f32} :
    Safe defs₀ 𝒱 c bd E R (k0_part78 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v316 v330 k0_t4 v788 v789 v905 v906) := by
  rw [k0_part78_eq_skeleton]; unfold k0_part78_skel
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  exact safe_ret _

/-- Part 79 of the body keeps the resource. -/
theorem safe_part79 (H : Lends c R arg2 arg3 arg4 arg5 arg6 arg7 arg8 arg9 arg10 arg11 arg12 arg13 arg14 arg15 arg16 arg17 arg18 arg19) {v318 : FVec F S1x512 .f32} {v320 : FVec F S1x512 .f32} {k0_t4 : Fin (k0_t4_loop i).trips} {v926 : BitVec 32} {v933 : FVec F S256x512 .bf16} {v935 : FVec F S144x512 .f32} :
    Safe defs₀ 𝒱 c bd E R (k0_part79 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v318 v320 k0_t4 v926 v933 v935) := by
  rw [k0_part79_eq_skeleton]; unfold k0_part79_skel
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  exact safe_ret _

/-- Part 80 of the body keeps the resource. -/
theorem safe_part80 (H : Lends c R arg2 arg3 arg4 arg5 arg6 arg7 arg8 arg9 arg10 arg11 arg12 arg13 arg14 arg15 arg16 arg17 arg18 arg19) {v322 : FVec F S1x512 .f32} {k0_t4 : Fin (k0_t4_loop i).trips} {v926 : BitVec 32} {v967 : FVec F S256x512 .bf16} :
    Safe defs₀ 𝒱 c bd E R (k0_part80 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v322 k0_t4 v926 v967) := by
  rw [k0_part80_eq_skeleton]; unfold k0_part80_skel
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  exact safe_ret _

/-- Part 81 of the body keeps the resource. -/
theorem safe_part81 (H : Lends c R arg2 arg3 arg4 arg5 arg6 arg7 arg8 arg9 arg10 arg11 arg12 arg13 arg14 arg15 arg16 arg17 arg18 arg19) {v324 : FVec F S1x512 .f32} {v326 : FVec F S1x512 .f32} {k0_t4 : Fin (k0_t4_loop i).trips} {v926 : BitVec 32} :
    Safe defs₀ 𝒱 c bd E R (k0_part81 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v324 v326 k0_t4 v926) := by
  rw [k0_part81_eq_skeleton]; unfold k0_part81_skel
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  exact safe_ret _

/-- Part 82 of the body keeps the resource. -/
theorem safe_part82 (H : Lends c R arg2 arg3 arg4 arg5 arg6 arg7 arg8 arg9 arg10 arg11 arg12 arg13 arg14 arg15 arg16 arg17 arg18 arg19) {v328 : FVec F S1x512 .f32} {v330 : FVec F S1x512 .f32} {k0_t4 : Fin (k0_t4_loop i).trips} {v926 : BitVec 32} {v1025 : FVec F S144x512 .f32} {v1026 : Vec F S1x1x144x512 .f32} :
    Safe defs₀ 𝒱 c bd E R (k0_part82 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v328 v330 k0_t4 v926 v1025 v1026) := by
  rw [k0_part82_eq_skeleton]; unfold k0_part82_skel
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  exact safe_ret _

/-- Part 83 of the body keeps the resource. -/
theorem safe_part83 (H : Lends c R arg2 arg3 arg4 arg5 arg6 arg7 arg8 arg9 arg10 arg11 arg12 arg13 arg14 arg15 arg16 arg17 arg18 arg19) {v316 : FVec F S1x512 .f32} {v318 : FVec F S1x512 .f32} {k0_t4 : Fin (k0_t4_loop i).trips} {v788 : BitVec 32} {v1052 : FVec F S256x512 .bf16} {v1054 : FVec F S144x512 .f32} {v1057 : FVec F S144x256 .bf16} :
    Safe defs₀ 𝒱 c bd E R (k0_part83 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v316 v318 k0_t4 v788 v1052 v1054 v1057) := by
  rw [k0_part83_eq_skeleton]; unfold k0_part83_skel
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  exact safe_ret _

/-- Part 84 of the body keeps the resource. -/
theorem safe_part84 (H : Lends c R arg2 arg3 arg4 arg5 arg6 arg7 arg8 arg9 arg10 arg11 arg12 arg13 arg14 arg15 arg16 arg17 arg18 arg19) {v320 : FVec F S1x512 .f32} {k0_t4 : Fin (k0_t4_loop i).trips} {v1063 : BitVec 32} {v1087 : FVec F S256x512 .bf16} :
    Safe defs₀ 𝒱 c bd E R (k0_part84 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v320 k0_t4 v1063 v1087) := by
  rw [k0_part84_eq_skeleton]; unfold k0_part84_skel
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  exact safe_ret _

/-- Part 85 of the body keeps the resource. -/
theorem safe_part85 (H : Lends c R arg2 arg3 arg4 arg5 arg6 arg7 arg8 arg9 arg10 arg11 arg12 arg13 arg14 arg15 arg16 arg17 arg18 arg19) {v322 : FVec F S1x512 .f32} {v324 : FVec F S1x512 .f32} {k0_t4 : Fin (k0_t4_loop i).trips} {v1063 : BitVec 32} :
    Safe defs₀ 𝒱 c bd E R (k0_part85 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v322 v324 k0_t4 v1063) := by
  rw [k0_part85_eq_skeleton]; unfold k0_part85_skel
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  exact safe_ret _

/-- Part 86 of the body keeps the resource. -/
theorem safe_part86 (H : Lends c R arg2 arg3 arg4 arg5 arg6 arg7 arg8 arg9 arg10 arg11 arg12 arg13 arg14 arg15 arg16 arg17 arg18 arg19) {v326 : FVec F S1x512 .f32} {v328 : FVec F S1x512 .f32} {k0_t4 : Fin (k0_t4_loop i).trips} {v1063 : BitVec 32} {v1145 : FVec F S144x512 .f32} {v1146 : Vec F S1x1x144x512 .f32} :
    Safe defs₀ 𝒱 c bd E R (k0_part86 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v326 v328 k0_t4 v1063 v1145 v1146) := by
  rw [k0_part86_eq_skeleton]; unfold k0_part86_skel
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  exact safe_ret _

/-- Part 87 of the body keeps the resource. -/
theorem safe_part87 (H : Lends c R arg2 arg3 arg4 arg5 arg6 arg7 arg8 arg9 arg10 arg11 arg12 arg13 arg14 arg15 arg16 arg17 arg18 arg19) {v316 : FVec F S1x512 .f32} {v330 : FVec F S1x512 .f32} {k0_t4 : Fin (k0_t4_loop i).trips} {v788 : BitVec 32} {v1063 : BitVec 32} {v1172 : FVec F S256x512 .bf16} {v1174 : FVec F S144x512 .f32} {v1177 : FVec F S144x256 .bf16} :
    Safe defs₀ 𝒱 c bd E R (k0_part87 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v316 v330 k0_t4 v788 v1063 v1172 v1174 v1177) := by
  rw [k0_part87_eq_skeleton]; unfold k0_part87_skel
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  exact safe_ret _

/-- Part 88 of the body keeps the resource. -/
theorem safe_part88 (H : Lends c R arg2 arg3 arg4 arg5 arg6 arg7 arg8 arg9 arg10 arg11 arg12 arg13 arg14 arg15 arg16 arg17 arg18 arg19) {v318 : FVec F S1x512 .f32} {k0_t4 : Fin (k0_t4_loop i).trips} {v1200 : BitVec 32} {v1207 : FVec F S256x512 .bf16} :
    Safe defs₀ 𝒱 c bd E R (k0_part88 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v318 k0_t4 v1200 v1207) := by
  rw [k0_part88_eq_skeleton]; unfold k0_part88_skel
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  exact safe_ret _

/-- Part 89 of the body keeps the resource. -/
theorem safe_part89 (H : Lends c R arg2 arg3 arg4 arg5 arg6 arg7 arg8 arg9 arg10 arg11 arg12 arg13 arg14 arg15 arg16 arg17 arg18 arg19) {v320 : FVec F S1x512 .f32} {v322 : FVec F S1x512 .f32} {k0_t4 : Fin (k0_t4_loop i).trips} {v1200 : BitVec 32} :
    Safe defs₀ 𝒱 c bd E R (k0_part89 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v320 v322 k0_t4 v1200) := by
  rw [k0_part89_eq_skeleton]; unfold k0_part89_skel
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  exact safe_ret _

/-- Part 90 of the body keeps the resource. -/
theorem safe_part90 (H : Lends c R arg2 arg3 arg4 arg5 arg6 arg7 arg8 arg9 arg10 arg11 arg12 arg13 arg14 arg15 arg16 arg17 arg18 arg19) {v324 : FVec F S1x512 .f32} {v326 : FVec F S1x512 .f32} {k0_t4 : Fin (k0_t4_loop i).trips} {v1200 : BitVec 32} {v1265 : FVec F S144x512 .f32} {v1266 : Vec F S1x1x144x512 .f32} :
    Safe defs₀ 𝒱 c bd E R (k0_part90 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v324 v326 k0_t4 v1200 v1265 v1266) := by
  rw [k0_part90_eq_skeleton]; unfold k0_part90_skel
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  exact safe_ret _

/-- Part 91 of the body keeps the resource. -/
theorem safe_part91 (H : Lends c R arg2 arg3 arg4 arg5 arg6 arg7 arg8 arg9 arg10 arg11 arg12 arg13 arg14 arg15 arg16 arg17 arg18 arg19) {v328 : FVec F S1x512 .f32} {v330 : FVec F S1x512 .f32} {k0_t4 : Fin (k0_t4_loop i).trips} {v1200 : BitVec 32} {v1292 : FVec F S256x512 .bf16} {v1294 : FVec F S144x512 .f32} {v1297 : FVec F S144x256 .bf16} :
    Safe defs₀ 𝒱 c bd E R (k0_part91 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v328 v330 k0_t4 v1200 v1292 v1294 v1297) := by
  rw [k0_part91_eq_skeleton]; unfold k0_part91_skel
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  exact safe_ret _

/-- A trip of the body's counted loop 4 keeps the resource. -/
theorem safe_k0_t4 (H : Lends c R arg2 arg3 arg4 arg5 arg6 arg7 arg8 arg9 arg10 arg11 arg12 arg13 arg14 arg15 arg16 arg17 arg18 arg19) {arg1 : BitVec 32} {v316 : FVec F S1x512 .f32} {v318 : FVec F S1x512 .f32} {v320 : FVec F S1x512 .f32} {v322 : FVec F S1x512 .f32} {v324 : FVec F S1x512 .f32} {v326 : FVec F S1x512 .f32} {v328 : FVec F S1x512 .f32} {v330 : FVec F S1x512 .f32} {c1_i32_358 : BitVec 32} {v449 : BitVec 32} (k : Fin (k0_t4_loop i).trips) (a) :
    Safe defs₀ 𝒱 c bd E R (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v316 v318 v320 v322 v324 v326 v328 v330 c1_i32_358 v449 k a) := by
  unfold k0_t4_body
  refine safe_bind (safe_part74 H) ?_
  rintro ⟨_, _, _, _⟩
  refine safe_bind (safe_part75 H) fun _ => ?_
  refine safe_bind (safe_part76 H) fun _ => ?_
  refine safe_bind (safe_part77 H) ?_
  rintro ⟨_, _⟩
  refine safe_bind (safe_part78 H) ?_
  rintro ⟨_, _, _⟩
  refine safe_bind (safe_part79 H) fun _ => ?_
  refine safe_bind (safe_part80 H) fun _ => ?_
  refine safe_bind (safe_part81 H) ?_
  rintro ⟨_, _⟩
  refine safe_bind (safe_part82 H) ?_
  rintro ⟨_, _, _⟩
  refine safe_bind (safe_part83 H) ?_
  rintro ⟨_, _⟩
  refine safe_bind (safe_part84 H) fun _ => ?_
  refine safe_bind (safe_part85 H) ?_
  rintro ⟨_, _⟩
  refine safe_bind (safe_part86 H) ?_
  rintro ⟨_, _, _⟩
  refine safe_bind (safe_part87 H) ?_
  rintro ⟨_, _⟩
  refine safe_bind (safe_part88 H) fun _ => ?_
  refine safe_bind (safe_part89 H) ?_
  rintro ⟨_, _⟩
  refine safe_bind (safe_part90 H) ?_
  rintro ⟨_, _, _⟩
  refine safe_bind (safe_part91 H) fun _ => ?_
  refine safe_bind (safe_load H.r18) fun _ => ?_
  refine safe_bind (safe_load H.r8) fun _ => ?_
  refine safe_bind (safe_load H.r18) fun _ => ?_
  refine safe_bind (safe_store H.w18) fun _ => ?_
  exact safe_ret _

/-- Part 119 of the body keeps the resource. -/
theorem safe_part119 (H : Lends c R arg2 arg3 arg4 arg5 arg6 arg7 arg8 arg9 arg10 arg11 arg12 arg13 arg14 arg15 arg16 arg17 arg18 arg19) {arg1 : BitVec 32} {v316 : FVec F S1x512 .f32} {v318 : FVec F S1x512 .f32} {v320 : FVec F S1x512 .f32} {v322 : FVec F S1x512 .f32} {v324 : FVec F S1x512 .f32} {v326 : FVec F S1x512 .f32} {v328 : FVec F S1x512 .f32} {v330 : FVec F S1x512 .f32} {c1_i32_358 : BitVec 32} :
    Safe defs₀ 𝒱 c bd E R (k0_part119 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v316 v318 v320 v322 v324 v326 v328 v330 c1_i32_358) := by
  rw [k0_part119_eq_skeleton]; unfold k0_part119_skel
  refine safe_bind (safe_for (fun k a => safe_k0_t3 H k a)) fun _ => ?_
  refine safe_bind (safe_for (fun k a => safe_k0_t4 H k a)) fun _ => ?_
  exact safe_ret _

/-- Part 92 of the body keeps the resource. -/
theorem safe_part92 (H : Lends c R arg2 arg3 arg4 arg5 arg6 arg7 arg8 arg9 arg10 arg11 arg12 arg13 arg14 arg15 arg16 arg17 arg18 arg19) {v316 : FVec F S1x512 .f32} {v318 : FVec F S1x512 .f32} {v469 : BitVec 32} {k0_h3 : k0_cond3 i = 1#1} :
    Safe defs₀ 𝒱 c bd E R (k0_part92 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v316 v318 v469 k0_h3) := by
  rw [k0_part92_eq_skeleton]; unfold k0_part92_skel
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  exact safe_ret _

/-- Part 93 of the body keeps the resource. -/
theorem safe_part93 (H : Lends c R arg2 arg3 arg4 arg5 arg6 arg7 arg8 arg9 arg10 arg11 arg12 arg13 arg14 arg15 arg16 arg17 arg18 arg19) {v320 : FVec F S1x512 .f32} {v322 : FVec F S1x512 .f32} {k0_h3 : k0_cond3 i = 1#1} {v788 : BitVec 32} {v812 : FVec F S256x512 .bf16} {v814 : FVec F S144x512 .f32} {v817 : FVec F S144x256 .bf16} {cst_607 : FVec F S144x512 .f32} :
    Safe defs₀ 𝒱 c bd E R (k0_part93 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v320 v322 k0_h3 v788 v812 v814 v817 cst_607) := by
  rw [k0_part93_eq_skeleton]; unfold k0_part93_skel
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  exact safe_ret _

/-- Part 94 of the body keeps the resource. -/
theorem safe_part94 (H : Lends c R arg2 arg3 arg4 arg5 arg6 arg7 arg8 arg9 arg10 arg11 arg12 arg13 arg14 arg15 arg16 arg17 arg18 arg19) {v324 : FVec F S1x512 .f32} {v326 : FVec F S1x512 .f32} {k0_h3 : k0_cond3 i = 1#1} {v788 : BitVec 32} {v846 : FVec F S256x512 .bf16} {v847 : Vec F S1x1x144x512 .f32} :
    Safe defs₀ 𝒱 c bd E R (k0_part94 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v324 v326 k0_h3 v788 v846 v847) := by
  rw [k0_part94_eq_skeleton]; unfold k0_part94_skel
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  exact safe_ret _

/-- Part 95 of the body keeps the resource. -/
theorem safe_part95 (H : Lends c R arg2 arg3 arg4 arg5 arg6 arg7 arg8 arg9 arg10 arg11 arg12 arg13 arg14 arg15 arg16 arg17 arg18 arg19) {v328 : FVec F S1x512 .f32} {k0_h3 : k0_cond3 i = 1#1} {v788 : BitVec 32} {v876 : FVec F S256x512 .f32} {v877 : FVec F S256x512 .f32} :
    Safe defs₀ 𝒱 c bd E R (k0_part95 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v328 k0_h3 v788 v876 v877) := by
  rw [k0_part95_eq_skeleton]; unfold k0_part95_skel
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  exact safe_ret _

/-- Part 96 of the body keeps the resource. -/
theorem safe_part96 (H : Lends c R arg2 arg3 arg4 arg5 arg6 arg7 arg8 arg9 arg10 arg11 arg12 arg13 arg14 arg15 arg16 arg17 arg18 arg19) {v316 : FVec F S1x512 .f32} {v330 : FVec F S1x512 .f32} {v469 : BitVec 32} {k0_h3 : k0_cond3 i = 1#1} {v788 : BitVec 32} :
    Safe defs₀ 𝒱 c bd E R (k0_part96 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v316 v330 v469 k0_h3 v788) := by
  rw [k0_part96_eq_skeleton]; unfold k0_part96_skel
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  exact safe_ret _

/-- Part 97 of the body keeps the resource. -/
theorem safe_part97 (H : Lends c R arg2 arg3 arg4 arg5 arg6 arg7 arg8 arg9 arg10 arg11 arg12 arg13 arg14 arg15 arg16 arg17 arg18 arg19) {v318 : FVec F S1x512 .f32} {v320 : FVec F S1x512 .f32} {k0_h3 : k0_cond3 i = 1#1} {v925 : BitVec 32} {v932 : FVec F S256x512 .bf16} {v934 : FVec F S144x512 .f32} {v937 : FVec F S144x256 .bf16} {cst_720 : FVec F S144x512 .f32} :
    Safe defs₀ 𝒱 c bd E R (k0_part97 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v318 v320 k0_h3 v925 v932 v934 v937 cst_720) := by
  rw [k0_part97_eq_skeleton]; unfold k0_part97_skel
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  exact safe_ret _

/-- Part 98 of the body keeps the resource. -/
theorem safe_part98 (H : Lends c R arg2 arg3 arg4 arg5 arg6 arg7 arg8 arg9 arg10 arg11 arg12 arg13 arg14 arg15 arg16 arg17 arg18 arg19) {v322 : FVec F S1x512 .f32} {v324 : FVec F S1x512 .f32} {k0_h3 : k0_cond3 i = 1#1} {v925 : BitVec 32} {v966 : FVec F S256x512 .bf16} {v967 : Vec F S1x1x144x512 .f32} :
    Safe defs₀ 𝒱 c bd E R (k0_part98 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v322 v324 k0_h3 v925 v966 v967) := by
  rw [k0_part98_eq_skeleton]; unfold k0_part98_skel
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  exact safe_ret _

/-- Part 99 of the body keeps the resource. -/
theorem safe_part99 (H : Lends c R arg2 arg3 arg4 arg5 arg6 arg7 arg8 arg9 arg10 arg11 arg12 arg13 arg14 arg15 arg16 arg17 arg18 arg19) {v326 : FVec F S1x512 .f32} {k0_h3 : k0_cond3 i = 1#1} {v925 : BitVec 32} {v996 : FVec F S256x512 .f32} {v997 : FVec F S256x512 .f32} :
    Safe defs₀ 𝒱 c bd E R (k0_part99 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v326 k0_h3 v925 v996 v997) := by
  rw [k0_part99_eq_skeleton]; unfold k0_part99_skel
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  exact safe_ret _

/-- Part 100 of the body keeps the resource. -/
theorem safe_part100 (H : Lends c R arg2 arg3 arg4 arg5 arg6 arg7 arg8 arg9 arg10 arg11 arg12 arg13 arg14 arg15 arg16 arg17 arg18 arg19) {v328 : FVec F S1x512 .f32} {v330 : FVec F S1x512 .f32} {k0_h3 : k0_cond3 i = 1#1} {v925 : BitVec 32} :
    Safe defs₀ 𝒱 c bd E R (k0_part100 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v328 v330 k0_h3 v925) := by
  rw [k0_part100_eq_skeleton]; unfold k0_part100_skel
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  exact safe_ret _

/-- Part 101 of the body keeps the resource. -/
theorem safe_part101 (H : Lends c R arg2 arg3 arg4 arg5 arg6 arg7 arg8 arg9 arg10 arg11 arg12 arg13 arg14 arg15 arg16 arg17 arg18 arg19) {v316 : FVec F S1x512 .f32} {v318 : FVec F S1x512 .f32} {v491 : BitVec 32} {k0_h4 : k0_cond4 i = 1#1} :
    Safe defs₀ 𝒱 c bd E R (k0_part101 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v316 v318 v491 k0_h4) := by
  rw [k0_part101_eq_skeleton]; unfold k0_part101_skel
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  exact safe_ret _

/-- Part 102 of the body keeps the resource. -/
theorem safe_part102 (H : Lends c R arg2 arg3 arg4 arg5 arg6 arg7 arg8 arg9 arg10 arg11 arg12 arg13 arg14 arg15 arg16 arg17 arg18 arg19) {v320 : FVec F S1x512 .f32} {v322 : FVec F S1x512 .f32} {k0_h4 : k0_cond4 i = 1#1} {v788 : BitVec 32} {v812 : FVec F S256x512 .bf16} {v814 : FVec F S144x512 .f32} {v817 : FVec F S144x256 .bf16} {cst_607 : FVec F S144x512 .f32} :
    Safe defs₀ 𝒱 c bd E R (k0_part102 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v320 v322 k0_h4 v788 v812 v814 v817 cst_607) := by
  rw [k0_part102_eq_skeleton]; unfold k0_part102_skel
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  exact safe_ret _

/-- Part 103 of the body keeps the resource. -/
theorem safe_part103 (H : Lends c R arg2 arg3 arg4 arg5 arg6 arg7 arg8 arg9 arg10 arg11 arg12 arg13 arg14 arg15 arg16 arg17 arg18 arg19) {v324 : FVec F S1x512 .f32} {v326 : FVec F S1x512 .f32} {k0_h4 : k0_cond4 i = 1#1} {v788 : BitVec 32} {v846 : FVec F S256x512 .bf16} {v847 : Vec F S1x1x144x512 .f32} :
    Safe defs₀ 𝒱 c bd E R (k0_part103 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v324 v326 k0_h4 v788 v846 v847) := by
  rw [k0_part103_eq_skeleton]; unfold k0_part103_skel
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  exact safe_ret _

/-- Part 104 of the body keeps the resource. -/
theorem safe_part104 (H : Lends c R arg2 arg3 arg4 arg5 arg6 arg7 arg8 arg9 arg10 arg11 arg12 arg13 arg14 arg15 arg16 arg17 arg18 arg19) {v328 : FVec F S1x512 .f32} {k0_h4 : k0_cond4 i = 1#1} {v788 : BitVec 32} {v876 : FVec F S256x512 .f32} {v877 : FVec F S256x512 .f32} :
    Safe defs₀ 𝒱 c bd E R (k0_part104 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v328 k0_h4 v788 v876 v877) := by
  rw [k0_part104_eq_skeleton]; unfold k0_part104_skel
  refine safe_bind (safe_load H.r18) fun _ => ?_
  refine safe_bind (safe_load H.r8) fun _ => ?_
  refine safe_bind (safe_load H.r18) fun _ => ?_
  refine safe_bind (safe_store H.w18) fun _ => ?_
  refine safe_bind (safe_load H.r16) fun _ => ?_
  refine safe_bind (safe_load H.r18) fun _ => ?_
  refine safe_bind (safe_load H.r8) fun _ => ?_
  refine safe_bind (safe_load H.r18) fun _ => ?_
  refine safe_bind (safe_store H.w18) fun _ => ?_
  exact safe_ret _

/-- Part 120 of the body keeps the resource. -/
theorem safe_part120 (H : Lends c R arg2 arg3 arg4 arg5 arg6 arg7 arg8 arg9 arg10 arg11 arg12 arg13 arg14 arg15 arg16 arg17 arg18 arg19) {v316 : FVec F S1x512 .f32} {v318 : FVec F S1x512 .f32} {v320 : FVec F S1x512 .f32} {v322 : FVec F S1x512 .f32} {v324 : FVec F S1x512 .f32} {v326 : FVec F S1x512 .f32} {v328 : FVec F S1x512 .f32} {v330 : FVec F S1x512 .f32} {v427 : BitVec 32} {v452 : BitVec 32} {v466 : BitVec 1} {v467 : BitVec 32} :
    Safe defs₀ 𝒱 c bd E R (k0_part120 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v316 v318 v320 v322 v324 v326 v328 v330 v427 v452 v466 v467) := by
  rw [k0_part120_eq_skeleton]; unfold k0_part120_skel
  refine safe_dite (fun _ => ?_) (fun _ => ?_)
  · refine safe_bind (safe_part92 H) ?_
    rintro ⟨_, _, _, _, _⟩
    refine safe_bind (safe_part93 H) ?_
    rintro ⟨_, _⟩
    refine safe_bind (safe_part94 H) ?_
    rintro ⟨_, _⟩
    refine safe_bind (safe_part95 H) fun _ => ?_
    refine safe_bind (safe_part96 H) ?_
    rintro ⟨_, _, _, _, _⟩
    refine safe_bind (safe_part97 H) ?_
    rintro ⟨_, _⟩
    refine safe_bind (safe_part98 H) ?_
    rintro ⟨_, _⟩
    refine safe_bind (safe_part99 H) fun _ => ?_
    refine safe_bind (safe_part100 H) fun _ => ?_
    refine safe_bind (safe_load H.r18) fun _ => ?_
    refine safe_bind (safe_store H.w18) fun _ => ?_
    refine safe_dite (fun _ => ?_) (fun _ => ?_)
    · refine safe_bind (safe_part101 H) ?_
      rintro ⟨_, _, _, _, _⟩
      refine safe_bind (safe_part102 H) ?_
      rintro ⟨_, _⟩
      refine safe_bind (safe_part103 H) ?_
      rintro ⟨_, _⟩
      refine safe_bind (safe_part104 H) fun _ => ?_
      refine safe_bind (safe_load H.r16) fun _ => ?_
      refine safe_bind (safe_load H.r18) fun _ => ?_
      refine safe_bind (safe_load H.r8) fun _ => ?_
      refine safe_bind (safe_load H.r18) fun _ => ?_
      refine safe_bind (safe_store H.w18) fun _ => ?_
      refine safe_bind (safe_load H.r18) fun _ => ?_
      refine safe_bind (safe_load H.r18) fun _ => ?_
      exact safe_ret _
    · refine safe_bind (safe_load H.r18) fun _ => ?_
      refine safe_bind (safe_load H.r18) fun _ => ?_
      exact safe_ret _
  · refine safe_dite (fun _ => ?_) (fun _ => ?_)
    · refine safe_bind (safe_part101 H) ?_
      rintro ⟨_, _, _, _, _⟩
      refine safe_bind (safe_part102 H) ?_
      rintro ⟨_, _⟩
      refine safe_bind (safe_part103 H) ?_
      rintro ⟨_, _⟩
      refine safe_bind (safe_part104 H) fun _ => ?_
      refine safe_bind (safe_load H.r16) fun _ => ?_
      refine safe_bind (safe_load H.r18) fun _ => ?_
      refine safe_bind (safe_load H.r8) fun _ => ?_
      refine safe_bind (safe_load H.r18) fun _ => ?_
      refine safe_bind (safe_store H.w18) fun _ => ?_
      refine safe_bind (safe_load H.r18) fun _ => ?_
      refine safe_bind (safe_load H.r18) fun _ => ?_
      exact safe_ret _
    · refine safe_bind (safe_load H.r18) fun _ => ?_
      refine safe_bind (safe_load H.r18) fun _ => ?_
      exact safe_ret _

/-- Part 121 of the body keeps the resource. -/
theorem safe_part121 (H : Lends c R arg2 arg3 arg4 arg5 arg6 arg7 arg8 arg9 arg10 arg11 arg12 arg13 arg14 arg15 arg16 arg17 arg18 arg19) {v14 : FVec F S1x1 .f32} {v499 : FVec F S1x512 .f32} {v501 : FVec F S128x256 .f32} {v503 : FVec F S128x256 .f32} :
    Safe defs₀ 𝒱 c bd E R (k0_part121 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v14 v499 v501 v503) := by
  rw [k0_part121_eq_skeleton]; unfold k0_part121_skel
  refine safe_bind (safe_load H.r18) fun _ => ?_
  refine safe_bind (safe_load H.r13) fun _ => ?_
  refine safe_bind (safe_load H.r19) fun _ => ?_
  refine safe_bind (safe_store H.w19) fun _ => ?_
  refine safe_bind (safe_load H.r18) fun _ => ?_
  refine safe_bind (safe_load H.r18) fun _ => ?_
  exact safe_ret _

/-- Part 122 of the body keeps the resource. -/
theorem safe_part122 (H : Lends c R arg2 arg3 arg4 arg5 arg6 arg7 arg8 arg9 arg10 arg11 arg12 arg13 arg14 arg15 arg16 arg17 arg18 arg19) {v14 : FVec F S1x1 .f32} {v534 : FVec F S1x512 .f32} {v539 : FVec F S128x256 .f32} :
    Safe defs₀ 𝒱 c bd E R (k0_part122 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v14 v534 v539) := by
  rw [k0_part122_eq_skeleton]; unfold k0_part122_skel
  refine safe_bind (safe_load H.r18) fun _ => ?_
  refine safe_bind (safe_load H.r13) fun _ => ?_
  refine safe_bind (safe_load H.r19) fun _ => ?_
  refine safe_bind (safe_store H.w19) fun _ => ?_
  refine safe_bind (safe_load H.r18) fun _ => ?_
  refine safe_bind (safe_load H.r18) fun _ => ?_
  exact safe_ret _

/-- Part 123 of the body keeps the resource. -/
theorem safe_part123 (H : Lends c R arg2 arg3 arg4 arg5 arg6 arg7 arg8 arg9 arg10 arg11 arg12 arg13 arg14 arg15 arg16 arg17 arg18 arg19) {v14 : FVec F S1x1 .f32} {v569 : FVec F S1x512 .f32} {v574 : FVec F S128x256 .f32} :
    Safe defs₀ 𝒱 c bd E R (k0_part123 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v14 v569 v574) := by
  rw [k0_part123_eq_skeleton]; unfold k0_part123_skel
  refine safe_bind (safe_load H.r18) fun _ => ?_
  refine safe_bind (safe_load H.r13) fun _ => ?_
  refine safe_bind (safe_load H.r19) fun _ => ?_
  refine safe_bind (safe_store H.w19) fun _ => ?_
  refine safe_bind (safe_load H.r18) fun _ => ?_
  refine safe_bind (safe_load H.r18) fun _ => ?_
  refine safe_bind (safe_load H.r18) fun _ => ?_
  exact safe_ret _

/-- Part 124 of the body keeps the resource. -/
theorem safe_part124 (H : Lends c R arg2 arg3 arg4 arg5 arg6 arg7 arg8 arg9 arg10 arg11 arg12 arg13 arg14 arg15 arg16 arg17 arg18 arg19) {v14 : FVec F S1x1 .f32} {v604 : FVec F S1x512 .f32} {v609 : FVec F S128x256 .f32} {v610 : Vec F S1x1x128x256 .f32} :
    Safe defs₀ 𝒱 c bd E R (k0_part124 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v14 v604 v609 v610) := by
  rw [k0_part124_eq_skeleton]; unfold k0_part124_skel
  refine safe_bind (safe_load H.r13) fun _ => ?_
  refine safe_bind (safe_load H.r19) fun _ => ?_
  refine safe_bind (safe_store H.w19) fun _ => ?_
  refine safe_bind (safe_load H.r18) fun _ => ?_
  refine safe_bind (safe_load H.r18) fun _ => ?_
  refine safe_bind (safe_load H.r18) fun _ => ?_
  exact safe_ret _

/-- Part 125 of the body keeps the resource. -/
theorem safe_part125 (H : Lends c R arg2 arg3 arg4 arg5 arg6 arg7 arg8 arg9 arg10 arg11 arg12 arg13 arg14 arg15 arg16 arg17 arg18 arg19) {v14 : FVec F S1x1 .f32} {v644 : FVec F S128x256 .f32} {v646 : FVec F S128x256 .f32} {v647 : FVec F S1x256 .f32} :
    Safe defs₀ 𝒱 c bd E R (k0_part125 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v14 v644 v646 v647) := by
  rw [k0_part125_eq_skeleton]; unfold k0_part125_skel
  refine safe_bind (safe_load H.r13) fun _ => ?_
  refine safe_bind (safe_load H.r19) fun _ => ?_
  refine safe_bind (safe_store H.w19) fun _ => ?_
  refine safe_bind (safe_load H.r18) fun _ => ?_
  refine safe_bind (safe_load H.r18) fun _ => ?_
  refine safe_bind (safe_load H.r18) fun _ => ?_
  exact safe_ret _

/-- Part 126 of the body keeps the resource. -/
theorem safe_part126 (H : Lends c R arg2 arg3 arg4 arg5 arg6 arg7 arg8 arg9 arg10 arg11 arg12 arg13 arg14 arg15 arg16 arg17 arg18 arg19) {v14 : FVec F S1x1 .f32} {v679 : FVec F S128x256 .f32} {v681 : FVec F S128x256 .f32} {v684 : FVec F S1x256 .f32} :
    Safe defs₀ 𝒱 c bd E R (k0_part126 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v14 v679 v681 v684) := by
  rw [k0_part126_eq_skeleton]; unfold k0_part126_skel
  refine safe_bind (safe_load H.r13) fun _ => ?_
  refine safe_bind (safe_load H.r19) fun _ => ?_
  refine safe_bind (safe_store H.w19) fun _ => ?_
  refine safe_bind (safe_load H.r18) fun _ => ?_
  refine safe_bind (safe_load H.r18) fun _ => ?_
  refine safe_bind (safe_load H.r18) fun _ => ?_
  exact safe_ret _

/-- Part 127 of the body keeps the resource. -/
theorem safe_part127 (H : Lends c R arg2 arg3 arg4 arg5 arg6 arg7 arg8 arg9 arg10 arg11 arg12 arg13 arg14 arg15 arg16 arg17 arg18 arg19) {v14 : FVec F S1x1 .f32} {v714 : FVec F S128x256 .f32} {v721 : FVec F S128x256 .f32} :
    Safe defs₀ 𝒱 c bd E R (k0_part127 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v14 v714 v721) := by
  rw [k0_part127_eq_skeleton]; unfold k0_part127_skel
  refine safe_bind (safe_load H.r13) fun _ => ?_
  refine safe_bind (safe_load H.r19) fun _ => ?_
  refine safe_bind (safe_store H.w19) fun _ => ?_
  refine safe_bind (safe_load H.r18) fun _ => ?_
  refine safe_bind (safe_load H.r18) fun _ => ?_
  refine safe_bind (safe_load H.r18) fun _ => ?_
  exact safe_ret _

/-- Part 128 of the body keeps the resource. -/
theorem safe_part128 (H : Lends c R arg2 arg3 arg4 arg5 arg6 arg7 arg8 arg9 arg10 arg11 arg12 arg13 arg14 arg15 arg16 arg17 arg18 arg19)  :
    Safe defs₀ 𝒱 c bd E R (k0_part128 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ) := by
  rw [k0_part128_eq_skeleton]; unfold k0_part128_skel
  refine safe_bind (safe_part105 H) ?_
  rintro ⟨_, _, _, _⟩
  refine safe_bind (safe_part106 H) fun _ => ?_
  refine safe_bind (safe_part107 H) ?_
  rintro ⟨_, _⟩
  refine safe_bind (safe_part108 H) fun _ => ?_
  refine safe_bind (safe_part109 H) ?_
  rintro ⟨_, _, _⟩
  refine safe_bind (safe_part110 H) ?_
  rintro ⟨_, _, _, _⟩
  refine safe_bind (safe_part111 H) ?_
  rintro ⟨_, _⟩
  refine safe_bind (safe_part112 H) ?_
  rintro ⟨_, _, _⟩
  refine safe_bind (safe_part113 H) ?_
  rintro ⟨_, _, _, _, _, _⟩
  refine safe_bind (safe_part114 H) ?_
  rintro ⟨_, _, _, _, _, _, _, _, _, _, _, _⟩
  refine safe_bind (safe_part115 H) ?_
  rintro ⟨_, _, _, _, _, _, _, _, _, _⟩
  refine safe_bind (safe_part116 H) fun _ => ?_
  refine safe_bind (safe_part117 H) ?_
  rintro ⟨_, _⟩
  refine safe_bind (safe_part118 H) fun _ => ?_
  refine safe_bind (safe_part119 H) ?_
  rintro ⟨_, _, _, _⟩
  refine safe_bind (safe_part120 H) ?_
  rintro ⟨_, _, _⟩
  refine safe_bind (safe_part121 H) ?_
  rintro ⟨_, _⟩
  refine safe_bind (safe_part122 H) ?_
  rintro ⟨_, _⟩
  refine safe_bind (safe_part123 H) ?_
  rintro ⟨_, _, _⟩
  refine safe_bind (safe_part124 H) ?_
  rintro ⟨_, _, _⟩
  refine safe_bind (safe_part125 H) ?_
  rintro ⟨_, _, _⟩
  refine safe_bind (safe_part126 H) ?_
  rintro ⟨_, _⟩
  refine safe_bind (safe_part127 H) ?_
  rintro ⟨_, _⟩
  refine safe_bind (safe_load H.r13) fun _ => ?_
  refine safe_bind (safe_load H.r19) fun _ => ?_
  refine safe_bind (safe_store H.w19) fun _ => ?_
  refine safe_bind (safe_load H.r19) fun _ => ?_
  refine safe_bind (safe_load H.r14) fun _ => ?_
  exact safe_ret _

/-- The whole body keeps the resource. -/
theorem safe_body (H : Lends c R arg2 arg3 arg4 arg5 arg6 arg7 arg8 arg9 arg10 arg11 arg12 arg13 arg14 arg15 arg16 arg17 arg18 arg19) :
    Safe defs₀ 𝒱 c bd E R (cc0_diff_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) := by
  rw [cc0_diff_attn_eq_skeleton]; unfold cc0_diff_attn_skel
  refine safe_bind (safe_part128 H) ?_
  rintro ⟨_, _⟩
  refine safe_bind (safe_store H.w14) fun _ => ?_
  refine safe_bind (safe_load H.r19) fun _ => ?_
  refine safe_bind (safe_load H.r14) fun _ => ?_
  refine safe_bind (safe_store H.w14) fun _ => ?_
  exact safe_ret _

end Cert.Proof.SafeKernelIdeal

end
-- ==== Proof.RunKernelIdeal.lean ====
/-
  The attention kernel's run (the idealized program): its body keeps, at every grid point, the blocks staged for it, its
  output block at some contents and its five scratch buffers at some contents; so the program ends, nothing faulting,
  with its arguments unchanged and every semaphore counter at zero.
-/
module

public import proofs.«01_k».proof.Proof.SafeOwn
public import proofs.«01_k».proof.Proof.SafeKernelIdealB

@[expose] public section

set_option maxRecDepth 16384

noncomputable section

namespace Cert.Proof.RunKernelIdeal

open Cert.KernelIdeal Cert.KernelIdeal.Gen Cert.Proof.Safe Cert.Proof.SafeKernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window, of whose contents nothing is said. -/
def fgt : Fin 13 → Bool
  | ⟨12, _⟩ => true
  | _ => false

/-- The proof data: every array as the region finds it; every input block left in place; the output's contents unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => Pipeline.Dat.unnamed 12 t
    | ⟨_ + 13, h⟩ => absurd h (Nat.not_lt.2 (Nat.le_add_left _ _))
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

/-- What the body leaves in an input's staging buffer: its block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]

/-- What the body finds in an input's staging buffer: its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- The scratch part of the resource, buffer by buffer. -/
theorem ΦA_eq (c : Dev nD) : (Pipeline.ΦA spec0 c : sProp 𝕄) = iprop(((∃ f : Buf (Elt F) ((Memref.whole cc0_scratch0).view.loc (c : Thread nD τ)), ((Memref.whole cc0_scratch0).view.loc (c : Thread nD τ)) ↦{fullShare} f)
    ∗ (∃ f : Buf (Elt F) ((Memref.whole cc0_scratch1).view.loc (c : Thread nD τ)), ((Memref.whole cc0_scratch1).view.loc (c : Thread nD τ)) ↦{fullShare} f)
    ∗ (∃ f : Buf (Elt F) ((Memref.whole cc0_scratch2).view.loc (c : Thread nD τ)), ((Memref.whole cc0_scratch2).view.loc (c : Thread nD τ)) ↦{fullShare} f)
    ∗ (∃ f : Buf (Elt F) ((Memref.whole cc0_scratch3).view.loc (c : Thread nD τ)), ((Memref.whole cc0_scratch3).view.loc (c : Thread nD τ)) ↦{fullShare} f)
    ∗ (∃ f : Buf (Elt F) ((Memref.whole cc0_scratch4).view.loc (c : Thread nD τ)), ((Memref.whole cc0_scratch4).view.loc (c : Thread nD τ)) ↦{fullShare} f))
    ∗ ∃ r, prngReg c r) := by
  unfold Pipeline.ΦA
  rw [scopedRest0_eq]

variable {P O : sProp (MT nD τ sig Unit (Elt F) ℕ (UR sig nD τ) ℕ)}

/-- The resource of the body: the five scratch buffers at some contents, what else the pipeline hands over, the twelve
    inputs at their blocks, the output at some contents. -/
def held (P O : sProp (MT nD τ sig Unit (Elt F) ℕ (UR sig nD τ) ℕ)) (c : Dev nD) (arg2 : Memref sig .tc .vmem S1x64 .f32) (arg3 : Memref sig .tc .vmem S1x64 .f32) (arg4 : Memref sig .tc .vmem S1x64 .f32) (arg5 : Memref sig .tc .vmem S1x64 .f32) (arg6 : Memref sig .tc .vmem S2x512x256 .bf16) (arg7 : Memref sig .tc .vmem S2x8x256x512 .bf16) (arg8 : Memref sig .tc .vmem S2x8x576x256 .bf16) (arg9 : Memref sig .tc .vmem S16x512 .bf16) (arg10 : Memref sig .tc .vmem S576x16 .bf16) (arg11 : Memref sig .tc .vmem S4x3x256x256 .f32) (arg12 : Memref sig .tc .vmem S4x2x16x256 .f32) (arg13 : Memref sig .tc .vmem S128x256 .f32) (arg14 : Memref sig .tc .vmem S2x512x256 .bf16) (arg15 : Memref sig .tc .vmem S2x4x128x512 .bf16) (arg16 : Memref sig .tc .vmem S2x4x8x256x512 .f32) (arg17 : Memref sig .tc .vmem S2x4x16x512 .f32) (arg18 : Memref sig .tc .vmem S2x4x144x512 .f32) (arg19 : Memref sig .tc .vmem S2x512x256 .f32) (X2 : Shape.Idx S1x64 → Elt F .f32) (X3 : Shape.Idx S1x64 → Elt F .f32) (X4 : Shape.Idx S1x64 → Elt F .f32) (X5 : Shape.Idx S1x64 → Elt F .f32) (X6 : Shape.Idx S2x512x256 → Elt F .bf16) (X7 : Shape.Idx S2x8x256x512 → Elt F .bf16) (X8 : Shape.Idx S2x8x576x256 → Elt F .bf16) (X9 : Shape.Idx S16x512 → Elt F .bf16) (X10 : Shape.Idx S576x16 → Elt F .bf16) (X11 : Shape.Idx S4x3x256x256 → Elt F .f32) (X12 : Shape.Idx S4x2x16x256 → Elt F .f32) (X13 : Shape.Idx S128x256 → Elt F .f32) : sProp 𝕄 :=
  iprop((((∃ f : Buf (Elt F) (arg15.view.loc (c : Thread nD τ)), (arg15.view.loc (c : Thread nD τ)) ↦{fullShare} f) ∗ (∃ f : Buf (Elt F) (arg16.view.loc (c : Thread nD τ)), (arg16.view.loc (c : Thread nD τ)) ↦{fullShare} f) ∗ (∃ f : Buf (Elt F) (arg17.view.loc (c : Thread nD τ)), (arg17.view.loc (c : Thread nD τ)) ↦{fullShare} f) ∗ (∃ f : Buf (Elt F) (arg18.view.loc (c : Thread nD τ)), (arg18.view.loc (c : Thread nD τ)) ↦{fullShare} f) ∗ (∃ f : Buf (Elt F) (arg19.view.loc (c : Thread nD τ)), (arg19.view.loc (c : Thread nD τ)) ↦{fullShare} f)) ∗ P) ∗ O ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ (∃ X, owns (c : Thread nD τ) arg14 fullShare X))

/-- The resource lends the body every memref it is called with. -/
theorem lends (c : Dev nD) {arg2 : Memref sig .tc .vmem S1x64 .f32} {arg3 : Memref sig .tc .vmem S1x64 .f32} {arg4 : Memref sig .tc .vmem S1x64 .f32} {arg5 : Memref sig .tc .vmem S1x64 .f32} {arg6 : Memref sig .tc .vmem S2x512x256 .bf16} {arg7 : Memref sig .tc .vmem S2x8x256x512 .bf16} {arg8 : Memref sig .tc .vmem S2x8x576x256 .bf16} {arg9 : Memref sig .tc .vmem S16x512 .bf16} {arg10 : Memref sig .tc .vmem S576x16 .bf16} {arg11 : Memref sig .tc .vmem S4x3x256x256 .f32} {arg12 : Memref sig .tc .vmem S4x2x16x256 .f32} {arg13 : Memref sig .tc .vmem S128x256 .f32} {arg14 : Memref sig .tc .vmem S2x512x256 .bf16} {arg15 : Memref sig .tc .vmem S2x4x128x512 .bf16} {arg16 : Memref sig .tc .vmem S2x4x8x256x512 .f32} {arg17 : Memref sig .tc .vmem S2x4x16x512 .f32} {arg18 : Memref sig .tc .vmem S2x4x144x512 .f32} {arg19 : Memref sig .tc .vmem S2x512x256 .f32} (h2 : arg2.IsWhole) (h3 : arg3.IsWhole) (h4 : arg4.IsWhole) (h5 : arg5.IsWhole) (h6 : arg6.IsWhole) (h7 : arg7.IsWhole) (h8 : arg8.IsWhole) (h9 : arg9.IsWhole) (h10 : arg10.IsWhole) (h11 : arg11.IsWhole) (h12 : arg12.IsWhole) (h13 : arg13.IsWhole) (h14 : arg14.IsWhole) (X2 : Shape.Idx S1x64 → Elt F .f32) (X3 : Shape.Idx S1x64 → Elt F .f32) (X4 : Shape.Idx S1x64 → Elt F .f32) (X5 : Shape.Idx S1x64 → Elt F .f32) (X6 : Shape.Idx S2x512x256 → Elt F .bf16) (X7 : Shape.Idx S2x8x256x512 → Elt F .bf16) (X8 : Shape.Idx S2x8x576x256 → Elt F .bf16) (X9 : Shape.Idx S16x512 → Elt F .bf16) (X10 : Shape.Idx S576x16 → Elt F .bf16) (X11 : Shape.Idx S4x3x256x256 → Elt F .f32) (X12 : Shape.Idx S4x2x16x256 → Elt F .f32) (X13 : Shape.Idx S128x256 → Elt F .f32) : Lends c (held P O c arg2 arg3 arg4 arg5 arg6 arg7 arg8 arg9 arg10 arg11 arg12 arg13 arg14 arg15 arg16 arg17 arg18 arg19 X2 X3 X4 X5 X6 X7 X8 X9 X10 X11 X12 X13) arg2 arg3 arg4 arg5 arg6 arg7 arg8 arg9 arg10 arg11 arg12 arg13 arg14 arg15 arg16 arg17 arg18 arg19 where
  r2 := by unfold held; exact (reads_owns h2 X2).left.right.right
  r3 := by unfold held; exact (reads_owns h3 X3).left.right.right.right
  r4 := by unfold held; exact (reads_owns h4 X4).left.right.right.right.right
  r5 := by unfold held; exact (reads_owns h5 X5).left.right.right.right.right.right
  r6 := by unfold held; exact (reads_owns h6 X6).left.right.right.right.right.right.right
  r7 := by unfold held; exact (reads_owns h7 X7).left.right.right.right.right.right.right.right
  r8 := by unfold held; exact (reads_owns h8 X8).left.right.right.right.right.right.right.right.right
  r9 := by unfold held; exact (reads_owns h9 X9).left.right.right.right.right.right.right.right.right.right
  r10 := by unfold held; exact (reads_owns h10 X10).left.right.right.right.right.right.right.right.right.right.right
  r11 := by unfold held; exact (reads_owns h11 X11).left.right.right.right.right.right.right.right.right.right.right.right
  r12 := by unfold held; exact (reads_owns h12 X12).left.right.right.right.right.right.right.right.right.right.right.right.right
  r13 := by unfold held; exact (reads_owns h13 X13).left.right.right.right.right.right.right.right.right.right.right.right.right.right
  w14 := by unfold held; exact (writes_owns h14).right.right.right.right.right.right.right.right.right.right.right.right.right.right
  w15 := by unfold held; exact writes_some.left.left.left
  w16 := by unfold held; exact writes_some.left.right.left.left
  w17 := by unfold held; exact writes_some.left.right.right.left.left
  w18 := by unfold held; exact writes_some.left.right.right.right.left.left
  w19 := by unfold held; exact writes_some.right.right.right.right.left.left

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ X, owns (c : Thread nD τ) (win0_12.stage (cfg0.slots t 12)) fullShare X))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ (∃ X, owns (c : Thread nD τ) (win0_12.stage (cfg0.slots t 12)) fullShare X))

set_option maxHeartbeats 1600000 in
/-- The body at any point: the inputs hold their blocks, and it keeps its resource. -/
theorem sound_body (c : Dev nD) (t : Fin cfg0.N) :
    bodyPre m c t ⊢ wp frame (wpE (defs₀ (F := F)) Variants.none c none) Set.univ (bodyAt0 t) (fun _ => bodyPost m c t) := by
  have hs := safe_body (F := F) (𝒱 := Variants.none) (bd := none) (E := Set.univ) (i := grid0.coords t) (lends (F := F) (P := iprop(∃ r, prngReg c r)) (O := (dats m 0 c).owesAt () t.castSucc) c (arg2 := win0_0.stage (cfg0.slots t 0)) (arg3 := win0_1.stage (cfg0.slots t 1)) (arg4 := win0_2.stage (cfg0.slots t 2)) (arg5 := win0_3.stage (cfg0.slots t 3)) (arg6 := win0_4.stage (cfg0.slots t 4)) (arg7 := win0_5.stage (cfg0.slots t 5)) (arg8 := win0_6.stage (cfg0.slots t 6)) (arg9 := win0_7.stage (cfg0.slots t 7)) (arg10 := win0_8.stage (cfg0.slots t 8)) (arg11 := win0_9.stage (cfg0.slots t 9)) (arg12 := win0_10.stage (cfg0.slots t 10)) (arg13 := win0_11.stage (cfg0.slots t 11)) (arg14 := win0_12.stage (cfg0.slots t 12)) (arg15 := Memref.whole cc0_scratch0) (arg16 := Memref.whole cc0_scratch1) (arg17 := Memref.whole cc0_scratch2) (arg18 := Memref.whole cc0_scratch3) (arg19 := Memref.whole cc0_scratch4) (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (hstage0_6 ((cfg0.slots t 6).cast nbuf0_6)) (hstage0_7 ((cfg0.slots t 7).cast nbuf0_7)) (hstage0_8 ((cfg0.slots t 8).cast nbuf0_8)) (hstage0_9 ((cfg0.slots t 9).cast nbuf0_9)) (hstage0_10 ((cfg0.slots t 10).cast nbuf0_10)) (hstage0_11 ((cfg0.slots t 11).cast nbuf0_11)) (hstage0_12 ((cfg0.slots t 12).cast nbuf0_12)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))
    (harg2 := hstage0_0 ((cfg0.slots t 0).cast nbuf0_0)) (harg3 := hstage0_1 ((cfg0.slots t 1).cast nbuf0_1)) (harg4 := hstage0_2 ((cfg0.slots t 2).cast nbuf0_2)) (harg5 := hstage0_3 ((cfg0.slots t 3).cast nbuf0_3)) (harg6 := hstage0_4 ((cfg0.slots t 4).cast nbuf0_4)) (harg7 := hstage0_5 ((cfg0.slots t 5).cast nbuf0_5)) (harg8 := hstage0_6 ((cfg0.slots t 6).cast nbuf0_6)) (harg9 := hstage0_7 ((cfg0.slots t 7).cast nbuf0_7)) (harg10 := hstage0_8 ((cfg0.slots t 8).cast nbuf0_8)) (harg11 := hstage0_9 ((cfg0.slots t 9).cast nbuf0_9)) (harg12 := hstage0_10 ((cfg0.slots t 10).cast nbuf0_10)) (harg13 := hstage0_11 ((cfg0.slots t 11).cast nbuf0_11)) (harg14 := hstage0_12 ((cfg0.slots t 12).cast nbuf0_12)) (harg15 := Memref.isWhole_whole cc0_scratch0) (harg16 := Memref.isWhole_whole cc0_scratch1) (harg17 := Memref.isWhole_whole cc0_scratch2) (harg18 := Memref.isWhole_whole cc0_scratch3) (harg19 := Memref.isWhole_whole cc0_scratch4)
  unfold Safe held at hs
  unfold bodyPre bodyPost bodyAt0
  simp only [before0_0, before0_1, before0_2, before0_3, before0_4, before0_5, before0_6, before0_7, before0_8, before0_9, before0_10, before0_11]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, after0_9, after0_10, after0_11]
  rw [ΦA_eq]
  refine BIBase.Entails.trans ?_ hs
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point, the output window's contents unnamed. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option maxHeartbeats 1600000 in
-- the implicit arguments are found by unifying the conclusion with this one
set_option backward.isDefEq.respectTransparency.types false in
/-- The launch: every weakly fair execution ends, the inputs' arrays as found, every semaphore counter at zero. -/
theorem run_main : θ_run defs (onTc (τ := τ) (main (F := F))) (s₀ m ρ)
    (fun r => Pipeline.RDat.FramePost (cfgs 0) (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- What the run says of an input window: its array ends at its entry contents. -/
theorem arr_in {r : PUnit × MemSt nD τ sig (Elt F)} (h : Pipeline.RDat.FramePost (cfgs 0) (fun c => (dats m 0 c).toRForget fgt) (V m) r)
    (c : Dev nD) (w : Fin (cfgs 0).W) (hin : ((cfgs 0).win w).isOut = false) :
    r.2.mem (((cfgs 0).spec w).arr.view.loc (c.tc : Thread nD τ)) = V m c (Pipeline.arrRef spec0 w) :=
  (h.arr_in c w hin).trans (A_eq m c w)

/-- What the run says of a buffer no window stages: it ends at its entry contents. -/
theorem rest {r : PUnit × MemSt nD τ sig (Elt F)} (h : Pipeline.RDat.FramePost (cfgs 0) (fun c => (dats m 0 c).toRForget fgt) (V m) r)
    (c : Dev nD) (b : Ref sig .tc) (hb : b ∈ Pipeline.restRefs sig (cfgs 0).spec) : r.2.mem ((c.tc : Thread nD τ).loc b) = V m c b :=
  (h c).2 b hb

set_option maxHeartbeats 1600000 in
/-- The frame: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => ⟨(rest m h.1 c main_arg0 (Pipeline.mem_restRefs_of main_arg0 (by decide) (by decide))).trans (V_main_arg0 m c),
      (rest m h.1 c main_arg1 (Pipeline.mem_restRefs_of main_arg1 (by decide) (by decide))).trans (V_main_arg1 m c),
      (rest m h.1 c main_arg2 (Pipeline.mem_restRefs_of main_arg2 (by decide) (by decide))).trans (V_main_arg2 m c),
      (rest m h.1 c main_arg3 (Pipeline.mem_restRefs_of main_arg3 (by decide) (by decide))).trans (V_main_arg3 m c),
      (rest m h.1 c main_arg4 (Pipeline.mem_restRefs_of main_arg4 (by decide) (by decide))).trans (V_main_arg4 m c),
      (rest m h.1 c main_arg5 (Pipeline.mem_restRefs_of main_arg5 (by decide) (by decide))).trans (V_main_arg5 m c),
      (arr_in m h.1 c 0 rfl).trans (V_main_arg6 m c),
      (arr_in m h.1 c 1 rfl).trans (V_main_arg7 m c),
      (arr_in m h.1 c 2 rfl).trans (V_main_arg8 m c),
      (arr_in m h.1 c 3 rfl).trans (V_main_arg9 m c),
      (rest m h.1 c main_arg10 (Pipeline.mem_restRefs_of main_arg10 (by decide) (by decide))).trans (V_main_arg10 m c)⟩, h.2⟩) (run_main m ρ)

end Cert.Proof.RunKernelIdeal

end
-- ==== Proof.Attn.lean ====
/- The claims of the attention kernel and of the projection kernel that say how they run: they end, nothing faulting,
   with their arguments unchanged. -/
module

public import proofs.«01_k».proof.Defs
public import proofs.«01_k».proof.Proof.RunKernel
public import proofs.«01_k».proof.Proof.RunKernelIdeal
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import Idealize.ShloMosaic.Adequacy
public import Idealize.ShloMosaic.Init

@[expose] public section

set_option maxRecDepth 16384

noncomputable section

namespace Cert.Proof

open Idealize.ShloMosaic Idealize.SL.Sem Idealize.ShloMosaic.Tactic

/-- The attention kernel runs and leaves its arguments unchanged. -/
theorem frame1 : Cert.quiescent_Kernel := fun m ρ _ => Cert.Proof.RunKernel.frame m ρ

/-- So does its idealization. -/
theorem frame1_ideal : Cert.quiescent_KernelIdeal := fun m ρ _ => Cert.Proof.RunKernelIdeal.frame m ρ

/-- The projection kernel runs and leaves its arguments unchanged. -/
theorem frame4 : Cert.quiescent_Kernel4 := fun m ρ _ => Cert.Kernel4.Gen.frame m ρ

/-- So does its idealization. -/
theorem frame4_ideal : Cert.quiescent_Kernel4Ideal := fun m ρ _ => Cert.Kernel4Ideal.Gen.frame m ρ

/-- So does its reference. -/
theorem frame4_ref : Cert.quiescent_Reference4Ideal := fun m ρ _ =>
  (θ_run Cert.Reference4Ideal.defs _ _).mono (fun r h => ⟨fun c => (h c).2.2.2.2.2.2.2.2.2, sem_eq_zero_of_no_sems (by decide) r.2⟩)
    (Cert.Reference4Ideal.Value.run m ρ)

end Cert.Proof

end
-- ==== Proof.lean ====
module

public import proofs.«01_k».proof.Proof.Halves
public import proofs.«01_k».proof.Proof.Attn

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.Kernel2.Gen.facts, Cert.Kernel2Ideal.Gen.facts,
    Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    frame1, frame1_ideal, frame2, frame2_ideal, frame2_ref, frame3, frame3_ideal, frame3_ref, frame4, frame4_ideal,
    frame4_ref, trivial, trivial, value2, trivial, value3, trivial⟩

end Cert.Proof

end
